-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_products_finite [hPre_products_finite : Cert.Pre_products_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_products_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_products_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_products_finite [hPre_products_finite : Cert.Pre_products_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_products_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_products_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_products_finite [hKernel4Ideal : Cert.Kernel4Ideal.Facts] [hPre_products_finite : Cert.Pre_products_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_products_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_products_finite [hReference4Ideal : Cert.Reference4Ideal.Facts] [hPre_products_finite : Cert.Pre_products_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_products_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "mask" .f32 0xF149F2CA#32 ⊥

def algebraic_Kernel4Ideal_Reference4Ideal_pre_products_finite [hKernel4Ideal : Cert.Kernel4Ideal.Facts] [hReference4Ideal : Cert.Reference4Ideal.Facts] [hPre_products_finite : Cert.Pre_products_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_products_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "eps96" .f32 0x38C9539C#32 ((26388279 / 274877906944 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v65_0)) (v1 : (c : Dev Cert.Kernel5Ideal.nD) → Buf (Elt Ideal) ((c.tc : Thread Cert.Kernel5Ideal.nD Cert.Kernel5Ideal.τ).loc Cert.Kernel5Ideal.main_v65_1)) (v2 : (c : Dev Cert.Kernel5Ideal.nD) → Buf (Elt Ideal) ((c.tc : Thread Cert.Kernel5Ideal.nD Cert.Kernel5Ideal.τ).loc Cert.Kernel5Ideal.main_v65_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v65_0) = v0 c
          ∧ r.2.mem ((c.tc : Thread Cert.Kernel5Ideal.nD Cert.Kernel5Ideal.τ).loc Cert.Kernel5Ideal.main_v65_1) = v1 c
          ∧ r.2.mem ((c.tc : Thread Cert.Kernel5Ideal.nD Cert.Kernel5Ideal.τ).loc Cert.Kernel5Ideal.main_v65_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v106) = v1 c
          ∧ r.2.mem ((c.tc : Thread Cert.Reference5Ideal.nD Cert.Reference5Ideal.τ).loc Cert.Reference5Ideal.main_v109) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_logits_finite : Cert.Pre_logits_finite.Facts) (hPre_products_finite : Cert.Pre_products_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_products_finite (hKernel4Ideal := hKernel4Ideal) (hPre_products_finite := hPre_products_finite)
    ∧ quiescent_Reference4Ideal (hReference4Ideal := hReference4Ideal)
    ∧ quiescent_Reference4Ideal_pre_products_finite (hReference4Ideal := hReference4Ideal) (hPre_products_finite := hPre_products_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_products_finite (hKernel4Ideal := hKernel4Ideal) (hReference4Ideal := hReference4Ideal) (hPre_products_finite := hPre_products_finite)
    ∧ preserves_Kernel5_Kernel5Ideal
    ∧ algebraic_Kernel5Ideal_Reference5Ideal (hKernel5Ideal := hKernel5Ideal) (hReference5Ideal := hReference5Ideal)
-- ==== Pre_logits_finite.lean ====
abbrev S16x2048x8x64 : Shape := ⟨4, ![16, 2048, 8, 64]⟩
abbrev S16x2048x8 : Shape := ⟨3, ![16, 2048, 8]⟩
abbrev S_ : Shape := ⟨0, ![]⟩

class Facts : Prop where
  bcast_S_S16x2048x8x64 : S_.BroadcastsInDim S16x2048x8x64 (![] : Fin 0 → Fin S16x2048x8x64.rank)
  bcast_S_S16x2048x8 : S_.BroadcastsInDim S16x2048x8 (![] : Fin 0 → Fin S16x2048x8.rank)

variable [Facts]

def fn {F : FTy → Type} [FloatOps F] (main_arg0 : FVec F S16x2048x8x64 .f32) (main_arg1 : FVec F S16x2048x8x64 .f32) (main_arg2 : FVec F S16x2048x8x64 .f32) (main_arg3 : FVec F S16x2048x8 .f32) : IVec S16x2048x8x64 1 × IVec S16x2048x8x64 1 × IVec S16x2048x8 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_v3 : FVec F S16x2048x8x64 .f32 := Host.absf main_arg1
  let main_cst_0 : FVec F S_ .f32 := constant S_ .f32 0x7F800000#32
  let main_v4 : FVec F S16x2048x8x64 .f32 := broadcastInDim S16x2048x8x64 ![] bcast_S_S16x2048x8x64 main_cst_0
  let main_v5 : IVec S16x2048x8x64 1 := cmpf .olt main_v3 main_v4
  let main_v6 : FVec F S16x2048x8 .f32 := Host.absf main_arg3
  let main_cst_1 : FVec F S_ .f32 := constant S_ .f32 0x7F800000#32
  let main_v7 : FVec F S16x2048x8 .f32 := broadcastInDim S16x2048x8 ![] bcast_S_S16x2048x8 main_cst_1
  let main_v8 : IVec S16x2048x8 1 := cmpf .olt main_v6 main_v7
  (main_v2, main_v5, main_v8)
-- ==== Pre_products_finite.lean ====
abbrev S16x2048x8x96 : Shape := ⟨4, ![16, 2048, 8, 96]⟩
abbrev S16x2048x8x64 : Shape := ⟨4, ![16, 2048, 8, 64]⟩
abbrev S_ : Shape := ⟨0, ![]⟩

class Facts : Prop where
  bcast_S_S16x2048x8x96 : S_.BroadcastsInDim S16x2048x8x96 (![] : Fin 0 → Fin S16x2048x8x96.rank)

variable [Facts]

def fn {F : FTy → Type} [FloatOps F] (main_arg0 : FVec F S16x2048x8x96 .f32) (main_arg1 : FVec F S16x2048x8x96 .f32) (main_arg2 : FVec F S16x2048x8x64 .f32) : IVec S16x2048x8x96 1 × IVec S16x2048x8x96 1 :=
  let main_v0 : FVec F S16x2048x8x96 .f32 := Host.absf main_arg0
  let main_cst : FVec F S_ .f32 := constant S_ .f32 0x7F800000#32
  let main_v1 : FVec F S16x2048x8x96 .f32 := broadcastInDim S16x2048x8x96 ![] bcast_S_S16x2048x8x96 main_cst
  let main_v2 : IVec S16x2048x8x96 1 := cmpf .olt main_v0 main_v1
  let main_v3 : FVec F S16x2048x8x96 .f32 := Host.absf main_arg1
  let main_cst_0 : FVec F S_ .f32 := constant S_ .f32 0x7F800000#32
  let main_v4 : FVec F S16x2048x8x96 .f32 := broadcastInDim S16x2048x8x96 ![] bcast_S_S16x2048x8x96 main_cst_0
  let main_v5 : IVec S16x2048x8x96 1 := cmpf .olt main_v3 main_v4
  (main_v2, main_v5)
-- ==== Kernel.lean ====
abbrev S16x2048x8x64 : Shape := ⟨4, ![16, 2048, 8, 64]⟩
abbrev S16x2048x8 : Shape := ⟨3, ![16, 2048, 8]⟩
abbrev S_ : Shape := ⟨0, ![]⟩
abbrev S16x2048x8x1 : Shape := ⟨4, ![16, 2048, 8, 1]⟩
abbrev S16x2048x8x3 : Shape := ⟨4, ![16, 2048, 8, 3]⟩
abbrev S16x2048x8x67 : Shape := ⟨4, ![16, 2048, 8, 67]⟩
abbrev S16x2048x8x65 : Shape := ⟨4, ![16, 2048, 8, 65]⟩
abbrev S16x2048x8x80 : Shape := ⟨4, ![16, 2048, 8, 80]⟩
abbrev S16x2048x640 : Shape := ⟨3, ![16, 2048, 640]⟩
abbrev S16x640x2048 : Shape := ⟨3, ![16, 640, 2048]⟩
abbrev S16x2048x8x128 : Shape := ⟨4, ![16, 2048, 8, 128]⟩
abbrev S32768x1024 : Shape := ⟨2, ![32768, 1024]⟩
abbrev S32768x512 : Shape := ⟨2, ![32768, 512]⟩
abbrev S512x1024 : Shape := ⟨2, ![512, 1024]⟩
abbrev S2048x1024 : Shape := ⟨2, ![2048, 1024]⟩
abbrev S1x640x2048 : Shape := ⟨3, ![1, 640, 2048]⟩
abbrev S512x512 : Shape := ⟨2, ![512, 512]⟩
abbrev S8x1x512 : Shape := ⟨3, ![8, 1, 512]⟩
abbrev S8x80x512 : Shape := ⟨3, ![8, 80, 512]⟩
abbrev S2x1024x512 : Shape := ⟨3, ![2, 1024, 512]⟩
abbrev S2x1x512 : Shape := ⟨3, ![2, 1, 512]⟩
abbrev S256x256 : Shape := ⟨2, ![256, 256]⟩
abbrev S512x256 : Shape := ⟨2, ![512, 256]⟩
abbrev S256x128 : Shape := ⟨2, ![256, 128]⟩
abbrev S512x128 : Shape := ⟨2, ![512, 128]⟩
abbrev S256 : Shape := ⟨1, ![256]⟩
abbrev S1x256 : Shape := ⟨2, ![1, 256]⟩
abbrev S1x512 : Shape := ⟨2, ![1, 512]⟩
abbrev S1x256x256 : Shape := ⟨3, ![1, 256, 256]⟩
abbrev S1x512x256 : Shape := ⟨3, ![1, 512, 256]⟩
abbrev S1x1x512 : Shape := ⟨3, ![1, 1, 512]⟩
abbrev S1x80x256 : Shape := ⟨3, ![1, 80, 256]⟩
abbrev S80x256 : Shape := ⟨2, ![80, 256]⟩
abbrev S1x80x512 : Shape := ⟨3, ![1, 80, 512]⟩
abbrev S80x512 : Shape := ⟨2, ![80, 512]⟩
abbrev S512 : Shape := ⟨1, ![512]⟩
abbrev S1x512x512 : Shape := ⟨3, ![1, 512, 512]⟩
abbrev S1024x128 : Shape := ⟨2, ![1024, 128]⟩
abbrev S1024x512 : Shape := ⟨2, ![1024, 512]⟩
abbrev S1x1024x512 : Shape := ⟨3, ![1, 1024, 512]⟩
abbrev S1x80x1024 : Shape := ⟨3, ![1, 80, 1024]⟩
abbrev S80x1024 : Shape := ⟨2, ![80, 1024]⟩
abbrev S1x64x512 : Shape := ⟨3, ![1, 64, 512]⟩
abbrev S64x512 : Shape := ⟨2, ![64, 512]⟩

abbrev nBuf : Space → Nat
  | .hbm => 46
  | .vmem => 12
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x2048x8, .f32⟩
  | .hbm, ⟨10, _⟩ => ⟨S16x2048x8, .f32⟩
  | .hbm, ⟨11, _⟩ => ⟨S16x2048x8x1, .f32⟩
  | .hbm, ⟨12, _⟩ => ⟨S16x2048x8x1, .bf16⟩
  | .hbm, ⟨13, _⟩ => ⟨S16x2048x8x1, .f32⟩
  | .hbm, ⟨14, _⟩ => ⟨S16x2048x8x1, .f32⟩
  | .hbm, ⟨15, _⟩ => ⟨S16x2048x8x1, .bf16⟩
  | .hbm, ⟨16, _⟩ => ⟨S16x2048x8x1, .f32⟩
  | .hbm, ⟨17, _⟩ => ⟨S16x2048x8x1, .f32⟩
  | .hbm, ⟨18, _⟩ => ⟨S_, .f32⟩
  | .hbm, ⟨19, _⟩ => ⟨S_, .f32⟩
  | .hbm, ⟨20, _⟩ => ⟨S16x2048x8x64, .f32⟩
  | .hbm, ⟨21, _⟩ => ⟨S16x2048x8x64, .f32⟩
  | .hbm, ⟨22, _⟩ => ⟨S_, .f32⟩
  | .hbm, ⟨23, _⟩ => ⟨S16x2048x8x3, .f32⟩
  | .hbm, ⟨24, _⟩ => ⟨S16x2048x8x67, .f32⟩
  | .hbm, ⟨25, _⟩ => ⟨S16x2048x8x67, .f32⟩
  | .hbm, ⟨26, _⟩ => ⟨S_, .f32⟩
  | .hbm, ⟨27, _⟩ => ⟨S16x2048x8x1, .f32⟩
  | .hbm, ⟨28, _⟩ => ⟨S16x2048x8x65, .f32⟩
  | .hbm, ⟨29, _⟩ => ⟨S_, .i32⟩
  | .hbm, ⟨30, _⟩ => ⟨S_, .f32⟩
  | .hbm, ⟨31, _⟩ => ⟨S16x2048x8x80, .f32⟩
  | .hbm, ⟨32, _⟩ => ⟨S16x2048x640, .f32⟩
  | .hbm, ⟨33, _⟩ => ⟨S16x640x2048, .f32⟩
  | .hbm, ⟨34, _⟩ => ⟨S16x640x2048, .bf16⟩
  | .hbm, ⟨35, _⟩ => ⟨S_, .i32⟩
  | .hbm, ⟨36, _⟩ => ⟨S_, .f32⟩
  | .hbm, ⟨37, _⟩ => ⟨S16x2048x8x128, .f32⟩
  | .hbm, ⟨38, _⟩ => ⟨S32768x1024, .f32⟩
  | .hbm, ⟨39, _⟩ => ⟨S32768x1024, .bf16⟩
  | .hbm, ⟨40, _⟩ => ⟨S_, .i32⟩
  | .hbm, ⟨41, _⟩ => ⟨S_, .f32⟩
  | .hbm, ⟨42, _⟩ => ⟨S16x2048x8x128, .f32⟩
  | .hbm, ⟨43, _⟩ => ⟨S32768x1024, .f32⟩
  | .hbm, ⟨44, _⟩ => ⟨S32768x1024, .bf16⟩
  | .hbm, ⟨45, _⟩ => ⟨S32768x512, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x640x2048, .bf16⟩
  | .local _ .vmem, ⟨5, _⟩ => ⟨S1x640x2048, .bf16⟩
  | .local _ .vmem, ⟨6, _⟩ => ⟨S512x512, .bf16⟩
  | .local _ .vmem, ⟨7, _⟩ => ⟨S512x512, .bf16⟩
  | .local _ .vmem, ⟨8, _⟩ => ⟨S8x1x512, .f32⟩
  | .local _ .vmem, ⟨9, _⟩ => ⟨S8x80x512, .f32⟩
  | .local _ .vmem, ⟨10, _⟩ => ⟨S2x1024x512, .f32⟩
  | .local _ .vmem, ⟨11, _⟩ => ⟨S2x1x512, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x2048x8x64 : Shape := ⟨4, ![16, 2048, 8, 64]⟩
abbrev S16x2048x8 : Shape := ⟨3, ![16, 2048, 8]⟩
abbrev S16x8x2048x2048 : Shape := ⟨4, ![16, 8, 2048, 2048]⟩
abbrev S_ : Shape := ⟨0, ![]⟩
abbrev S16x8x2048 : Shape := ⟨3, ![16, 8, 2048]⟩
abbrev S16x8x2048x1 : Shape := ⟨4, ![16, 8, 2048, 1]⟩
abbrev S16x8x1x2048 : Shape := ⟨4, ![16, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x64x2048 : Shape := ⟨4, ![16, 8, 64, 2048]⟩
abbrev S32768x512 : Shape := ⟨2, ![32768, 512]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8, .f32⟩
  | .hbm, ⟨4, _⟩ => ⟨S16x8x2048x2048, .f32⟩
  | .hbm, ⟨5, _⟩ => ⟨S_, .f32⟩
  | .hbm, ⟨6, _⟩ => ⟨S16x8x2048x2048, .f32⟩
  | .hbm, ⟨7, _⟩ => ⟨S16x8x2048x2048, .f32⟩
  | .hbm, ⟨8, _⟩ => ⟨S16x8x2048, .f32⟩
  | .hbm, ⟨9, _⟩ => ⟨S16x8x2048x1, .f32⟩
  | .hbm, ⟨10, _⟩ => ⟨S16x8x1x2048, .f32⟩
  | .hbm, ⟨11, _⟩ => ⟨S16x8x2048x2048, .f32⟩
  | .hbm, ⟨12, _⟩ => ⟨S16x8x2048x2048, .f32⟩
  | .hbm, ⟨13, _⟩ => ⟨S16x8x2048x2048, .f32⟩
  | .hbm, ⟨14, _⟩ => ⟨S16x8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S16x8x2048x2048, .i1⟩
  | .hbm, ⟨25, _⟩ => ⟨S16x8x2048x2048, .f32⟩
  | .hbm, ⟨26, _⟩ => ⟨S16x8x2048x2048, .f32⟩
  | .hbm, ⟨27, _⟩ => ⟨S_, .f32⟩
  | .hbm, ⟨28, _⟩ => ⟨S16x8x2048, .f32⟩
  | .hbm, ⟨29, _⟩ => ⟨S_, .f32⟩
  | .hbm, ⟨30, _⟩ => ⟨S16x8x2048, .f32⟩
  | .hbm, ⟨31, _⟩ => ⟨S16x8x2048, .f32⟩
  | .hbm, ⟨32, _⟩ => ⟨S16x8x2048x1, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S_, .f32⟩
  | .hbm, ⟨37, _⟩ => ⟨S16x8x2048, .f32⟩
  | .hbm, ⟨38, _⟩ => ⟨S16x8x2048x1, .f32⟩
  | .hbm, ⟨39, _⟩ => ⟨S16x8x2048x2048, .f32⟩
  | .hbm, ⟨40, _⟩ => ⟨S16x8x2048x2048, .f32⟩
  | .hbm, ⟨41, _⟩ => ⟨S16x8x64x2048, .f32⟩
  | .hbm, ⟨42, _⟩ => ⟨S16x2048x8x64, .f32⟩
  | .hbm, ⟨43, _⟩ => ⟨S32768x512, .f32⟩
  | .hbm, ⟨44, _⟩ => ⟨S32768x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S16x2048x512 : Shape := ⟨3, ![16, 2048, 512]⟩
abbrev S16x2048x2048 : Shape := ⟨3, ![16, 2048, 2048]⟩
abbrev S2048x1024 : Shape := ⟨2, ![2048, 1024]⟩
abbrev S16x2048x1024 : Shape := ⟨3, ![16, 2048, 1024]⟩
abbrev S32768x2048 : Shape := ⟨2, ![32768, 2048]⟩
abbrev S_ : Shape := ⟨0, ![]⟩
abbrev S32768x5632 : Shape := ⟨2, ![32768, 5632]⟩
abbrev S32768x512 : Shape := ⟨2, ![32768, 512]⟩
abbrev S1x2048x1024 : Shape := ⟨3, ![1, 2048, 1024]⟩
abbrev S32768x1024 : Shape := ⟨2, ![32768, 1024]⟩
abbrev S1024x512 : Shape := ⟨2, ![1024, 512]⟩
abbrev S1024x2048 : Shape := ⟨2, ![1024, 2048]⟩
abbrev S1024x1024 : Shape := ⟨2, ![1024, 1024]⟩

abbrev nBuf : Space → Nat
  | .hbm => 24
  | .vmem => 16
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x2048, .f32⟩
  | .hbm, ⟨5, _⟩ => ⟨S2048x1024, .f32⟩
  | .hbm, ⟨6, _⟩ => ⟨S16x2048x1024, .f32⟩
  | .hbm, ⟨7, _⟩ => ⟨S32768x2048, .f32⟩
  | .hbm, ⟨8, _⟩ => ⟨S32768x2048, .bf16⟩
  | .hbm, ⟨9, _⟩ => ⟨S_, .i32⟩
  | .hbm, ⟨10, _⟩ => ⟨S_, .bf16⟩
  | .hbm, ⟨11, _⟩ => ⟨S32768x5632, .bf16⟩
  | .hbm, ⟨12, _⟩ => ⟨S32768x512, .f32⟩
  | .hbm, ⟨13, _⟩ => ⟨S32768x512, .bf16⟩
  | .hbm, ⟨14, _⟩ => ⟨S32768x512, .f32⟩
  | .hbm, ⟨15, _⟩ => ⟨S32768x512, .bf16⟩
  | .hbm, ⟨16, _⟩ => ⟨S32768x512, .f32⟩
  | .hbm, ⟨17, _⟩ => ⟨S32768x512, .bf16⟩
  | .hbm, ⟨18, _⟩ => ⟨S32768x512, .f32⟩
  | .hbm, ⟨19, _⟩ => ⟨S32768x512, .bf16⟩
  | .hbm, ⟨20, _⟩ => ⟨S1x2048x1024, .f32⟩
  | .hbm, ⟨21, _⟩ => ⟨S1x2048x1024, .bf16⟩
  | .hbm, ⟨22, _⟩ => ⟨S32768x1024, .f32⟩
  | .hbm, ⟨23, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .vmem, ⟨9, _⟩ => ⟨S1024x2048, .bf16⟩
  | .local _ .vmem, ⟨10, _⟩ => ⟨S1x2048x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x2048, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16x2048x512 : Shape := ⟨3, ![16, 2048, 512]⟩
abbrev S16x2048x2048 : Shape := ⟨3, ![16, 2048, 2048]⟩
abbrev S2048x1024 : Shape := ⟨2, ![2048, 1024]⟩
abbrev S16x2048x1024 : Shape := ⟨3, ![16, 2048, 1024]⟩
abbrev S_ : Shape := ⟨0, ![]⟩
abbrev S32768x1024 : Shape := ⟨2, ![32768, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x2048, .f32⟩
  | .hbm, ⟨5, _⟩ => ⟨S2048x1024, .f32⟩
  | .hbm, ⟨6, _⟩ => ⟨S16x2048x1024, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x1024, .f32⟩
  | .hbm, ⟨19, _⟩ => ⟨S16x2048x1024, .f32⟩
  | .hbm, ⟨20, _⟩ => ⟨S32768x1024, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x5560 : Shape := ⟨2, ![1024, 5560]⟩
abbrev S1024x3072 : Shape := ⟨2, ![1024, 3072]⟩
abbrev S1024x1536 : Shape := ⟨2, ![1024, 1536]⟩
abbrev S1024x416 : Shape := ⟨2, ![1024, 416]⟩
abbrev S1024x16 : Shape := ⟨2, ![1024, 16]⟩
abbrev S1024x8 : Shape := ⟨2, ![1024, 8]⟩
abbrev S_ : Shape := ⟨0, ![]⟩
abbrev S1024x72 : Shape := ⟨2, ![1024, 72]⟩
abbrev S1024x512 : Shape := ⟨2, ![1024, 512]⟩
abbrev S1024x5632 : Shape := ⟨2, ![1024, 5632]⟩
abbrev S32768x1024 : Shape := ⟨2, ![32768, 1024]⟩
abbrev S1x1024 : Shape := ⟨2, ![1, 1024]⟩
abbrev S1x1024x5632 : Shape := ⟨3, ![1, 1024, 5632]⟩
abbrev S32768x5632 : Shape := ⟨2, ![32768, 5632]⟩
abbrev S32768x128 : Shape := ⟨2, ![32768, 128]⟩
abbrev S1024x1024 : Shape := ⟨2, ![1024, 1024]⟩
abbrev S1x1024x2816 : Shape := ⟨3, ![1, 1024, 2816]⟩
abbrev S1024x2816 : Shape := ⟨2, ![1024, 2816]⟩
abbrev S1024x128 : Shape := ⟨2, ![1024, 128]⟩
abbrev S1024x1 : Shape := ⟨2, ![1024, 1]⟩

abbrev nBuf : Space → Nat
  | .hbm => 18
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5560, .f32⟩
  | .hbm, ⟨3, _⟩ => ⟨S1024x3072, .f32⟩
  | .hbm, ⟨4, _⟩ => ⟨S1024x1536, .f32⟩
  | .hbm, ⟨5, _⟩ => ⟨S1024x416, .f32⟩
  | .hbm, ⟨6, _⟩ => ⟨S1024x16, .f32⟩
  | .hbm, ⟨7, _⟩ => ⟨S1024x8, .f32⟩
  | .hbm, ⟨8, _⟩ => ⟨S_, .f32⟩
  | .hbm, ⟨9, _⟩ => ⟨S1024x72, .f32⟩
  | .hbm, ⟨10, _⟩ => ⟨S1024x512, .f32⟩
  | .hbm, ⟨11, _⟩ => ⟨S1024x5632, .f32⟩
  | .hbm, ⟨12, _⟩ => ⟨S32768x1024, .f32⟩
  | .hbm, ⟨13, _⟩ => ⟨S1x1024, .f32⟩
  | .hbm, ⟨14, _⟩ => ⟨S1x1024x5632, .f32⟩
  | .hbm, ⟨15, _⟩ => ⟨S1x1024x5632, .bf16⟩
  | .hbm, ⟨16, _⟩ => ⟨S32768x5632, .bf16⟩
  | .hbm, ⟨17, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1024x2816, .bf16⟩
  | .local _ .vmem, ⟨6, _⟩ => ⟨S1024x2816, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S16x2048x1024 : Shape := ⟨3, ![16, 2048, 1024]⟩
abbrev S1024 : Shape := ⟨1, ![1024]⟩
abbrev S1024x5560 : Shape := ⟨2, ![1024, 5560]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5560 : Shape := ⟨3, ![16, 2048, 5560]⟩
abbrev S32768x5560 : Shape := ⟨2, ![32768, 5560]⟩
abbrev S32768x2048 : Shape := ⟨2, ![32768, 2048]⟩
abbrev S32768x256 : Shape := ⟨2, ![32768, 256]⟩
abbrev S32768x512 : Shape := ⟨2, ![32768, 512]⟩
abbrev S32768x16 : Shape := ⟨2, ![32768, 16]⟩
abbrev S32768x8 : Shape := ⟨2, ![32768, 8]⟩
abbrev S32768x128 : Shape := ⟨2, ![32768, 128]⟩
abbrev S32768x32 : Shape := ⟨2, ![32768, 32]⟩
abbrev S32768x72 : Shape := ⟨2, ![32768, 72]⟩
abbrev S32768x5632 : Shape := ⟨2, ![32768, 5632]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5560, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x5560, .f32⟩
  | .hbm, ⟨20, _⟩ => ⟨S32768x5560, .f32⟩
  | .hbm, ⟨21, _⟩ => ⟨S32768x2048, .f32⟩
  | .hbm, ⟨22, _⟩ => ⟨S32768x256, .f32⟩
  | .hbm, ⟨23, _⟩ => ⟨S32768x256, .f32⟩
  | .hbm, ⟨24, _⟩ => ⟨S32768x512, .f32⟩
  | .hbm, ⟨25, _⟩ => ⟨S32768x16, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x8, .f32⟩
  | .hbm, ⟨30, _⟩ => ⟨S32768x256, .f32⟩
  | .hbm, ⟨31, _⟩ => ⟨S32768x128, .f32⟩
  | .hbm, ⟨32, _⟩ => ⟨S32768x32, .f32⟩
  | .hbm, ⟨33, _⟩ => ⟨S32768x512, .f32⟩
  | .hbm, ⟨34, _⟩ => ⟨S_, .f32⟩
  | .hbm, ⟨35, _⟩ => ⟨S32768x72, .f32⟩
  | .hbm, ⟨36, _⟩ => ⟨S32768x128, .f32⟩
  | .hbm, ⟨37, _⟩ => ⟨S32768x5632, .f32⟩
  | .hbm, ⟨38, _⟩ => ⟨S32768x5632, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel4.lean ====
abbrev S16x2048x8x96 : Shape := ⟨4, ![16, 2048, 8, 96]⟩
abbrev S16x2048x8x64 : Shape := ⟨4, ![16, 2048, 8, 64]⟩
abbrev S_ : Shape := ⟨0, ![]⟩
abbrev S16x2048x8x1 : Shape := ⟨4, ![16, 2048, 8, 1]⟩
abbrev S16x2048x8x65 : Shape := ⟨4, ![16, 2048, 8, 65]⟩
abbrev S16x2048x8x80 : Shape := ⟨4, ![16, 2048, 8, 80]⟩
abbrev S16x2048x640 : Shape := ⟨3, ![16, 2048, 640]⟩
abbrev S16x640x2048 : Shape := ⟨3, ![16, 640, 2048]⟩
abbrev S16x2048x8x128 : Shape := ⟨4, ![16, 2048, 8, 128]⟩
abbrev S32768x1024 : Shape := ⟨2, ![32768, 1024]⟩
abbrev S32768x512 : Shape := ⟨2, ![32768, 512]⟩
abbrev S512x1024 : Shape := ⟨2, ![512, 1024]⟩
abbrev S2048x1024 : Shape := ⟨2, ![2048, 1024]⟩
abbrev S1x640x2048 : Shape := ⟨3, ![1, 640, 2048]⟩
abbrev S512x512 : Shape := ⟨2, ![512, 512]⟩
abbrev S8x1x512 : Shape := ⟨3, ![8, 1, 512]⟩
abbrev S8x80x512 : Shape := ⟨3, ![8, 80, 512]⟩
abbrev S2x1024x512 : Shape := ⟨3, ![2, 1024, 512]⟩
abbrev S2x1x512 : Shape := ⟨3, ![2, 1, 512]⟩
abbrev S256x256 : Shape := ⟨2, ![256, 256]⟩
abbrev S512x256 : Shape := ⟨2, ![512, 256]⟩
abbrev S256x128 : Shape := ⟨2, ![256, 128]⟩
abbrev S512x128 : Shape := ⟨2, ![512, 128]⟩
abbrev S256 : Shape := ⟨1, ![256]⟩
abbrev S1x256 : Shape := ⟨2, ![1, 256]⟩
abbrev S1x512 : Shape := ⟨2, ![1, 512]⟩
abbrev S1x256x256 : Shape := ⟨3, ![1, 256, 256]⟩
abbrev S1x512x256 : Shape := ⟨3, ![1, 512, 256]⟩
abbrev S1x1x512 : Shape := ⟨3, ![1, 1, 512]⟩
abbrev S1x80x256 : Shape := ⟨3, ![1, 80, 256]⟩
abbrev S80x256 : Shape := ⟨2, ![80, 256]⟩
abbrev S1x80x512 : Shape := ⟨3, ![1, 80, 512]⟩
abbrev S80x512 : Shape := ⟨2, ![80, 512]⟩
abbrev S512 : Shape := ⟨1, ![512]⟩
abbrev S1x512x512 : Shape := ⟨3, ![1, 512, 512]⟩
abbrev S1024x128 : Shape := ⟨2, ![1024, 128]⟩
abbrev S1024x512 : Shape := ⟨2, ![1024, 512]⟩
abbrev S1x1024x512 : Shape := ⟨3, ![1, 1024, 512]⟩
abbrev S1x80x1024 : Shape := ⟨3, ![1, 80, 1024]⟩
abbrev S80x1024 : Shape := ⟨2, ![80, 1024]⟩
abbrev S1x64x512 : Shape := ⟨3, ![1, 64, 512]⟩
abbrev S64x512 : Shape := ⟨2, ![64, 512]⟩

abbrev nBuf : Space → Nat
  | .hbm => 31
  | .vmem => 12
  | .smem => 0
  | _ => 0

abbrev bufTy : (tb : Table) → Fin (tcTables nBuf tb) → BufTy
  | .hbm, ⟨0, _⟩ => ⟨S16x2048x8x96, .f32⟩
  | .hbm, ⟨1, _⟩ => ⟨S16x2048x8x96, .f32⟩
  | .hbm, ⟨2, _⟩ => ⟨S16x2048x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x2048x8x1, .f32⟩
  | .hbm, ⟨9, _⟩ => ⟨S16x2048x8x65, .f32⟩
  | .hbm, ⟨10, _⟩ => ⟨S_, .i32⟩
  | .hbm, ⟨11, _⟩ => ⟨S_, .f32⟩
  | .hbm, ⟨12, _⟩ => ⟨S16x2048x8x80, .f32⟩
  | .hbm, ⟨13, _⟩ => ⟨S16x2048x640, .f32⟩
  | .hbm, ⟨14, _⟩ => ⟨S16x640x2048, .f32⟩
  | .hbm, ⟨15, _⟩ => ⟨S16x640x2048, .bf16⟩
  | .hbm, ⟨16, _⟩ => ⟨S_, .f32⟩
  | .hbm, ⟨17, _⟩ => ⟨S_, .f32⟩
  | .hbm, ⟨18, _⟩ => ⟨S16x2048x8x96, .f32⟩
  | .hbm, ⟨19, _⟩ => ⟨S16x2048x8x96, .f32⟩
  | .hbm, ⟨20, _⟩ => ⟨S_, .i32⟩
  | .hbm, ⟨21, _⟩ => ⟨S_, .f32⟩
  | .hbm, ⟨22, _⟩ => ⟨S16x2048x8x128, .f32⟩
  | .hbm, ⟨23, _⟩ => ⟨S32768x1024, .f32⟩
  | .hbm, ⟨24, _⟩ => ⟨S32768x1024, .bf16⟩
  | .hbm, ⟨25, _⟩ => ⟨S_, .i32⟩
  | .hbm, ⟨26, _⟩ => ⟨S_, .f32⟩
  | .hbm, ⟨27, _⟩ => ⟨S16x2048x8x128, .f32⟩
  | .hbm, ⟨28, _⟩ => ⟨S32768x1024, .f32⟩
  | .hbm, ⟨29, _⟩ => ⟨S32768x1024, .bf16⟩
  | .hbm, ⟨30, _⟩ => ⟨S32768x512, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x640x2048, .bf16⟩
  | .local _ .vmem, ⟨5, _⟩ => ⟨S1x640x2048, .bf16⟩
  | .local _ .vmem, ⟨6, _⟩ => ⟨S512x512, .bf16⟩
  | .local _ .vmem, ⟨7, _⟩ => ⟨S512x512, .bf16⟩
  | .local _ .vmem, ⟨8, _⟩ => ⟨S8x1x512, .f32⟩
  | .local _ .vmem, ⟨9, _⟩ => ⟨S8x80x512, .f32⟩
  | .local _ .vmem, ⟨10, _⟩ => ⟨S2x1024x512, .f32⟩
  | .local _ .vmem, ⟨11, _⟩ => ⟨S2x1x512, .f32⟩
  | _, _ => ⟨S16x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S16x2048x8x96 : Shape := ⟨4, ![16, 2048, 8, 96]⟩
abbrev S16x2048x8x64 : Shape := ⟨4, ![16, 2048, 8, 64]⟩
abbrev S16x8x2048x2048 : Shape := ⟨4, ![16, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S32768x512 : Shape := ⟨2, ![32768, 512]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x8x96, .f32⟩
  | .hbm, ⟨1, _⟩ => ⟨S16x2048x8x96, .f32⟩
  | .hbm, ⟨2, _⟩ => ⟨S16x2048x8x64, .f32⟩
  | .hbm, ⟨3, _⟩ => ⟨S16x8x2048x2048, .f32⟩
  | .hbm, ⟨4, _⟩ => ⟨S_, .f32⟩
  | .hbm, ⟨5, _⟩ => ⟨S16x8x2048x2048, .f32⟩
  | .hbm, ⟨6, _⟩ => ⟨S16x8x2048x2048, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S16x8x2048x2048, .i1⟩
  | .hbm, ⟨17, _⟩ => ⟨S16x8x2048x2048, .f32⟩
  | .hbm, ⟨18, _⟩ => ⟨S16x8x2048x2048, .f32⟩
  | .hbm, ⟨19, _⟩ => ⟨S_, .f32⟩
  | .hbm, ⟨20, _⟩ => ⟨S16x8x2048, .f32⟩
  | .hbm, ⟨21, _⟩ => ⟨S_, .f32⟩
  | .hbm, ⟨22, _⟩ => ⟨S16x8x2048, .f32⟩
  | .hbm, ⟨23, _⟩ => ⟨S16x8x2048, .f32⟩
  | .hbm, ⟨24, _⟩ => ⟨S16x8x2048x1, .f32⟩
  | .hbm, ⟨25, _⟩ => ⟨S16x8x2048x2048, .f32⟩
  | .hbm, ⟨26, _⟩ => ⟨S16x8x2048x2048, .f32⟩
  | .hbm, ⟨27, _⟩ => ⟨S16x8x2048x2048, .f32⟩
  | .hbm, ⟨28, _⟩ => ⟨S_, .f32⟩
  | .hbm, ⟨29, _⟩ => ⟨S16x8x2048, .f32⟩
  | .hbm, ⟨30, _⟩ => ⟨S16x8x2048x1, .f32⟩
  | .hbm, ⟨31, _⟩ => ⟨S16x8x2048x2048, .f32⟩
  | .hbm, ⟨32, _⟩ => ⟨S16x8x2048x2048, .f32⟩
  | .hbm, ⟨33, _⟩ => ⟨S16x8x64x2048, .f32⟩
  | .hbm, ⟨34, _⟩ => ⟨S16x2048x8x64, .f32⟩
  | .hbm, ⟨35, _⟩ => ⟨S32768x512, .f32⟩
  | .hbm, ⟨36, _⟩ => ⟨S32768x512, .bf16⟩
  | _, _ => ⟨S16x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel5.lean ====
abbrev S16x2048x256 : Shape := ⟨3, ![16, 2048, 256]⟩
abbrev S16x2048x128 : Shape := ⟨3, ![16, 2048, 128]⟩
abbrev S16x2048x32 : Shape := ⟨3, ![16, 2048, 32]⟩
abbrev S16x2048x16 : Shape := ⟨3, ![16, 2048, 16]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S16x2048x416 : Shape := ⟨3, ![16, 2048, 416]⟩
abbrev S_ : Shape := ⟨0, ![]⟩
abbrev S16x2048x5632 : Shape := ⟨3, ![16, 2048, 5632]⟩
abbrev S32768x5632 : Shape := ⟨2, ![32768, 5632]⟩
abbrev S32768x64 : Shape := ⟨2, ![32768, 64]⟩
abbrev S32768x16 : Shape := ⟨2, ![32768, 16]⟩
abbrev S32768x32 : Shape := ⟨2, ![32768, 32]⟩
abbrev S32768x128 : Shape := ⟨2, ![32768, 128]⟩
abbrev S256x8x96 : Shape := ⟨3, ![256, 8, 96]⟩
abbrev S128x8x128 : Shape := ⟨3, ![128, 8, 128]⟩
abbrev S128x8x64 : Shape := ⟨3, ![128, 8, 64]⟩
abbrev S128x8x80 : Shape := ⟨3, ![128, 8, 80]⟩
abbrev S128x640 : Shape := ⟨2, ![128, 640]⟩
abbrev S1x96 : Shape := ⟨2, ![1, 96]⟩
abbrev S128x128 : Shape := ⟨2, ![128, 128]⟩
abbrev S128x256 : Shape := ⟨2, ![128, 256]⟩
abbrev S256x256 : Shape := ⟨2, ![256, 256]⟩
abbrev S1x256 : Shape := ⟨2, ![1, 256]⟩
abbrev S256x8x128 : Shape := ⟨3, ![256, 8, 128]⟩
abbrev S256x1024 : Shape := ⟨2, ![256, 1024]⟩
abbrev S256x8x64 : Shape := ⟨3, ![256, 8, 64]⟩
abbrev S256x8x16 : Shape := ⟨3, ![256, 8, 16]⟩
abbrev S1x128 : Shape := ⟨2, ![1, 128]⟩
abbrev S640x128 : Shape := ⟨2, ![640, 128]⟩
abbrev S1x64 : Shape := ⟨2, ![1, 64]⟩
abbrev S1x16 : Shape := ⟨2, ![1, 16]⟩
abbrev S32768x1024 : Shape := ⟨2, ![32768, 1024]⟩
abbrev S16x640x2048 : Shape := ⟨3, ![16, 640, 2048]⟩
abbrev S1024x256 : Shape := ⟨2, ![1024, 256]⟩
abbrev S1024x128 : Shape := ⟨2, ![1024, 128]⟩
abbrev S1024x1024 : Shape := ⟨2, ![1024, 1024]⟩
abbrev S1x640x1024 : Shape := ⟨3, ![1, 640, 1024]⟩
abbrev S1024 : Shape := ⟨1, ![1024]⟩
abbrev S1024x1 : Shape := ⟨2, ![1024, 1]⟩
abbrev S640x1024 : Shape := ⟨2, ![640, 1024]⟩

abbrev nBuf : Space → Nat
  | .hbm => 111
  | .vmem => 27
  | .smem => 0
  | _ => 0

abbrev bufTy : (tb : Table) → Fin (tcTables nBuf tb) → BufTy
  | .hbm, ⟨0, _⟩ => ⟨S16x2048x256, .f32⟩
  | .hbm, ⟨1, _⟩ => ⟨S16x2048x128, .f32⟩
  | .hbm, ⟨2, _⟩ => ⟨S16x2048x32, .f32⟩
  | .hbm, ⟨3, _⟩ => ⟨S16x2048x16, .f32⟩
  | .hbm, ⟨4, _⟩ => ⟨S16x2048x16, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S128x1024, .f32⟩
  | .hbm, ⟨9, _⟩ => ⟨S96, .f32⟩
  | .hbm, ⟨10, _⟩ => ⟨S96, .f32⟩
  | .hbm, ⟨11, _⟩ => ⟨S16x2048x416, .f32⟩
  | .hbm, ⟨12, _⟩ => ⟨S_, .i32⟩
  | .hbm, ⟨13, _⟩ => ⟨S_, .f32⟩
  | .hbm, ⟨14, _⟩ => ⟨S16x2048x5632, .f32⟩
  | .hbm, ⟨15, _⟩ => ⟨S32768x5632, .f32⟩
  | .hbm, ⟨16, _⟩ => ⟨S32768x5632, .bf16⟩
  | .hbm, ⟨17, _⟩ => ⟨S_, .f32⟩
  | .hbm, ⟨18, _⟩ => ⟨S32768x64, .f32⟩
  | .hbm, ⟨19, _⟩ => ⟨S32768x16, .f32⟩
  | .hbm, ⟨20, _⟩ => ⟨S32768x16, .f32⟩
  | .hbm, ⟨21, _⟩ => ⟨S_, .f32⟩
  | .hbm, ⟨22, _⟩ => ⟨S32768x32, .f32⟩
  | .hbm, ⟨23, _⟩ => ⟨S32768x128, .f32⟩
  | .hbm, ⟨24, _⟩ => ⟨S_, .f32⟩
  | .hbm, ⟨25, _⟩ => ⟨S32768x64, .f32⟩
  | .hbm, ⟨26, _⟩ => ⟨S32768x16, .f32⟩
  | .hbm, ⟨27, _⟩ => ⟨S32768x16, .f32⟩
  | .hbm, ⟨28, _⟩ => ⟨S32768x16, .f32⟩
  | .hbm, ⟨29, _⟩ => ⟨S_, .f32⟩
  | .hbm, ⟨30, _⟩ => ⟨S32768x32, .f32⟩
  | .hbm, ⟨31, _⟩ => ⟨S32768x128, .f32⟩
  | .hbm, ⟨32, _⟩ => ⟨S256x8x96, .f32⟩
  | .hbm, ⟨33, _⟩ => ⟨S128x8x128, .f32⟩
  | .hbm, ⟨34, _⟩ => ⟨S128x8x64, .f32⟩
  | .hbm, ⟨35, _⟩ => ⟨S_, .i32⟩
  | .hbm, ⟨36, _⟩ => ⟨S_, .f32⟩
  | .hbm, ⟨37, _⟩ => ⟨S128x8x80, .f32⟩
  | .hbm, ⟨38, _⟩ => ⟨S128x640, .f32⟩
  | .hbm, ⟨39, _⟩ => ⟨S_, .f32⟩
  | .hbm, ⟨40, _⟩ => ⟨S96, .f32⟩
  | .hbm, ⟨41, _⟩ => ⟨S96, .f32⟩
  | .hbm, ⟨42, _⟩ => ⟨S1x96, .f32⟩
  | .hbm, ⟨43, _⟩ => ⟨S_, .f32⟩
  | .hbm, ⟨44, _⟩ => ⟨S_, .f32⟩
  | .hbm, ⟨45, _⟩ => ⟨S96, .f32⟩
  | .hbm, ⟨46, _⟩ => ⟨S96, .f32⟩
  | .hbm, ⟨47, _⟩ => ⟨S1x96, .f32⟩
  | .hbm, ⟨48, _⟩ => ⟨S_, .f32⟩
  | .hbm, ⟨49, _⟩ => ⟨S128x128, .f32⟩
  | .hbm, ⟨50, _⟩ => ⟨S_, .i32⟩
  | .hbm, ⟨51, _⟩ => ⟨S_, .f32⟩
  | .hbm, ⟨52, _⟩ => ⟨S128x256, .f32⟩
  | .hbm, ⟨53, _⟩ => ⟨S_, .i32⟩
  | .hbm, ⟨54, _⟩ => ⟨S_, .f32⟩
  | .hbm, ⟨55, _⟩ => ⟨S128x256, .f32⟩
  | .hbm, ⟨56, _⟩ => ⟨S256x256, .f32⟩
  | .hbm, ⟨57, _⟩ => ⟨S1x256, .f32⟩
  | .hbm, ⟨58, _⟩ => ⟨S_, .i32⟩
  | .hbm, ⟨59, _⟩ => ⟨S_, .f32⟩
  | .hbm, ⟨60, _⟩ => ⟨S256x8x128, .f32⟩
  | .hbm, ⟨61, _⟩ => ⟨S256x1024, .f32⟩
  | .hbm, ⟨62, _⟩ => ⟨S256x1024, .bf16⟩
  | .hbm, ⟨63, _⟩ => ⟨S256x8x64, .f32⟩
  | .hbm, ⟨64, _⟩ => ⟨S_, .f32⟩
  | .hbm, ⟨65, _⟩ => ⟨S256x8x64, .f32⟩
  | .hbm, ⟨66, _⟩ => ⟨S256x8x16, .f32⟩
  | .hbm, ⟨67, _⟩ => ⟨S256x8x16, .f32⟩
  | .hbm, ⟨68, _⟩ => ⟨S256x8x96, .f32⟩
  | .hbm, ⟨69, _⟩ => ⟨S_, .i32⟩
  | .hbm, ⟨70, _⟩ => ⟨S_, .f32⟩
  | .hbm, ⟨71, _⟩ => ⟨S256x8x128, .f32⟩
  | .hbm, ⟨72, _⟩ => ⟨S256x1024, .f32⟩
  | .hbm, ⟨73, _⟩ => ⟨S256x1024, .bf16⟩
  | .hbm, ⟨74, _⟩ => ⟨S1x128, .f32⟩
  | .hbm, ⟨75, _⟩ => ⟨S128x8x64, .f32⟩
  | .hbm, ⟨76, _⟩ => ⟨S_, .i32⟩
  | .hbm, ⟨77, _⟩ => ⟨S_, .f32⟩
  | .hbm, ⟨78, _⟩ => ⟨S128x8x128, .f32⟩
  | .hbm, ⟨79, _⟩ => ⟨S128x1024, .f32⟩
  | .hbm, ⟨80, _⟩ => ⟨S128x1024, .bf16⟩
  | .hbm, ⟨81, _⟩ => ⟨S640x128, .f32⟩
  | .hbm, ⟨82, _⟩ => ⟨S640x128, .bf16⟩
  | .hbm, ⟨83, _⟩ => ⟨S_, .i32⟩
  | .hbm, ⟨84, _⟩ => ⟨S_, .f32⟩
  | .hbm, ⟨85, _⟩ => ⟨S1x128, .f32⟩
  | .hbm, ⟨86, _⟩ => ⟨S1x64, .f32⟩
  | .hbm, ⟨87, _⟩ => ⟨S_, .f32⟩
  | .hbm, ⟨88, _⟩ => ⟨S1x64, .f32⟩
  | .hbm, ⟨89, _⟩ => ⟨S1x16, .f32⟩
  | .hbm, ⟨90, _⟩ => ⟨S1x16, .f32⟩
  | .hbm, ⟨91, _⟩ => ⟨S1x96, .f32⟩
  | .hbm, ⟨92, _⟩ => ⟨S_, .i32⟩
  | .hbm, ⟨93, _⟩ => ⟨S_, .f32⟩
  | .hbm, ⟨94, _⟩ => ⟨S1x128, .f32⟩
  | .hbm, ⟨95, _⟩ => ⟨S_, .i32⟩
  | .hbm, ⟨96, _⟩ => ⟨S_, .f32⟩
  | .hbm, ⟨97, _⟩ => ⟨S1x128, .f32⟩
  | .hbm, ⟨98, _⟩ => ⟨S1x64, .f32⟩
  | .hbm, ⟨99, _⟩ => ⟨S_, .f32⟩
  | .hbm, ⟨100, _⟩ => ⟨S1x64, .f32⟩
  | .hbm, ⟨101, _⟩ => ⟨S1x16, .f32⟩
  | .hbm, ⟨102, _⟩ => ⟨S1x16, .f32⟩
  | .hbm, ⟨103, _⟩ => ⟨S1x96, .f32⟩
  | .hbm, ⟨104, _⟩ => ⟨S_, .i32⟩
  | .hbm, ⟨105, _⟩ => ⟨S_, .f32⟩
  | .hbm, ⟨106, _⟩ => ⟨S1x128, .f32⟩
  | .hbm, ⟨107, _⟩ => ⟨S256x256, .bf16⟩
  | .hbm, ⟨108, _⟩ => ⟨S32768x1024, .bf16⟩
  | .hbm, ⟨109, _⟩ => ⟨S32768x1024, .bf16⟩
  | .hbm, ⟨110, _⟩ => ⟨S16x640x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S1x128, .f32⟩
  | .local _ .vmem, ⟨14, _⟩ => ⟨S128x1024, .bf16⟩
  | .local _ .vmem, ⟨15, _⟩ => ⟨S640x128, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S256x256, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1x640x1024, .bf16⟩
  | .local _ .vmem, ⟨26, _⟩ => ⟨S1x640x1024, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_call1_v0 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_c_7 : Ref sig .tc := ⟨.hbm, 50, rfl⟩
abbrev main_call2_v0 : Ref sig .tc := ⟨.hbm, 51, rfl⟩
abbrev main_v28 : Ref sig .tc := ⟨.hbm, 52, rfl⟩
abbrev main_c_8 : Ref sig .tc := ⟨.hbm, 53, rfl⟩
abbrev main_call3_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_9 : Ref sig .tc := ⟨.hbm, 58, rfl⟩
abbrev main_call4_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_10 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_11 : Ref sig .tc := ⟨.hbm, 69, rfl⟩
abbrev main_call5_v0 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_call6_v0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_13 : Ref sig .tc := ⟨.hbm, 83, rfl⟩
abbrev main_call7_v0 : Ref sig .tc := ⟨.hbm, 84, rfl⟩
abbrev main_v50 : Ref sig .tc := ⟨.hbm, 85, rfl⟩
abbrev main_v51 : Ref sig .tc := ⟨.hbm, 86, rfl⟩
abbrev main_cst_14 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_15 : Ref sig .tc := ⟨.hbm, 92, rfl⟩
abbrev main_call8_v0 : Ref sig .tc := ⟨.hbm, 93, rfl⟩
abbrev main_v56 : Ref sig .tc := ⟨.hbm, 94, rfl⟩
abbrev main_c_16 : Ref sig .tc := ⟨.hbm, 95, rfl⟩
abbrev main_call9_v0 : Ref sig .tc := ⟨.hbm, 96, rfl⟩
abbrev main_v57 : Ref sig .tc := ⟨.hbm, 97, rfl⟩
abbrev main_v58 : Ref sig .tc := ⟨.hbm, 98, rfl⟩
abbrev main_cst_17 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_18 : Ref sig .tc := ⟨.hbm, 104, rfl⟩
abbrev main_call10_v0 : Ref sig .tc := ⟨.hbm, 105, rfl⟩
abbrev main_v63 : Ref sig .tc := ⟨.hbm, 106, rfl⟩
abbrev main_v64 : Ref sig .tc := ⟨.hbm, 107, rfl⟩
abbrev main_v65_0 : Ref sig .tc := ⟨.hbm, 108, rfl⟩
abbrev main_v65_1 : Ref sig .tc := ⟨.hbm, 109, rfl⟩
abbrev main_v65_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_2 (i : grid0.Coords) : Fin 2 → Nat :=
  let arg0 : BitVec 32 := BitVec.ofNat 32 (i 0).val
  let c39_i32 : BitVec 32 := 39#32
  let c0_i32 : BitVec 32 := 0#32
  ![arg0.toNat, c39_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S640x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x640x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel5Ideal.lean ====
variable {F : FTy → Type} [FloatOps F] [Named F]
def κ : String → Option EReal := fun
  | "eps96" => some ((26388279 / 274877906944 : ℝ) : EReal)
  | _ => none
-- ==== Reference5Ideal.lean ====
abbrev S16x2048x256 : Shape := ⟨3, ![16, 2048, 256]⟩
abbrev S16x2048x128 : Shape := ⟨3, ![16, 2048, 128]⟩
abbrev S16x2048x32 : Shape := ⟨3, ![16, 2048, 32]⟩
abbrev S16x2048x16 : Shape := ⟨3, ![16, 2048, 16]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S_ : Shape := ⟨0, ![]⟩
abbrev S16x2048 : Shape := ⟨2, ![16, 2048]⟩
abbrev S16x2048x1 : Shape := ⟨3, ![16, 2048, 1]⟩
abbrev S1x1x256 : Shape := ⟨3, ![1, 1, 256]⟩
abbrev S16x2048x768 : Shape := ⟨3, ![16, 2048, 768]⟩
abbrev S16x2048x8x96 : Shape := ⟨4, ![16, 2048, 8, 96]⟩
abbrev S1x1x128 : Shape := ⟨3, ![1, 1, 128]⟩
abbrev S16x2048x1024 : Shape := ⟨3, ![16, 2048, 1024]⟩
abbrev S16x2048x8x128 : Shape := ⟨4, ![16, 2048, 8, 128]⟩
abbrev S16x2048x1x32 : Shape := ⟨4, ![16, 2048, 1, 32]⟩
abbrev S16x2048x8x32 : Shape := ⟨4, ![16, 2048, 8, 32]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x1x96 : Shape := ⟨4, ![1, 1, 1, 96]⟩
abbrev S16x2048x8x16 : Shape := ⟨4, ![16, 2048, 8, 16]⟩
abbrev S16x2048x1x16 : Shape := ⟨4, ![16, 2048, 1, 16]⟩
abbrev S16x2048x8x65 : Shape := ⟨4, ![16, 2048, 8, 65]⟩
abbrev S16x2048x8x80 : Shape := ⟨4, ![16, 2048, 8, 80]⟩
abbrev S32768x1024 : Shape := ⟨2, ![32768, 1024]⟩
abbrev S16x2048x640 : Shape := ⟨3, ![16, 2048, 640]⟩
abbrev S16x640x2048 : Shape := ⟨3, ![16, 640, 2048]⟩

abbrev nBuf : Space → Nat
  | .hbm => 142
  | .vmem => 0
  | .smem => 0
  | _ => 0

abbrev hbmTy0_0 (i : Nat) : BufTy := match i % 128 with
  | 0 => ⟨S16x2048x256, .f32⟩
  | 1 => ⟨S16x2048x128, .f32⟩
  | 2 => ⟨S16x2048x32, .f32⟩
  | 3 => ⟨S16x2048x16, .f32⟩
  | 4 => ⟨S16x2048x16, .f32⟩
  | 5 => ⟨S256, .f32⟩
  | 6 => ⟨S256x768, .f32⟩
  | 7 => ⟨S128, .f32⟩
  | 8 => ⟨S128x1024, .f32⟩
  | 9 => ⟨S96, .f32⟩
  | 10 => ⟨S96, .f32⟩
  | 11 => ⟨S16x2048x256, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x256, .f32⟩
  | 23 => ⟨S16x2048x256, .f32⟩
  | 24 => ⟨S1x1x256, .f32⟩
  | 25 => ⟨S16x2048x256, .f32⟩
  | 26 => ⟨S16x2048x256, .f32⟩
  | 27 => ⟨S16x2048x768, .f32⟩
  | 28 => ⟨S16x2048x8x96, .f32⟩
  | 29 => ⟨S16x2048x128, .f32⟩
  | 30 => ⟨S_, .f32⟩
  | 31 => ⟨S16x2048, .f32⟩
  | 32 => ⟨S16x2048x1, .f32⟩
  | 33 => ⟨S_, .f32⟩
  | 34 => ⟨S16x2048x1, .f32⟩
  | 35 => ⟨S16x2048x1, .f32⟩
  | 36 => ⟨S_, .f32⟩
  | 37 => ⟨S16x2048x1, .f32⟩
  | 38 => ⟨S16x2048x1, .f32⟩
  | 39 => ⟨S16x2048x1, .f32⟩
  | 40 => ⟨S16x2048x128, .f32⟩
  | 41 => ⟨S16x2048x128, .f32⟩
  | 42 => ⟨S1x1x128, .f32⟩
  | 43 => ⟨S16x2048x128, .f32⟩
  | 44 => ⟨S16x2048x128, .f32⟩
  | 45 => ⟨S16x2048x1024, .f32⟩
  | 46 => ⟨S16x2048x8x128, .f32⟩
  | 47 => ⟨S16x2048x1x32, .f32⟩
  | 48 => ⟨S16x2048x8x32, .f32⟩
  | 49 => ⟨S16x2048x8x64, .f32⟩
  | 50 => ⟨S16x2048x8x96, .f32⟩
  | 51 => ⟨S16x2048x8x96, .f32⟩
  | 52 => ⟨S_, .f32⟩
  | 53 => ⟨S16x2048x8, .f32⟩
  | 54 => ⟨S16x2048x8x1, .f32⟩
  | 55 => ⟨S_, .f32⟩
  | 56 => ⟨S16x2048x8x1, .f32⟩
  | 57 => ⟨S16x2048x8x1, .f32⟩
  | 58 => ⟨S_, .f32⟩
  | 59 => ⟨S16x2048x8x1, .f32⟩
  | 60 => ⟨S16x2048x8x1, .f32⟩
  | 61 => ⟨S16x2048x8x1, .f32⟩
  | 62 => ⟨S16x2048x8x96, .f32⟩
  | 63 => ⟨S16x2048x8x96, .f32⟩
  | 64 => ⟨S1x1x1x96, .f32⟩
  | 65 => ⟨S16x2048x8x96, .f32⟩
  | 66 => ⟨S16x2048x8x96, .f32⟩
  | 67 => ⟨S16x2048x8x64, .f32⟩
  | 68 => ⟨S16x2048x8x16, .f32⟩
  | 69 => ⟨S16x2048x8x16, .f32⟩
  | 70 => ⟨S16x2048x1x16, .f32⟩
  | 71 => ⟨S16x2048x1x16, .f32⟩
  | 72 => ⟨S16x2048x8x16, .f32⟩
  | 73 => ⟨S16x2048x8x16, .f32⟩
  | 74 => ⟨S16x2048x8x16, .f32⟩
  | 75 => ⟨S16x2048x8x16, .f32⟩
  | 76 => ⟨S16x2048x8x16, .f32⟩
  | 77 => ⟨S16x2048x8x16, .f32⟩
  | 78 => ⟨S16x2048x8x16, .f32⟩
  | 79 => ⟨S16x2048x8x16, .f32⟩
  | 80 => ⟨S16x2048x8x16, .f32⟩
  | 81 => ⟨S16x2048x8x16, .f32⟩
  | 82 => ⟨S16x2048x8x96, .f32⟩
  | 83 => ⟨S_, .f32⟩
  | 84 => ⟨S_, .f32⟩
  | 85 => ⟨S16x2048x8x96, .f32⟩
  | 86 => ⟨S16x2048x8x96, .f32⟩
  | 87 => ⟨S_, .f32⟩
  | 88 => ⟨S16x2048x8x96, .f32⟩
  | 89 => ⟨S16x2048x8x96, .f32⟩
  | 90 => ⟨S16x2048x8x64, .f32⟩
  | 91 => ⟨S_, .f32⟩
  | 92 => ⟨S16x2048x8x1, .f32⟩
  | 93 => ⟨S16x2048x8x65, .f32⟩
  | 94 => ⟨S_, .i32⟩
  | 95 => ⟨S_, .f32⟩
  | 96 => ⟨S16x2048x8x80, .f32⟩
  | 97 => ⟨S_, .i32⟩
  | 98 => ⟨S_, .f32⟩
  | 99 => ⟨S16x2048x8x128, .f32⟩
  | 100 => ⟨S32768x1024, .f32⟩
  | 101 => ⟨S32768x1024, .bf16⟩
  | 102 => ⟨S16x2048x8x96, .f32⟩
  | 103 => ⟨S_, .f32⟩
  | 104 => ⟨S16x2048x8, .f32⟩
  | 105 => ⟨S16x2048x8x1, .f32⟩
  | 106 => ⟨S_, .f32⟩
  | 107 => ⟨S16x2048x8x1, .f32⟩
  | 108 => ⟨S16x2048x8x1, .f32⟩
  | 109 => ⟨S_, .f32⟩
  | 110 => ⟨S16x2048x8x1, .f32⟩
  | 111 => ⟨S16x2048x8x1, .f32⟩
  | 112 => ⟨S16x2048x8x1, .f32⟩
  | 113 => ⟨S16x2048x8x96, .f32⟩
  | 114 => ⟨S16x2048x8x96, .f32⟩
  | 115 => ⟨S1x1x1x96, .f32⟩
  | 116 => ⟨S16x2048x8x96, .f32⟩
  | 117 => ⟨S16x2048x8x96, .f32⟩
  | 118 => ⟨S16x2048x8x64, .f32⟩
  | 119 => ⟨S16x2048x8x16, .f32⟩
  | 120 => ⟨S16x2048x8x16, .f32⟩
  | 121 => ⟨S16x2048x1x16, .f32⟩
  | 122 => ⟨S16x2048x1x16, .f32⟩
  | 123 => ⟨S16x2048x8x16, .f32⟩
  | 124 => ⟨S16x2048x8x16, .f32⟩
  | 125 => ⟨S16x2048x8x16, .f32⟩
  | 126 => ⟨S16x2048x8x16, .f32⟩
  | 127 => ⟨S16x2048x8x16, .f32⟩
  | _ => ⟨S16x2048x256, .f32⟩

abbrev hbmTy0_1 (i : Nat) : BufTy := match i % 128 with
  | 0 => ⟨S16x2048x8x16, .f32⟩
  | 1 => ⟨S16x2048x8x16, .f32⟩
  | 2 => ⟨S16x2048x8x16, .f32⟩
  | 3 => ⟨S16x2048x8x16, .f32⟩
  | 4 => ⟨S16x2048x8x16, .f32⟩
  | 5 => ⟨S16x2048x8x96, .f32⟩
  | 6 => ⟨S_, .i32⟩
  | 7 => ⟨S_, .f32⟩
  | 8 => ⟨S16x2048x8x128, .f32⟩
  | 9 => ⟨S32768x1024, .f32⟩
  | 10 => ⟨S32768x1024, .bf16⟩
  | 11 => ⟨S16x2048x640, .f32⟩
  | 12 => ⟨S16x640x2048, .f32⟩
  | 13 => ⟨S16x640x2048, .bf16⟩
  | _ => ⟨S16x2048x256, .f32⟩

abbrev hbmTy (i : Nat) : BufTy := match i / 128 with
  | 0 => hbmTy0_0 i
  | 1 => hbmTy0_1 i
  | _ => ⟨S16x2048x256, .f32⟩

abbrev bufTy : (tb : Table) → Fin (tcTables nBuf tb) → BufTy
  | .hbm, ⟨i, _⟩ => hbmTy i
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_c : Ref sig .tc := ⟨.hbm, 94, rfl⟩
abbrev main_call0_v0 : Ref sig .tc := ⟨.hbm, 95, rfl⟩
abbrev main_v71 : Ref sig .tc := ⟨.hbm, 96, rfl⟩
abbrev main_c_11 : Ref sig .tc := ⟨.hbm, 97, rfl⟩
abbrev main_call1_v0 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c_15 : Ref sig .tc := ⟨.hbm, 134, rfl⟩
abbrev main_call2_v0 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩

abbrev nD : Nat := 1
abbrev τ : Topo := Topo.v7x

variable {F : FTy → Type} [FloatOps F]
-- ==== Proof.Attn.Items.lean ====
/-
  The attention body as the schedule it was written as: work items over (head, group of key blocks), each of which
  issues its scores, is consumed, and hands its slot to the next one.  The printed body is the same program written
  out item by item.
-/
module

public import proofs.«01_k».proof.Proof.Gen.KernelIdeal

@[expose] public section

noncomputable section

namespace Cert.KernelIdeal.Attn

open Idealize.ShloMosaic Idealize.ShloMosaic.TcCoe Idealize.SL Idealize.SL.Sem
open Cert.KernelIdeal.Gen

/-! ## Shapes in the number of key rows -/

/-- A matrix shape. -/
abbrev M2 (a b : ℕ) : Shape := ⟨2, ![a, b]⟩
/-- A matrix shape with a leading axis of one. -/
abbrev M3 (a b : ℕ) : Shape := ⟨3, ![1, a, b]⟩

theorem cast23 (a b : ℕ) : (M2 a b).ShapeCasts (M3 a b) := by
  simp [Shape.ShapeCasts, Shape.numel, Fin.prod_univ_succ]
theorem cast32 (a b : ℕ) : (M3 a b).ShapeCasts (M2 a b) := by
  simp [Shape.ShapeCasts, Shape.numel, Fin.prod_univ_succ]
theorem cast22 (a b : ℕ) : (M2 a b).ShapeCasts (M2 a b) := rfl
theorem cast12 (b : ℕ) : (⟨1, ![b]⟩ : Shape).ShapeCasts (M2 1 b) := by
  simp [Shape.ShapeCasts, Shape.numel, Fin.prod_univ_succ]
theorem red (a b : ℕ) : (M2 a b).Reduces [0] ⟨1, ![b]⟩ :=
  ⟨rfl, Nat.one_pos, fun i => by
    obtain rfl : i = (0 : Fin 1) := Subsingleton.elim (α := Fin 1) i 0
    rfl⟩
theorem bcast (a b : ℕ) : (M2 1 b).Broadcasts (M2 a b) :=
  ⟨le_rfl, fun i => by
    match i with
    | 0 => exact Or.inl rfl
    | 1 => exact Or.inr fun _ => rfl⟩

/-- Keys by queries: the last axes contracted. -/
def dotKQ (n w : ℕ) : DotDims (M2 n 128) (M2 w 128) (M2 n w) where
  lhsContracting := [1]
  rhsContracting := [1]
  lhsNonContracting := [0]
  rhsNonContracting := [0]
  lhsBatch := []
  rhsBatch := []
  wf := ⟨rfl, by simp, rfl, by simp, by simp, by simp, by simp [List.finRange], by simp [List.finRange], rfl, Nat.two_pos, fun b => by
    match b with
    | 0 => rfl
    | 1 => rfl⟩

/-- Values by weights: the rows of the weights contracted. -/
def dotVP (n w : ℕ) : DotDims (M2 80 n) (M2 n w) (M2 80 w) where
  lhsContracting := [1]
  rhsContracting := [0]
  lhsNonContracting := [0]
  rhsNonContracting := [1]
  lhsBatch := []
  rhsBatch := []
  wf := ⟨rfl, by simp, rfl, by simp, by simp, by simp, by simp [List.finRange], by simpa [List.finRange] using List.Perm.swap 0 1 [],
    rfl, Nat.two_pos, fun b => by
    match b with
    | 0 => rfl
    | 1 => rfl⟩

variable {F : FTy → Type} [FloatOps F] [Named F]

/-! ## What one item computes -/

/-- The scores of `n` keys against `w` queries. -/
def scores (n w : ℕ) (k : FVec F (M2 n 128) .bf16) (q : FVec F (M2 w 128) .bf16) : FVec F (M2 n w) .f32 :=
  matmul (dotKQ n w) none (shapeCast (M2 n 128) k (cast22 n 128)) (shapeCast (M2 w 128) q (cast22 w 128)) (constant (M2 n w) .f32 0x00000000#32)

/-- The scores with the keys after the query masked. -/
def masked (n w : ℕ) (mask : IVec (M2 n w) 1) (s : FVec F (M2 n w) .f32) : FVec F (M2 n w) .f32 :=
  select mask s (broadcast (M2 n w) (Named.named κ "mask" 0xF149F2CA#32 : F .f32))

/-- The largest score of every query. -/
def colMax (n w : ℕ) (s : FVec F (M2 n w) .f32) : FVec F (M2 1 w) .f32 :=
  shapeCast (M2 1 w) (multiReduction .maximumf [0] ⟨1, ![w]⟩ s 0xFF800000#32 (red n w) (.inl rfl) rfl) (cast12 w)

/-- The weighted sum of the values, the weights being the powers of two of the scores less `m`. -/
def weigh (n w : ℕ) (s : FVec F (M3 n w) .f32) (m : FVec F (M2 1 w) .f32) (v : FVec F (M3 80 n) .bf16) : FVec F (M2 80 w) .f32 :=
  matmul (dotVP n w) none (shapeCast (M2 80 n) v (cast32 80 n))
    (truncf .bf16 (exp2 (subf (shapeCast (M2 n w) s (cast32 n w)) (broadcastTo (M2 n w) m (bcast n w)))) bitsLt_bf16_f32)
    (constant (M2 80 w) .f32 0x00000000#32)

/-- The accumulator moved to the new maximum and the new group's sum added. -/
def rescale (m m' : FVec F (M2 1 512) .f32) (acc : FVec F (M3 80 512) .f32) (pv : FVec F (M2 80 512) .f32) : FVec F (M2 80 512) .f32 :=
  addf (mulf (broadcastTo (M2 80 512) (exp2 (subf m m')) (bcast 80 512)) (shapeCast (M2 80 512) acc (cast32 80 512))) pv

/-- The queries' maxima over the two halves of the diagonal block. -/
def diagMax (l : FVec F (M2 256 256) .f32) (r : FVec F (M2 512 256) .f32) : FVec F (M2 1 512) .f32 :=
  concatenate (M2 1 512) 1 [⟨M2 1 256, colMax 256 256 l⟩, ⟨M2 1 256, colMax 512 256 r⟩] concatenates_S1x256_S1x256_S1x512_d1

/-! ## Loads and stores -/

/-- The buffers the body works on: queries, keys, values, output, and the four scratch buffers. -/
structure Refs where
  q : Memref sig .tc .vmem S512x1024 .bf16
  k : Memref sig .tc .vmem S2048x1024 .bf16
  v : Memref sig .tc .vmem S1x640x2048 .bf16
  o : Memref sig .tc .vmem S512x512 .bf16
  ho : o.IsWhole
  m : Memref sig .tc .vmem S8x1x512 .f32
  acc : Memref sig .tc .vmem S8x80x512 .f32
  st : Memref sig .tc .vmem S2x1024x512 .f32
  mx : Memref sig .tc .vmem S2x1x512 .f32

/-- A vector load. -/
def ld {s : Shape} {e : EltTy} (r : Memref sig .tc .vmem s e) (off size : Fin s.rank → ℕ) (inb : ∀ a, off a + size a ≤ s.size a)
    (h : 0 < (Rect.unit off size inb).shape.numel) : Prog (TpuEff nD τ sig (Elt F) Λ₀ .tc) ((Rect.unit off size inb).shape.Idx → Elt F e) :=
  Prog.lift (.load r (Rect.unit off size inb).toLoadRect (View.loadsAt_vmem h))

/-- An unmasked vector store of single-precision values. -/
def st {s : Shape} (r : Memref sig .tc .vmem s .f32) (off size : Fin s.rank → ℕ) (inb : ∀ a, off a + size a ≤ s.size a)
    (h : 0 < (Rect.unit off size inb).shape.numel) (w : (Rect.unit off size inb).shape.Idx → Elt F .f32) :
    Prog (TpuEff nD τ sig (Elt F) Λ₀ .tc) PUnit :=
  Prog.lift (.store r (Rect.unit off size inb) w Finset.univ (View.stores_vmem_bits_univ h rfl) (.inl rfl))

theorem inb2 {A B a b x y : ℕ} (h : x + a ≤ A) (h' : y + b ≤ B) : ∀ i, (![x, y] : Fin 2 → ℕ) i + (![a, b] : Fin 2 → ℕ) i ≤ (M2 A B).size i := fun i => by
  match i with
  | 0 => exact h
  | 1 => exact h'

theorem inb3 {A B C a b c x y z : ℕ} (h : x + a ≤ A) (h' : y + b ≤ B) (h'' : z + c ≤ C) :
    ∀ i, (![x, y, z] : Fin 3 → ℕ) i + (![a, b, c] : Fin 3 → ℕ) i ≤ (⟨3, ![A, B, C]⟩ : Shape).size i := fun i => by
  match i with
  | 0 => exact h
  | 1 => exact h'
  | 2 => exact h''

theorem pos2 {a b : ℕ} (ha : 0 < a) (hb : 0 < b) : 0 < (M2 a b).numel := by
  simp [Shape.numel, Fin.prod_univ_succ, ha, hb]
theorem pos3 {a b : ℕ} (ha : 0 < a) (hb : 0 < b) : 0 < (M3 a b).numel := by
  simp [Shape.numel, Fin.prod_univ_succ, ha, hb]

variable (R : Refs)

/-- Rows `k0 ..` of head `h`'s keys. -/
def ldK (h : Fin 8) (k0 n : ℕ) (hk : k0 + n ≤ 2048) (hn : 0 < n) : Prog (TpuEff nD τ sig (Elt F) Λ₀ .tc) (FVec F (M2 n 128) .bf16) :=
  ld R.k ![k0, h.val * 128] ![n, 128] (inb2 hk (by omega)) (pos2 hn (by decide))
/-- Rows `q0 ..` of head `h`'s queries. -/
def ldQ (h : Fin 8) (q0 w : ℕ) (hq : q0 + w ≤ 512) (hw : 0 < w) : Prog (TpuEff nD τ sig (Elt F) Λ₀ .tc) (FVec F (M2 w 128) .bf16) :=
  ld R.q ![q0, h.val * 128] ![w, 128] (inb2 hq (by omega)) (pos2 hw (by decide))
/-- Columns `k0 ..` of head `h`'s transposed values. -/
def ldV (h : Fin 8) (k0 n : ℕ) (hk : k0 + n ≤ 2048) (hn : 0 < n) : Prog (TpuEff nD τ sig (Elt F) Λ₀ .tc) (FVec F (M3 80 n) .bf16) :=
  ld R.v ![0, h.val * 80, k0] ![1, 80, n] (inb3 (by decide) (by omega) hk) (pos3 (by decide) hn)
/-- Head `h`'s running maxima. -/
def ldM (h : Fin 8) : Prog (TpuEff nD τ sig (Elt F) Λ₀ .tc) (FVec F (M3 1 512) .f32) :=
  ld R.m ![h.val, 0, 0] ![1, 1, 512] (inb3 (by omega) (by decide) (by decide)) (pos3 (by decide) (by decide))
def stM (h : Fin 8) (w : FVec F (M2 1 512) .f32) : Prog (TpuEff nD τ sig (Elt F) Λ₀ .tc) PUnit := do
  let _ ← ldM R h
  st R.m ![h.val, 0, 0] ![1, 1, 512] (inb3 (by omega) (by decide) (by decide)) (pos3 (by decide) (by decide)) (shapeCast (M3 1 512) w (cast23 1 512))
/-- The maxima of the item in slot `s`. -/
def ldX (s : Fin 2) : Prog (TpuEff nD τ sig (Elt F) Λ₀ .tc) (FVec F (M3 1 512) .f32) :=
  ld R.mx ![s.val, 0, 0] ![1, 1, 512] (inb3 (by omega) (by decide) (by decide)) (pos3 (by decide) (by decide))
def stX (s : Fin 2) (w : FVec F (M2 1 512) .f32) : Prog (TpuEff nD τ sig (Elt F) Λ₀ .tc) PUnit := do
  let _ ← ldX R s
  st R.mx ![s.val, 0, 0] ![1, 1, 512] (inb3 (by omega) (by decide) (by decide)) (pos3 (by decide) (by decide)) (shapeCast (M3 1 512) w (cast23 1 512))
/-- The scores of the item in slot `s`: `n` keys against the queries `q0 ..`. -/
def ldS (s : Fin 2) (n q0 w : ℕ) (hn : 0 < n) (hn' : n ≤ 1024) (hq : q0 + w ≤ 512) (hw : 0 < w) : Prog (TpuEff nD τ sig (Elt F) Λ₀ .tc) (FVec F (M3 n w) .f32) :=
  ld R.st ![s.val, 0, q0] ![1, n, w] (inb3 (by omega) (by omega) hq) (pos3 hn hw)
def stS (s : Fin 2) (n q0 w : ℕ) (hn : 0 < n) (hn' : n ≤ 1024) (hq : q0 + w ≤ 512) (hw : 0 < w) (x : FVec F (M2 n w) .f32) : Prog (TpuEff nD τ sig (Elt F) Λ₀ .tc) PUnit := do
  let _ ← ldS R s n q0 w hn hn' hq hw
  st R.st ![s.val, 0, q0] ![1, n, w] (inb3 (by omega) (by omega) hq) (pos3 hn hw) (shapeCast (M3 n w) x (cast23 n w))
/-- Head `h`'s accumulator for the queries `q0 ..`. -/
def ldA (h : Fin 8) (q0 w : ℕ) (hq : q0 + w ≤ 512) (hw : 0 < w) : Prog (TpuEff nD τ sig (Elt F) Λ₀ .tc) (FVec F (M3 80 w) .f32) :=
  ld R.acc ![h.val, 0, q0] ![1, 80, w] (inb3 (by omega) (by decide) hq) (pos3 (by decide) hw)
def stA (h : Fin 8) (q0 w : ℕ) (hq : q0 + w ≤ 512) (hw : 0 < w) (x : FVec F (M2 80 w) .f32) : Prog (TpuEff nD τ sig (Elt F) Λ₀ .tc) PUnit := do
  let _ ← ldA R h q0 w hq hw
  st R.acc ![h.val, 0, q0] ![1, 80, w] (inb3 (by omega) (by decide) hq) (pos3 (by decide) hw) (shapeCast (M3 80 w) x (cast23 80 w))

/-! ## The items -/

/-- A work item: head `h`'s diagonal block, or `n` keys from `k0` on before it. -/
inductive Item where
  | diag (h : Fin 8)
  | grp (h : Fin 8) (k0 n : ℕ) (hk : k0 + n ≤ 2048) (hn : 0 < n) (hn' : n ≤ 1024)

variable (c : Fin 4) (tri : IVec (M2 256 256) 1) (low : IVec (M2 512 256) 1)

/-- Half of a diagonal item's scores. -/
def issueHalf (h : Fin 8) (n q0 : ℕ) (hn : 0 < n) (hn' : n ≤ 512) (hq : q0 + 256 ≤ 512) (mask : IVec (M2 n 256) 1) :
    Prog (TpuEff nD τ sig (Elt F) Λ₀ .tc) (FVec F (M2 n 256) .f32) := do
  let k ← ldK R h (c.val * 512) n (by omega) hn
  let q ← ldQ R h q0 256 hq (by decide)
  pure (masked n 256 mask (scores n 256 k q))

/-- A group item's scores. -/
def issueGrp (h : Fin 8) (k0 n : ℕ) (hk : k0 + n ≤ 2048) (hn : 0 < n) : Prog (TpuEff nD τ sig (Elt F) Λ₀ .tc) (FVec F (M2 n 512) .f32) := do
  let k ← ldK R h k0 n hk hn
  let q ← ldQ R h 0 512 (by decide) (by decide)
  pure (scores n 512 k q)

/-- A diagonal item's scores and maxima into slot `s`. -/
def storeDiag (s : Fin 2) (l : FVec F (M2 256 256) .f32) (r : FVec F (M2 512 256) .f32) : Prog (TpuEff nD τ sig (Elt F) Λ₀ .tc) PUnit := do
  stS R s 256 0 256 (by decide) (by decide) (by decide) (by decide) l
  stS R s 512 256 256 (by decide) (by decide) (by decide) (by decide) r
  stX R s (diagMax l r)

/-- A group item's scores and maxima into slot `s`. -/
def storeGrp (s : Fin 2) (n : ℕ) (hn : 0 < n) (hn' : n ≤ 1024) (x : FVec F (M2 n 512) .f32) : Prog (TpuEff nD τ sig (Elt F) Λ₀ .tc) PUnit := do
  stS R s n 0 512 hn hn' (by decide) (by decide) x
  stX R s (colMax n 512 x)

/-- A diagonal item consumed, for the queries `q0 ..` under the maxima `m`: the accumulator opens. -/
def openHalf (h : Fin 8) (s : Fin 2) (n q0 : ℕ) (hn : 0 < n) (hn' : n ≤ 512) (hq : q0 + 256 ≤ 512) (m : FVec F (M2 1 256) .f32) :
    Prog (TpuEff nD τ sig (Elt F) Λ₀ .tc) PUnit := do
  let x ← ldS R s n q0 256 hn (by omega) hq (by decide)
  let v ← ldV R h (c.val * 512) n (by omega) hn
  stA R h q0 256 hq (by decide) (weigh n 256 x m v)

/-- An item consumed. -/
def consume : Item → Fin 2 → Prog (TpuEff nD τ sig (Elt F) Λ₀ .tc) PUnit
  | .diag h, s => do
    let m ← ldX R s
    stM R h (shapeCast (M2 1 512) m (cast32 1 512))
    openHalf R c h s 256 0 (by decide) (by decide) (by decide) (extractStridedSlice (M2 1 256) ![0, 0] (shapeCast (M2 1 512) m (cast32 1 512)) slices_S1x512_o0_0_S1x256)
    openHalf R c h s 512 256 (by decide) (by decide) (by decide) (extractStridedSlice (M2 1 256) ![0, 256] (shapeCast (M2 1 512) m (cast32 1 512)) slices_S1x512_o0_256_S1x256)
  | .grp h k0 n hk hn hn', s => do
    let m ← ldM R h
    let x ← ldX R s
    stM R h (maximumf (shapeCast (M2 1 512) m (cast32 1 512)) (shapeCast (M2 1 512) x (cast32 1 512)))
    let y ← ldS R s n 0 512 hn hn' (by decide) (by decide)
    let v ← ldV R h k0 n hk hn
    let a ← ldA R h 0 512 (by decide) (by decide)
    stA R h 0 512 (by decide) (by decide)
      (rescale (shapeCast (M2 1 512) m (cast32 1 512)) (maximumf (shapeCast (M2 1 512) m (cast32 1 512)) (shapeCast (M2 1 512) x (cast32 1 512))) a
        (weigh n 512 y (maximumf (shapeCast (M2 1 512) m (cast32 1 512)) (shapeCast (M2 1 512) x (cast32 1 512))) v))

/-- `nxt`'s scores are issued, then `rest` runs, then they go to slot `s`. -/
def around (nxt : Item) (s : Fin 2) (rest : Prog (TpuEff nD τ sig (Elt F) Λ₀ .tc) PUnit) : Prog (TpuEff nD τ sig (Elt F) Λ₀ .tc) PUnit :=
  match nxt with
  | .diag h => do
    let l ← issueHalf R c h 256 0 (by decide) (by decide) (by decide) tri
    let r ← issueHalf R c h 512 256 (by decide) (by decide) (by decide) low
    rest
    storeDiag R s l r
  | .grp h k0 n hk hn hn' => do
    let x ← issueGrp R h k0 n hk hn
    rest
    storeGrp R s n hn hn' x

/-- The rest of the schedule, `cur` being in slot `s`. -/
def run : Fin 2 → Item → List Item → Prog (TpuEff nD τ sig (Elt F) Λ₀ .tc) PUnit
  | s, cur, [] => consume R c cur s
  | s, cur, nxt :: more => do
    around R c tri low nxt (1 - s) (consume R c cur s)
    run (1 - s) nxt more

/-- A whole query block: the first item's scores, then the schedule. -/
def sched (items : List Item) : Prog (TpuEff nD τ sig (Elt F) Λ₀ .tc) PUnit :=
  match items with
  | [] => pure ⟨⟩
  | first :: more => do
    around R c tri low first 0 (pure ⟨⟩)
    run R c tri low 0 first more

/-- All heads of one stage. -/
def heads (f : Fin 8 → Item) : List Item := [f 0, f 1, f 2, f 3, f 4, f 5, f 6, f 7]

/-- The items of query block `c`. -/
def items (c : Fin 4) : List Item :=
  match c with
  | 0 => heads .diag
  | 1 => heads .diag ++ heads fun h => .grp h 0 512 (by decide) (by decide) (by decide)
  | 2 => heads .diag ++ heads fun h => .grp h 0 1024 (by decide) (by decide) (by decide)
  | 3 => heads .diag ++ (heads (fun h => .grp h 0 1024 (by decide) (by decide) (by decide)) ++ heads fun h => .grp h 1024 512 (by decide) (by decide) (by decide))

/-! ## The output -/

/-- One head of the output: the accumulator over its last row. -/
def norm (a : FVec F (M3 64 512) .f32) (l : FVec F (M3 1 512) .f32) : FVec F (M2 64 512) .f32 :=
  mulf (shapeCast (M2 64 512) a (cast32 64 512))
    (broadcastTo (M2 64 512) (divf (broadcast (M2 1 512) (Scalar.ofBits .f32 0x3F800000#32 : F .f32)) (shapeCast (M2 1 512) l (cast32 1 512))) (bcast 64 512))

/-- Head `h`'s output. -/
def headOut (h : Fin 8) : Prog (TpuEff nD τ sig (Elt F) Λ₀ .tc) (FVec F (M2 64 512) .f32) := do
  let a ← ld R.acc ![h.val, 0, 0] ![1, 64, 512] (inb3 (by omega) (by decide) (by decide)) (pos3 (by decide) (by decide))
  let l ← ld R.acc ![h.val, 64, 0] ![1, 1, 512] (inb3 (by omega) (by decide) (by decide)) (pos3 (by decide) (by decide))
  pure (norm a l)

/-- The block of the output from its heads. -/
def assemble (f : Fin 8 → FVec F (M2 64 512) .f32) : FVec F S512x512 .bf16 :=
  truncf .bf16 (transpose S512x512 [1, 0]
    (concatenate S512x512 0 [⟨S64x512, f 0⟩, ⟨S64x512, f 1⟩, ⟨S64x512, f 2⟩, ⟨S64x512, f 3⟩, ⟨S64x512, f 4⟩, ⟨S64x512, f 5⟩, ⟨S64x512, f 6⟩, ⟨S64x512, f 7⟩]
      concatenates_S64x512_S64x512_S64x512_S64x512_S64x512_S64x512_S64x512_S64x512_S512x512_d0)
    transposes_S512x512_p1_0_S512x512) bitsLt_bf16_f32

/-- The output of the query block. -/
def output : Prog (TpuEff nD τ sig (Elt F) Λ₀ .tc) PUnit := do
  let y0 ← headOut R 0
  let y1 ← headOut R 1
  let y2 ← headOut R 2
  let y3 ← headOut R 3
  let y4 ← headOut R 4
  let y5 ← headOut R 5
  let y6 ← headOut R 6
  let y7 ← headOut R 7
  let _ ← ld R.o ![0, 0] ![512, 512] (inb2 (by decide) (by decide)) (pos2 (by decide) (by decide))
  Prog.lift (.store R.o (Rect.unit (s := S512x512) ![0, 0] S512x512.size inb_S512x512_S512x512_0_0)
    (assemble ![y0, y1, y2, y3, y4, y5, y6, y7]) Finset.univ
    (View.stores_vmem h_S512x512 (R.ho.storeExact_slice rfl _ packedbf16_S512x512_S512x512_0_0) (fun _ => rfl)) (.inl rfl))

/-- Keys at or before the query, in the first half of the diagonal block. -/
def triMask : IVec (M2 256 256) 1 :=
  cmpi .sle (iota .tc S256x256 32 [0] iota_S256x256_d0_w32) (iota .tc S256x256 32 [1] iota_S256x256_d1_w32)
/-- Keys at or before the query, in the second half. -/
def lowMask : IVec (M2 512 256) 1 :=
  cmpi .sle (iota .tc S512x256 32 [0] iota_S512x256_d0_w32) (addi (iota .tc S512x256 32 [1] iota_S512x256_d1_w32) (broadcast S512x256 (256#32 : BitVec 32)))

end Cert.KernelIdeal.Attn
-- ==== Proof.Attn.Body.lean ====
/-
  The printed body is the schedule of Items.lean.
-/
module

public import proofs.«01_k».proof.Proof.Attn.Items

@[expose] public section

noncomputable section

namespace Cert.KernelIdeal.Attn

open Idealize.ShloMosaic Idealize.ShloMosaic.TcCoe Idealize.SL Idealize.SL.Sem
open Cert.KernelIdeal.Gen

variable {F : FTy → Type} [FloatOps F] [Named F]

variable (i : grid0.Coords) (arg3 : Memref sig .tc .vmem S512x1024 .bf16) (harg3 : arg3.IsWhole) (arg4 : Memref sig .tc .vmem S2048x1024 .bf16) (harg4 : arg4.IsWhole) (arg5 : Memref sig .tc .vmem S1x640x2048 .bf16) (harg5 : arg5.IsWhole) (arg6 : Memref sig .tc .vmem S512x512 .bf16) (harg6 : arg6.IsWhole) (arg7 : Memref sig .tc .vmem S8x1x512 .f32) (harg7 : arg7.IsWhole) (arg8 : Memref sig .tc .vmem S8x80x512 .f32) (harg8 : arg8.IsWhole) (arg9 : Memref sig .tc .vmem S2x1024x512 .f32) (harg9 : arg9.IsWhole) (arg10 : Memref sig .tc .vmem S2x1x512 .f32) (harg10 : arg10.IsWhole)

variable (R : Refs)

/-- The loads of the first two heads' outputs, and the first head's output. -/
def opening : Prog (TpuEff nD τ sig (Elt F) Λ₀ .tc) (Σ' (_ : FVec F S64x512 .f32) (_ : FVec F S64x512 .f32), Vec F S1x1x512 .f32) := do
  let y0 ← headOut R 0
  let a ← ld R.acc ![1, 0, 0] ![1, 64, 512] (inb3 (by omega) (by decide) (by decide)) (pos3 (by decide) (by decide))
  let l ← ld R.acc ![1, 64, 0] ![1, 1, 512] (inb3 (by omega) (by decide) (by decide)) (pos3 (by decide) (by decide))
  pure ⟨y0, shapeCast (M2 64 512) a (cast32 64 512), l⟩

/-- The rest of the schedule, then `T`. -/
def runThen (c : Fin 4) (tri : IVec (M2 256 256) 1) (low : IVec (M2 512 256) 1) {α : Type} (T : Prog (TpuEff nD τ sig (Elt F) Λ₀ .tc) α) :
    Fin 2 → Item → List Item → Prog (TpuEff nD τ sig (Elt F) Λ₀ .tc) α
  | s, cur, [] => do consume R c cur s; T
  | s, cur, nxt :: more => do
    around R c tri low nxt (1 - s) (consume R c cur s)
    runThen c tri low T (1 - s) nxt more

/-- A query block's schedule, then `T`. -/
def schedThen (c : Fin 4) (tri : IVec (M2 256 256) 1) (low : IVec (M2 512 256) 1) {α : Type} (T : Prog (TpuEff nD τ sig (Elt F) Λ₀ .tc) α) :
    List Item → Prog (TpuEff nD τ sig (Elt F) Λ₀ .tc) α
  | [] => T
  | first :: more => do
    around R c tri low first 0 (pure ⟨⟩)
    runThen R c tri low T 0 first more

theorem runThen_eq (c : Fin 4) (tri : IVec (M2 256 256) 1) (low : IVec (M2 512 256) 1) {α : Type} (T : Prog (TpuEff nD τ sig (Elt F) Λ₀ .tc) α)
    (items : List Item) : ∀ (s : Fin 2) (cur : Item), runThen R c tri low T s cur items = (do run R c tri low s cur items; T) := by
  induction items with
  | nil => intro s cur; rfl
  | cons nxt more ih => intro s cur; simp only [runThen, run, bind_assoc, ih]

theorem schedThen_eq (c : Fin 4) (tri : IVec (M2 256 256) 1) (low : IVec (M2 512 256) 1) {α : Type} (T : Prog (TpuEff nD τ sig (Elt F) Λ₀ .tc) α)
    (items : List Item) : schedThen R c tri low T items = (do sched R c tri low items; T) := by
  cases items with
  | nil => simp only [schedThen, sched, pure_bind]
  | cons first more => simp only [schedThen, sched, bind_assoc, runThen_eq]

omit [FloatOps F] [Named F] in
theorem glue {α : Type} {X T : Prog (TpuEff nD τ sig (Elt F) Λ₀ .tc) α} {S O : Prog (TpuEff nD τ sig (Elt F) Λ₀ .tc) PUnit}
    {K : α → Prog (TpuEff nD τ sig (Elt F) Λ₀ .tc) PUnit} (h : X = S >>= fun _ => T) (h' : T >>= K = O) : X >>= K = S >>= fun _ => O := by
  rw [h, bind_assoc, h']

set_option maxRecDepth 1000000 in
set_option maxHeartbeats 0 in
/-- At the first query block the body is that block's schedule, then the output. -/
theorem body_0 (h : (i 2).val = 0) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ 0 triMask lowMask (items 0)
          output ⟨arg3, arg4, arg5, arg6, harg6, arg7, arg8, arg9, arg10⟩) := by
  have h0 : (Scalar.cmpi .ne (Scalar.extui (Scalar.cmpi .eq (BitVec.ofNat 32 (i 2).val) 0#32) : BitVec 32) 0#32) = 1#1 := by rw [h]; decide
  have h1 : ¬ (Scalar.cmpi .ne (Scalar.extui (Scalar.cmpi .eq (BitVec.ofNat 32 (i 2).val) 1#32) : BitVec 32) 0#32) = 1#1 := by rw [h]; decide
  have h2 : ¬ (Scalar.cmpi .ne (Scalar.extui (Scalar.cmpi .eq (BitVec.ofNat 32 (i 2).val) 2#32) : BitVec 32) 0#32) = 1#1 := by rw [h]; decide
  have h3 : ¬ (Scalar.cmpi .ne (Scalar.extui (Scalar.cmpi .eq (BitVec.ofNat 32 (i 2).val) 3#32) : BitVec 32) 0#32) = 1#1 := by rw [h]; decide
  unfold cc0_causal_attention k0_part104
  simp only [dif_pos h0, dif_neg h1, dif_neg h2, dif_neg h3]
  unfold triMask lowMask
  generalize (cmpi .sle (iota .tc S256x256 32 [0] iota_S256x256_d0_w32) (iota .tc S256x256 32 [1] iota_S256x256_d1_w32) : IVec S256x256 1) = tri
  generalize (cmpi .sle (iota .tc S512x256 32 [0] iota_S512x256_d0_w32) (addi (iota .tc S512x256 32 [1] iota_S512x256_d1_w32) (broadcast S512x256 (256#32 : BitVec 32))) : IVec S512x256 1) = low
  refine glue (T := opening ⟨arg3, arg4, arg5, arg6, harg6, arg7, arg8, arg9, arg10⟩) ?_ ?_
  · rw [← schedThen_eq]; rfl
  · rfl

set_option maxRecDepth 1000000 in
set_option maxHeartbeats 0 in
/-- At the second query block the body is that block's schedule, then the output. -/
theorem body_1 (h : (i 2).val = 1) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ 1 triMask lowMask (items 1)
          output ⟨arg3, arg4, arg5, arg6, harg6, arg7, arg8, arg9, arg10⟩) := by
  have h0 : ¬ (Scalar.cmpi .ne (Scalar.extui (Scalar.cmpi .eq (BitVec.ofNat 32 (i 2).val) 0#32) : BitVec 32) 0#32) = 1#1 := by rw [h]; decide
  have h1 : (Scalar.cmpi .ne (Scalar.extui (Scalar.cmpi .eq (BitVec.ofNat 32 (i 2).val) 1#32) : BitVec 32) 0#32) = 1#1 := by rw [h]; decide
  have h2 : ¬ (Scalar.cmpi .ne (Scalar.extui (Scalar.cmpi .eq (BitVec.ofNat 32 (i 2).val) 2#32) : BitVec 32) 0#32) = 1#1 := by rw [h]; decide
  have h3 : ¬ (Scalar.cmpi .ne (Scalar.extui (Scalar.cmpi .eq (BitVec.ofNat 32 (i 2).val) 3#32) : BitVec 32) 0#32) = 1#1 := by rw [h]; decide
  unfold cc0_causal_attention k0_part104
  simp only [dif_neg h0, dif_pos h1, dif_neg h2, dif_neg h3]
  unfold triMask lowMask
  generalize (cmpi .sle (iota .tc S256x256 32 [0] iota_S256x256_d0_w32) (iota .tc S256x256 32 [1] iota_S256x256_d1_w32) : IVec S256x256 1) = tri
  generalize (cmpi .sle (iota .tc S512x256 32 [0] iota_S512x256_d0_w32) (addi (iota .tc S512x256 32 [1] iota_S512x256_d1_w32) (broadcast S512x256 (256#32 : BitVec 32))) : IVec S512x256 1) = low
  refine glue (T := opening ⟨arg3, arg4, arg5, arg6, harg6, arg7, arg8, arg9, arg10⟩) ?_ ?_
  · rw [← schedThen_eq]; rfl
  · rfl

set_option maxRecDepth 1000000 in
set_option maxHeartbeats 0 in
/-- At the third query block the body is that block's schedule, then the output. -/
theorem body_2 (h : (i 2).val = 2) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ 2 triMask lowMask (items 2)
          output ⟨arg3, arg4, arg5, arg6, harg6, arg7, arg8, arg9, arg10⟩) := by
  have h0 : ¬ (Scalar.cmpi .ne (Scalar.extui (Scalar.cmpi .eq (BitVec.ofNat 32 (i 2).val) 0#32) : BitVec 32) 0#32) = 1#1 := by rw [h]; decide
  have h1 : ¬ (Scalar.cmpi .ne (Scalar.extui (Scalar.cmpi .eq (BitVec.ofNat 32 (i 2).val) 1#32) : BitVec 32) 0#32) = 1#1 := by rw [h]; decide
  have h2 : (Scalar.cmpi .ne (Scalar.extui (Scalar.cmpi .eq (BitVec.ofNat 32 (i 2).val) 2#32) : BitVec 32) 0#32) = 1#1 := by rw [h]; decide
  have h3 : ¬ (Scalar.cmpi .ne (Scalar.extui (Scalar.cmpi .eq (BitVec.ofNat 32 (i 2).val) 3#32) : BitVec 32) 0#32) = 1#1 := by rw [h]; decide
  unfold cc0_causal_attention k0_part104
  simp only [dif_neg h0, dif_neg h1, dif_pos h2, dif_neg h3]
  unfold triMask lowMask
  generalize (cmpi .sle (iota .tc S256x256 32 [0] iota_S256x256_d0_w32) (iota .tc S256x256 32 [1] iota_S256x256_d1_w32) : IVec S256x256 1) = tri
  generalize (cmpi .sle (iota .tc S512x256 32 [0] iota_S512x256_d0_w32) (addi (iota .tc S512x256 32 [1] iota_S512x256_d1_w32) (broadcast S512x256 (256#32 : BitVec 32))) : IVec S512x256 1) = low
  refine glue (T := opening ⟨arg3, arg4, arg5, arg6, harg6, arg7, arg8, arg9, arg10⟩) ?_ ?_
  · rw [← schedThen_eq]; rfl
  · rfl

set_option maxRecDepth 1000000 in
set_option maxHeartbeats 0 in
/-- At the fourth query block the body is that block's schedule, then the output. -/
theorem body_3 (h : (i 2).val = 3) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ 3 triMask lowMask (items 3)
          output ⟨arg3, arg4, arg5, arg6, harg6, arg7, arg8, arg9, arg10⟩) := by
  have h0 : ¬ (Scalar.cmpi .ne (Scalar.extui (Scalar.cmpi .eq (BitVec.ofNat 32 (i 2).val) 0#32) : BitVec 32) 0#32) = 1#1 := by rw [h]; decide
  have h1 : ¬ (Scalar.cmpi .ne (Scalar.extui (Scalar.cmpi .eq (BitVec.ofNat 32 (i 2).val) 1#32) : BitVec 32) 0#32) = 1#1 := by rw [h]; decide
  have h2 : ¬ (Scalar.cmpi .ne (Scalar.extui (Scalar.cmpi .eq (BitVec.ofNat 32 (i 2).val) 2#32) : BitVec 32) 0#32) = 1#1 := by rw [h]; decide
  have h3 : (Scalar.cmpi .ne (Scalar.extui (Scalar.cmpi .eq (BitVec.ofNat 32 (i 2).val) 3#32) : BitVec 32) 0#32) = 1#1 := by rw [h]; decide
  unfold cc0_causal_attention k0_part104
  simp only [dif_neg h0, dif_neg h1, dif_neg h2, dif_pos h3]
  unfold triMask lowMask
  generalize (cmpi .sle (iota .tc S256x256 32 [0] iota_S256x256_d0_w32) (iota .tc S256x256 32 [1] iota_S256x256_d1_w32) : IVec S256x256 1) = tri
  generalize (cmpi .sle (iota .tc S512x256 32 [0] iota_S512x256_d0_w32) (addi (iota .tc S512x256 32 [1] iota_S512x256_d1_w32) (broadcast S512x256 (256#32 : BitVec 32))) : IVec S512x256 1) = low
  refine glue (T := opening ⟨arg3, arg4, arg5, arg6, harg6, arg7, arg8, arg9, arg10⟩) ?_ ?_
  · rw [← schedThen_eq]; rfl
  · rfl

/-- At query block `c` the body is that block's schedule, then the output. -/
theorem body_eq (c : Fin 4) (h : (i 2).val = c.val) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ c triMask lowMask (items c)
          output ⟨arg3, arg4, arg5, arg6, harg6, arg7, arg8, arg9, arg10⟩) := by
  match c with
  | 0 => exact body_0 i arg3 harg3 arg4 harg4 arg5 harg5 arg6 harg6 arg7 harg7 arg8 harg8 arg9 harg9 arg10 harg10 h
  | 1 => exact body_1 i arg3 harg3 arg4 harg4 arg5 harg5 arg6 harg6 arg7 harg7 arg8 harg8 arg9 harg9 arg10 harg10 h
  | 2 => exact body_2 i arg3 harg3 arg4 harg4 arg5 harg5 arg6 harg6 arg7 harg7 arg8 harg8 arg9 harg9 arg10 harg10 h
  | 3 => exact body_3 i arg3 harg3 arg4 harg4 arg5 harg5 arg6 harg6 arg7 harg7 arg8 harg8 arg9 harg9 arg10 harg10 h

end Cert.KernelIdeal.Attn
-- ==== Proof.Attn.Values.lean ====
/-
  What one item computes, entry by entry, on the extended reals.
-/
module

public import proofs.«01_k».proof.Proof.Attn.Items
public import Idealize.ShloMosaic.Lib.VecWindow
public import Idealize.ShloMosaic.Lib.MatmulPlain
public import Idealize.ShloMosaic.Lib.ValueIdx
public import Idealize.ShloMosaic.Lib.ValueLayout
public import Idealize.ShloMosaic.Lib.Pipeline.Value
public import Idealize.ShloMosaic.PureOps.Reduce
public import Idealize.ShloMosaic.Lib.IdealHost

@[expose] public section

noncomputable section

namespace Cert.KernelIdeal.Attn

open Idealize.ShloMosaic Idealize.ShloMosaic.TcCoe Idealize.ShloMosaic.ValueIdx
open Cert.KernelIdeal.Gen
open scoped BigOperators

/-- A score is the product of a key row and a query row. -/
theorem scores_apply {n w : ℕ} (k : FVec Ideal (M2 n 128) .bf16) (q : FVec Ideal (M2 w 128) .bf16) (r : Fin n) (j : Fin w) :
    scores (F := Ideal) n w k q (ix2 r j) = ∑ l : Fin 128, k (ix2 r l) * q (ix2 j l) := by
  unfold scores
  rw [shapeCast_self, shapeCast_self]
  refine (Ideal.matmul_transposedRhs_apply (M := n) (K := 128) (N := w) none k q _ r j).trans ?_
  rw [constant_apply, Ideal.ofBits_zero_f32]
  exact zero_add _

/-- A masked score is the score, or −∞. -/
theorem masked_apply {n w : ℕ} (mask : IVec (M2 n w) 1) (s : FVec Ideal (M2 n w) .f32) (y : (M2 n w).Idx) :
    masked (F := Ideal) n w mask s y = if mask y = 1#1 then s y else ⊥ := by
  show Scalar.select (mask y) (s y) _ = _
  by_cases h : mask y = 1#1
  · rw [h, if_pos rfl]; rfl
  · rw [eq_zero_of_ne_one h, if_neg (by decide)]; rfl

/-- The weighted sum of the values. -/
theorem weigh_apply {n w : ℕ} (s : FVec Ideal (M3 n w) .f32) (m : FVec Ideal (M2 1 w) .f32) (v : FVec Ideal (M3 80 n) .bf16) (e : Fin 80) (j : Fin w) :
    weigh (F := Ideal) n w s m v (ix2 e j) = ∑ r : Fin n, v (ix3 (0 : Fin 1) e r) * Ideal.exp2 (s (ix3 (0 : Fin 1) r j) - m (ix2 (0 : Fin 1) j)) := by
  unfold weigh
  refine (Ideal.matmul_plain_apply (M := 80) (K := n) (N := w) none _ _ _ e j).trans ?_
  rw [constant_apply, Ideal.ofBits_zero_f32]
  refine (zero_add _).trans (Finset.sum_congr rfl fun r _ => ?_)
  rw [shapeCast_1ab_ab_apply]
  refine congrArg (_ * ·) ?_
  show Ideal.exp2 (shapeCast (M2 n w) s (cast32 n w) (ix2 r j) - broadcastTo (M2 n w) m (bcast n w) (ix2 r j)) = _
  rw [shapeCast_1ab_ab_apply, broadcastTo_1b_ab_apply]

/-- The accumulator rescaled and added to. -/
theorem rescale_apply (m m' : FVec Ideal (M2 1 512) .f32) (acc : FVec Ideal (M3 80 512) .f32) (pv : FVec Ideal (M2 80 512) .f32) (e : Fin 80) (j : Fin 512) :
    rescale (F := Ideal) m m' acc pv (ix2 e j)
      = Ideal.exp2 (m (ix2 (0 : Fin 1) j) - m' (ix2 (0 : Fin 1) j)) * acc (ix3 (0 : Fin 1) e j) + pv (ix2 e j) := by
  show broadcastTo (M2 80 512) (exp2 (subf m m')) (bcast 80 512) (ix2 e j) * shapeCast (M2 80 512) acc (cast32 80 512) (ix2 e j) + _ = _
  rw [shapeCast_1ab_ab_apply, broadcastTo_1b_ab_apply]
  rfl

/-- The largest of a column of scores is a real number when one of them is and none is +∞. -/
theorem colMax_real {n w : ℕ} (s : FVec Ideal (M2 n w) .f32) (j : Fin w) (h : ∀ r, s (ix2 r j) ≠ ⊤) (r : Fin n) (hr : s (ix2 r j) ≠ ⊥) :
    ∃ M : ℝ, colMax (F := Ideal) n w s (ix2 (0 : Fin 1) j) = (M : EReal) := by
  classical
  have e : colMax (F := Ideal) n w s (ix2 (0 : Fin 1) j) = (Finset.univ.filter fun i => (red n w).drop i = ix1 j).fold (max : EReal → EReal → EReal) ⊥ s := by
    unfold colMax
    refine (shapeCast_a_1a_apply _ (cast12 w) 0 j).trans ?_
    have h0 : (FloatOps.ofBits (F := Ideal) .f32 0xFF800000#32) = (⊥ : EReal) := by
      show Ideal.ofBits .f32 0xFF800000#32 = ⊥
      simp [Ideal.ofBits, Ideal.ieee]
    show reduceFold (red n w) (max : EReal → EReal → EReal) (FloatOps.ofBits (F := Ideal) .f32 0xFF800000#32) s (ix1 j) = _
    rw [h0]
    exact reduceFold_eq_fold (red n w) (max : EReal → EReal → EReal) ⊥ s (ix1 j)
  have hd : ∀ i : (M2 n w).Idx, (red n w).drop i = ix1 j ↔ i 1 = j := by
    intro i
    constructor
    · intro hh
      have := congrFun hh 0
      have h2 := (red n w).drop_apply_val i 0
      apply Fin.ext
      have h3 := congrArg Fin.val this
      exact (h2.symm.trans h3)
    · intro hh
      funext b
      obtain rfl : b = (0 : Fin 1) := Subsingleton.elim (α := Fin 1) b 0
      apply Fin.ext
      exact ((red n w).drop_apply_val i 0).trans (congrArg Fin.val hh)
  have hb : colMax (F := Ideal) n w s (ix2 (0 : Fin 1) j) ≠ ⊥ := by
    rw [e]
    have hle : s (ix2 r j) ≤ (Finset.univ.filter fun i => (red n w).drop i = ix1 j).fold (max : EReal → EReal → EReal) ⊥ s :=
      (Finset.le_fold_max _).2 (Or.inr ⟨ix2 r j, Finset.mem_filter.2 ⟨Finset.mem_univ _, (hd _).2 rfl⟩, le_rfl⟩)
    intro hh
    rw [hh] at hle
    exact hr (le_bot_iff.1 hle)
  have ht : colMax (F := Ideal) n w s (ix2 (0 : Fin 1) j) ≠ ⊤ := by
    rw [e]
    refine ne_of_lt ((Finset.fold_max_lt _).2 ⟨bot_lt_top, fun i hi => ?_⟩)
    have hij : i 1 = j := (hd i).1 (Finset.mem_filter.1 hi).2
    have hi2 : i = ix2 (i 0) j := (eq_ix2 i).trans (congrArg (ix2 (i 0)) hij)
    rw [hi2]
    exact lt_top_iff_ne_top.2 (h (i 0))
  exact ⟨_, (EReal.coe_toReal ht hb).symm⟩

/-- The maxima of the diagonal block are those of its halves. -/
theorem diagMax_left (l : FVec Ideal (M2 256 256) .f32) (r : FVec Ideal (M2 512 256) .f32) (j : Fin 512) (h : j.val < 256) :
    diagMax (F := Ideal) l r (ix2 (0 : Fin 1) j) = colMax (F := Ideal) 256 256 l (ix2 (0 : Fin 1) ⟨j.val, h⟩) := by
  unfold diagMax
  exact concatenate_pair_apply_left (t := M2 1 512) (s₁ := M2 1 256) (s₂ := M2 1 256) 1 (colMax (F := Ideal) 256 256 l) (colMax (F := Ideal) 512 256 r)
    concatenates_S1x256_S1x256_S1x512_d1 (ix2 (0 : Fin 1) j) rfl (ix2 (0 : Fin 1) ⟨j.val, h⟩) (fun b : Fin 2 => by match b with | 0 => rfl | 1 => rfl)

theorem diagMax_right (l : FVec Ideal (M2 256 256) .f32) (r : FVec Ideal (M2 512 256) .f32) (j : Fin 512) (h : 256 ≤ j.val) :
    diagMax (F := Ideal) l r (ix2 (0 : Fin 1) j) = colMax (F := Ideal) 512 256 r (ix2 (0 : Fin 1) ⟨j.val - 256, by omega⟩) := by
  unfold diagMax
  refine concatenate_pair_apply_right (t := M2 1 512) (s₁ := M2 1 256) (s₂ := M2 1 256) 1 (colMax (F := Ideal) 256 256 l) (colMax (F := Ideal) 512 256 r)
    concatenates_S1x256_S1x256_S1x512_d1 (ix2 (0 : Fin 1) j) rfl rfl (ix2 (0 : Fin 1) ⟨j.val - 256, by omega⟩) (fun b : Fin 2 => ?_) ?_
  · match b with
    | 0 => exact fun _ => rfl
    | 1 => exact fun hb => absurd rfl hb
  · show j.val - 256 + 256 = j.val
    omega

/-- Signed comparison of small words compares the numbers. -/
theorem sle_small {a b : ℕ} (ha : a < 2 ^ 31) (hb : b < 2 ^ 31) :
    IntOp.cmpi .sle (BitVec.ofNat 32 a) (BitVec.ofNat 32 b) = 1#1 ↔ a ≤ b := by
  have hx : ∀ c : ℕ, c < 2 ^ 31 → (BitVec.ofNat 32 c).toInt = c := fun c hc => by
    rw [BitVec.toInt_eq_toNat_of_lt]
    · simp; omega
    · simp; omega
  show BitVec.ofBool ((BitVec.ofNat 32 a).sle (BitVec.ofNat 32 b)) = 1#1 ↔ a ≤ b
  rw [BitVec.sle, hx a ha, hx b hb]
  by_cases h : a ≤ b
  · simp [h]
  · simp [h]

/-- The first half's mask is the causal one. -/
theorem triMask_apply (r j : Fin 256) : triMask (ix2 r j) = 1#1 ↔ r.val ≤ j.val := by
  have h1 := r.isLt
  have h2 := j.isLt
  show IntOp.cmpi .sle (BitVec.ofNat 32 (0 * 256 + r.val)) (BitVec.ofNat 32 (0 * 256 + j.val)) = 1#1 ↔ _
  rw [sle_small (by omega) (by omega)]
  omega

/-- The second half's mask is the causal one. -/
theorem lowMask_apply (r : Fin 512) (j : Fin 256) : lowMask (ix2 r j) = 1#1 ↔ r.val ≤ j.val + 256 := by
  have h1 := r.isLt
  have h2 := j.isLt
  show IntOp.cmpi .sle (BitVec.ofNat 32 (0 * 512 + r.val)) (BitVec.ofNat 32 (0 * 256 + j.val) + 256#32) = 1#1 ↔ _
  rw [show BitVec.ofNat 32 (0 * 256 + j.val) + 256#32 = BitVec.ofNat 32 (j.val + 256) from by rw [Nat.zero_mul, Nat.zero_add, BitVec.ofNat_add], sle_small (by omega) (by omega)]
  omega

/-- One head's output: the accumulator over its last row. -/
theorem norm_apply (a : FVec Ideal (M3 64 512) .f32) (l : FVec Ideal (M3 1 512) .f32) (e : Fin 64) (j : Fin 512) :
    norm (F := Ideal) a l (ix2 e j) = a (ix3 (0 : Fin 1) e j) * Ideal.div 1 (l (ix3 (0 : Fin 1) (0 : Fin 1) j)) := by
  show shapeCast (M2 64 512) a (cast32 64 512) (ix2 e j) * broadcastTo (M2 64 512) _ (bcast 64 512) (ix2 e j) = _
  rw [shapeCast_1ab_ab_apply, broadcastTo_1b_ab_apply]
  show _ * Ideal.div (Ideal.ofBits .f32 0x3F800000#32) (shapeCast (M2 1 512) l (cast32 1 512) (ix2 (0 : Fin 1) j)) = _
  rw [shapeCast_1ab_ab_apply, Ideal.ofBits_one_f32]

/-- The block of the output, entry by entry. -/
theorem assemble_apply (f : Fin 8 → FVec Ideal (M2 64 512) .f32) (j : Fin 512) (h : Fin 8) (e : Fin 64) :
    assemble (F := Ideal) f (ix2 j ⟨h.val * 64 + e.val, by omega⟩) = f h (ix2 e j) := by
  unfold assemble
  rw [truncf_apply]
  refine (transpose_ix2_apply (a := 512) (b := 512) _ transposes_S512x512_p1_0_S512x512 j ⟨h.val * 64 + e.val, by omega⟩).trans ?_
  refine concatenate_ofFn_apply (t := M2 512 512) (s₁ := M2 64 512) 0 f concatenates_S64x512_S64x512_S64x512_S64x512_S64x512_S64x512_S64x512_S64x512_S512x512_d0
    rfl 64 rfl _ h ?_ (ix2 e j) ?_ ?_
  · show (h.val * 64 + e.val) / 64 = h.val
    omega
  · show e.val = (h.val * 64 + e.val) % 64
    omega
  · intro b
    match b with
    | 0 => exact fun hb => absurd rfl hb
    | 1 => exact fun _ => rfl

end Cert.KernelIdeal.Attn
-- ==== Proof.Attn.Triple.lean ====
/-
  Running a program on the attention body's buffers, stated by what the buffers hold: from contents `s` the program
  ends with a value and contents of which `Q` holds.  Loads read a window of the contents, stores put one.
-/
module

public import proofs.«01_k».proof.Proof.Attn.Items
public import proofs.«01_k».proof.Proof.Gen.KernelIdeal.Launch
public import Idealize.ShloMosaic.Lib.VecWindow
public import Idealize.ShloMosaic.Lib.Claim

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- What the three input buffers hold. -/
structure Ins (F : FTy → Type) where
  q : S512x1024.Idx → Elt F .bf16
  k : S2048x1024.Idx → Elt F .bf16
  v : S1x640x2048.Idx → Elt F .bf16

/-- What the four scratch buffers hold. -/
structure St (F : FTy → Type) where
  m : S8x1x512.Idx → Elt F .f32
  acc : S8x80x512.Idx → Elt F .f32
  st : S2x1024x512.Idx → Elt F .f32
  mx : S2x1x512.Idx → Elt F .f32

variable (d : Dev nD) (R : Refs) (x : Ins F)

/-- The buffers are held, at these contents. -/
def Own (s : St F) : sProp 𝕄 :=
  iprop(owns (d : Thread nD τ) R.q fullShare x.q ∗ owns (d : Thread nD τ) R.k fullShare x.k ∗ owns (d : Thread nD τ) R.v fullShare x.v
    ∗ owns (d : Thread nD τ) R.m fullShare s.m ∗ owns (d : Thread nD τ) R.acc fullShare s.acc ∗ owns (d : Thread nD τ) R.st fullShare s.st
    ∗ owns (d : Thread nD τ) R.mx fullShare s.mx)

/-- From contents `s` the program `p` ends with a value and contents of which `Q` holds. -/
def Tr {α : Type} (p : Prog (TpuEff nD τ sig (Elt F) Λ₀ .tc) α) (s : St F) (Q : α → St F → Prop) : Prop :=
  ∀ (Fr : sProp 𝕄) (E : Set ℕ) (K : α → sProp 𝕄), (∀ a s', Q a s' → iprop(Own d R x s' ∗ Fr) ⊢ K a) →
    iprop(Own d R x s ∗ Fr) ⊢ wp frame (wpE (defs₀ (F := F)) Variants.none (d : Thread nD τ) none) E p K

variable {d R x}
variable {α β : Type} {p : Prog (TpuEff nD τ sig (Elt F) Λ₀ .tc) α}

theorem Tr.pure {a : α} {s : St F} {Q : α → St F → Prop} (h : Q a s) : Tr d R x (pure a : Prog (TpuEff nD τ sig (Elt F) Λ₀ .tc) α) s Q := by
  intro Fr E K hK
  exact ((hK a s h).trans fupd_intro).trans (BIBase.Entails.of_eq (wp_pure _ _ _ _ _).symm)

theorem Tr.bind {f : α → Prog (TpuEff nD τ sig (Elt F) Λ₀ .tc) β} {s : St F} {Q : β → St F → Prop}
    (h : Tr d R x p s fun a s' => Tr d R x (f a) s' Q) : Tr d R x (p >>= f) s Q := by
  intro Fr E K hK
  exact (h Fr E _ fun a s' h' => h' Fr E K hK).trans (BIBase.Entails.of_eq (wp_bind _ _ _ _ _ _).symm)

theorem Tr.mono {s : St F} {Q Q' : α → St F → Prop} (h : Tr d R x p s Q) (hQ : ∀ a s', Q a s' → Q' a s') : Tr d R x p s Q' :=
  fun Fr E K hK => h Fr E K fun a s' h' => hK a s' (hQ a s' h')

/-- A load reads a window of what the buffer holds. -/
theorem wp_ld {s : Shape} {e : EltTy} (r : Memref sig .tc .vmem s e) (off size : Fin s.rank → ℕ) (inb : ∀ a, off a + size a ≤ s.size a)
    (h : 0 < (Rect.unit off size inb).shape.numel) (X : s.Idx → Elt F e) (Fr : sProp 𝕄) (E : Set ℕ) (K : _ → sProp 𝕄)
    (hK : iprop(owns (d : Thread nD τ) r fullShare X ∗ Fr) ⊢ K (VecWindow.window X off size inb)) :
    iprop(owns (d : Thread nD τ) r fullShare X ∗ Fr) ⊢ wp frame (wpE (defs₀ (F := F)) Variants.none (d : Thread nD τ) none) E (ld r off size inb h) K := by
  unfold ld owns
  iintro ⟨⟨%f, %hf, H⟩, HF⟩
  iapply (wp_load_rect (defs := defs₀ (F := F)) Variants.none (d : Thread nD τ) none E (m := r) (r := Rect.unit off size inb) (hl := View.loadsAt_vmem h) (k := Prog.ret) (f := f)
    (S := r.view.set) (q := fullShare) (Q := K) (r.view.set_slice_subset _)) $$ H
  iintro H
  rw [wp_ret]
  iapply fupd_intro
  have e : (r.access (Rect.unit off size inb)).read (Elt F) f = VecWindow.window X off size inb := by subst hf; rfl
  rw [e]
  iapply hK
  isplitl [H]
  · unfold owns; iexists f; isplitr
    · ipureintro; exact hf
    · iexact H
  · iexact HF

/-- A store puts a window over what the buffer holds. -/
theorem wp_st {s : Shape} (r : Memref sig .tc .vmem s .f32) (off size : Fin s.rank → ℕ) (inb : ∀ a, off a + size a ≤ s.size a)
    (h : 0 < (Rect.unit off size inb).shape.numel) (w : (Rect.unit off size inb).shape.Idx → Elt F .f32) (X : s.Idx → Elt F .f32) (Fr : sProp 𝕄) (E : Set ℕ) (K : _ → sProp 𝕄)
    (hK : iprop(owns (d : Thread nD τ) r fullShare (VecWindow.put X off size w) ∗ Fr) ⊢ K ⟨⟩) :
    iprop(owns (d : Thread nD τ) r fullShare X ∗ Fr) ⊢ wp frame (wpE (defs₀ (F := F)) Variants.none (d : Thread nD τ) none) E (st r off size inb h w) K := by
  unfold st owns
  iintro ⟨⟨%f, %hf, H⟩, HF⟩
  iapply (wp_store (defs := defs₀ (F := F)) Variants.none (d : Thread nD τ) none E (m := r) (r := Rect.unit off size inb) (w := w) (Mk := Finset.univ)
    (hx := View.stores_vmem_bits_univ h rfl) (hm := .inl rfl) (k := Prog.ret) (f := f) (S := r.view.set) (Q := K) (r.setOn_access_subset _ _)) $$ H
  iintro H
  rw [wp_ret]
  iapply fupd_intro
  iapply hK
  isplitl [H]
  · unfold owns; iexists _; isplitr
    swap; · iexact H
    · ipureintro
      have e := View.read_writes_cons_put (Val := Elt F) r.view f inb w [] rfl
      subst hf
      exact e
  · iexact HF

theorem Tr.ld_q {off size inb h} {s : St F} {Q : _ → St F → Prop} (hQ : Q (VecWindow.window x.q off size inb) s) :
    Tr d R x (ld R.q off size inb h) s Q := by
  intro Fr E K hK
  unfold Own
  iintro ⟨⟨H0, H1, H2, H3, H4, H5, H6⟩, HF⟩
  iapply (wp_ld R.q off size inb h x.q (iprop((owns (d : Thread nD τ) R.q fullShare x.q -∗ Own d R x s) ∗ Fr)) E K (by
    iintro ⟨H, HW, HF⟩
    iapply (hK _ s hQ)
    isplitr [HF]
    · iapply HW $$ H
    · iexact HF))
  isplitl [H0]; · iexact H0
  isplitr [HF]
  · iintro H0
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_k {off size inb h} {s : St F} {Q : _ → St F → Prop} (hQ : Q (VecWindow.window x.k off size inb) s) :
    Tr d R x (ld R.k off size inb h) s Q := by
  intro Fr E K hK
  unfold Own
  iintro ⟨⟨H0, H1, H2, H3, H4, H5, H6⟩, HF⟩
  iapply (wp_ld R.k off size inb h x.k (iprop((owns (d : Thread nD τ) R.k fullShare x.k -∗ Own d R x s) ∗ Fr)) E K (by
    iintro ⟨H, HW, HF⟩
    iapply (hK _ s hQ)
    isplitr [HF]
    · iapply HW $$ H
    · iexact HF))
  isplitl [H1]; · iexact H1
  isplitr [HF]
  · iintro H1
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_v {off size inb h} {s : St F} {Q : _ → St F → Prop} (hQ : Q (VecWindow.window x.v off size inb) s) :
    Tr d R x (ld R.v off size inb h) s Q := by
  intro Fr E K hK
  unfold Own
  iintro ⟨⟨H0, H1, H2, H3, H4, H5, H6⟩, HF⟩
  iapply (wp_ld R.v off size inb h x.v (iprop((owns (d : Thread nD τ) R.v fullShare x.v -∗ Own d R x s) ∗ Fr)) E K (by
    iintro ⟨H, HW, HF⟩
    iapply (hK _ s hQ)
    isplitr [HF]
    · iapply HW $$ H
    · iexact HF))
  isplitl [H2]; · iexact H2
  isplitr [HF]
  · iintro H2
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_m {off size inb h} {s : St F} {Q : _ → St F → Prop} (hQ : Q (VecWindow.window s.m off size inb) s) :
    Tr d R x (ld R.m off size inb h) s Q := by
  intro Fr E K hK
  unfold Own
  iintro ⟨⟨H0, H1, H2, H3, H4, H5, H6⟩, HF⟩
  iapply (wp_ld R.m off size inb h s.m (iprop((owns (d : Thread nD τ) R.m fullShare s.m -∗ Own d R x s) ∗ Fr)) E K (by
    iintro ⟨H, HW, HF⟩
    iapply (hK _ s hQ)
    isplitr [HF]
    · iapply HW $$ H
    · iexact HF))
  isplitl [H3]; · iexact H3
  isplitr [HF]
  · iintro H3
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_acc {off size inb h} {s : St F} {Q : _ → St F → Prop} (hQ : Q (VecWindow.window s.acc off size inb) s) :
    Tr d R x (ld R.acc off size inb h) s Q := by
  intro Fr E K hK
  unfold Own
  iintro ⟨⟨H0, H1, H2, H3, H4, H5, H6⟩, HF⟩
  iapply (wp_ld R.acc off size inb h s.acc (iprop((owns (d : Thread nD τ) R.acc fullShare s.acc -∗ Own d R x s) ∗ Fr)) E K (by
    iintro ⟨H, HW, HF⟩
    iapply (hK _ s hQ)
    isplitr [HF]
    · iapply HW $$ H
    · iexact HF))
  isplitl [H4]; · iexact H4
  isplitr [HF]
  · iintro H4
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_st {off size inb h} {s : St F} {Q : _ → St F → Prop} (hQ : Q (VecWindow.window s.st off size inb) s) :
    Tr d R x (ld R.st off size inb h) s Q := by
  intro Fr E K hK
  unfold Own
  iintro ⟨⟨H0, H1, H2, H3, H4, H5, H6⟩, HF⟩
  iapply (wp_ld R.st off size inb h s.st (iprop((owns (d : Thread nD τ) R.st fullShare s.st -∗ Own d R x s) ∗ Fr)) E K (by
    iintro ⟨H, HW, HF⟩
    iapply (hK _ s hQ)
    isplitr [HF]
    · iapply HW $$ H
    · iexact HF))
  isplitl [H5]; · iexact H5
  isplitr [HF]
  · iintro H5
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_mx {off size inb h} {s : St F} {Q : _ → St F → Prop} (hQ : Q (VecWindow.window s.mx off size inb) s) :
    Tr d R x (ld R.mx off size inb h) s Q := by
  intro Fr E K hK
  unfold Own
  iintro ⟨⟨H0, H1, H2, H3, H4, H5, H6⟩, HF⟩
  iapply (wp_ld R.mx off size inb h s.mx (iprop((owns (d : Thread nD τ) R.mx fullShare s.mx -∗ Own d R x s) ∗ Fr)) E K (by
    iintro ⟨H, HW, HF⟩
    iapply (hK _ s hQ)
    isplitr [HF]
    · iapply HW $$ H
    · iexact HF))
  isplitl [H6]; · iexact H6
  isplitr [HF]
  · iintro H6
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.st_m {off size inb h w} {s : St F} {Q : _ → St F → Prop} (hQ : Q ⟨⟩ { s with m := VecWindow.put s.m off size w }) :
    Tr d R x (st R.m off size inb h w) s Q := by
  intro Fr E K hK
  unfold Own
  iintro ⟨⟨H0, H1, H2, H3, H4, H5, H6⟩, HF⟩
  iapply (wp_st R.m off size inb h w s.m (iprop((owns (d : Thread nD τ) R.m fullShare (VecWindow.put s.m off size w) -∗ Own d R x { s with m := VecWindow.put s.m off size w }) ∗ Fr)) E K (by
    iintro ⟨H, HW, HF⟩
    iapply (hK _ _ hQ)
    isplitr [HF]
    · iapply HW $$ H
    · iexact HF))
  isplitl [H3]; · iexact H3
  isplitr [HF]
  · iintro H3
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.st_acc {off size inb h w} {s : St F} {Q : _ → St F → Prop} (hQ : Q ⟨⟩ { s with acc := VecWindow.put s.acc off size w }) :
    Tr d R x (st R.acc off size inb h w) s Q := by
  intro Fr E K hK
  unfold Own
  iintro ⟨⟨H0, H1, H2, H3, H4, H5, H6⟩, HF⟩
  iapply (wp_st R.acc off size inb h w s.acc (iprop((owns (d : Thread nD τ) R.acc fullShare (VecWindow.put s.acc off size w) -∗ Own d R x { s with acc := VecWindow.put s.acc off size w }) ∗ Fr)) E K (by
    iintro ⟨H, HW, HF⟩
    iapply (hK _ _ hQ)
    isplitr [HF]
    · iapply HW $$ H
    · iexact HF))
  isplitl [H4]; · iexact H4
  isplitr [HF]
  · iintro H4
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.st_st {off size inb h w} {s : St F} {Q : _ → St F → Prop} (hQ : Q ⟨⟩ { s with st := VecWindow.put s.st off size w }) :
    Tr d R x (st R.st off size inb h w) s Q := by
  intro Fr E K hK
  unfold Own
  iintro ⟨⟨H0, H1, H2, H3, H4, H5, H6⟩, HF⟩
  iapply (wp_st R.st off size inb h w s.st (iprop((owns (d : Thread nD τ) R.st fullShare (VecWindow.put s.st off size w) -∗ Own d R x { s with st := VecWindow.put s.st off size w }) ∗ Fr)) E K (by
    iintro ⟨H, HW, HF⟩
    iapply (hK _ _ hQ)
    isplitr [HF]
    · iapply HW $$ H
    · iexact HF))
  isplitl [H5]; · iexact H5
  isplitr [HF]
  · iintro H5
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.st_mx {off size inb h w} {s : St F} {Q : _ → St F → Prop} (hQ : Q ⟨⟩ { s with mx := VecWindow.put s.mx off size w }) :
    Tr d R x (st R.mx off size inb h w) s Q := by
  intro Fr E K hK
  unfold Own
  iintro ⟨⟨H0, H1, H2, H3, H4, H5, H6⟩, HF⟩
  iapply (wp_st R.mx off size inb h w s.mx (iprop((owns (d : Thread nD τ) R.mx fullShare (VecWindow.put s.mx off size w) -∗ Own d R x { s with mx := VecWindow.put s.mx off size w }) ∗ Fr)) E K (by
    iintro ⟨H, HW, HF⟩
    iapply (hK _ _ hQ)
    isplitr [HF]
    · iapply HW $$ H
    · iexact HF))
  isplitl [H6]; · iexact H6
  isplitr [HF]
  · iintro H6
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

end Cert.KernelIdeal.Attn
-- ==== Proof.Attn.Inv.lean ====
/-
  What the scratch buffers hold between items: a slot holds its item's scores and a real bound, and every head's
  accumulator holds the weighted sum of the values over the keys done so far, under the head's running bound.
-/
module

public import proofs.«01_k».proof.Proof.Attn.Values
public import proofs.«01_k».proof.Proof.Attn.Triple

@[expose] public section

noncomputable section

namespace Cert.KernelIdeal.Attn

open Idealize.ShloMosaic Idealize.ShloMosaic.TcCoe Idealize.ShloMosaic.ValueIdx
open Cert.KernelIdeal.Gen
open scoped BigOperators

/-! ## Windows by coordinates -/

section Windows
variable {α : Type} {A B C n w x y z : ℕ}

theorem window2 (X : (M2 A B).Idx → α) (inb : ∀ a, (![x, y] : Fin 2 → ℕ) a + (![n, w] : Fin 2 → ℕ) a ≤ (M2 A B).size a)
    (r : Fin n) (l : Fin w) (r' : Fin A) (l' : Fin B) (hr : r'.val = x + r.val) (hl : l'.val = y + l.val) :
    VecWindow.window X ![x, y] ![n, w] inb (ix2 r l) = X (ix2 r' l') :=
  congrArg X (funext fun a : Fin 2 => Fin.ext (by
    match a with
    | 0 => show x + 1 * r.val = r'.val; omega
    | 1 => show y + 1 * l.val = l'.val; omega))

theorem window3 (X : (⟨3, ![A, B, C]⟩ : Shape).Idx → α) (inb : ∀ a, (![x, y, z] : Fin 3 → ℕ) a + (![1, n, w] : Fin 3 → ℕ) a ≤ (⟨3, ![A, B, C]⟩ : Shape).size a)
    (r : Fin n) (l : Fin w) (a' : Fin A) (r' : Fin B) (l' : Fin C) (ha : a'.val = x) (hr : r'.val = y + r.val) (hl : l'.val = z + l.val) :
    VecWindow.window X ![x, y, z] ![1, n, w] inb (ix3 (0 : Fin 1) r l) = X (ix3 a' r' l') :=
  congrArg X (funext fun a : Fin 3 => Fin.ext (by
    match a with
    | 0 => show x + 1 * 0 = a'.val; omega
    | 1 => show y + 1 * r.val = r'.val; omega
    | 2 => show z + 1 * l.val = l'.val; omega))

theorem put3_in (X : (⟨3, ![A, B, C]⟩ : Shape).Idx → α) (W : (M3 n w).Idx → α) (a : Fin A) (b : Fin B) (c : Fin C) (b' : Fin n) (c' : Fin w)
    (ha : a.val = x) (hb : b.val = y + b'.val) (hc : c.val = z + c'.val) :
    VecWindow.put X ![x, y, z] ![1, n, w] W (ix3 a b c) = W (ix3 (0 : Fin 1) b' c') := by
  have h : ∀ t : Fin 3, (![x, y, z] : Fin 3 → ℕ) t ≤ (ix3 a b c t).val ∧ (ix3 a b c t).val < (![x, y, z] : Fin 3 → ℕ) t + (![1, n, w] : Fin 3 → ℕ) t := fun t => by
    match t with
    | 0 => exact ⟨by show x ≤ a.val; omega, by show a.val < x + 1; omega⟩
    | 1 => exact ⟨by show y ≤ b.val; omega, by show b.val < y + n; omega⟩
    | 2 => exact ⟨by show z ≤ c.val; omega, by show c.val < z + w; omega⟩
  refine (dif_pos h).trans (congrArg W (funext fun t : Fin 3 => Fin.ext ?_))
  match t with
  | 0 => show a.val - x = 0; omega
  | 1 => show b.val - y = b'.val; omega
  | 2 => show c.val - z = c'.val; omega

theorem put3_out (X : (⟨3, ![A, B, C]⟩ : Shape).Idx → α) (W : (M3 n w).Idx → α) (a : Fin A) (b : Fin B) (c : Fin C)
    (h : a.val ≠ x ∨ c.val < z ∨ z + w ≤ c.val) :
    VecWindow.put X ![x, y, z] ![1, n, w] W (ix3 a b c) = X (ix3 a b c) := by
  refine dif_neg fun hh : ∀ t : Fin 3, (![x, y, z] : Fin 3 → ℕ) t ≤ (ix3 a b c t).val ∧ (ix3 a b c t).val < (![x, y, z] : Fin 3 → ℕ) t + (![1, n, w] : Fin 3 → ℕ) t => ?_
  have h0 : x ≤ a.val ∧ a.val < x + 1 := hh 0
  have h2 : z ≤ c.val ∧ c.val < z + w := hh 2
  omega

end Windows

/-! ## Scores, values and weights -/

variable (x : Ins Ideal) (c : Fin 4)

/-- The score of key `r` against the block's query `j` at head `h`. -/
def sc (h : Fin 8) (r : ℕ) (j : Fin 512) : EReal :=
  if hr : r < 2048 then ∑ l : Fin 128, x.k (ix2 (⟨r, hr⟩ : Fin 2048) (⟨h.val * 128 + l.val, by omega⟩ : Fin 1024)) * x.q (ix2 j (⟨h.val * 128 + l.val, by omega⟩ : Fin 1024)) else 0

/-- The masked score: −∞ for a key after the query. -/
def lg (h : Fin 8) (r : ℕ) (j : Fin 512) : EReal := if r ≤ c.val * 512 + j.val then sc x h r j else ⊥

/-- Row `e` of the values of head `h` at key `r`. -/
def vl (h : Fin 8) (e : Fin 80) (r : ℕ) : EReal :=
  if hr : r < 2048 then x.v (ix3 (0 : Fin 1) (⟨h.val * 80 + e.val, by omega⟩ : Fin 640) (⟨r, hr⟩ : Fin 2048)) else 0

/-- A key's share of the accumulator under the bound `M`. -/
def wt (M : ℝ) (h : Fin 8) (e : Fin 80) (j : Fin 512) (r : ℕ) : EReal := vl x h e r * Ideal.exp2 (lg x c h r j - (M : EReal))

/-- The accumulator once the diagonal block and the keys before `n` are done. -/
def part (M : ℝ) (n : ℕ) (h : Fin 8) (e : Fin 80) (j : Fin 512) : EReal :=
  ∑ r ∈ Finset.range n, wt x c M h e j r + ∑ r ∈ Finset.range 512, wt x c M h e j (c.val * 512 + r)

/-- Every score is a real number. -/
def RealScores : Prop := ∀ h r j, ∃ a : ℝ, sc x h r j = (a : EReal)

theorem exp2_real (a : ℝ) : Ideal.exp2 (a : EReal) = (((2 : ℝ) ^ a : ℝ) : EReal) := Ideal.exp2_coe a

theorem exp2_shift (M M' : ℝ) (T : EReal) (hT : T = ⊥ ∨ ∃ a : ℝ, T = (a : EReal)) :
    Ideal.exp2 ((M : EReal) - (M' : EReal)) * Ideal.exp2 (T - (M : EReal)) = Ideal.exp2 (T - (M' : EReal)) := by
  rcases hT with rfl | ⟨a, rfl⟩
  · rw [EReal.bot_sub, EReal.bot_sub, Ideal.exp2_bot, mul_zero]
  · rw [← EReal.coe_sub, ← EReal.coe_sub, ← EReal.coe_sub, exp2_real, exp2_real, exp2_real, ← EReal.coe_mul, ← Real.rpow_add (by norm_num)]
    congr 2
    ring

theorem lg_cases (hS : RealScores x) (h : Fin 8) (r : ℕ) (j : Fin 512) : lg x c h r j = ⊥ ∨ ∃ a : ℝ, lg x c h r j = (a : EReal) := by
  unfold lg
  split
  · exact Or.inr (hS h r j)
  · exact Or.inl rfl

theorem wt_shift (hS : RealScores x) (M M' : ℝ) (h : Fin 8) (e : Fin 80) (j : Fin 512) (r : ℕ) :
    Ideal.exp2 ((M : EReal) - (M' : EReal)) * wt x c M h e j r = wt x c M' h e j r := by
  unfold wt
  rw [mul_left_comm, exp2_shift M M' _ (lg_cases x c hS h r j)]

/-- A nonnegative real factor moves into a sum of extended reals. -/
theorem coe_mul_sum {ι : Type} (a : ℝ) (ha : 0 ≤ a) (s : Finset ι) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

theorem part_shift (hS : RealScores x) (M M' : ℝ) (n : ℕ) (h : Fin 8) (e : Fin 80) (j : Fin 512) :
    Ideal.exp2 ((M : EReal) - (M' : EReal)) * part x c M n h e j = part x c M' n h e j := by
  have h0 : Ideal.exp2 ((M : EReal) - (M' : EReal)) = (((2 : ℝ) ^ (M - M') : ℝ) : EReal) := by rw [← EReal.coe_sub, exp2_real]
  have hp : (0 : ℝ) ≤ (2 : ℝ) ^ (M - M') := by positivity
  unfold part
  rw [h0, EReal.left_distrib_of_nonneg_of_ne_top (by exact_mod_cast hp) (EReal.coe_ne_top _), coe_mul_sum _ hp, coe_mul_sum _ hp, ← h0]
  simp only [wt_shift x c hS]

theorem part_add (M : ℝ) (k n : ℕ) (h : Fin 8) (e : Fin 80) (j : Fin 512) :
    part x c M k h e j + ∑ r : Fin n, wt x c M h e j (k + r.val) = part x c M (k + n) h e j := by
  unfold part
  rw [Finset.sum_range_add, Finset.sum_range (fun r => wt x c M h e j (k + r)), add_assoc, add_assoc, add_comm (∑ r ∈ Finset.range 512, _)]

/-! ## The invariant -/

/-- Slot `s` holds the item's masked scores and real bounds. -/
def Slot (it : Item) (s : Fin 2) (t : St Ideal) : Prop :=
  match it with
  | .diag h => (∀ (r : Fin 1024) (j : Fin 512), r.val < 512 → (r.val < 256 ∨ 256 ≤ j.val) → t.st (ix3 s r j) = lg x c h (c.val * 512 + r.val) j)
      ∧ ∀ j : Fin 512, ∃ M : ℝ, t.mx (ix3 s (0 : Fin 1) j) = (M : EReal)
  | .grp h k0 n _ _ _ => (∀ (r : Fin 1024) (j : Fin 512), r.val < n → t.st (ix3 s r j) = lg x c h (k0 + r.val) j)
      ∧ ∀ j : Fin 512, ∃ M : ℝ, t.mx (ix3 s (0 : Fin 1) j) = (M : EReal)

/-- Head `h` holds the diagonal block and the keys before `n`. -/
def Head (h : Fin 8) (n : ℕ) (t : St Ideal) : Prop :=
  ∀ j : Fin 512, ∃ M : ℝ, t.m (ix3 h (0 : Fin 1) j) = (M : EReal) ∧ ∀ e : Fin 80, t.acc (ix3 h e j) = part x c M n h e j

/-- Every head holds what `D` says it has done. -/
def Inv (D : Fin 8 → Option ℕ) (t : St Ideal) : Prop := ∀ h n, D h = some n → Head x c h n t

/-- What is done after an item. -/
def step (D : Fin 8 → Option ℕ) : Item → Fin 8 → Option ℕ
  | .diag h => Function.update D h (some 0)
  | .grp h k0 n _ _ _ => Function.update D h (some (k0 + n))

/-- The item lies before the diagonal block. -/
def Fits : Item → Prop
  | .diag _ => True
  | .grp _ k0 n _ _ _ => k0 + n ≤ c.val * 512

/-- The item continues what is done. -/
def Next (D : Fin 8 → Option ℕ) : Item → Prop
  | .diag _ => True
  | .grp h k0 _ _ _ _ => D h = some k0

variable {x c}
variable {d : Dev nD} {R : Refs}

theorem head_of_eq {h : Fin 8} {n : ℕ} {t t' : St Ideal} (H : Head x c h n t) (hm : ∀ j : Fin 512, t'.m (ix3 h (0 : Fin 1) j) = t.m (ix3 h (0 : Fin 1) j))
    (ha : ∀ (e : Fin 80) (j : Fin 512), t'.acc (ix3 h e j) = t.acc (ix3 h e j)) : Head x c h n t' := by
  intro j
  obtain ⟨M, h1, h2⟩ := H j
  exact ⟨M, (hm j).trans h1, fun e => (ha e j).trans (h2 e)⟩

/-- The invariant after head `h` alone has changed. -/
theorem inv_update {D : Fin 8 → Option ℕ} {h : Fin 8} {n : ℕ} {t t' : St Ideal} (H : Inv x c D t) (hh : Head x c h n t')
    (hm : ∀ h' : Fin 8, h' ≠ h → ∀ j : Fin 512, t'.m (ix3 h' (0 : Fin 1) j) = t.m (ix3 h' (0 : Fin 1) j))
    (ha : ∀ h' : Fin 8, h' ≠ h → ∀ (e : Fin 80) (j : Fin 512), t'.acc (ix3 h' e j) = t.acc (ix3 h' e j)) :
    Inv x c (Function.update D h (some n)) t' := by
  intro h' n' e
  by_cases hne : h' = h
  · subst hne
    rw [Function.update_self] at e
    obtain rfl := Option.some.inj e
    exact hh
  · rw [Function.update_of_ne hne] at e
    exact head_of_eq (H h' n' e) (hm h' hne) (ha h' hne)

theorem cast3 {α : Type} (w : (M3 1 512).Idx → α) : shapeCast (M3 1 512) (shapeCast (M2 1 512) w (cast32 1 512)) (cast23 1 512) = w := by
  rw [shapeCast_shapeCast]

/-- The bits of a block's values: what the weighing of `n` keys from `k0` on adds. -/
theorem weigh_wt {n w : ℕ} (k0 q0 : ℕ) (h : Fin 8) (M : Fin w → ℝ) (s : FVec Ideal (M3 n w) .f32) (m : FVec Ideal (M2 1 w) .f32) (v : FVec Ideal (M3 80 n) .bf16)
    (hq : q0 + w ≤ 512) (hs : ∀ (r : Fin n) (j : Fin w), s (ix3 (0 : Fin 1) r j) = lg x c h (k0 + r.val) ⟨q0 + j.val, by omega⟩)
    (hm : ∀ j : Fin w, m (ix2 (0 : Fin 1) j) = (M j : EReal)) (hv : ∀ (e : Fin 80) (r : Fin n), v (ix3 (0 : Fin 1) e r) = vl x h e (k0 + r.val)) (e : Fin 80) (j : Fin w) :
    weigh (F := Ideal) n w s m v (ix2 e j) = ∑ r : Fin n, wt x c (M j) h e ⟨q0 + j.val, by omega⟩ (k0 + r.val) := by
  rw [weigh_apply]
  refine Finset.sum_congr rfl fun r _ => ?_
  rw [hs, hm, hv]
  rfl

end Cert.KernelIdeal.Attn
-- ==== Proof.Attn.Consume.lean ====
/-
  Consuming an item: a slot's scores weigh the values into the head's accumulator.
-/
module

public import proofs.«01_k».proof.Proof.Attn.Inv

@[expose] public section

noncomputable section

namespace Cert.KernelIdeal.Attn

open Idealize.ShloMosaic Idealize.ShloMosaic.TcCoe Idealize.ShloMosaic.ValueIdx
open Cert.KernelIdeal.Gen
open scoped BigOperators

variable {d : Dev nD} {R : Refs} {x : Ins Ideal} {c : Fin 4}

/-! ## The two programs that write the running bounds and the accumulator -/

theorem Tr.stM {h : Fin 8} {w : FVec Ideal (M2 1 512) .f32} {t : St Ideal} {Q : PUnit → St Ideal → Prop}
    (hQ : Q ⟨⟩ { t with m := VecWindow.put t.m ![h.val, 0, 0] ![1, 1, 512] (shapeCast (M3 1 512) w (cast23 1 512)) }) : Tr d R x (stM R h w) t Q :=
  Tr.bind (Tr.ld_m (Tr.st_m hQ))

theorem Tr.stA {h : Fin 8} {q0 w : ℕ} {hq : q0 + w ≤ 512} {hw : 0 < w} {y : FVec Ideal (M2 80 w) .f32} {t : St Ideal} {Q : PUnit → St Ideal → Prop}
    (hQ : Q ⟨⟩ { t with acc := VecWindow.put t.acc ![h.val, 0, q0] ![1, 80, w] (shapeCast (M3 80 w) y (cast23 80 w)) }) : Tr d R x (stA R h q0 w hq hw y) t Q :=
  Tr.bind (Tr.ld_acc (Tr.st_acc hQ))

theorem vl_window (h : Fin 8) (k0 n : ℕ) (hk : k0 + n ≤ 2048) (inb) (e : Fin 80) (r : Fin n) :
    VecWindow.window x.v ![0, h.val * 80, k0] ![1, 80, n] inb (ix3 (0 : Fin 1) e r) = vl x h e (k0 + r.val) := by
  have hr : k0 + r.val < 2048 := by omega
  unfold vl
  rw [dif_pos hr]
  exact window3 x.v inb e r (0 : Fin 1) (⟨h.val * 80 + e.val, by omega⟩ : Fin 640) (⟨k0 + r.val, hr⟩ : Fin 2048) rfl rfl rfl

theorem put_m_in (X : S8x1x512.Idx → EReal) (h : Fin 8) (w : FVec Ideal (M2 1 512) .f32) (j : Fin 512) :
    VecWindow.put X ![h.val, 0, 0] ![1, 1, 512] (shapeCast (M3 1 512) w (cast23 1 512)) (ix3 h (0 : Fin 1) j) = w (ix2 (0 : Fin 1) j) := by
  refine (put3_in (A := 8) (B := 1) (C := 512) (n := 1) (w := 512) X (shapeCast (M3 1 512) w (cast23 1 512)) h (0 : Fin 1) j (0 : Fin 1) j rfl rfl (Nat.zero_add _).symm).trans ?_
  exact shapeCast_ab_1ab_apply w (cast23 1 512) 0 0 j

theorem put_m_out (X : S8x1x512.Idx → EReal) (h h' : Fin 8) (hne : h' ≠ h) (W : (M3 1 512).Idx → EReal) (j : Fin 512) :
    VecWindow.put X ![h.val, 0, 0] ![1, 1, 512] W (ix3 h' (0 : Fin 1) j) = X (ix3 h' (0 : Fin 1) j) :=
  put3_out (A := 8) (B := 1) (C := 512) (n := 1) (w := 512) X W h' (0 : Fin 1) j (Or.inl fun hh => hne (Fin.ext hh))

theorem put_acc_in {w q0 : ℕ} (X : S8x80x512.Idx → EReal) (h : Fin 8) (y : FVec Ideal (M2 80 w) .f32) (e : Fin 80) (j : Fin 512) (j' : Fin w) (hj : j.val = q0 + j'.val) :
    VecWindow.put X ![h.val, 0, q0] ![1, 80, w] (shapeCast (M3 80 w) y (cast23 80 w)) (ix3 h e j) = y (ix2 e j') := by
  refine (put3_in (A := 8) (B := 80) (C := 512) (n := 80) (w := w) X (shapeCast (M3 80 w) y (cast23 80 w)) h e j e j' rfl (Nat.zero_add _).symm hj).trans ?_
  exact shapeCast_ab_1ab_apply y (cast23 80 w) 0 e j'

theorem put_acc_out {w q0 : ℕ} (X : S8x80x512.Idx → EReal) (h h' : Fin 8) (W : (M3 80 w).Idx → EReal) (e : Fin 80) (j : Fin 512) (ho : h' ≠ h ∨ j.val < q0 ∨ q0 + w ≤ j.val) :
    VecWindow.put X ![h.val, 0, q0] ![1, 80, w] W (ix3 h' e j) = X (ix3 h' e j) :=
  put3_out (A := 8) (B := 80) (C := 512) (n := 80) (w := w) X W h' e j (ho.imp_left fun hne hh => hne (Fin.ext hh))

/-- Opening the accumulator for 256 queries. -/
theorem openHalf_spec (h : Fin 8) (s : Fin 2) (n q0 : ℕ) (hn : 0 < n) (hn' : n ≤ 512) (hq : q0 + 256 ≤ 512) (m : FVec Ideal (M2 1 256) .f32) (M : Fin 512 → ℝ) (t : St Ideal)
    (hm : ∀ j : Fin 256, m (ix2 (0 : Fin 1) j) = (M ⟨q0 + j.val, by omega⟩ : EReal))
    (hs : ∀ (r : Fin n) (j : Fin 256), t.st (ix3 s (⟨r.val, by omega⟩ : Fin 1024) (⟨q0 + j.val, by omega⟩ : Fin 512)) = lg x c h (c.val * 512 + r.val) ⟨q0 + j.val, by omega⟩) :
    Tr d R x (openHalf R c h s n q0 hn hn' hq m) t fun _ t' => t'.m = t.m ∧ t'.st = t.st ∧ t'.mx = t.mx
      ∧ (∀ (e : Fin 80) (j : Fin 512), q0 ≤ j.val → j.val < q0 + 256 → t'.acc (ix3 h e j) = ∑ r : Fin n, wt x c (M j) h e j (c.val * 512 + r.val))
      ∧ ∀ (h' : Fin 8) (e : Fin 80) (j : Fin 512), (h' ≠ h ∨ j.val < q0 ∨ q0 + 256 ≤ j.val) → t'.acc (ix3 h' e j) = t.acc (ix3 h' e j) := by
  unfold openHalf
  refine Tr.bind (Tr.ld_st (Tr.bind (Tr.ld_v (Tr.stA ?_))))
  refine ⟨rfl, rfl, rfl, fun e j h1 h2 => ?_, fun h' e j ho => put_acc_out t.acc h h' _ e j ho⟩
  refine (put_acc_in t.acc h _ e j (⟨j.val - q0, by omega⟩ : Fin 256) (by show j.val = q0 + (j.val - q0); omega)).trans ?_
  have hj : (⟨q0 + (j.val - q0), by omega⟩ : Fin 512) = j := Fin.ext (by show q0 + (j.val - q0) = j.val; omega)
  refine (weigh_wt (x := x) (c := c) (c.val * 512) q0 h (fun j : Fin 256 => M ⟨q0 + j.val, by omega⟩) _ m _ hq (fun r j => ?_) hm
    (fun e r => vl_window h (c.val * 512) n (by omega) _ e r) e ⟨j.val - q0, by omega⟩).trans ?_
  · refine (window3 (A := 2) (B := 1024) (C := 512) (n := n) (w := 256) t.st _ r j s (⟨r.val, by omega⟩ : Fin 1024) (⟨q0 + j.val, by omega⟩ : Fin 512) rfl (Nat.zero_add _).symm rfl).trans (hs r j)
  · simp only [hj]

theorem wt_masked (M : ℝ) (h : Fin 8) (e : Fin 80) (j : Fin 512) (r : ℕ) (hr : c.val * 512 + j.val < r) : wt x c M h e j r = 0 := by
  unfold wt lg
  rw [if_neg (by omega), EReal.bot_sub, Ideal.exp2_bot, mul_zero]

/-- The first half's queries see no key of the second half. -/
theorem part_left (M : ℝ) (h : Fin 8) (e : Fin 80) (j : Fin 512) (hj : j.val < 256) :
    ∑ r : Fin 256, wt x c M h e j (c.val * 512 + r.val) = part x c M 0 h e j := by
  unfold part
  rw [Finset.sum_range_zero, zero_add, show (512 : ℕ) = 256 + 256 from rfl, Finset.sum_range_add, Finset.sum_range (n := 256)]
  refine (add_zero _).symm.trans (congrArg _ ?_)
  exact (Finset.sum_eq_zero fun r _ => wt_masked M h e j _ (by omega)).symm

theorem part_right (M : ℝ) (h : Fin 8) (e : Fin 80) (j : Fin 512) :
    ∑ r : Fin 512, wt x c M h e j (c.val * 512 + r.val) = part x c M 0 h e j := by
  unfold part
  rw [Finset.sum_range_zero, zero_add, Finset.sum_range (n := 512)]

theorem consume_diag (D : Fin 8 → Option ℕ) (h : Fin 8) (s : Fin 2) (t : St Ideal) (hI : Inv x c D t) (hs : Slot x c (.diag h) s t) :
    Tr d R x (consume R c (.diag h) s) t fun _ t' => Inv x c (step D (.diag h)) t' := by
  obtain ⟨hst, hmx⟩ := hs
  choose M hM using hmx
  have hX : ∀ (inb) (j : Fin 512), shapeCast (M2 1 512) (VecWindow.window t.mx ![s.val, 0, 0] ![1, 1, 512] inb : FVec Ideal (M3 1 512) .f32) (cast32 1 512) (ix2 (0 : Fin 1) j) = (M j : EReal) := fun inb j => by
    refine (shapeCast_1ab_ab_apply _ (cast32 1 512) 0 j).trans ?_
    exact (window3 (A := 2) (B := 1) (C := 512) (n := 1) (w := 512) t.mx inb (0 : Fin 1) j s (0 : Fin 1) j rfl rfl (Nat.zero_add _).symm).trans (hM j)
  unfold consume
  refine Tr.bind (Tr.ld_mx (Tr.bind (Tr.stM (Tr.bind ?_))))
  refine Tr.mono (openHalf_spec h s 256 0 (by decide) (by decide) (by decide) _ M _ (fun j => ?_) (fun r j => ?_)) ?_
  · refine (congrArg _ (?_ : _ = ix2 (0 : Fin 1) (⟨0 + j.val, by omega⟩ : Fin 512))).trans (hX _ _)
    exact funext fun a : Fin 2 => by match a with | 0 => rfl | 1 => rfl
  · exact hst _ _ (by show r.val < 512; omega) (Or.inl r.isLt)
  rintro _ t1 ⟨hm1, hs1, hx1, ha1, ho1⟩
  refine Tr.mono (openHalf_spec h s 512 256 (by decide) (by decide) (by decide) _ M _ (fun j => ?_) (fun r j => ?_)) ?_
  · refine (congrArg _ (?_ : _ = ix2 (0 : Fin 1) (⟨256 + j.val, by omega⟩ : Fin 512))).trans (hX _ _)
    exact funext fun a : Fin 2 => by match a with | 0 => rfl | 1 => rfl
  · rw [hs1]
    exact hst _ _ r.isLt (Or.inr (by show 256 ≤ 256 + j.val; omega))
  rintro _ t2 ⟨hm2, hs2, hx2, ha2, ho2⟩
  refine inv_update hI (fun j => ⟨M j, ?_, fun e => ?_⟩) (fun h' hne j => ?_) (fun h' hne e j => ?_)
  · rw [hm2, hm1]
    exact (put_m_in t.m h _ j).trans (hX _ j)
  · by_cases hj : j.val < 256
    · rw [ho2 h e j (Or.inr (Or.inl hj)), ha1 e j (Nat.zero_le _) (by omega), part_left (M j) h e j hj]
    · rw [ha2 e j (by omega) (by omega), part_right]
  · rw [hm2, hm1]
    exact put_m_out t.m h h' hne _ j
  · rw [ho2 h' e j (Or.inl hne), ho1 h' e j (Or.inl hne)]

theorem consume_grp (hS : RealScores x) (D : Fin 8 → Option ℕ) (h : Fin 8) (k0 n : ℕ) (hk : k0 + n ≤ 2048) (hn : 0 < n) (hn' : n ≤ 1024) (s : Fin 2) (t : St Ideal)
    (hI : Inv x c D t) (hD : D h = some k0) (hs : Slot x c (.grp h k0 n hk hn hn') s t) :
    Tr d R x (consume R c (.grp h k0 n hk hn hn') s) t fun _ t' => Inv x c (step D (.grp h k0 n hk hn hn')) t' := by
  obtain ⟨hst, hmx⟩ := hs
  choose X hX using hmx
  choose M hM hA using hI h k0 hD
  have hx : ∀ (inb) (j : Fin 512), shapeCast (M2 1 512) (VecWindow.window t.mx ![s.val, 0, 0] ![1, 1, 512] inb : FVec Ideal (M3 1 512) .f32) (cast32 1 512) (ix2 (0 : Fin 1) j) = (X j : EReal) := fun inb j => by
    refine (shapeCast_1ab_ab_apply _ (cast32 1 512) 0 j).trans ?_
    exact (window3 (A := 2) (B := 1) (C := 512) (n := 1) (w := 512) t.mx inb (0 : Fin 1) j s (0 : Fin 1) j rfl rfl (Nat.zero_add _).symm).trans (hX j)
  have hm : ∀ (inb) (j : Fin 512), shapeCast (M2 1 512) (VecWindow.window t.m ![h.val, 0, 0] ![1, 1, 512] inb : FVec Ideal (M3 1 512) .f32) (cast32 1 512) (ix2 (0 : Fin 1) j) = (M j : EReal) := fun inb j => by
    refine (shapeCast_1ab_ab_apply _ (cast32 1 512) 0 j).trans ?_
    exact (window3 (A := 8) (B := 1) (C := 512) (n := 1) (w := 512) t.m inb (0 : Fin 1) j h (0 : Fin 1) j rfl rfl (Nat.zero_add _).symm).trans (hM j)
  have hmax : ∀ (i1) (i2) (j : Fin 512), (maximumf (shapeCast (M2 1 512) (VecWindow.window t.m ![h.val, 0, 0] ![1, 1, 512] i1 : FVec Ideal (M3 1 512) .f32) (cast32 1 512))
      (shapeCast (M2 1 512) (VecWindow.window t.mx ![s.val, 0, 0] ![1, 1, 512] i2 : FVec Ideal (M3 1 512) .f32) (cast32 1 512)) : FVec Ideal (M2 1 512) .f32) (ix2 (0 : Fin 1) j) = ((max (M j) (X j) : ℝ) : EReal) := fun i1 i2 j => by
    rw [maximumf_apply, hm, hx]
    exact (EReal.coe_strictMono.monotone.map_max).symm
  unfold consume
  refine Tr.bind (Tr.ld_m (Tr.bind (Tr.ld_mx (Tr.bind (Tr.stM (Tr.bind (Tr.ld_st (Tr.bind (Tr.ld_v (Tr.bind (Tr.ld_acc (Tr.stA ?_))))))))))))
  refine inv_update hI (fun j => ⟨max (M j) (X j), ?_, fun e => ?_⟩) (fun h' hne j => ?_) (fun h' hne e j => ?_)
  · exact (put_m_in t.m h _ j).trans (hmax _ _ j)
  · refine (put_acc_in t.acc h _ e j j (Nat.zero_add _).symm).trans ?_
    rw [rescale_apply, hm, hmax]
    have h0 : ∀ j : Fin 512, (⟨0 + j.val, by omega⟩ : Fin 512) = j := fun j => Fin.ext (Nat.zero_add _)
    have e1 := weigh_wt (x := x) (c := c) k0 0 h (fun j : Fin 512 => max (M j) (X j)) _ _ _ le_rfl (fun r j =>
      (window3 (A := 2) (B := 1024) (C := 512) (n := n) (w := 512) t.st (inb3 (by omega) (by omega) le_rfl) r j s (⟨r.val, by omega⟩ : Fin 1024) (⟨0 + j.val, by omega⟩ : Fin 512) rfl (Nat.zero_add _).symm rfl).trans (hst _ _ r.isLt))
      (hmax (inb3 (by omega) (by omega) (by omega)) (inb3 (by omega) (by omega) (by omega))) (fun e r => vl_window (x := x) h k0 n hk (inb3 (by omega) (by omega) (by omega)) e r) e j
    simp only [h0] at e1
    refine (congrArg₂ (· + ·) ?_ e1).trans (part_add x c _ k0 n h e j)
    refine (congrArg _ ?_).trans (part_shift x c hS (M j) _ k0 h e j)
    exact (window3 (A := 8) (B := 80) (C := 512) (n := 80) (w := 512) t.acc _ e j h e j rfl (Nat.zero_add _).symm (Nat.zero_add _).symm).trans (hA j e)
  · exact put_m_out t.m h h' hne _ j
  · exact put_acc_out t.acc h h' _ e j (Or.inl hne)

/-- Consuming an item that continues what is done. -/
theorem consume_spec (hS : RealScores x) (D : Fin 8 → Option ℕ) (it : Item) (s : Fin 2) (t : St Ideal) (hI : Inv x c D t) (hD : Next D it) (hs : Slot x c it s t) :
    Tr d R x (consume R c it s) t fun _ t' => Inv x c (step D it) t' := by
  cases it with
  | diag h => exact consume_diag D h s t hI hs
  | grp h k0 n hk hn hn' => exact consume_grp hS D h k0 n hk hn hn' s t hI hD hs

end Cert.KernelIdeal.Attn
-- ==== Proof.Attn.Schedule.lean ====
/-
  The whole schedule: issuing fills a slot with an item's masked scores, and running the items of a query block leaves
  in every head's accumulator the weighted sum over all the keys up to the block's end.
-/
module

public import proofs.«01_k».proof.Proof.Attn.Consume

@[expose] public section

noncomputable section

namespace Cert.KernelIdeal.Attn

open Idealize.ShloMosaic Idealize.ShloMosaic.TcCoe Idealize.ShloMosaic.ValueIdx Idealize.SL.Sem
open Cert.KernelIdeal.Gen
open scoped BigOperators

variable {d : Dev nD} {R : Refs} {x : Ins Ideal} {c : Fin 4}

/-! ## Issuing -/

/-- The scores of the loaded rows are the scores of the heads. -/
theorem scores_sc (h : Fin 8) (k0 n q0 w : ℕ) (hk : k0 + n ≤ 2048) (hq : q0 + w ≤ 512) (i1) (i2) (r : Fin n) (j : Fin w) :
    scores (F := Ideal) n w (VecWindow.window x.k ![k0, h.val * 128] ![n, 128] i1) (VecWindow.window x.q ![q0, h.val * 128] ![w, 128] i2) (ix2 r j)
      = sc x h (k0 + r.val) ⟨q0 + j.val, by omega⟩ := by
  have hr : k0 + r.val < 2048 := by omega
  rw [scores_apply]
  unfold sc
  rw [dif_pos hr]
  refine Finset.sum_congr rfl fun l _ => congrArg₂ (· * ·) ?_ ?_
  · exact window2 (A := 2048) (B := 1024) (n := n) (w := 128) x.k i1 r l ⟨k0 + r.val, hr⟩ ⟨h.val * 128 + l.val, by omega⟩ rfl rfl
  · exact window2 (A := 512) (B := 1024) (n := w) (w := 128) x.q i2 j l ⟨q0 + j.val, by omega⟩ ⟨h.val * 128 + l.val, by omega⟩ rfl rfl

theorem issueHalf_spec (h : Fin 8) (n q0 : ℕ) (hn : 0 < n) (hn' : n ≤ 512) (hq : q0 + 256 ≤ 512) (mask : IVec (M2 n 256) 1) (t : St Ideal)
    (hmask : ∀ (r : Fin n) (j : Fin 256), mask (ix2 r j) = 1#1 ↔ r.val ≤ q0 + j.val) :
    Tr d R x (issueHalf R c h n q0 hn hn' hq mask) t fun y t' => t' = t ∧ ∀ (r : Fin n) (j : Fin 256), y (ix2 r j) = lg x c h (c.val * 512 + r.val) ⟨q0 + j.val, by omega⟩ := by
  unfold issueHalf
  refine Tr.bind (Tr.ld_k (Tr.bind (Tr.ld_q (Tr.pure ⟨rfl, fun r j => ?_⟩))))
  rw [masked_apply, scores_sc h _ _ _ _ (by omega) hq]
  unfold lg
  by_cases hh : r.val ≤ q0 + j.val
  · rw [if_pos ((hmask r j).2 hh), if_pos (by show c.val * 512 + r.val ≤ c.val * 512 + (q0 + j.val); omega)]
  · rw [if_neg (fun e => hh ((hmask r j).1 e)), if_neg (by show ¬ c.val * 512 + r.val ≤ c.val * 512 + (q0 + j.val); omega)]

theorem issueGrp_spec (h : Fin 8) (k0 n : ℕ) (hk : k0 + n ≤ 2048) (hn : 0 < n) (hf : k0 + n ≤ c.val * 512) (t : St Ideal) :
    Tr d R x (issueGrp R h k0 n hk hn) t fun y t' => t' = t ∧ ∀ (r : Fin n) (j : Fin 512), y (ix2 r j) = lg x c h (k0 + r.val) j := by
  unfold issueGrp
  refine Tr.bind (Tr.ld_k (Tr.bind (Tr.ld_q (Tr.pure ⟨rfl, fun r j => ?_⟩))))
  rw [scores_sc h _ _ _ _ hk le_rfl]
  unfold lg
  rw [if_pos (by omega)]
  congr 1
  exact Fin.ext (Nat.zero_add _)

/-! ## Storing -/

theorem Tr.stS {s : Fin 2} {n q0 w : ℕ} {hn : 0 < n} {hn' : n ≤ 1024} {hq : q0 + w ≤ 512} {hw : 0 < w} {y : FVec Ideal (M2 n w) .f32} {t : St Ideal} {Q : PUnit → St Ideal → Prop}
    (hQ : Q ⟨⟩ { t with st := VecWindow.put t.st ![s.val, 0, q0] ![1, n, w] (shapeCast (M3 n w) y (cast23 n w)) }) : Tr d R x (stS R s n q0 w hn hn' hq hw y) t Q :=
  Tr.bind (Tr.ld_st (Tr.st_st hQ))

theorem Tr.stX {s : Fin 2} {w : FVec Ideal (M2 1 512) .f32} {t : St Ideal} {Q : PUnit → St Ideal → Prop}
    (hQ : Q ⟨⟩ { t with mx := VecWindow.put t.mx ![s.val, 0, 0] ![1, 1, 512] (shapeCast (M3 1 512) w (cast23 1 512)) }) : Tr d R x (stX R s w) t Q :=
  Tr.bind (Tr.ld_mx (Tr.st_mx hQ))

theorem put_st_in {n w q0 : ℕ} (X : S2x1024x512.Idx → EReal) (s : Fin 2) (y : FVec Ideal (M2 n w) .f32) (r : Fin 1024) (j : Fin 512) (r' : Fin n) (j' : Fin w)
    (hr : r.val = r'.val) (hj : j.val = q0 + j'.val) :
    VecWindow.put X ![s.val, 0, q0] ![1, n, w] (shapeCast (M3 n w) y (cast23 n w)) (ix3 s r j) = y (ix2 r' j') := by
  refine (put3_in (A := 2) (B := 1024) (C := 512) (n := n) (w := w) X (shapeCast (M3 n w) y (cast23 n w)) s r j r' j' rfl (hr.trans (Nat.zero_add _).symm) hj).trans ?_
  exact shapeCast_ab_1ab_apply y (cast23 n w) 0 r' j'

theorem put_mx_in (X : S2x1x512.Idx → EReal) (s : Fin 2) (w : FVec Ideal (M2 1 512) .f32) (j : Fin 512) :
    VecWindow.put X ![s.val, 0, 0] ![1, 1, 512] (shapeCast (M3 1 512) w (cast23 1 512)) (ix3 s (0 : Fin 1) j) = w (ix2 (0 : Fin 1) j) := by
  refine (put3_in (A := 2) (B := 1) (C := 512) (n := 1) (w := 512) X (shapeCast (M3 1 512) w (cast23 1 512)) s (0 : Fin 1) j (0 : Fin 1) j rfl rfl (Nat.zero_add _).symm).trans ?_
  exact shapeCast_ab_1ab_apply w (cast23 1 512) 0 0 j

theorem lg_ne_top (hS : RealScores x) (h : Fin 8) (r : ℕ) (j : Fin 512) : lg x c h r j ≠ ⊤ := by
  rcases lg_cases x c hS h r j with e | ⟨a, e⟩
  · rw [e]; exact bot_ne_top
  · rw [e]; exact EReal.coe_ne_top a

theorem lg_ne_bot (hS : RealScores x) (h : Fin 8) (r : ℕ) (j : Fin 512) (hr : r ≤ c.val * 512 + j.val) : lg x c h r j ≠ ⊥ := by
  unfold lg
  rw [if_pos hr]
  obtain ⟨a, e⟩ := hS h r j
  rw [e]
  exact EReal.coe_ne_bot a

theorem storeDiag_spec (hS : RealScores x) (D : Fin 8 → Option ℕ) (h : Fin 8) (s : Fin 2) (l : FVec Ideal (M2 256 256) .f32) (r : FVec Ideal (M2 512 256) .f32) (t : St Ideal)
    (hl : ∀ (a b : Fin 256), l (ix2 a b) = lg x c h (c.val * 512 + a.val) ⟨0 + b.val, by omega⟩)
    (hr : ∀ (a : Fin 512) (b : Fin 256), r (ix2 a b) = lg x c h (c.val * 512 + a.val) ⟨256 + b.val, by omega⟩) (hI : Inv x c D t) :
    Tr d R x (storeDiag R s l r) t fun _ t' => Inv x c D t' ∧ Slot x c (.diag h) s t' := by
  unfold storeDiag
  refine Tr.bind (Tr.stS (Tr.bind (Tr.stS (Tr.stX ⟨fun h' n e => head_of_eq (hI h' n e) (fun _ => rfl) fun _ _ => rfl, fun a b ha hab => ?_, fun j => ?_⟩))))
  · by_cases hb : b.val < 256
    · have ha' : a.val < 256 := hab.resolve_right (by omega)
      refine (put3_out (A := 2) (B := 1024) (C := 512) (n := 512) (w := 256) _ _ s a b (Or.inr (Or.inl hb))).trans ?_
      refine (put_st_in t.st s l a b ⟨a.val, ha'⟩ ⟨b.val, hb⟩ rfl (Nat.zero_add _).symm).trans ((hl _ _).trans ?_)
      congr 1
      exact Fin.ext (Nat.zero_add _)
    · refine (put_st_in _ s r a b ⟨a.val, ha⟩ ⟨b.val - 256, by omega⟩ rfl (by show b.val = 256 + (b.val - 256); omega)).trans ((hr _ _).trans ?_)
      congr 1
      exact Fin.ext (by show 256 + (b.val - 256) = b.val; omega)
  · have key : ∃ M : ℝ, diagMax (F := Ideal) l r (ix2 (0 : Fin 1) j) = (M : EReal) := by
      by_cases hb : j.val < 256
      · rw [diagMax_left l r j hb]
        exact colMax_real l ⟨j.val, hb⟩ (fun a => by rw [hl]; exact lg_ne_top hS _ _ _) 0 (by rw [hl]; exact lg_ne_bot hS _ _ _ (by show c.val * 512 + 0 ≤ _; omega))
      · rw [diagMax_right l r j (by omega)]
        exact colMax_real r ⟨j.val - 256, by omega⟩ (fun a => by rw [hr]; exact lg_ne_top hS _ _ _) 0 (by rw [hr]; exact lg_ne_bot hS _ _ _ (by show c.val * 512 + 0 ≤ _; omega))
    obtain ⟨M, hM⟩ := key
    exact ⟨M, (put_mx_in t.mx s _ j).trans hM⟩

theorem storeGrp_spec (hS : RealScores x) (D : Fin 8 → Option ℕ) (h : Fin 8) (k0 n : ℕ) (hk : k0 + n ≤ 2048) (hn : 0 < n) (hn' : n ≤ 1024) (hf : k0 + n ≤ c.val * 512) (s : Fin 2)
    (y : FVec Ideal (M2 n 512) .f32) (t : St Ideal) (hy : ∀ (r : Fin n) (j : Fin 512), y (ix2 r j) = lg x c h (k0 + r.val) j) (hI : Inv x c D t) :
    Tr d R x (storeGrp R s n hn hn' y) t fun _ t' => Inv x c D t' ∧ Slot x c (.grp h k0 n hk hn hn') s t' := by
  unfold storeGrp
  refine Tr.bind (Tr.stS (Tr.stX ⟨fun h' n e => head_of_eq (hI h' n e) (fun _ => rfl) fun _ _ => rfl, fun a b ha => ?_, fun j => ?_⟩))
  · exact (put_st_in t.st s y a b ⟨a.val, ha⟩ b rfl (Nat.zero_add _).symm).trans (hy _ _)
  · obtain ⟨M, hM⟩ := colMax_real y j (fun a => by rw [hy]; exact lg_ne_top hS _ _ _) ⟨0, hn⟩ (by rw [hy]; exact lg_ne_bot hS _ _ _ (by show k0 + 0 ≤ _; omega))
    exact ⟨M, (put_mx_in t.mx s _ j).trans hM⟩

/-! ## The schedule -/

/-- Around a program that ends under the invariant, the next item's slot is filled. -/
theorem around_spec (hS : RealScores x) (D : Fin 8 → Option ℕ) (nxt : Item) (hf : Fits c nxt) (s : Fin 2) (rest : Prog (TpuEff nD τ sig (Elt Ideal) Λ₀ .tc) PUnit) (t : St Ideal)
    (hr : Tr d R x rest t fun _ t' => Inv x c D t') :
    Tr d R x (around R c triMask lowMask nxt s rest) t fun _ t' => Inv x c D t' ∧ Slot x c nxt s t' := by
  cases nxt with
  | diag h =>
    unfold around
    refine Tr.bind (Tr.mono (issueHalf_spec h 256 0 (by decide) (by decide) (by decide) triMask t fun r j => by rw [triMask_apply, Nat.zero_add]) ?_)
    rintro l _ ⟨rfl, hl⟩
    refine Tr.bind (Tr.mono (issueHalf_spec h 512 256 (by decide) (by decide) (by decide) lowMask _ fun r j => by rw [lowMask_apply, Nat.add_comm]) ?_)
    rintro r _ ⟨rfl, hr'⟩
    refine Tr.bind (Tr.mono hr ?_)
    rintro _ t' hI
    exact storeDiag_spec hS D h s l r t' hl hr' hI
  | grp h k0 n hk hn hn' =>
    unfold around
    refine Tr.bind (Tr.mono (issueGrp_spec h k0 n hk hn hf t) ?_)
    rintro y _ ⟨rfl, hy⟩
    refine Tr.bind (Tr.mono hr ?_)
    rintro _ t' hI
    exact storeGrp_spec hS D h k0 n hk hn hn' hf s y t' hy hI

variable (c) in
/-- Every item continues what is done before it, and lies before the diagonal block. -/
def Ok : (Fin 8 → Option ℕ) → Item → List Item → Prop
  | D, cur, [] => Next D cur
  | D, cur, nxt :: more => Next D cur ∧ Fits c nxt ∧ Ok (step D cur) nxt more

theorem run_spec (hS : RealScores x) (more : List Item) : ∀ (D : Fin 8 → Option ℕ) (cur : Item) (s : Fin 2) (t : St Ideal), Ok c D cur more → Inv x c D t → Slot x c cur s t →
    Tr d R x (run R c triMask lowMask s cur more) t fun _ t' => Inv x c (more.foldl step (step D cur)) t' := by
  induction more with
  | nil =>
    intro D cur s t ho hI hs
    exact consume_spec hS D cur s t hI ho hs
  | cons nxt more ih =>
    intro D cur s t ho hI hs
    obtain ⟨h1, h2, h3⟩ := ho
    refine Tr.bind (Tr.mono (around_spec hS (step D cur) nxt h2 (1 - s) _ t (consume_spec hS D cur s t hI h1 hs)) ?_)
    rintro _ t' ⟨hI', hs'⟩
    exact ih (step D cur) nxt (1 - s) t' h3 hI' hs'

theorem sched_cons_spec (hS : RealScores x) (first : Item) (more : List Item) (hf : Fits c first) (ho : Ok c (fun _ => none) first more) (t : St Ideal) :
    Tr d R x (sched R c triMask lowMask (first :: more)) t fun _ t' => Inv x c (more.foldl step (step (fun _ => none) first)) t' := by
  refine Tr.bind (Tr.mono (around_spec hS (fun _ => none) first hf 0 _ t (Tr.pure fun h n e => absurd e (Option.some_ne_none n).symm)) ?_)
  rintro _ t' ⟨hI, hs⟩
  exact run_spec hS more _ first 0 t' ho hI hs

theorem items_cons (c : Fin 4) : ∃ first more, items c = first :: more ∧ Fits c first ∧ Ok c (fun _ => none) first more
    ∧ ∀ h, more.foldl step (step (fun _ => none) first) h = some (c.val * 512) := by
  match c with
  | 0 => exact ⟨_, _, rfl, trivial, by simp [Ok, Next, Fits], by decide⟩
  | 1 => exact ⟨_, _, rfl, trivial, by simp [Ok, Next, Fits, step, heads, Function.update], by decide⟩
  | 2 => exact ⟨_, _, rfl, trivial, by simp [Ok, Next, Fits, step, heads, Function.update], by decide⟩
  | 3 => exact ⟨_, _, rfl, trivial, by simp [Ok, Next, Fits, step, heads, Function.update], by decide⟩

/-- The schedule of query block `c` leaves every head with all the keys before the block and the diagonal block done. -/
theorem sched_spec (hS : RealScores x) (t : St Ideal) :
    Tr d R x (sched R c triMask lowMask (items c)) t fun _ t' => ∀ h, Head x c h (c.val * 512) t' := by
  obtain ⟨first, more, e, hf, ho, hd⟩ := items_cons c
  rw [e]
  exact Tr.mono (sched_cons_spec hS first more hf ho t) fun _ t' hI h => hI h _ (hd h)

end Cert.KernelIdeal.Attn
-- ==== Proof.Attn.Output.lean ====
/-
  The end of a query block: each head's accumulator over its last row, written out, does not depend on the running bound.
-/
module

public import proofs.«01_k».proof.Proof.Attn.Schedule

@[expose] public section

noncomputable section

namespace Cert.KernelIdeal.Attn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen
open scoped BigOperators

local notation "𝕄" => MT nD τ sig Unit (Elt Ideal) ℕ (UR sig nD τ) ℕ

/-- The values' last row of every head is one. -/
def Ones (x : Ins Ideal) : Prop := ∀ (h : Fin 8) (r : ℕ), r < 2048 → vl x h 64 r = 1

/-- Entry `e` of head `h` at query `j` of the block: the weighted values over the weights' sum. -/
def outAt (x : Ins Ideal) (c : Fin 4) (h : Fin 8) (e : Fin 80) (j : Fin 512) : EReal :=
  part x c 0 (c.val * 512) h e j * Ideal.div 1 (part x c 0 (c.val * 512) h 64 j)

/-- The block of the output. -/
def outBlk (x : Ins Ideal) (c : Fin 4) : S512x512.Idx → EReal := fun y =>
  outAt x c ⟨(y 1).val / 64, by have h : (y 1).val < 512 := (y 1).isLt; omega⟩ ⟨(y 1).val % 64, by omega⟩ (y 0)

variable {d : Dev nD} {R : Refs} {x : Ins Ideal} {c : Fin 4}

theorem outBlk_apply (h : Fin 8) (e : Fin 64) (j : Fin 512) : outBlk x c (ix2 j (⟨h.val * 64 + e.val, by omega⟩ : Fin 512)) = outAt x c h ⟨e.val, by omega⟩ j := by
  have h1 : (⟨(h.val * 64 + e.val) / 64, by omega⟩ : Fin 8) = h := Fin.ext (by show (h.val * 64 + e.val) / 64 = h.val; omega)
  have h2 : (⟨(h.val * 64 + e.val) % 64, by omega⟩ : Fin 80) = ⟨e.val, by omega⟩ := Fin.ext (by show (h.val * 64 + e.val) % 64 = e.val; omega)
  show outAt x c ⟨(h.val * 64 + e.val) / 64, _⟩ ⟨(h.val * 64 + e.val) % 64, _⟩ j = _
  rw [h1, h2]

/-- A sum of nonnegative reals, one of them positive, is a positive real. -/
theorem sum_pos_real {ι : Type} (s : Finset ι) (f : ι → EReal) (hf : ∀ i ∈ s, ∃ a : ℝ, 0 ≤ a ∧ f i = (a : EReal)) :
    ∃ a : ℝ, 0 ≤ a ∧ ∑ i ∈ s, f i = (a : EReal) ∧ ((∃ i ∈ s, 0 < f i) → 0 < a) := by
  classical
  induction s using Finset.induction_on with
  | empty => exact ⟨0, le_rfl, by simp, fun ⟨i, hi, _⟩ => absurd hi (Finset.notMem_empty i)⟩
  | insert i s hi ih =>
    obtain ⟨a, ha, e, hp⟩ := ih fun k hk => hf k (Finset.mem_insert_of_mem hk)
    obtain ⟨b, hb, e'⟩ := hf i (Finset.mem_insert_self i s)
    refine ⟨b + a, add_nonneg hb ha, by rw [Finset.sum_insert hi, e, e', EReal.coe_add], ?_⟩
    rintro ⟨k, hk, hpos⟩
    rcases Finset.mem_insert.1 hk with rfl | hk
    · rw [e'] at hpos
      exact add_pos_of_pos_of_nonneg (by exact_mod_cast hpos) ha
    · exact add_pos_of_nonneg_of_pos hb (hp ⟨k, hk, hpos⟩)

theorem wt_one (hS : RealScores x) (hO : Ones x) (M : ℝ) (h : Fin 8) (j : Fin 512) (r : ℕ) (hr : r < 2048) :
    ∃ a : ℝ, 0 ≤ a ∧ wt x c M h 64 j r = (a : EReal) ∧ (r ≤ c.val * 512 + j.val → 0 < a) := by
  unfold wt
  rw [hO h r hr, one_mul]
  by_cases hm : r ≤ c.val * 512 + j.val
  · obtain ⟨a, ha⟩ := hS h r j
    unfold lg
    rw [if_pos hm, ha, ← EReal.coe_sub, exp2_real]
    exact ⟨_, by positivity, rfl, fun _ => by positivity⟩
  · unfold lg
    rw [if_neg hm, EReal.bot_sub, Ideal.exp2_bot]
    exact ⟨0, le_rfl, rfl, fun e => absurd e hm⟩

/-- The last row of the accumulator is a positive real. -/
theorem part_pos (hS : RealScores x) (hO : Ones x) (M : ℝ) (h : Fin 8) (j : Fin 512) :
    ∃ a : ℝ, 0 < a ∧ part x c M (c.val * 512) h 64 j = (a : EReal) := by
  have hc := c.isLt
  obtain ⟨a, ha, e1, -⟩ := sum_pos_real (Finset.range (c.val * 512)) (wt x c M h 64 j) fun r hr => by
    obtain ⟨a, h1, h2, -⟩ := wt_one hS hO M h j r (by have := Finset.mem_range.1 hr; omega)
    exact ⟨a, h1, h2⟩
  obtain ⟨b, hb, e2, hp⟩ := sum_pos_real (Finset.range 512) (fun r => wt x c M h 64 j (c.val * 512 + r)) fun r hr => by
    obtain ⟨a, h1, h2, -⟩ := wt_one hS hO M h j (c.val * 512 + r) (by have := Finset.mem_range.1 hr; omega)
    exact ⟨a, h1, h2⟩
  refine ⟨a + b, add_pos_of_nonneg_of_pos ha (hp ⟨0, Finset.mem_range.2 (by decide), ?_⟩), by unfold part; rw [e1, e2, EReal.coe_add]⟩
  obtain ⟨a, -, h2, h3⟩ := wt_one (c := c) hS hO M h j (c.val * 512 + 0) (by omega)
  show 0 < wt x c M h 64 j (c.val * 512 + 0)
  rw [h2]
  exact_mod_cast h3 (by omega)

/-- The quotient is the same under every bound. -/
theorem outAt_eq (hS : RealScores x) (hO : Ones x) (M : ℝ) (h : Fin 8) (e : Fin 80) (j : Fin 512) :
    part x c M (c.val * 512) h e j * Ideal.div 1 (part x c M (c.val * 512) h 64 j) = outAt x c h e j := by
  obtain ⟨a, ha, e1⟩ := part_pos (c := c) hS hO M h j
  obtain ⟨b, hb, e2⟩ := part_pos (c := c) hS hO 0 h j
  have s1 := part_shift x c hS 0 M (c.val * 512) h e j
  have s2 := part_shift x c hS 0 M (c.val * 512) h 64 j
  rw [← EReal.coe_sub, exp2_real] at s1 s2
  have hp : (0 : ℝ) < (2 : ℝ) ^ ((0 : ℝ) - M) := by positivity
  generalize (2 : ℝ) ^ ((0 : ℝ) - M) = p at s1 s2 hp
  unfold outAt
  rw [e1, e2] at s2
  rw [← EReal.coe_mul] at s2
  have e3 : p * b = a := by exact_mod_cast s2
  rw [← s1, e1, e2, Ideal.div_coe ha.ne', Ideal.div_coe hb.ne', ← e3, one_mul, one_mul, mul_comm (p : EReal), mul_assoc, ← EReal.coe_mul]
  congr 2
  field_simp

theorem headOut_spec (hS : RealScores x) (hO : Ones x) (h : Fin 8) (t : St Ideal) (hH : ∀ h, Head x c h (c.val * 512) t) :
    Tr d R x (headOut R h) t fun y t' => t' = t ∧ ∀ (e : Fin 64) (j : Fin 512), y (ix2 e j) = outAt x c h ⟨e.val, by omega⟩ j := by
  unfold headOut
  refine Tr.bind (Tr.ld_acc (Tr.bind (Tr.ld_acc (Tr.pure ⟨rfl, fun e j => ?_⟩))))
  obtain ⟨M, -, hA⟩ := hH h j
  rw [norm_apply]
  refine Eq.trans (congrArg₂ (fun a b => a * Ideal.div 1 b) ?_ ?_) (outAt_eq hS hO M h ⟨e.val, by omega⟩ j)
  · exact (window3 (A := 8) (B := 80) (C := 512) (n := 64) (w := 512) t.acc _ e j h ⟨e.val, by omega⟩ j rfl (Nat.zero_add _).symm (Nat.zero_add _).symm).trans (hA _)
  · exact (window3 (A := 8) (B := 80) (C := 512) (n := 1) (w := 512) t.acc _ 0 j h 64 j rfl rfl (Nat.zero_add _).symm).trans (hA _)

/-- A program after one that is specified. -/
theorem Tr.then {α β : Type} {p : Prog (TpuEff nD τ sig (Elt Ideal) Λ₀ .tc) α} {f : α → Prog (TpuEff nD τ sig (Elt Ideal) Λ₀ .tc) β} {t : St Ideal} {Q : α → St Ideal → Prop}
    {Fr : sProp 𝕄} {E : Set ℕ} {K : β → sProp 𝕄} (hp : Tr d R x p t Q)
    (h : ∀ a t', Q a t' → iprop(Own d R x t' ∗ Fr) ⊢ wp frame (wpE (defs₀ (F := Ideal)) Variants.none (d : Thread nD τ) none) E (f a) K) :
    iprop(Own d R x t ∗ Fr) ⊢ wp frame (wpE (defs₀ (F := Ideal)) Variants.none (d : Thread nD τ) none) E (p >>= f) K :=
  (hp Fr E _ h).trans (BIBase.Entails.of_eq (wp_bind _ _ _ _ _ _).symm)

theorem assemble_outBlk (y : Fin 8 → FVec Ideal (M2 64 512) .f32) (hy : ∀ (h : Fin 8) (e : Fin 64) (j : Fin 512), y h (ix2 e j) = outAt x c h ⟨e.val, by omega⟩ j) :
    assemble (F := Ideal) y = outBlk x c := by
  suffices hh : ∀ j k : Fin 512, assemble (F := Ideal) y (ix2 j k) = outBlk x c (ix2 j k) from
    funext fun z => (congrArg _ (eq_ix2 (n0 := 512) (n1 := 512) z)).trans ((hh (z 0) (z 1)).trans (congrArg _ (eq_ix2 (n0 := 512) (n1 := 512) z).symm))
  intro j k
  have hk : (⟨(⟨k.val / 64, by omega⟩ : Fin 8).val * 64 + (⟨k.val % 64, by omega⟩ : Fin 64).val, by show k.val / 64 * 64 + k.val % 64 < 512; omega⟩ : Fin 512) = k :=
    Fin.ext (by show k.val / 64 * 64 + k.val % 64 = k.val; omega)
  have e1 := assemble_apply y j ⟨k.val / 64, by omega⟩ ⟨k.val % 64, by omega⟩
  have e2 := outBlk_apply (x := x) (c := c) ⟨k.val / 64, by omega⟩ ⟨k.val % 64, by omega⟩ j
  rw [hk] at e1 e2
  rw [e1, e2, hy]

theorem put_whole {α : Type} (X w : S512x512.Idx → α) : VecWindow.put X ![0, 0] S512x512.size w = w := by
  funext y
  have h : ∀ a : Fin 2, (![0, 0] : Fin 2 → ℕ) a ≤ (y a).val ∧ (y a).val < (![0, 0] : Fin 2 → ℕ) a + S512x512.size a := fun a => by
    have := (y a).isLt
    match a with
    | 0 => exact ⟨Nat.zero_le _, by show (y 0).val < 0 + 512; have : (y 0).val < 512 := (y 0).isLt; omega⟩
    | 1 => exact ⟨Nat.zero_le _, by show (y 1).val < 0 + 512; have : (y 1).val < 512 := (y 1).isLt; omega⟩
  refine (dif_pos h).trans (congrArg w (funext fun a : Fin 2 => Fin.ext ?_))
  match a with
  | 0 => rfl
  | 1 => rfl

/-- With every head done, the output block ends at the quotients. -/
theorem output_spec (hS : RealScores x) (hO : Ones x) (t : St Ideal) (hH : ∀ h, Head x c h (c.val * 512) t) (X : S512x512.Idx → EReal) (Fr : sProp 𝕄) (E : Set ℕ) (K : PUnit → sProp 𝕄)
    (hK : iprop(Own d R x t ∗ owns (d : Thread nD τ) R.o fullShare (outBlk x c) ∗ Fr) ⊢ K ⟨⟩) :
    iprop(Own d R x t ∗ owns (d : Thread nD τ) R.o fullShare X ∗ Fr) ⊢ wp frame (wpE (defs₀ (F := Ideal)) Variants.none (d : Thread nD τ) none) E (output R) K := by
  unfold output
  refine Tr.then (headOut_spec hS hO 0 t hH) ?_
  rintro y0 _ ⟨rfl, h0⟩
  refine Tr.then (headOut_spec hS hO 1 _ hH) ?_
  rintro y1 _ ⟨rfl, h1⟩
  refine Tr.then (headOut_spec hS hO 2 _ hH) ?_
  rintro y2 _ ⟨rfl, h2⟩
  refine Tr.then (headOut_spec hS hO 3 _ hH) ?_
  rintro y3 _ ⟨rfl, h3⟩
  refine Tr.then (headOut_spec hS hO 4 _ hH) ?_
  rintro y4 _ ⟨rfl, h4⟩
  refine Tr.then (headOut_spec hS hO 5 _ hH) ?_
  rintro y5 _ ⟨rfl, h5⟩
  refine Tr.then (headOut_spec hS hO 6 _ hH) ?_
  rintro y6 _ ⟨rfl, h6⟩
  refine Tr.then (headOut_spec hS hO 7 _ hH) ?_
  rintro y7 t ⟨rfl, h7⟩
  have hy : assemble (F := Ideal) ![y0, y1, y2, y3, y4, y5, y6, y7] = outBlk x c := assemble_outBlk _ fun h => by
    match h with
    | 0 => exact h0
    | 1 => exact h1
    | 2 => exact h2
    | 3 => exact h3
    | 4 => exact h4
    | 5 => exact h5
    | 6 => exact h6
    | 7 => exact h7
  rw [hy, wp_bind]
  iintro ⟨HW, HO, HF⟩
  iapply (wp_ld (d := d) R.o ![0, 0] ![512, 512] (inb2 (by decide) (by decide)) (pos2 (by decide) (by decide)) X (iprop(Own d R x t ∗ Fr)) E _ (by
    unfold owns
    iintro ⟨⟨%f, %hf, H⟩, HW, HF⟩
    iapply (wp_store (defs := defs₀ (F := Ideal)) Variants.none (d : Thread nD τ) none E (m := R.o) (r := Rect.unit (s := S512x512) ![0, 0] S512x512.size inb_S512x512_S512x512_0_0) (w := outBlk x c) (Mk := Finset.univ)
      (hx := View.stores_vmem h_S512x512 (R.ho.storeExact_slice rfl _ packedbf16_S512x512_S512x512_0_0) (fun _ => rfl)) (hm := .inl rfl) (k := Prog.ret) (f := f) (S := R.o.view.set) (Q := K) (R.o.setOn_access_subset _ _)) $$ H
    iintro H
    rw [wp_ret]
    iapply fupd_intro
    iapply hK
    isplitl [HW]; · iexact HW
    isplitl [H]
    · unfold owns; iexists _; isplitr
      swap; · iexact H
      · ipureintro
        have e := View.read_writes_cons_put (Val := Elt Ideal) R.o.view f inb_S512x512_S512x512_0_0 (outBlk x c) [] rfl
        exact e.trans (put_whole _ _)
    · iexact HF))
  isplitl [HO]; · iexact HO
  isplitl [HW]; · iexact HW
  iexact HF

end Cert.KernelIdeal.Attn
-- ==== Proof.Attn.Run.lean ====
/-
  The pipelined call run to its end: each grid point leaves its output block at the quotients of its staged inputs,
  given real scores and a row of ones under the values.
-/
module

public import proofs.«01_k».proof.Proof.Attn.Body
public import proofs.«01_k».proof.Proof.Attn.Output
public import proofs.«01_k».proof.Proof.Gen.KernelIdeal.Value

@[expose] public section

noncomputable section

namespace Cert.KernelIdeal.Attn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the staged inputs hold at point `t`. -/
def ins (c : Dev nD) (t : Fin cfg0.N) : Ins Ideal := ⟨iblk m c 0 t, iblk m c 1 t, iblk m c 2 t⟩

/-- The query block of point `t`. -/
def qblk (t : Fin cfg0.N) : Fin 4 := ⟨t.val % 4, by omega⟩

theorem coord2 : ∀ t : Fin cfg0.N, (grid0.coords t 2).val = t.val % 4 := (by decide +kernel : ∀ t : Fin grid0.N, (grid0.coords t 2).val = t.val % 4)

/-- The proof data: the output's buffer holds the block of quotients after each point. -/
def valueDat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (ins m c t) (qblk t)
  Φ _ := Pipeline.ΦA spec0 c
  q _ := fullShare
  owed _ := 0

theorem entry_arrays (c : Dev nD) (w : Fin cfg0.W) : (valueDat m 0 c).A w = V m c (Pipeline.arrRef spec0 w) := by
  dsimp only [valueDat]

theorem left_q (c : Dev nD) (t : Fin cfg0.N) : (valueDat m 0 c).after 0 t = iblk m c 0 t := by dsimp only [valueDat]
theorem left_k (c : Dev nD) (t : Fin cfg0.N) : (valueDat m 0 c).after 1 t = iblk m c 1 t := by dsimp only [valueDat]
theorem left_v (c : Dev nD) (t : Fin cfg0.N) : (valueDat m 0 c).after 2 t = iblk m c 2 t := by dsimp only [valueDat]
theorem left_o (c : Dev nD) (t : Fin cfg0.N) : (valueDat m 0 c).after 3 t = outBlk (ins m c t) (qblk t) := by dsimp only [valueDat]

theorem found_q (c : Dev nD) (t : Fin cfg0.N) (d) : (valueDat m 0 c).before 0 t d = iblk m c 0 t :=
  before0_0_of m (valueDat m 0 c) (entry_arrays m c 0) (left_q m c) t d
theorem found_k (c : Dev nD) (t : Fin cfg0.N) (d) : (valueDat m 0 c).before 1 t d = iblk m c 1 t :=
  before0_1_of m (valueDat m 0 c) (entry_arrays m c 1) (left_k m c) t d
theorem found_v (c : Dev nD) (t : Fin cfg0.N) (d) : (valueDat m 0 c).before 2 t d = iblk m c 2 t :=
  before0_2_of m (valueDat m 0 c) (entry_arrays m c 2) (left_v m c) t d

/-- The buffers the body is called on at point `t`. -/
abbrev refs (t : Fin cfg0.N) : Refs := ⟨ms0_0 t, ms0_1 t, ms0_2 t, ms0_3 t, hs0_3 t, scM0_0, scM0_1, scM0_2, scM0_3⟩

/-- The whole body, from any scratch contents. -/
theorem body_spec (d : Dev nD) (t : Fin cfg0.N) (x : Ins Ideal) (hS : RealScores x) (hO : Ones x) (s : St Ideal) (X : S512x512.Idx → EReal) (Fr : sProp 𝕄) (K : PUnit → sProp 𝕄)
    (hK : ∀ s', iprop(Own d (refs t) x s' ∗ owns (d : Thread nD τ) (ms0_3 t) fullShare (outBlk x (qblk t)) ∗ Fr) ⊢ K ⟨⟩) :
    iprop(Own d (refs t) x s ∗ owns (d : Thread nD τ) (ms0_3 t) fullShare X ∗ Fr) ⊢ wp frame (wpE (defs₀ (F := Ideal)) Variants.none (d : Thread nD τ) none) Set.univ (bodyAt0 t) K := by
  have e := body_eq (F := Ideal) (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _) (qblk t) (coord2 t)
  refine BIBase.Entails.trans ?_ (BIBase.Entails.of_eq (congrArg (fun p => wp frame (wpE (defs₀ (F := Ideal)) Variants.none (d : Thread nD τ) none) Set.univ p K) e.symm))
  refine Tr.then (sched_spec hS s) ?_
  rintro _ s' hH
  exact output_spec hS hO s' hH X Fr Set.univ K (hK s')

/-- What the body is called with at point `t`, -/
def before (c : Dev nD) (t : Fin cfg0.N) : sProp 𝕄 :=
  iprop((valueDat m 0 c).Φ t.castSucc ∗ (valueDat m 0 c).owesAt () t.castSucc
    ∗ (∃ d, owns (c : Thread nD τ) (ms0_0 t) fullShare ((valueDat m 0 c).before 0 t d))
    ∗ (∃ d, owns (c : Thread nD τ) (ms0_1 t) fullShare ((valueDat m 0 c).before 1 t d))
    ∗ (∃ d, owns (c : Thread nD τ) (ms0_2 t) fullShare ((valueDat m 0 c).before 2 t d))
    ∗ (∃ d, owns (c : Thread nD τ) (ms0_3 t) fullShare ((valueDat m 0 c).before 3 t d)))

/-- and what it returns. -/
def after (c : Dev nD) (t : Fin cfg0.N) : sProp 𝕄 :=
  iprop((valueDat m 0 c).Φ t.succ ∗ (valueDat m 0 c).owesAt () t.succ
    ∗ owns (c : Thread nD τ) (ms0_0 t) fullShare ((valueDat m 0 c).after 0 t)
    ∗ owns (c : Thread nD τ) (ms0_1 t) fullShare ((valueDat m 0 c).after 1 t)
    ∗ owns (c : Thread nD τ) (ms0_2 t) fullShare ((valueDat m 0 c).after 2 t)
    ∗ owns (c : Thread nD τ) (ms0_3 t) fullShare ((valueDat m 0 c).after 3 t))

variable {m}

theorem body_at (hS : ∀ c t, RealScores (ins m c t)) (hO : ∀ c t, Ones (ins m c t)) (c : Dev nD) (t : Fin cfg0.N) :
    before m c t ⊢ wp frame (wpE (defs₀ (F := Ideal)) Variants.none c none) Set.univ (bodyAt0 t) (fun _ => after m c t) := by
  unfold before after
  simp only [found_q, found_k, found_v]
  rw [show (valueDat m 0 c).Φ t.succ = (valueDat m 0 c).Φ t.castSucc from rfl,
    show (valueDat m 0 c).owesAt () t.succ = (valueDat m 0 c).owesAt () t.castSucc from rfl,
    left_q, left_k, left_v, left_o]
  rw [show (valueDat m 0 c).Φ t.castSucc = Pipeline.ΦA spec0 c from rfl, PhiA0_eq]
  iintro ⟨⟨⟨⟨%f0, HS0⟩, ⟨%f1, HS1⟩, ⟨%f2, HS2⟩, ⟨%f3, HS3⟩⟩, Hg⟩, Ho, ⟨%d0, H0⟩, ⟨%d1, H1⟩, ⟨%d2, H2⟩, ⟨%d3, H3⟩⟩
  iapply (body_spec c t (ins m c t) (hS c t) (hO c t) ⟨f0, f1, f2, f3⟩ _ (iprop((valueDat m 0 c).owesAt () t.castSucc ∗ _)) _ (by
    intro s'
    unfold Own
    iintro ⟨⟨H0, H1, H2, HS0, HS1, HS2, HS3⟩, H3, Ho, Hg⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    iexact H3))
  isplitl [H0 H1 H2 HS0 HS1 HS2 HS3]
  · unfold Own
    isplitl [H0]; · iexact H0
    isplitl [H1]; · iexact H1
    isplitl [H2]; · iexact H2
    isplitl [HS0]; · iexact HS0
    isplitl [HS1]; · iexact HS1
    isplitl [HS2]; · iexact HS2
    iexact HS3
  isplitl [H3]; · iexact H3
  isplitl [Ho]; · iexact Ho
  iexact Hg

theorem obligation (hS : ∀ c t, RealScores (ins m c t)) (hO : ∀ c t, Ones (ins m c t)) (c : Dev nD) :
    BodyObligation (valueDat m 0 c) (defs₀ (F := Ideal)) Variants.none () Set.univ := fun t => by
  rw [bigSep_W0, bigSep_W0, defs₀_row]
  exact triple_restated (body_at hS hO c t) rfl .rfl fun _ => .rfl

-- the launch theorem's implicit arguments are found by unfolding definitions in types
set_option backward.isDefEq.respectTransparency.types false in
/-- The run ends, with every array at what the blocks make it. -/
theorem run_value (hS : ∀ c t, RealScores (ins m c t)) (hO : ∀ c t, Ones (ins m c t)) :
    θ_run defs (onTc (τ := τ) (main (F := Ideal))) (s₀ m ρ) (fun r => (Pipeline.FramePost cfgs (valueDat m) 0 (V m)) r ∧ r.2.sem = fun _ => 0) :=
  Pipeline.θ_run_frame (Q' := _) cfgs (valueDat m) (0 : Fin 1) launch0 defs₀ Variants.none m ρ main
    (hbody := fun c => (obligation hS hO c).loose) (hshare := fun c => (valueDat m 0 c).share_full fun _ => rfl)
    (howed := fun _ _ => rfl) (V := V m) (hmain := hmain m Variants.none) (hA := entry_arrays m) (hΦ := fun _ _ => rfl)

/-- Block `t` of the result is that point's quotients. -/
theorem block_value (c : Dev nD) (t : Fin cfg0.N) :
    ((cfg0.win 3).blk t).view.read (Elt Ideal) ((valueDat m 0 c).arrAt 3 cfg0.N) = (cfg0.win 3).cut (grid0.coords t) (outBlk (ins m c t) (qblk t)) := by
  refine ((valueDat m 0 c).read_blk_arrAt_eq_flushed 3 Value.disjoint3 cfg0.N t t.isLt (flush0_3 t)).trans ?_
  show (cfg0.win 3).cut (grid0.coords t) ((valueDat m 0 c).after 3 t) = _
  rw [left_o]

/-- The run ends with the result array read block by block and the arguments unchanged. -/
theorem run_result (hS : ∀ c t, RealScores (ins m c t)) (hO : ∀ c t, Ones (ins m c t)) :
    θ_run defs (onTc (τ := τ) (main (F := Ideal))) ⟨m, fun _ => 0, ρ⟩ fun r => ∀ c : Dev nD,
      r.2.mem ((c : Thread nD τ).loc main_v30) = (valueDat m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (run_value ρ hS hO)

end Cert.KernelIdeal.Attn
-- ==== Proof.Attn.Host.lean ====
/-
  What the host code before the call stages: the rows of queries, of keys and of transposed values, read at an index.
-/
module

public import proofs.«01_k».proof.Proof.Gen.KernelIdeal.Value
public import Idealize.ShloMosaic.Lib.StableHlo.ReadAt
public import Idealize.ShloMosaic.Lib.Pointwise

@[expose] public section

noncomputable section

namespace Cert.KernelIdeal.Attn

open Idealize.ShloMosaic Idealize.ShloMosaic.TcCoe
open Cert.KernelIdeal.Gen

variable (m : (ℓ : Loc nD τ sig) → Buf (Elt Ideal) ℓ)

/-- The base-two logarithm of `e`, as a real number. -/
def lg2 : ℝ := 1 / Real.log 2

/-- The queries, keys, values and running decay sums that the program is given. -/
def qA (c : Dev nD) (b : Fin 16) (t : Fin 2048) (h : Fin 8) (l : Fin 64) : EReal :=
  (m (c, Proc.tc.devRef main_arg0) : S16x2048x8x64.Idx → EReal) (ix4 b t h l)
@[inherit_doc qA] def kA (c : Dev nD) (b : Fin 16) (t : Fin 2048) (h : Fin 8) (l : Fin 64) : EReal :=
  (m (c, Proc.tc.devRef main_arg1) : S16x2048x8x64.Idx → EReal) (ix4 b t h l)
@[inherit_doc qA] def vA (c : Dev nD) (b : Fin 16) (t : Fin 2048) (h : Fin 8) (l : Fin 64) : EReal :=
  (m (c, Proc.tc.devRef main_arg2) : S16x2048x8x64.Idx → EReal) (ix4 b t h l)
@[inherit_doc qA] def gA (c : Dev nD) (b : Fin 16) (t : Fin 2048) (h : Fin 8) : EReal :=
  (m (c, Proc.tc.devRef main_arg3) : S16x2048x8.Idx → EReal) (ix3 b t h)

theorem two_bits : Ideal.ofBits .f32 0x40000000#32 = ((2 : ℝ) : EReal) := by
  simp [Ideal.ofBits, Ideal.ieee]
  norm_num
  rw [← EReal.coe_mul]; norm_num

theorem eighth_bits : Ideal.ofBits .f32 0x3E000000#32 = ((1 / 8 : ℝ) : EReal) := by
  simp [Ideal.ofBits, Ideal.ieee]
  norm_num
  rw [← EReal.coe_mul]; norm_num

theorem lg2_eq : Ideal.div 1 (Ideal.log (Ideal.ofBits .f32 0x40000000#32)) = ((lg2 : ℝ) : EReal) := by
  have h2 : Real.log 2 ≠ 0 := (Real.log_pos (by norm_num)).ne'
  have hlog : Ideal.log ((2 : ℝ) : EReal) = ((Real.log 2 : ℝ) : EReal) := by
    show (if (2 : ℝ) ≤ 0 then (⊥ : EReal) else ((Real.log 2 : ℝ) : EReal)) = _
    rw [if_neg (by norm_num)]
  rw [two_bits, hlog, Ideal.div_coe h2, one_mul, lg2]

theorem pad_zero : (FloatOps.sitofp (F := Ideal) FTy.f32 (0#32 : BitVec 32) : EReal) = 0 := by
  show (((0#32 : BitVec 32).toInt : ℝ) : EReal) = 0
  simp

/-- A staged query row: the query scaled, then three ones, then zeros. -/
theorem qRow_at (c : Dev nD) (b : Fin 16) (t : Fin 2048) (h : Fin 8) (l : Fin 128) :
    (V m c main_v26 : S32768x1024.Idx → EReal) (ix2 ⟨b.val * 2048 + t.val, by omega⟩ ⟨h.val * 128 + l.val, by omega⟩)
      = if hl : l.val < 64 then qA m c b t h ⟨l.val, hl⟩ * (((1 / 8 : ℝ) : EReal) * ((lg2 : ℝ) : EReal))
        else if l.val < 67 then 1 else 0 := by
  have hb : (b.val * 2048 + t.val) / 2048 = b.val := by omega
  have ht : (b.val * 2048 + t.val) % 2048 = t.val := by omega
  have hh : (h.val * 128 + l.val) / 128 = h.val := by omega
  have hl : (h.val * 128 + l.val) % 128 = l.val := by omega
  unfold V
  after_reads_at
  simp only [hb, ht, hh, hl, Fin.eta]
  split_ifs
  all_goals try (exfalso; omega)
  all_goals try after_reads_at
  · simp only [qA, lg2_eq, eighth_bits]
  · exact (if_pos (by omega)).symm
  · exact pad_zero

/-- A staged key row: the key, then the scaled decay sum and its two remainders, then zeros. -/
theorem kRow_at (c : Dev nD) (b : Fin 16) (t : Fin 2048) (h : Fin 8) (l : Fin 128) :
    (V m c main_v29 : S32768x1024.Idx → EReal) (ix2 ⟨b.val * 2048 + t.val, by omega⟩ ⟨h.val * 128 + l.val, by omega⟩)
      = if hl : l.val < 64 then kA m c b t h ⟨l.val, hl⟩
        else if l.val = 64 then gA m c b t h * -((lg2 : ℝ) : EReal)
        else if l.val = 65 then gA m c b t h * -((lg2 : ℝ) : EReal) - gA m c b t h * -((lg2 : ℝ) : EReal)
        else if l.val = 66 then (gA m c b t h * -((lg2 : ℝ) : EReal) - gA m c b t h * -((lg2 : ℝ) : EReal))
          - (gA m c b t h * -((lg2 : ℝ) : EReal) - gA m c b t h * -((lg2 : ℝ) : EReal))
        else 0 := by
  have hb : (b.val * 2048 + t.val) / 2048 = b.val := by omega
  have ht : (b.val * 2048 + t.val) % 2048 = t.val := by omega
  have hh : (h.val * 128 + l.val) / 128 = h.val := by omega
  have hl : (h.val * 128 + l.val) % 128 = l.val := by omega
  unfold V
  after_reads_at
  simp only [hb, ht, hh, hl, Fin.eta]
  split_ifs
  all_goals try (exfalso; omega)
  all_goals try after_reads_at
  · simp only [kA]
  · simp only [gA, lg2_eq]; exact (if_pos (by omega)).symm
  · simp only [gA, lg2_eq]; rw [if_neg (by omega), if_pos (by omega)]
  · simp only [gA, lg2_eq]; rw [if_neg (by omega), if_neg (by omega), if_pos (by omega)]
  · exact pad_zero

/-- The staged values, transposed: the value, then a one, then zeros. -/
theorem vCol_at (c : Dev nD) (b : Fin 16) (t : Fin 2048) (h : Fin 8) (l : Fin 80) :
    (V m c main_v23 : S16x640x2048.Idx → EReal) (ix3 b ⟨h.val * 80 + l.val, by omega⟩ t)
      = if hl : l.val < 64 then vA m c b t h ⟨l.val, hl⟩ else if l.val = 64 then 1 else 0 := by
  have hh : (h.val * 80 + l.val) / 80 = h.val := by omega
  have hl : (h.val * 80 + l.val) % 80 = l.val := by omega
  unfold V
  after_reads_at
  simp only [hh, hl, Fin.eta]
  split_ifs
  all_goals try (exfalso; omega)
  all_goals try after_reads_at
  · simp only [vA]
  · exact (if_pos (by omega)).symm
  · exact pad_zero

end Cert.KernelIdeal.Attn
-- ==== Proof.Attn.Blocks.lean ====
/-
  The staged blocks of a grid point as parts of the arrays that the host code stages, and the result array read by rows.
-/
module

public import proofs.«01_k».proof.Proof.Attn.Run
public import proofs.«01_k».proof.Proof.Attn.Host
public import Idealize.ShloMosaic.Lib.Pipeline.ValueKit

@[expose] public section

noncomputable section

namespace Cert.KernelIdeal.Attn

open Idealize.ShloMosaic Idealize.ShloMosaic.TcCoe
open Cert.KernelIdeal.Gen

variable (m : (ℓ : Loc nD τ sig) → Buf (Elt Ideal) ℓ)

/-- The two spellings of a matrix index. -/
theorem vix2_eq {a b : ℕ} (i : Fin a) (j : Fin b) : ValueIdx.ix2 i j = ix2 i j := by
  funext d; match d with | ⟨0, _⟩ => rfl | ⟨1, _⟩ => rfl

/-- The two spellings of an index of rank three. -/
theorem vix3_eq {a b c : ℕ} (i : Fin a) (j : Fin b) (k : Fin c) : ValueIdx.ix3 i j k = ix3 i j k := by
  funext d; match d with | ⟨0, _⟩ => rfl | ⟨1, _⟩ => rfl | ⟨2, _⟩ => rfl

theorem q_index : ∀ t : Fin cfg0.N, (cfg0.win 0).index t 0 = t.val ∧ (cfg0.win 0).index t 1 = 0 := by decide +kernel
theorem k_index : ∀ t : Fin cfg0.N, (cfg0.win 1).index t 0 = t.val / 4 ∧ (cfg0.win 1).index t 1 = 0 := by decide +kernel
theorem v_index : ∀ t : Fin cfg0.N, (cfg0.win 2).index t 0 = t.val / 4 ∧ (cfg0.win 2).index t 1 = 0 ∧ (cfg0.win 2).index t 2 = 0 := by decide +kernel
theorem o_index : ∀ t : Fin cfg0.N, (cfg0.win 3).index t 0 = t.val ∧ (cfg0.win 3).index t 1 = 0 := by decide +kernel

/-- The point of batch `b` and query block `i`. -/
def pt (b : Fin 16) (i : Fin 4) : Fin cfg0.N := ⟨b.val * 4 + i.val, by show _ < 64; omega⟩

theorem qblk_pt (b : Fin 16) (i : Fin 4) : qblk (pt b i) = i := Fin.ext (by show (b.val * 4 + i.val) % 4 = i.val; omega)

theorem q_block (c : Dev nD) (b : Fin 16) (i : Fin 4) (j : Fin 512) (l : Fin 1024) :
    (ins m c (pt b i)).q (ValueIdx.ix2 j l) = (V m c main_v26 : S32768x1024.Idx → EReal) (ix2 ⟨b.val * 2048 + (i.val * 512 + j.val), by omega⟩ l) := by
  rw [vix2_eq]
  have e := q_index (pt b i)
  have e0 : (pt b i).val = b.val * 4 + i.val := rfl
  show iblk m c 0 (pt b i) (ix2 j l) = _
  blk_ext [iblk, e.1, e.2]

theorem k_block (c : Dev nD) (b : Fin 16) (i : Fin 4) (r : Fin 2048) (l : Fin 1024) :
    (ins m c (pt b i)).k (ValueIdx.ix2 r l) = (V m c main_v29 : S32768x1024.Idx → EReal) (ix2 ⟨b.val * 2048 + r.val, by omega⟩ l) := by
  rw [vix2_eq]
  have e := k_index (pt b i)
  have e0 : (pt b i).val = b.val * 4 + i.val := rfl
  show iblk m c 1 (pt b i) (ix2 r l) = _
  blk_ext [iblk, e.1, e.2]

theorem v_block (c : Dev nD) (b : Fin 16) (i : Fin 4) (l : Fin 640) (r : Fin 2048) :
    (ins m c (pt b i)).v (ValueIdx.ix3 (0 : Fin 1) l r) = (V m c main_v23 : S16x640x2048.Idx → EReal) (ix3 b l r) := by
  rw [vix3_eq]
  have e := v_index (pt b i)
  have e0 : (pt b i).val = b.val * 4 + i.val := rfl
  show iblk m c 2 (pt b i) (ix3 (0 : Fin 1) l r) = _
  blk_ext [iblk, e.1, e.2.1, e.2.2]

/-- The result array at a row and a column is the block's quotient. -/
theorem result_at (c : Dev nD) (b : Fin 16) (i : Fin 4) (j : Fin 512) (l : Fin 512) :
    ((valueDat m 0 c).arrAt 3 cfg0.N : S32768x512.Idx → EReal) (ix2 ⟨b.val * 2048 + (i.val * 512 + j.val), by omega⟩ l)
      = outBlk (ins m c (pt b i)) i (ValueIdx.ix2 j l) := by
  have e := o_index (pt b i)
  have e0 : (pt b i).val = b.val * 4 + i.val := rfl
  have h := congrFun (block_value (m := m) c (pt b i)) (ix2 j l)
  rw [qblk_pt] at h
  rw [vix2_eq]
  refine Eq.trans ?_ (h.trans ?_)
  · blk_ext [e.1, e.2]
  · blk_ext

end Cert.KernelIdeal.Attn
-- ==== Proof.Attn.Weights.lean ====
/-
  The kernel's block as a causal softmax: where queries, keys and decay sums are real numbers, each entry of a block is
  the sum of the values under weights `exp s`, `s` the scaled product of query and key less the key's decay sum,
  divided by the sum of the weights.
-/
module

public import proofs.«01_k».proof.Proof.Attn.Blocks

@[expose] public section

noncomputable section

namespace Cert.KernelIdeal.Attn

open Idealize.ShloMosaic Idealize.ShloMosaic.TcCoe
open Cert.KernelIdeal.Gen

variable (m : (ℓ : Loc nD τ sig) → Buf (Elt Ideal) ℓ)

/-- The real numbers that the queries, the keys and the decay sums are. -/
structure Reals (c : Dev nD) where
  q : Fin 16 → Fin 2048 → Fin 8 → Fin 64 → ℝ
  k : Fin 16 → Fin 2048 → Fin 8 → Fin 64 → ℝ
  g : Fin 16 → Fin 2048 → Fin 8 → ℝ
  hq : ∀ b t h l, qA m c b t h l = ((q b t h l : ℝ) : EReal)
  hk : ∀ b t h l, kA m c b t h l = ((k b t h l : ℝ) : EReal)
  hg : ∀ b t h, gA m c b t h = ((g b t h : ℝ) : EReal)

/-- A sum of reals, as a sum of extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- A sum over the lanes of a head whose terms vanish past the bias lane. -/
theorem lane_sum (A : Fin 64 → EReal) (B : EReal) (f : Fin 128 → EReal)
    (hA : ∀ (l : Fin 128) (hl : l.val < 64), f l = A ⟨l.val, hl⟩) (hB : ∀ l : Fin 128, l.val = 64 → f l = B)
    (hZ : ∀ l : Fin 128, 64 < l.val → f l = 0) : ∑ l, f l = ∑ l, A l + B := by
  rw [show ∑ l : Fin 128, f l = ∑ l : Fin (64 + 64), f l from rfl, Fin.sum_univ_add]
  congr 1
  · exact Finset.sum_congr rfl fun l _ => hA _ l.isLt
  · rw [Finset.sum_eq_single (0 : Fin 64)]
    · exact hB _ rfl
    · intro l _ hl
      refine hZ _ ?_
      have : l.val ≠ 0 := fun h => hl (Fin.ext h)
      show 64 < 64 + l.val
      omega
    · exact fun h => absurd (Finset.mem_univ _) h

variable {m}

/-- The query's score against a key, less the key's decay sum. -/
def Reals.score {c : Dev nD} (R : Reals m c) (b : Fin 16) (h : Fin 8) (t r : Fin 2048) : ℝ :=
  (∑ l, R.q b t h l * R.k b r h l) * (1 / 8) - R.g b r h

/-- A key's weight for a query: zero for a key after the query. -/
def Reals.weight {c : Dev nD} (R : Reals m c) (b : Fin 16) (h : Fin 8) (t r : Fin 2048) : ℝ :=
  if r.val ≤ t.val then Real.exp (R.score b h t r) else 0

/-- A query's place in the sequence. -/
abbrev qpos (i : Fin 4) (j : Fin 512) : Fin 2048 := ⟨i.val * 512 + j.val, by omega⟩

theorem sc_eq {c : Dev nD} (R : Reals m c) (b : Fin 16) (i : Fin 4) (h : Fin 8) (r : ℕ) (hr : r < 2048) (j : Fin 512) :
    sc (ins m c (pt b i)) h r j = ((lg2 * R.score b h (qpos i j) ⟨r, hr⟩ : ℝ) : EReal) := by
  unfold sc
  rw [dif_pos hr]
  rw [lane_sum (fun l => ((R.k b ⟨r, hr⟩ h l * (R.q b (qpos i j) h l * (1 / 8 * lg2)) : ℝ) : EReal)) ((R.g b ⟨r, hr⟩ h * -lg2 : ℝ) : EReal)]
  · rw [← coe_sum, ← EReal.coe_add]
    congr 1
    rw [Reals.score, mul_sub, ← mul_assoc, Finset.mul_sum, Finset.sum_mul, sub_eq_add_neg]
    congr 1
    · exact Finset.sum_congr rfl fun l _ => by ring
    · ring
  · intro l hl
    rw [k_block, q_block, kRow_at m c b ⟨r, hr⟩ h l, qRow_at m c b (qpos i j) h l, dif_pos hl, dif_pos hl, R.hk, R.hq, ← EReal.coe_mul, ← EReal.coe_mul, ← EReal.coe_mul]
  · intro l hl
    rw [k_block, q_block, kRow_at m c b ⟨r, hr⟩ h l, qRow_at m c b (qpos i j) h l, dif_neg (by omega), if_pos hl, dif_neg (by omega), if_pos (by omega), R.hg, mul_one, ← EReal.coe_neg, ← EReal.coe_mul]
  · intro l hl
    rw [k_block, q_block, kRow_at m c b ⟨r, hr⟩ h l, qRow_at m c b (qpos i j) h l, dif_neg (by omega), if_neg (by omega), dif_neg (by omega), R.hg, ← EReal.coe_neg, ← EReal.coe_mul, ← EReal.coe_sub, ← EReal.coe_sub, sub_self, sub_self]
    simp

theorem pt_cover (t : Fin cfg0.N) : ∃ b i, t = pt b i := by
  have h64 : t.val < 64 := t.isLt
  exact ⟨⟨t.val / 4, by omega⟩, ⟨t.val % 4, by omega⟩, Fin.ext (by show t.val = t.val / 4 * 4 + t.val % 4; omega)⟩

theorem real_scores {c : Dev nD} (R : Reals m c) (t : Fin cfg0.N) : RealScores (ins m c t) := by
  obtain ⟨b, i, rfl⟩ := pt_cover t
  intro h r j
  by_cases hr : r < 2048
  · exact ⟨_, sc_eq R b i h r hr j⟩
  · exact ⟨0, by unfold sc; rw [dif_neg hr]; rfl⟩

theorem ones (c : Dev nD) (t : Fin cfg0.N) : Ones (ins m c t) := by
  obtain ⟨b, i, rfl⟩ := pt_cover t
  intro h r hr
  unfold vl
  rw [dif_pos hr, v_block, vCol_at m c b ⟨r, hr⟩ h 64, dif_neg (by decide), if_pos (by decide)]

theorem vl_eq (c : Dev nD) (b : Fin 16) (i : Fin 4) (h : Fin 8) (e : Fin 64) (r : Fin 2048) :
    vl (ins m c (pt b i)) h ⟨e.val, by omega⟩ r.val = vA m c b r h e := by
  unfold vl
  rw [dif_pos r.isLt, v_block, vCol_at m c b r h ⟨e.val, by omega⟩, dif_pos e.isLt]

theorem exp2_lg2 (a : ℝ) : Ideal.exp2 ((lg2 * a : ℝ) : EReal) = ((Real.exp a : ℝ) : EReal) := by
  have h2 : Real.log 2 ≠ 0 := (Real.log_pos (by norm_num)).ne'
  rw [exp2_real, Real.rpow_def_of_pos (by norm_num), lg2]
  congr 2
  field_simp

/-- The weight that the kernel gives a key, with no bound subtracted. -/
theorem wt_eq {c : Dev nD} (R : Reals m c) (b : Fin 16) (i : Fin 4) (h : Fin 8) (e : Fin 80) (j : Fin 512) (r : Fin 2048) :
    wt (ins m c (pt b i)) i 0 h e j r.val = vl (ins m c (pt b i)) h e r.val * ((R.weight b h (qpos i j) r : ℝ) : EReal) := by
  unfold wt lg Reals.weight
  by_cases hm : r.val ≤ i.val * 512 + j.val
  · rw [if_pos hm, if_pos (show r.val ≤ (qpos i j).val from hm), sc_eq R b i h r.val r.isLt j, EReal.coe_zero, sub_zero, exp2_lg2]
  · rw [if_neg hm, if_neg (show ¬ r.val ≤ (qpos i j).val from hm), EReal.bot_sub, Ideal.exp2_bot, EReal.coe_zero]

/-- The accumulator over the keys up to the diagonal block's end is the sum over every key. -/
theorem part_eq {c : Dev nD} (R : Reals m c) (b : Fin 16) (i : Fin 4) (h : Fin 8) (e : Fin 80) (j : Fin 512) :
    part (ins m c (pt b i)) i 0 (i.val * 512) h e j
      = ∑ r : Fin 2048, vl (ins m c (pt b i)) h e r.val * ((R.weight b h (qpos i j) r : ℝ) : EReal) := by
  have hw : ∀ r : Fin 2048, wt (ins m c (pt b i)) i 0 h e j r.val = _ := wt_eq R b i h e j
  unfold part
  rw [← Finset.sum_range_add, ← Finset.sum_congr rfl fun r _ => hw r, ← Finset.sum_range (fun r => wt (ins m c (pt b i)) i 0 h e j r)]
  refine Finset.sum_subset (fun a ha => ?_) (fun a _ ha' => ?_)
  · rw [Finset.mem_range] at ha ⊢; omega
  · rw [Finset.mem_range] at ha'
    unfold wt lg
    rw [if_neg (by omega), EReal.bot_sub, Ideal.exp2_bot, mul_zero]

theorem weight_nonneg {c : Dev nD} (R : Reals m c) (b : Fin 16) (h : Fin 8) (t r : Fin 2048) : 0 ≤ R.weight b h t r := by
  unfold Reals.weight
  split
  · exact (Real.exp_pos _).le
  · exact le_rfl

theorem weights_pos {c : Dev nD} (R : Reals m c) (b : Fin 16) (h : Fin 8) (t : Fin 2048) : 0 < ∑ r, R.weight b h t r := by
  refine Finset.sum_pos' (fun r _ => weight_nonneg R b h t r) ⟨t, Finset.mem_univ _, ?_⟩
  rw [Reals.weight, if_pos le_rfl]
  exact Real.exp_pos _

/-- An entry of the kernel's block: the values under the normalised weights. -/
theorem outAt_softmax {c : Dev nD} (R : Reals m c) (b : Fin 16) (i : Fin 4) (h : Fin 8) (e : Fin 64) (j : Fin 512) :
    outAt (ins m c (pt b i)) i h ⟨e.val, by omega⟩ j
      = ∑ r : Fin 2048, vA m c b r h e * ((R.weight b h (qpos i j) r / ∑ s, R.weight b h (qpos i j) s : ℝ) : EReal) := by
  have hpos := weights_pos R b h (qpos i j)
  have hden : part (ins m c (pt b i)) i 0 (i.val * 512) h 64 j = ((∑ s, R.weight b h (qpos i j) s : ℝ) : EReal) := by
    rw [part_eq R, coe_sum]
    exact Finset.sum_congr rfl fun r _ => by rw [ones c (pt b i) h r.val r.isLt, one_mul]
  unfold outAt
  rw [hden, Ideal.div_coe hpos.ne', one_mul, part_eq R, mul_comm, coe_mul_sum _ (by positivity)]
  refine Finset.sum_congr rfl fun r _ => ?_
  rw [vl_eq, mul_left_comm, ← EReal.coe_mul]
  congr 2
  field_simp

end Cert.KernelIdeal.Attn
-- ==== Proof.Ref.Softmax.lean ====
/-
  The reference's stages, read at an index: the masked scores, the exponentials of the scores less their largest, the
  normalised weights and the weighted values.
-/
module

public import proofs.«01_k».proof.Proof.Gen.ReferenceIdeal.Run
public import Idealize.ShloMosaic.Lib.Pointwise

@[expose] public section

noncomputable section

namespace Cert.ReferenceIdeal.Softmax

open Idealize.ShloMosaic Idealize.ShloMosaic.TcCoe
open Cert.ReferenceIdeal Cert.ReferenceIdeal.Gen

/-- The masked scores. -/
def maskedScores (q k : FVec Ideal S16x2048x8x64 .f32) (g : FVec Ideal S16x2048x8 .f32) : FVec Ideal S16x8x2048x2048 .f32 :=
  select (broadcastInDim S16x8x2048x2048 ![2, 3] bcast_S2048x2048_S16x8x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
    (addf (mulf (Host.dotGeneral dot_S16x2048x8x64_S16x2048x8x64_S16x8x2048x2048_3_3_1_1_02_02 none q k) (broadcastInDim S16x8x2048x2048 ![] bcast_S_S16x8x2048x2048 (constant S_ .f32 0x3E000000#32)))
      (subf (broadcastInDim S16x8x2048x2048 ![0, 1, 2, 3] bcast_S16x8x2048x1_S16x8x2048x2048_0_1_2_3 (broadcastInDim S16x8x2048x1 ![0, 1, 2] bcast_S16x8x2048_S16x8x2048x1_0_1_2 (transpose S16x8x2048 [0, 2, 1] g transposes_S16x2048x8_S16x8x2048_0_2_1)))
        (broadcastInDim S16x8x2048x2048 ![0, 1, 2, 3] bcast_S16x8x1x2048_S16x8x2048x2048_0_1_2_3 (broadcastInDim S16x8x1x2048 ![0, 1, 3] bcast_S16x8x2048_S16x8x1x2048_0_1_3 (transpose S16x8x2048 [0, 2, 1] g transposes_S16x2048x8_S16x8x2048_0_2_1)))))
    (broadcastInDim S16x8x2048x2048 ![] bcast_S_S16x8x2048x2048 (id (constant S_ .f32 0xFF800000#32)))

/-- The largest score of each row. -/
def largest (s : FVec Ideal S16x8x2048x2048 .f32) : FVec Ideal S16x8x2048 .f32 :=
  Host.reduce FloatOps.maximumf s (constant S_ .f32 0xFF800000#32) reducesTo_S16x8x2048x2048_S16x8x2048_d3 h_S_

/-- The exponentials of the scores less a number for each row, the row's largest in the program. -/
def expd (s : FVec Ideal S16x8x2048x2048 .f32) (M : FVec Ideal S16x8x2048 .f32) : FVec Ideal S16x8x2048x2048 .f32 :=
  Host.exp (subf s (broadcastInDim S16x8x2048x2048 ![0, 1, 2, 3] bcast_S16x8x2048x1_S16x8x2048x2048_0_1_2_3 (broadcastInDim S16x8x2048x1 ![0, 1, 2] bcast_S16x8x2048_S16x8x2048x1_0_1_2 (maximumf (broadcastInDim S16x8x2048 ![] bcast_S_S16x8x2048 (constant S_ .f32 0xFF800000#32)) M))))

/-- The weights: the exponentials over their row's sum. -/
def weights (e : FVec Ideal S16x8x2048x2048 .f32) : FVec Ideal S16x8x2048x2048 .f32 :=
  Host.divf e (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd e (constant S_ .f32 0x00000000#32) reducesTo_S16x8x2048x2048_S16x8x2048_d3 h_S_)))

/-- The values under the weights, laid out by rows. -/
def mixed (v : FVec Ideal S16x2048x8x64 .f32) (p : FVec Ideal S16x8x2048x2048 .f32) : FVec Ideal S32768x512 .bf16 :=
  truncf .bf16 (shapeCast S32768x512 (transpose S16x2048x8x64 [0, 3, 1, 2] (Host.dotGeneral dot_S16x2048x8x64_S16x8x2048x2048_S16x8x64x2048_1_3_3_2_02_01 none v p) transposes_S16x8x64x2048_S16x2048x8x64_0_3_1_2) shapeCasts_S16x2048x8x64_S32768x512) bitsLt_bf16_f32

/-- The reference's result, stage by stage. -/
theorem result_eq (m : (ℓ : Loc nD τ sig) → Buf (Elt Ideal) ℓ) (c : Dev nD) :
    Value.res_out0 m c = mixed (m ((c.tc : Thread nD τ).loc main_arg2))
      (weights (expd (maskedScores (m ((c.tc : Thread nD τ).loc main_arg0)) (m ((c.tc : Thread nD τ).loc main_arg1)) (m ((c.tc : Thread nD τ).loc main_arg3)))
        (largest (maskedScores (m ((c.tc : Thread nD τ).loc main_arg0)) (m ((c.tc : Thread nD τ).loc main_arg1)) (m ((c.tc : Thread nD τ).loc main_arg3)))))) := by
  unfold Value.res_out0 Value.res_main_v32 mixed weights expd largest maskedScores
  rfl

theorem mixed_at (v : FVec Ideal S16x2048x8x64 .f32) (p : FVec Ideal S16x8x2048x2048 .f32) (b : Fin 16) (t : Fin 2048) (h : Fin 8) (e : Fin 64) :
    mixed v p (ix2 ⟨b.val * 2048 + t.val, by omega⟩ ⟨h.val * 64 + e.val, by omega⟩) = ∑ r : Fin 2048, v (ix4 b r h e) * p (ix4 b h t r) := by
  have hb : (b.val * 2048 + t.val) / 2048 = b.val := by omega
  have ht : (b.val * 2048 + t.val) % 2048 = t.val := by omega
  have hh : (h.val * 64 + e.val) / 64 = h.val := by omega
  have hl : (h.val * 64 + e.val) % 64 = e.val := by omega
  unfold mixed
  pointwise

theorem weights_at (e : FVec Ideal S16x8x2048x2048 .f32) (b : Fin 16) (h : Fin 8) (t r : Fin 2048) :
    weights e (ix4 b h t r) = Ideal.div (e (ix4 b h t r)) (∑ s : Fin 2048, e (ix4 b h t s)) := by
  unfold weights
  pointwise

theorem neg_inf_bits : Ideal.ofBits .f32 0xFF800000#32 = ⊥ := by simp [Ideal.ofBits, Ideal.ieee]

theorem expd_at (s : FVec Ideal S16x8x2048x2048 .f32) (M : FVec Ideal S16x8x2048 .f32) (b : Fin 16) (h : Fin 8) (t r : Fin 2048) :
    expd s M (ix4 b h t r) = Ideal.exp (s (ix4 b h t r) - M (ix3 b h t)) := by
  unfold expd
  pointwise
  rw [neg_inf_bits, max_eq_right bot_le]

theorem largest_at (s : FVec Ideal S16x8x2048x2048 .f32) (b : Fin 16) (h : Fin 8) (t : Fin 2048) :
    largest s (ix3 b h t) = Finset.univ.sup fun r : Fin 2048 => s (ix4 b h t r) := by
  unfold largest
  pointwise
  rw [neg_inf_bits]
  rfl

theorem reads_mask (t r : Fin 2048) (x y : EReal) :
    Scalar.select (IntOp.cmpi CmpIPredicate.sge (BitVec.ofNat 32 t.val) (BitVec.ofNat 32 r.val)) x y = if r.val ≤ t.val then x else y := by
  have ht : (BitVec.ofNat 32 t.val).toInt = (t.val : ℤ) := by
    rw [BitVec.toInt_ofNat']; have := t.isLt; simp only [Int.bmod_def]; omega
  have hr : (BitVec.ofNat 32 r.val).toInt = (r.val : ℤ) := by
    rw [BitVec.toInt_ofNat']; have := r.isLt; simp only [Int.bmod_def]; omega
  by_cases hm : r.val ≤ t.val
  · rw [if_pos hm]
    simp [Scalar.select, IntOp.cmpi, BitVec.sle, ht, hr, hm]
  · rw [if_neg hm]
    simp [Scalar.select, IntOp.cmpi, BitVec.sle, ht, hr, hm]

theorem maskedScores_at (q k : FVec Ideal S16x2048x8x64 .f32) (g : FVec Ideal S16x2048x8 .f32) (b : Fin 16) (h : Fin 8) (t r : Fin 2048) :
    maskedScores q k g (ix4 b h t r) = if r.val ≤ t.val then
      (∑ l : Fin 64, q (ix4 b t h l) * k (ix4 b r h l)) * Ideal.ofBits .f32 0x3E000000#32 + (g (ix3 b t h) - g (ix3 b r h)) else ⊥ := by
  unfold maskedScores
  pointwise
  rw [reads_mask, ← neg_inf_bits]
  rfl

end Cert.ReferenceIdeal.Softmax
-- ==== Proof.Attn.Equation.lean ====
/-
  The equation: the reference's softmax, whose scores carry the query's decay sum and are shifted by their largest, has
  the weights of the kernel, whose scores carry neither. So the two result arrays agree.
-/
module

public import proofs.«01_k».proof.Proof.Attn.Weights
public import proofs.«01_k».proof.Proof.Ref.Softmax

@[expose] public section

noncomputable section

namespace Cert.KernelIdeal.Attn

open Idealize.ShloMosaic Idealize.ShloMosaic.TcCoe
open Cert.KernelIdeal.Gen
open Cert.ReferenceIdeal.Softmax (maskedScores largest expd weights mixed)

variable {m : (ℓ : Loc nD τ sig) → Buf (Elt Ideal) ℓ}

/-- The arrays that the program is given. -/
abbrev arr0 (m : (ℓ : Loc nD τ sig) → Buf (Elt Ideal) ℓ) (c : Dev nD) : FVec Ideal S16x2048x8x64 .f32 := m (c, Proc.tc.devRef main_arg0)
@[inherit_doc arr0] abbrev arr1 (m : (ℓ : Loc nD τ sig) → Buf (Elt Ideal) ℓ) (c : Dev nD) : FVec Ideal S16x2048x8x64 .f32 := m (c, Proc.tc.devRef main_arg1)
@[inherit_doc arr0] abbrev arr2 (m : (ℓ : Loc nD τ sig) → Buf (Elt Ideal) ℓ) (c : Dev nD) : FVec Ideal S16x2048x8x64 .f32 := m (c, Proc.tc.devRef main_arg2)
@[inherit_doc arr0] abbrev arr3 (m : (ℓ : Loc nD τ sig) → Buf (Elt Ideal) ℓ) (c : Dev nD) : FVec Ideal S16x2048x8 .f32 := m (c, Proc.tc.devRef main_arg3)

/-- The reference's masked score is the kernel's plus the query's decay sum. -/
theorem scores_real {c : Dev nD} (R : Reals m c) (b : Fin 16) (h : Fin 8) (t r : Fin 2048) :
    maskedScores (arr0 m c) (arr1 m c) (arr3 m c) (ix4 b h t r) = if r.val ≤ t.val then ((R.score b h t r + R.g b t h : ℝ) : EReal) else ⊥ := by
  rw [Cert.ReferenceIdeal.Softmax.maskedScores_at, eighth_bits]
  have hsum : ∑ l : Fin 64, arr0 m c (ix4 b t h l) * arr1 m c (ix4 b r h l) = ((∑ l, R.q b t h l * R.k b r h l : ℝ) : EReal) := by
    rw [coe_sum]
    refine Finset.sum_congr rfl fun l _ => ?_
    rw [EReal.coe_mul, ← R.hq, ← R.hk]
    rfl
  have hg : ∀ p, arr3 m c (ix3 b p h) = ((R.g b p h : ℝ) : EReal) := fun p => R.hg b p h
  rw [hsum, hg, hg, ← EReal.coe_mul, ← EReal.coe_sub, ← EReal.coe_add]
  congr 2
  rw [Reals.score]
  ring

/-- A row's largest score is a real number. -/
theorem largest_real {c : Dev nD} (R : Reals m c) (b : Fin 16) (h : Fin 8) (t : Fin 2048) :
    ∃ a : ℝ, largest (maskedScores (arr0 m c) (arr1 m c) (arr3 m c)) (ix3 b h t) = (a : EReal) := by
  rw [Cert.ReferenceIdeal.Softmax.largest_at]
  obtain ⟨r, _, hr⟩ := Finset.exists_mem_eq_sup Finset.univ ⟨t, Finset.mem_univ t⟩ fun r : Fin 2048 => maskedScores (arr0 m c) (arr1 m c) (arr3 m c) (ix4 b h t r)
  rw [hr]
  have hle := Finset.le_sup (f := fun r : Fin 2048 => maskedScores (arr0 m c) (arr1 m c) (arr3 m c) (ix4 b h t r)) (Finset.mem_univ t)
  rw [hr] at hle
  rw [scores_real R, scores_real R, if_pos le_rfl] at hle
  rw [scores_real R]
  by_cases hm : r.val ≤ t.val
  · exact ⟨_, if_pos hm⟩
  · rw [if_neg hm] at hle
    exact absurd (le_bot_iff.mp hle) (EReal.coe_ne_bot _)

/-- The reference's weights are the kernel's, normalised. -/
theorem weights_real {c : Dev nD} (R : Reals m c) (b : Fin 16) (h : Fin 8) (t r : Fin 2048) :
    weights (expd (maskedScores (arr0 m c) (arr1 m c) (arr3 m c)) (largest (maskedScores (arr0 m c) (arr1 m c) (arr3 m c)))) (ix4 b h t r)
      = ((R.weight b h t r / ∑ s, R.weight b h t s : ℝ) : EReal) := by
  obtain ⟨a, ha⟩ := largest_real R b h t
  have he : ∀ r, expd (maskedScores (arr0 m c) (arr1 m c) (arr3 m c)) (largest (maskedScores (arr0 m c) (arr1 m c) (arr3 m c))) (ix4 b h t r)
      = ((R.weight b h t r * Real.exp (R.g b t h - a) : ℝ) : EReal) := by
    intro r
    rw [Cert.ReferenceIdeal.Softmax.expd_at, ha, scores_real R, Reals.weight]
    by_cases hm : r.val ≤ t.val
    · rw [if_pos hm, if_pos hm, ← EReal.coe_sub, Ideal.exp_coe, ← Real.exp_add]
      rw [show R.score b h t r + R.g b t h - a = R.score b h t r + (R.g b t h - a) by ring]
    · rw [if_neg hm, if_neg hm, EReal.bot_sub, Ideal.exp_bot, zero_mul, EReal.coe_zero]
  have hpos := weights_pos R b h t
  have hE := Real.exp_pos (R.g b t h - a)
  rw [Cert.ReferenceIdeal.Softmax.weights_at, he]
  simp only [he]
  rw [← coe_sum, ← Finset.sum_mul]
  generalize R.weight b h t r = w
  generalize ∑ s, R.weight b h t s = L at hpos
  generalize Real.exp (R.g b t h - a) = E at hE
  rw [Ideal.div_coe (mul_pos hpos hE).ne', ← EReal.coe_mul]
  refine congrArg Real.toEReal ?_
  field_simp

/-- The two results agree at every row and column. -/
theorem result_eq {c : Dev nD} (R : Reals m c) (z : S32768x512.Idx) :
    ((valueDat m 0 c).arrAt 3 cfg0.N : S32768x512.Idx → EReal) z
      = mixed (arr2 m c) (weights (expd (maskedScores (arr0 m c) (arr1 m c) (arr3 m c)) (largest (maskedScores (arr0 m c) (arr1 m c) (arr3 m c))))) z := by
  suffices hh : ∀ (b : Fin 16) (i : Fin 4) (j : Fin 512) (h : Fin 8) (e : Fin 64),
      ((valueDat m 0 c).arrAt 3 cfg0.N : S32768x512.Idx → EReal) (ix2 ⟨b.val * 2048 + (i.val * 512 + j.val), by omega⟩ ⟨h.val * 64 + e.val, by omega⟩)
        = mixed (arr2 m c) (weights (expd (maskedScores (arr0 m c) (arr1 m c) (arr3 m c)) (largest (maskedScores (arr0 m c) (arr1 m c) (arr3 m c)))))
          (ix2 ⟨b.val * 2048 + (i.val * 512 + j.val), by omega⟩ ⟨h.val * 64 + e.val, by omega⟩) by
    have h0 : (z 0).val < 32768 := (z 0).isLt
    have h1 : (z 1).val < 512 := (z 1).isLt
    have key := hh ⟨(z 0).val / 2048, by omega⟩ ⟨(z 0).val % 2048 / 512, by omega⟩ ⟨(z 0).val % 512, by omega⟩ ⟨(z 1).val / 64, by omega⟩ ⟨(z 1).val % 64, by omega⟩
    have hz : (ix2 (⟨(z 0).val / 2048 * 2048 + ((z 0).val % 2048 / 512 * 512 + (z 0).val % 512), by omega⟩ : Fin 32768)
        (⟨(z 1).val / 64 * 64 + (z 1).val % 64, by omega⟩ : Fin 512)) = z := by
      refine Eq.trans ?_ (ix2_eta (n0 := 32768) (n1 := 512) z)
      congr 1
      · exact Fin.ext (by dsimp only; omega)
      · exact Fin.ext (by dsimp only; omega)
    rw [hz] at key
    exact key
  intro b i j h e
  have hr := Cert.ReferenceIdeal.Softmax.mixed_at (arr2 m c) (weights (expd (maskedScores (arr0 m c) (arr1 m c) (arr3 m c)) (largest (maskedScores (arr0 m c) (arr1 m c) (arr3 m c))))) b (qpos i j) h e
  refine ((result_at m c b i j ⟨h.val * 64 + e.val, by omega⟩).trans ((outBlk_apply h e j).trans ((outAt_softmax R b i h e j).trans ?_))).trans hr.symm
  refine Finset.sum_congr rfl fun r _ => ?_
  rw [weights_real R]
  rfl

end Cert.KernelIdeal.Attn
-- ==== Proof.Finite.lean ====
/-
  What the precondition gives: the queries, the keys and the decay sums are real numbers.
-/
module

public import proofs.«01_k».proof.Defs
public import proofs.«01_k».proof.Proof.Attn.Weights

@[expose] public section

noncomputable section

namespace Cert.KernelIdeal.Attn

open Idealize.ShloMosaic Idealize.ShloMosaic.TcCoe
open Cert.KernelIdeal.Gen

variable {m : (ℓ : Loc nD τ sig) → Buf (Elt Ideal) ℓ}

theorem inf_bits : Ideal.ofBits .f32 0x7F800000#32 = ⊤ := by simp [Ideal.ofBits, Ideal.ieee]

/-- A number whose magnitude compares below infinity is real. -/
theorem real_of_lt (x : EReal) (h : FloatOps.cmpf (F := Ideal) (φ := .f32) .olt (FloatOps.absf (F := Ideal) (φ := .f32) x) (Ideal.ofBits .f32 0x7F800000#32) = 1#1) :
    ∃ a : ℝ, x = (a : EReal) := by
  rw [inf_bits] at h
  induction x using EReal.rec with
  | bot => exfalso; revert h; simp [FloatOps.cmpf, FloatOps.absf, Ideal.cmp]
  | coe a => exact ⟨a, rfl⟩
  | top => exfalso; revert h; simp [FloatOps.cmpf, FloatOps.absf, Ideal.cmp]

theorem reals_of_pre [hP : Cert.Pre_logits_finite.Facts] (h : Cert.Pre_KernelIdeal_logits_finite m) (c : Dev nD) : Nonempty (Reals m c) := by
  obtain ⟨h0, h1, h3⟩ := h c
  have r0 : ∀ b t h l, ∃ a : ℝ, qA m c b t h l = (a : EReal) := fun b t h l => real_of_lt _ (congrFun h0 (ix4 b t h l))
  have r1 : ∀ b t h l, ∃ a : ℝ, kA m c b t h l = (a : EReal) := fun b t h l => real_of_lt _ (congrFun h1 (ix4 b t h l))
  have r3 : ∀ b t h, ∃ a : ℝ, gA m c b t h = (a : EReal) := fun b t h => real_of_lt _ (congrFun h3 (ix3 b t h))
  choose q hq using r0
  choose k hk using r1
  choose g hg using r3
  exact ⟨⟨q, k, g, hq, hk, hg⟩⟩

end Cert.KernelIdeal.Attn
-- ==== Proof.Out.Block.lean ====
/-
  What one grid point of the gated output projection leaves in its block: the residual rows plus the product of the
  gated rows with the weights.
-/
module

public import proofs.«01_k».proof.Proof.Gen.Kernel2Ideal.Value
public import Idealize.ShloMosaic.Lib.Pipeline.ValueKit
public import Idealize.ShloMosaic.Lib.Pointwise

@[expose] public section

noncomputable section

namespace Cert.Kernel2Ideal.Out

open Idealize.ShloMosaic Idealize.ShloMosaic.TcCoe
open Cert.Kernel2Ideal Cert.Kernel2Ideal.Gen

variable (m : (ℓ : Loc nD τ sig) → Buf (Elt Ideal) ℓ)

/-- One half, as the program writes it. -/
def half : EReal := Ideal.ofBits .f32 0x3F000000#32

/-- The logistic function in the program's form, half a hyperbolic tangent plus a half. -/
def sg (x : EReal) : EReal := half * Ideal.tanh (half * x) + half

/-- A mixer's row entry under its gate. -/
def gate (y g : EReal) : EReal := y * (g * sg g)

/-- The entry of four parts of 512 columns laid side by side. -/
def side (a b c d : S1024x512.Idx → EReal) (j : Fin 1024) (k : Fin 2048) : EReal :=
  if h : k.val < 512 then a (ix2 j ⟨k.val, h⟩)
  else if h : k.val < 1024 then b (ix2 j ⟨k.val - 512, by omega⟩)
  else if h : k.val < 1536 then c (ix2 j ⟨k.val - 1024, by omega⟩)
  else d (ix2 j ⟨k.val - 1536, by omega⟩)

theorem pay2_at (g y : Vec Ideal S1024x512 .bf16) (j : Fin 1024) (l : Fin 512) :
    k0_pay2 (F := Ideal) g y (ix2 j l) = gate (y (ix2 j l)) (g (ix2 j l)) := by
  unfold k0_pay2; pointwise; rfl

theorem pay3_eq : k0_pay3 (F := Ideal) = k0_pay2 := rfl
theorem pay4_eq : k0_pay4 (F := Ideal) = k0_pay2 := rfl
theorem pay5_eq : k0_pay5 (F := Ideal) = k0_pay2 := rfl

theorem pay1_at (x : Vec Ideal S1024x1024 .f32) (z : Vec Ideal S1024x2048 .bf16) (w : Vec Ideal S1x2048x1024 .bf16) (j l : Fin 1024) :
    k0_pay1 (F := Ideal) x z w (ix2 j l) = x (ix2 j l) + ∑ k : Fin 2048, z (ix2 j k) * w (ix3 (0 : Fin 1) k l) := by
  unfold k0_pay1; pointwise

/-- The gated rows, as the four stores leave them. -/
def gated (g : S1024x2048.Idx → EReal) (a b c d : S1024x512.Idx → EReal) (y : S1024x2048.Idx) : EReal :=
  gate (side a b c d (y 0) (y 1)) (g y)

/-- One store of the gated rows agrees with them: its part of the mixers' rows under its columns of the gate. -/
theorem piece_eq (g : Vec Ideal S1024x2048 .bf16) (a b c d y : Vec Ideal S1024x512 .bf16) (o : ℕ) (ho : o + 512 ≤ 2048)
    (inb : ∀ i, (![0, o] : Fin 2 → ℕ) i + (![1024, 512] : Fin 2 → ℕ) i ≤ S1024x2048.size i)
    (hy : ∀ (j : Fin 1024) (l : Fin 512), side a b c d j ⟨o + l.val, by omega⟩ = y (ix2 j l))
    (x : (Rect.unit (s := S1024x2048) ![0, o] ![1024, 512] inb).shape.Idx) :
    k0_pay2 (F := Ideal) (View.ld g (Rect.unit ![0, o] ![1024, 512] inb)) y x
      = gated g a b c d ((Rect.unit ![0, o] ![1024, 512] inb).emb x) := by
  suffices hh : ∀ (j : Fin 1024) (l : Fin 512), k0_pay2 (F := Ideal) (View.ld g (Rect.unit ![0, o] ![1024, 512] inb)) y (ix2 j l)
      = gated g a b c d ((Rect.unit (s := S1024x2048) ![0, o] ![1024, 512] inb).emb (ix2 (n0 := 1024) (n1 := 512) j l)) by
    have key := hh (x 0) (x 1)
    rw [ix2_eta (n0 := 1024) (n1 := 512) x] at key
    exact key
  intro j l
  have hx : (Rect.unit (s := S1024x2048) ![0, o] ![1024, 512] inb).emb (ix2 (n0 := 1024) (n1 := 512) j l) = (ix2 j ⟨o + l.val, by omega⟩ : S1024x2048.Idx) := by
    funext i
    match i with
    | ⟨0, _⟩ => exact Fin.ext (by show 0 + 1 * j.val = j.val; omega)
    | ⟨1, _⟩ => exact Fin.ext (by show o + 1 * l.val = o + l.val; omega)
  refine (pay2_at _ y j l).trans ?_
  show gate (y (ix2 j l)) (g ((Rect.unit (s := S1024x2048) ![0, o] ![1024, 512] inb).emb (ix2 (n0 := 1024) (n1 := 512) j l))) = _
  rw [hx, ← hy]
  rfl

/-- What the product reads back of the four stores is the gated rows. -/
theorem scratch_eq (v : View sig .tc .vmem S1024x2048 .bf16) (g : Vec Ideal S1024x2048 .bf16) (a b c d : Vec Ideal S1024x512 .bf16) :
    v.readCov (Val := Elt Ideal)
        [⟨Rect.unit ![0, 1536] ![1024, 512] inb_S1024x2048_S1024x512_0_1536,
            k0_pay2 (F := Ideal) (View.ld g (Rect.unit ![0, 1536] ![1024, 512] inb_S1024x2048_S1024x512_0_1536)) d⟩,
          ⟨Rect.unit ![0, 1024] ![1024, 512] inb_S1024x2048_S1024x512_0_1024,
            k0_pay2 (F := Ideal) (View.ld g (Rect.unit ![0, 1024] ![1024, 512] inb_S1024x2048_S1024x512_0_1024)) c⟩,
          ⟨Rect.unit ![0, 512] ![1024, 512] inb_S1024x2048_S1024x512_0_512,
            k0_pay2 (F := Ideal) (View.ld g (Rect.unit ![0, 512] ![1024, 512] inb_S1024x2048_S1024x512_0_512)) b⟩,
          ⟨Rect.unit ![0, 0] ![1024, 512] inb_S1024x2048_S1024x512_0_0,
            k0_pay2 (F := Ideal) (View.ld g (Rect.unit ![0, 0] ![1024, 512] inb_S1024x2048_S1024x512_0_0)) a⟩]
        (Rect.unit ![0, 0] ![1024, 2048] inb_S1024x2048_S1024x2048_0_0).toLoadRect
      = gated g a b c d := by
  rw [View.readCov_eq_canon']
  refine funext fun (y : S1024x2048.Idx) => ?_
  have h0 : (y 0).val < 1024 := (y 0).isLt
  have h1 : (y 1).val < 2048 := (y 1).isLt
  have hy : (Rect.unit (s := S1024x2048) ![0, 0] ![1024, 2048] inb_S1024x2048_S1024x2048_0_0).toLoadRect.idx y = y := by
    funext i
    match i with
    | ⟨0, _⟩ => exact Fin.ext (by show 0 + 1 * (y 0).val = (y 0).val; omega)
    | ⟨1, _⟩ => exact Fin.ext (by show 0 + 1 * (y 1).val = (y 1).val; omega)
  refine (congrArg (View.canon _) hy).trans ?_
  refine View.canon_apply_of_pieces (Val := Elt Ideal) (e := .bf16) (gated g a b c d) _ ?_ y ?_
  · intro p hp
    simp only [List.mem_cons, List.not_mem_nil, or_false] at hp
    rcases hp with rfl | rfl | rfl | rfl
    · refine piece_eq g a b c d d 1536 (by omega) _ fun j l => ?_
      unfold side
      rw [dif_neg (by dsimp only; omega), dif_neg (by dsimp only; omega), dif_neg (by dsimp only; omega)]
      exact congrArg (fun z => d (ix2 j z)) (Fin.ext (by dsimp only; omega))
    · refine piece_eq g a b c d c 1024 (by omega) _ fun j l => ?_
      unfold side
      rw [dif_neg (by dsimp only; omega), dif_neg (by dsimp only; omega), dif_pos (by dsimp only; omega)]
      exact congrArg (fun z => c (ix2 j z)) (Fin.ext (by dsimp only; omega))
    · refine piece_eq g a b c d b 512 (by omega) _ fun j l => ?_
      unfold side
      rw [dif_neg (by dsimp only; omega), dif_pos (by dsimp only; omega)]
      exact congrArg (fun z => b (ix2 j z)) (Fin.ext (by dsimp only; omega))
    · refine piece_eq g a b c d a 0 (by omega) _ fun j l => ?_
      unfold side
      rw [dif_pos (by dsimp only; omega)]
      exact congrArg (fun z => a (ix2 j z)) (Fin.ext (by dsimp only; omega))
  · rcases (by omega : (y 1).val < 512 ∨ (512 ≤ (y 1).val ∧ (y 1).val < 1024) ∨ (1024 ≤ (y 1).val ∧ (y 1).val < 1536) ∨ 1536 ≤ (y 1).val) with h | h | h | h
    · refine ⟨_, List.mem_cons_of_mem _ (List.mem_cons_of_mem _ (List.mem_cons_of_mem _ List.mem_cons_self)), (Rect.mem_set_unit (inb := inb_S1024x2048_S1024x512_0_0)).mpr fun i => ?_⟩
      match i with
      | ⟨0, _⟩ => exact ⟨Nat.zero_le _, by show (y 0).val < 0 + 1024; omega⟩
      | ⟨1, _⟩ => exact ⟨Nat.zero_le _, by show (y 1).val < 0 + 512; omega⟩
    · refine ⟨_, List.mem_cons_of_mem _ (List.mem_cons_of_mem _ List.mem_cons_self), (Rect.mem_set_unit (inb := inb_S1024x2048_S1024x512_0_512)).mpr fun i => ?_⟩
      match i with
      | ⟨0, _⟩ => exact ⟨Nat.zero_le _, by show (y 0).val < 0 + 1024; omega⟩
      | ⟨1, _⟩ => exact ⟨h.1, by show (y 1).val < 512 + 512; omega⟩
    · refine ⟨_, List.mem_cons_of_mem _ List.mem_cons_self, (Rect.mem_set_unit (inb := inb_S1024x2048_S1024x512_0_1024)).mpr fun i => ?_⟩
      match i with
      | ⟨0, _⟩ => exact ⟨Nat.zero_le _, by show (y 0).val < 0 + 1024; omega⟩
      | ⟨1, _⟩ => exact ⟨h.1, by show (y 1).val < 1024 + 512; omega⟩
    · refine ⟨_, List.mem_cons_self, (Rect.mem_set_unit (inb := inb_S1024x2048_S1024x512_0_1536)).mpr fun i => ?_⟩
      match i with
      | ⟨0, _⟩ => exact ⟨Nat.zero_le _, by show (y 0).val < 0 + 1024; omega⟩
      | ⟨1, _⟩ => exact ⟨h, by show (y 1).val < 1536 + 512; omega⟩

/-- What grid point `t` leaves in its block. -/
theorem block_eq (c : Dev nD) (t : Fin cfg0.N) :
    Gen.outsAt0 m c t = k0_pay1 (F := Ideal) (iblk m c 6 t)
      (gated (X0_4 m c t) (iblk m c 0 t) (iblk m c 1 t) (iblk m c 2 t) (iblk m c 3 t)) (iblk m c 5 t) := by
  unfold Gen.outsAt0
  frame_out
  exact congrArg (fun z => k0_pay1 (F := Ideal) (iblk m c 6 t) z (iblk m c 5 t)) (scratch_eq (View.whole cc0_scratch0) (X0_4 m c t) (iblk m c 0 t) (iblk m c 1 t) (iblk m c 2 t) (iblk m c 3 t))

end Cert.Kernel2Ideal.Out
-- ==== Proof.Out.Host.lean ====
/-
  What the host code before the gated output projection stages, read at an index, and the staged blocks of a grid point
  as parts of it.
-/
module

public import proofs.«01_k».proof.Proof.Out.Block
public import Idealize.ShloMosaic.Lib.StableHlo.ReadAt

@[expose] public section

noncomputable section

namespace Cert.Kernel2Ideal.Out

open Idealize.ShloMosaic Idealize.ShloMosaic.TcCoe
open Cert.Kernel2Ideal Cert.Kernel2Ideal.Gen

variable (m : (ℓ : Loc nD τ sig) → Buf (Elt Ideal) ℓ)

/-- The four mixers' results, the gate, the weights and the residual that the program is given. -/
def aA (c : Dev nD) : S16x2048x512.Idx → EReal := m (c, Proc.tc.devRef main_arg0)
@[inherit_doc aA] def bA (c : Dev nD) : S16x2048x512.Idx → EReal := m (c, Proc.tc.devRef main_arg1)
@[inherit_doc aA] def cA (c : Dev nD) : S16x2048x512.Idx → EReal := m (c, Proc.tc.devRef main_arg2)
@[inherit_doc aA] def dA (c : Dev nD) : S16x2048x512.Idx → EReal := m (c, Proc.tc.devRef main_arg3)
@[inherit_doc aA] def gA (c : Dev nD) : S16x2048x2048.Idx → EReal := m (c, Proc.tc.devRef main_arg4)
@[inherit_doc aA] def wA (c : Dev nD) : S2048x1024.Idx → EReal := m (c, Proc.tc.devRef main_arg5)
@[inherit_doc aA] def xA (c : Dev nD) : S16x2048x1024.Idx → EReal := m (c, Proc.tc.devRef main_arg6)

/-- The batch and the position of a row. -/
def bat (r : Fin 32768) : Fin 16 := ⟨r.val / 2048, by omega⟩
@[inherit_doc bat] def pos (r : Fin 32768) : Fin 2048 := ⟨r.val % 2048, by omega⟩

theorem aRow_at (c : Dev nD) (r : Fin 32768) (l : Fin 512) :
    (V m c main_v4 : S32768x512.Idx → EReal) (ix2 r l) = aA m c (ix3 (bat r) (pos r) l) := by
  unfold V
  after_reads_at
  rfl
theorem bRow_at (c : Dev nD) (r : Fin 32768) (l : Fin 512) :
    (V m c main_v6 : S32768x512.Idx → EReal) (ix2 r l) = bA m c (ix3 (bat r) (pos r) l) := by
  unfold V
  after_reads_at
  rfl
theorem cRow_at (c : Dev nD) (r : Fin 32768) (l : Fin 512) :
    (V m c main_v8 : S32768x512.Idx → EReal) (ix2 r l) = cA m c (ix3 (bat r) (pos r) l) := by
  unfold V
  after_reads_at
  rfl
theorem dRow_at (c : Dev nD) (r : Fin 32768) (l : Fin 512) :
    (V m c main_v10 : S32768x512.Idx → EReal) (ix2 r l) = dA m c (ix3 (bat r) (pos r) l) := by
  unfold V
  after_reads_at
  rfl
theorem gRow_at (c : Dev nD) (r : Fin 32768) (l : Fin 2048) :
    (V m c main_v2 : S32768x5632.Idx → EReal) (ix2 r (⟨l.val, by omega⟩ : Fin 5632)) = gA m c (ix3 (bat r) (pos r) l) := by
  unfold V
  after_reads_at
  rfl
theorem w_at (c : Dev nD) (k : Fin 2048) (l : Fin 1024) :
    (V m c main_v12 : S1x2048x1024.Idx → EReal) (ix3 (0 : Fin 1) k l) = wA m c (ix2 k l) := by
  unfold V
  after_reads_at
  rfl
theorem xRow_at (c : Dev nD) (r : Fin 32768) (l : Fin 1024) :
    (V m c main_v13 : S32768x1024.Idx → EReal) (ix2 r l) = xA m c (ix3 (bat r) (pos r) l) := by
  unfold V
  after_reads_at
  rfl

theorem index_row0 : ∀ t : Fin cfg0.N, (cfg0.win 0).index t 0 = t.val ∧ (cfg0.win 0).index t 1 = 0 := by decide +kernel
theorem index_row1 : ∀ t : Fin cfg0.N, (cfg0.win 1).index t 0 = t.val ∧ (cfg0.win 1).index t 1 = 0 := by decide +kernel
theorem index_row2 : ∀ t : Fin cfg0.N, (cfg0.win 2).index t 0 = t.val ∧ (cfg0.win 2).index t 1 = 0 := by decide +kernel
theorem index_row3 : ∀ t : Fin cfg0.N, (cfg0.win 3).index t 0 = t.val ∧ (cfg0.win 3).index t 1 = 0 := by decide +kernel
theorem index_row4 : ∀ t : Fin cfg0.N, (cfg0.win 4).index t 0 = t.val ∧ (cfg0.win 4).index t 1 = 0 := by decide +kernel
theorem index_w : ∀ t : Fin cfg0.N, (cfg0.win 5).index t 0 = 0 ∧ (cfg0.win 5).index t 1 = 0 ∧ (cfg0.win 5).index t 2 = 0 := by decide +kernel
theorem index_row6 : ∀ t : Fin cfg0.N, (cfg0.win 6).index t 0 = t.val ∧ (cfg0.win 6).index t 1 = 0 := by decide +kernel
theorem index_row7 : ∀ t : Fin cfg0.N, (cfg0.win 7).index t 0 = t.val ∧ (cfg0.win 7).index t 1 = 0 := by decide +kernel
theorem flush_all : ∀ t : Fin cfg0.N, (cfg0.win 7).flush t = true := by decide +kernel

/-- The row of the arrays that a grid point's local row is. -/
def row (t : Fin cfg0.N) (j : Fin 1024) : Fin 32768 := ⟨t.val * 1024 + j.val, by have : t.val < 32 := t.isLt; omega⟩

theorem a_block (c : Dev nD) (t : Fin cfg0.N) (j : Fin 1024) (l : Fin 512) :
    (iblk m c 0 t : S1024x512.Idx → EReal) (ix2 j l) = aA m c (ix3 (bat (row t j)) (pos (row t j)) l) := by
  have e := index_row0 t
  refine Eq.trans ?_ (aRow_at m c (row t j) l)
  blk_ext [iblk, row, e.1, e.2]
theorem b_block (c : Dev nD) (t : Fin cfg0.N) (j : Fin 1024) (l : Fin 512) :
    (iblk m c 1 t : S1024x512.Idx → EReal) (ix2 j l) = bA m c (ix3 (bat (row t j)) (pos (row t j)) l) := by
  have e := index_row1 t
  refine Eq.trans ?_ (bRow_at m c (row t j) l)
  blk_ext [iblk, row, e.1, e.2]
theorem c_block (c : Dev nD) (t : Fin cfg0.N) (j : Fin 1024) (l : Fin 512) :
    (iblk m c 2 t : S1024x512.Idx → EReal) (ix2 j l) = cA m c (ix3 (bat (row t j)) (pos (row t j)) l) := by
  have e := index_row2 t
  refine Eq.trans ?_ (cRow_at m c (row t j) l)
  blk_ext [iblk, row, e.1, e.2]
theorem d_block (c : Dev nD) (t : Fin cfg0.N) (j : Fin 1024) (l : Fin 512) :
    (iblk m c 3 t : S1024x512.Idx → EReal) (ix2 j l) = dA m c (ix3 (bat (row t j)) (pos (row t j)) l) := by
  have e := index_row3 t
  refine Eq.trans ?_ (dRow_at m c (row t j) l)
  blk_ext [iblk, row, e.1, e.2]
theorem g_block (c : Dev nD) (t : Fin cfg0.N) (j : Fin 1024) (l : Fin 2048) :
    (X0_4 m c t : S1024x2048.Idx → EReal) (ix2 j l) = gA m c (ix3 (bat (row t j)) (pos (row t j)) l) := by
  have e := index_row4 t
  refine Eq.trans ?_ (gRow_at m c (row t j) l)
  unfold X0_4 Pipeline.Window.fill
  rw [dif_pos (moved0_4 t _)]
  blk_ext [iblk, row, e.1, e.2]
theorem w_block (c : Dev nD) (t : Fin cfg0.N) (k : Fin 2048) (l : Fin 1024) :
    (iblk m c 5 t : S1x2048x1024.Idx → EReal) (ix3 (0 : Fin 1) k l) = wA m c (ix2 k l) := by
  have e := index_w t
  refine Eq.trans ?_ (w_at m c k l)
  blk_ext [iblk, e.1, e.2.1, e.2.2]
theorem x_block (c : Dev nD) (t : Fin cfg0.N) (j : Fin 1024) (l : Fin 1024) :
    (iblk m c 6 t : S1024x1024.Idx → EReal) (ix2 j l) = xA m c (ix3 (bat (row t j)) (pos (row t j)) l) := by
  have e := index_row6 t
  refine Eq.trans ?_ (xRow_at m c (row t j) l)
  blk_ext [iblk, row, e.1, e.2]

/-- The result array at a row of a grid point is what the point leaves there. -/
theorem result_at (c : Dev nD) (t : Fin cfg0.N) (j l : Fin 1024) :
    ((dats m 0 c).arrAt 7 cfg0.N : S32768x1024.Idx → EReal) (ix2 (row t j) l) = (Gen.outsAt0 m c t : S1024x1024.Idx → EReal) (ix2 j l) := by
  have e := index_row7 t
  have h := congrFun ((Value.blocks7 m c t (flush_all t)).trans (Value.flushed7 m c t)) (ix2 j l)
  refine Eq.trans ?_ (h.trans ?_)
  · blk_ext [row, e.1, e.2]
  · blk_ext

end Cert.Kernel2Ideal.Out
-- ==== Proof.Out.Ref.lean ====
/-
  The reference of the gated output projection, read at an index.
-/
module

public import proofs.«01_k».proof.Proof.Gen.Reference2Ideal.Run
public import Idealize.ShloMosaic.Lib.Pointwise

@[expose] public section

noncomputable section

namespace Cert.Reference2Ideal.Out

open Idealize.ShloMosaic Idealize.ShloMosaic.TcCoe
open Cert.Reference2Ideal Cert.Reference2Ideal.Gen

/-- The mixers' results side by side. -/
def joined (a b c d : FVec Ideal S16x2048x512 .f32) : FVec Ideal S16x2048x2048 .f32 :=
  concatenate S16x2048x2048 2 [⟨S16x2048x512, (a : (⟨S16x2048x512, .f32⟩ : BufTy).Contents (Elt Ideal))⟩, ⟨S16x2048x512, (b : (⟨S16x2048x512, .f32⟩ : BufTy).Contents (Elt Ideal))⟩, ⟨S16x2048x512, (c : (⟨S16x2048x512, .f32⟩ : BufTy).Contents (Elt Ideal))⟩, ⟨S16x2048x512, (d : (⟨S16x2048x512, .f32⟩ : BufTy).Contents (Elt Ideal))⟩] concatenates_S16x2048x512_S16x2048x512_S16x2048x512_S16x2048x512_S16x2048x2048_d2

/-- The gate times its logistic. -/
def silu (g : FVec Ideal S16x2048x2048 .f32) : FVec Ideal S16x2048x2048 .f32 :=
  mulf g (Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf g))))

/-- The residual plus the projection of the gated results, by rows. -/
def result (x : FVec Ideal S16x2048x1024 .f32) (y s : FVec Ideal S16x2048x2048 .f32) (w : FVec Ideal S2048x1024 .f32) : FVec Ideal S32768x1024 .f32 :=
  shapeCast _ (addf x (Host.dotGeneral dot_S16x2048x2048_S2048x1024_S16x2048x1024_2_0_01_1_n_n none (mulf y s) w)) shapeCasts_S16x2048x1024_S32768x1024

theorem joined_at (a b c d : FVec Ideal S16x2048x512 .f32) (i : Fin 16) (t k : Fin 2048) :
    joined a b c d (ix3 i t k) = if h : k.val < 512 then a (ix3 i t ⟨k.val, h⟩)
      else if h : k.val < 1024 then b (ix3 i t ⟨k.val - 512, by omega⟩)
      else if h : k.val < 1536 then c (ix3 i t ⟨k.val - 1024, by omega⟩)
      else d (ix3 i t ⟨k.val - 1536, by omega⟩) := by
  unfold joined
  pointwise
  by_cases h1 : k.val < 512
  · rw [dif_pos h1, dif_pos h1]
  rw [dif_neg h1, dif_neg h1]
  by_cases h2 : k.val < 1024
  · rw [dif_pos h2, dif_pos (by omega)]
  rw [dif_neg h2, dif_neg (by omega)]
  by_cases h3 : k.val < 1536
  · rw [dif_pos h3, dif_pos (by omega)]
    simp only [Nat.sub_sub]
  · rw [dif_neg h3, dif_neg (by omega)]
    simp only [Nat.sub_sub]

theorem silu_at (g : FVec Ideal S16x2048x2048 .f32) (i : Fin 16) (t k : Fin 2048) :
    silu g (ix3 i t k) = g (ix3 i t k) * Ideal.div 1 (1 + Ideal.exp (-g (ix3 i t k))) := by
  unfold silu
  pointwise

theorem result_at (x : FVec Ideal S16x2048x1024 .f32) (y s : FVec Ideal S16x2048x2048 .f32) (w : FVec Ideal S2048x1024 .f32) (r : Fin 32768) (l : Fin 1024) :
    result x y s w (ix2 r l) = x (ix3 ⟨r.val / 2048, by omega⟩ ⟨r.val % 2048, by omega⟩ l)
      + ∑ k : Fin 2048, (y (ix3 ⟨r.val / 2048, by omega⟩ ⟨r.val % 2048, by omega⟩ k) * s (ix3 ⟨r.val / 2048, by omega⟩ ⟨r.val % 2048, by omega⟩ k)) * w (ix2 k l) := by
  unfold result
  pointwise

end Cert.Reference2Ideal.Out
-- ==== Proof.Out.Equation.lean ====
/-
  The gated output projection and its reference agree: the kernel's logistic is the reference's at every extended real,
  and the two sums have the same terms.
-/
module

public import proofs.«01_k».proof.Proof.Out.Host
public import proofs.«01_k».proof.Proof.Out.Ref

@[expose] public section

noncomputable section

namespace Cert.Kernel2Ideal.Out

open Idealize.ShloMosaic Idealize.ShloMosaic.TcCoe
open Cert.Kernel2Ideal Cert.Kernel2Ideal.Gen
open Cert.Reference2Ideal.Out (joined silu result)

variable (m : (ℓ : Loc nD τ sig) → Buf (Elt Ideal) ℓ)

theorem half_eq : half = ((1 / 2 : ℝ) : EReal) := by
  simp [half, Ideal.ofBits, Ideal.ieee]
  norm_num
  rw [← EReal.coe_mul]; norm_num

/-- The logistic function of a real number, as half a hyperbolic tangent plus a half. -/
theorem logistic_real (x : ℝ) : 1 / 2 * Real.tanh (1 / 2 * x) + 1 / 2 = 1 / (1 + Real.exp (-x)) := by
  have he : Real.exp (-x) = Real.exp (-(1 / 2 * x)) * Real.exp (-(1 / 2 * x)) := by rw [← Real.exp_add]; ring_nf
  have hp : Real.exp (1 / 2 * x) * Real.exp (-(1 / 2 * x)) = 1 := by rw [← Real.exp_add]; simp
  have h1 := Real.exp_pos (1 / 2 * x)
  have h2 := Real.exp_pos (-(1 / 2 * x))
  rw [Real.tanh_eq_sinh_div_cosh, Real.sinh_eq, Real.cosh_eq, he]
  generalize Real.exp (1 / 2 * x) = a at hp h1
  generalize Real.exp (-(1 / 2 * x)) = b at hp h2
  have hs : a + b ≠ 0 := (add_pos h1 h2).ne'
  have hb : 1 + b * b ≠ 0 := (by positivity : (0 : ℝ) < 1 + b * b).ne'
  field_simp
  linear_combination (2 * b) * hp

/-- The kernel's logistic is the reference's, at the infinities too. -/
theorem sg_eq (x : EReal) : sg x = Ideal.div 1 (1 + Ideal.exp (-x)) := by
  unfold sg
  rw [half_eq]
  induction x using EReal.rec with
  | bot =>
    rw [EReal.coe_mul_bot_of_pos (by norm_num), EReal.neg_bot]
    show ((1 / 2 : ℝ) : EReal) * -1 + _ = Ideal.div 1 (1 + ⊤)
    rw [EReal.add_top_of_ne_bot (by decide)]
    have hd : Ideal.div 1 ⊤ = 0 := by
      unfold Ideal.div
      rw [if_neg EReal.top_ne_zero, EReal.inv_top, mul_zero]
    rw [hd, show (-1 : EReal) = ((-1 : ℝ) : EReal) by norm_num, ← EReal.coe_mul, ← EReal.coe_add]
    norm_num
  | coe r =>
    rw [← EReal.coe_mul, ← EReal.coe_neg]
    show ((1 / 2 : ℝ) : EReal) * ((Real.tanh (1 / 2 * r) : ℝ) : EReal) + _ = Ideal.div 1 (1 + ((Real.exp (-r) : ℝ) : EReal))
    have hp := Real.exp_pos (-r)
    rw [← EReal.coe_mul, ← EReal.coe_add, logistic_real, ← EReal.coe_one, ← EReal.coe_add, Ideal.div_coe (by positivity),
      EReal.coe_one, one_mul]
  | top =>
    rw [EReal.coe_mul_top_of_pos (by norm_num), EReal.neg_top]
    show ((1 / 2 : ℝ) : EReal) * 1 + _ = Ideal.div 1 (1 + 0)
    have hd : Ideal.div 1 1 = 1 := by
      unfold Ideal.div
      rw [if_neg one_ne_zero, one_mul, ← EReal.coe_one, ← EReal.coe_inv]
      norm_num
    rw [add_zero, hd, mul_one, ← EReal.coe_add]
    norm_num

theorem gated_ix (g : S1024x2048.Idx → EReal) (a b c d : S1024x512.Idx → EReal) (j : Fin 1024) (k : Fin 2048) :
    gated g a b c d (ix2 j k) = side a b c d j k * (g (ix2 j k) * sg (g (ix2 j k))) := rfl

/-- The kernel's gated row entry is the reference's. -/
theorem gated_at (c : Dev nD) (t : Fin cfg0.N) (j : Fin 1024) (k : Fin 2048) :
    gated (X0_4 m c t) (iblk m c 0 t) (iblk m c 1 t) (iblk m c 2 t) (iblk m c 3 t) (ix2 j k)
      = joined (aA m c) (bA m c) (cA m c) (dA m c) (ix3 (bat (row t j)) (pos (row t j)) k) * silu (gA m c) (ix3 (bat (row t j)) (pos (row t j)) k) := by
  rw [Cert.Reference2Ideal.Out.joined_at, Cert.Reference2Ideal.Out.silu_at, ← sg_eq]
  rw [gated_ix]
  rw [g_block]
  congr 1
  unfold side
  simp only [a_block, b_block, c_block, d_block]

/-- The two results agree at every row and column. -/
theorem result_eq (c : Dev nD) (z : S32768x1024.Idx) :
    ((dats m 0 c).arrAt 7 cfg0.N : S32768x1024.Idx → EReal) z
      = result (xA m c) (joined (aA m c) (bA m c) (cA m c) (dA m c)) (silu (gA m c)) (wA m c) z := by
  suffices hh : ∀ (t : Fin cfg0.N) (j l : Fin 1024), ((dats m 0 c).arrAt 7 cfg0.N : S32768x1024.Idx → EReal) (ix2 (row t j) l)
      = result (xA m c) (joined (aA m c) (bA m c) (cA m c) (dA m c)) (silu (gA m c)) (wA m c) (ix2 (row t j) l) by
    have h0 : (z 0).val < 32768 := (z 0).isLt
    have key := hh ⟨(z 0).val / 1024, by show _ < 32; omega⟩ ⟨(z 0).val % 1024, by omega⟩ (z 1)
    have hz : (ix2 (row ⟨(z 0).val / 1024, by show _ < 32; omega⟩ ⟨(z 0).val % 1024, by omega⟩) (z 1) : S32768x1024.Idx) = z := by
      refine Eq.trans ?_ (ix2_eta (n0 := 32768) (n1 := 1024) z)
      congr 1
      exact Fin.ext (by show (z 0).val / 1024 * 1024 + (z 0).val % 1024 = (z 0).val; omega)
    rw [hz] at key
    exact key
  intro t j l
  refine (result_at m c t j l).trans ?_
  rw [block_eq, pay1_at, Cert.Reference2Ideal.Out.result_at, x_block]
  refine congrArg (_ + ·) (Finset.sum_congr rfl fun k _ => ?_)
  rw [gated_at, w_block]
  rfl

end Cert.Kernel2Ideal.Out
-- ==== Proof.Inp.Block.lean ====
/-
  What one grid point of the normalised input projection leaves in its blocks. The even points normalise their rows and
  keep them; the odd points project the rows that the point before kept.
-/
module

public import proofs.«01_k».proof.Proof.Gen.Kernel3Ideal.Value
public import Idealize.ShloMosaic.Lib.Pipeline.ValueKit
public import Idealize.ShloMosaic.Lib.Pointwise

@[expose] public section

noncomputable section

namespace Cert.Kernel3Ideal.Inp

open Idealize.ShloMosaic Idealize.ShloMosaic.TcCoe
open Cert.Kernel3Ideal Cert.Kernel3Ideal.Gen

variable (m : (ℓ : Loc nD τ sig) → Buf (Elt Ideal) ℓ)

/-- A row over its root mean square, times the norm's weights, at one place. -/
def unitRow (x g : Fin 1024 → EReal) (k : Fin 1024) : EReal :=
  x k * Ideal.rsqrt (Ideal.div (∑ q : Fin 1024, x q * x q) (Ideal.ofBits .f32 0x44800000#32) + Ideal.ofBits .f32 0x358637BD#32) * g k

theorem pay1_at (x : Vec Ideal S1024x1024 .f32) (g : Vec Ideal S1x1024 .f32) (j k : Fin 1024) :
    k0_pay1 (F := Ideal) x g (ix2 j k) = unitRow (fun q => x (ix2 j q)) (fun q => g (ix2 (0 : Fin 1) q)) k := by
  unfold k0_pay1 unitRow
  pointwise

theorem pay3_at (h : Vec Ideal S1024x1024 .bf16) (w : Vec Ideal S1x1024x2816 .bf16) (j : Fin 1024) (l : Fin 2816) :
    k0_pay3 (F := Ideal) h w (ix2 j l) = ∑ k : Fin 1024, h (ix2 j k) * w (ix3 (0 : Fin 1) k l) := by
  unfold k0_pay3 k0_pay2
  pointwise

theorem pay4_at (h : Vec Ideal S1024x1024 .bf16) (w : Vec Ideal S1x1024x2816 .bf16) (j : Fin 1024) (l : Fin 128) :
    k0_pay4 (F := Ideal) h w (ix2 j l) = ∑ k : Fin 1024, h (ix2 j k) * w (ix3 (0 : Fin 1) k ⟨2176 + l.val, by omega⟩) := by
  unfold k0_pay4 k0_pay2
  pointwise

/-- The point of row block `i` and column block `j`. -/
def pt (i : Fin 32) (j : Fin 2) : Fin cfg0.N := ⟨i.val * 2 + j.val, by show _ < 64; omega⟩

theorem pt_even (i : Fin 32) : (pt i 0).val % 2 = 0 := by show (i.val * 2 + 0) % 2 = 0; omega
theorem pt_odd (i : Fin 32) : (pt i 1).val % 2 = 1 := by show (i.val * 2 + 1) % 2 = 1; omega

/-- The normalised rows that the even point of a row block keeps. -/
theorem kept_eq (c : Dev nD) (i : Fin 32) :
    (Gen.outsAt0 m c (pt i 0).val (pt i 0).isLt).2.2 = k0_pay1 (F := Ideal) (iblk m c 0 (pt i 0)) (iblk m c 1 (pt i 0)) := by
  rw [Gen.outsAt0_A m c (pt i 0) (pt_even i) (by have := pt_even i; omega)]
  dsimp only
  frame_out

/-- What the even point leaves in its block of the first result. -/
theorem even_eq (c : Dev nD) (i : Fin 32) :
    (Gen.outsAt0 m c (pt i 0).val (pt i 0).isLt).1
      = k0_pay3 (F := Ideal) (k0_pay1 (F := Ideal) (iblk m c 0 (pt i 0)) (iblk m c 1 (pt i 0))) (iblk m c 2 (pt i 0)) := by
  rw [Gen.outsAt0_A m c (pt i 0) (pt_even i) (by have := pt_even i; omega)]
  dsimp only
  frame_out

theorem before_odd (c : Dev nD) (i : Fin 32) (h : (pt i 1).val - 1 < cfg0.N) :
    (Gen.outsAt0 m c ((pt i 1).val - 1) h).2.2 = k0_pay1 (F := Ideal) (iblk m c 0 (pt i 0)) (iblk m c 1 (pt i 0)) :=
  kept_eq m c i

/-- What the odd point leaves in its block of the first result. -/
theorem odd_eq (c : Dev nD) (i : Fin 32) :
    (Gen.outsAt0 m c (pt i 1).val (pt i 1).isLt).1
      = k0_pay3 (F := Ideal) (k0_pay1 (F := Ideal) (iblk m c 0 (pt i 0)) (iblk m c 1 (pt i 0))) (iblk m c 2 (pt i 1)) := by
  rw [Gen.outsAt0_B m c (pt i 1) (by have := pt_odd i; omega) (pt_odd i)]
  dsimp only
  frame_out
  exact congrArg (fun z => k0_pay3 (F := Ideal) z (iblk m c 2 (pt i 1))) (((Memref.isWhole_whole _).read_unread _).trans (before_odd m c i _))

/-- What the odd point leaves in its block of the second result. -/
theorem last_eq (c : Dev nD) (i : Fin 32) :
    (Gen.outsAt0 m c (pt i 1).val (pt i 1).isLt).2.1
      = k0_pay4 (F := Ideal) (k0_pay1 (F := Ideal) (iblk m c 0 (pt i 0)) (iblk m c 1 (pt i 0))) (iblk m c 2 (pt i 1)) := by
  rw [Gen.outsAt0_B m c (pt i 1) (by have := pt_odd i; omega) (pt_odd i)]
  dsimp only
  frame_out
  exact congrArg (fun z => k0_pay4 (F := Ideal) z (iblk m c 2 (pt i 1))) (((Memref.isWhole_whole _).read_unread _).trans (before_odd m c i _))

end Cert.Kernel3Ideal.Inp
-- ==== Proof.Inp.Ref.lean ====
/-
  The reference of the normalised input projection, read at an index: the normalised rows, their projection, and the
  projection's parts in the order of the call.
-/
module

public import proofs.«01_k».proof.Proof.Gen.Reference3Ideal.Run
public import Idealize.ShloMosaic.Lib.Pointwise

@[expose] public section

noncomputable section

namespace Cert.Reference3Ideal.Inp

open Idealize.ShloMosaic Idealize.ShloMosaic.TcCoe
open Cert.Reference3Ideal Cert.Reference3Ideal.Gen

/-- The rows over their root mean square, times the norm's weights. -/
def normed (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- The projection, by rows. -/
def projected (h : FVec Ideal S16x2048x1024 .f32) (w : FVec Ideal S1024x5560 .f32) : FVec Ideal S32768x5560 .f32 :=
  shapeCast _ (Host.dotGeneral dot_S16x2048x1024_S1024x5560_S16x2048x5560_2_0_01_1_n_n none h w) shapeCasts_S16x2048x5560_S32768x5560

/-- The rotary key, the low-rank gate and the forget gates, then zeros. -/
def small (p : FVec Ideal S32768x5560 .f32) : FVec Ideal S32768x128 .f32 :=
  (concatenate S32768x128 1 [⟨S32768x32, ((extractStridedSlice S32768x32 ![0, 5016] p slices_S32768x5560_S32768x32_0_5016) : (⟨S32768x32, .f32⟩ : BufTy).Contents (Elt Ideal))⟩, ⟨S32768x16, ((extractStridedSlice S32768x16 ![0, 3072] p slices_S32768x5560_S32768x16_0_3072) : (⟨S32768x16, .f32⟩ : BufTy).Contents (Elt Ideal))⟩, ⟨S32768x8, ((extractStridedSlice S32768x8 ![0, 4624] p slices_S32768x5560_S32768x8_0_4624) : (⟨S32768x8, .f32⟩ : BufTy).Contents (Elt Ideal))⟩, ⟨S32768x72, ((broadcastInDim S32768x72 ![] bcast_S_S32768x72 (constant (F := Ideal) S_ .f32 0x00000000#32)) : (⟨S32768x72, .f32⟩ : BufTy).Contents (Elt Ideal))⟩] concatenates_S32768x32_S32768x16_S32768x8_S32768x72_S32768x128_d1 : (⟨S32768x128, .f32⟩ : BufTy).Contents (Elt Ideal))

/-- The projection's parts in the order of the call. -/
def parts (p : FVec Ideal S32768x5560 .f32) : FVec Ideal S32768x5632 .bf16 :=
  truncf .bf16 ((concatenate S32768x5632 1 [⟨S32768x2048, ((extractStridedSlice S32768x2048 ![0, 0] p slices_S32768x5560_S32768x2048_0_0) : (⟨S32768x2048, .f32⟩ : BufTy).Contents (Elt Ideal))⟩, ⟨S32768x256, ((extractStridedSlice S32768x256 ![0, 2048] p slices_S32768x5560_S32768x256_0_2048) : (⟨S32768x256, .f32⟩ : BufTy).Contents (Elt Ideal))⟩, ⟨S32768x256, ((extractStridedSlice S32768x256 ![0, 2304] p slices_S32768x5560_S32768x256_0_2304) : (⟨S32768x256, .f32⟩ : BufTy).Contents (Elt Ideal))⟩, ⟨S32768x512, ((extractStridedSlice S32768x512 ![0, 2560] p slices_S32768x5560_S32768x512_0_2560) : (⟨S32768x512, .f32⟩ : BufTy).Contents (Elt Ideal))⟩, ⟨S32768x512, ((extractStridedSlice S32768x512 ![0, 3088] p slices_S32768x5560_S32768x512_0_3088) : (⟨S32768x512, .f32⟩ : BufTy).Contents (Elt Ideal))⟩, ⟨S32768x512, ((extractStridedSlice S32768x512 ![0, 3600] p slices_S32768x5560_S32768x512_0_3600) : (⟨S32768x512, .f32⟩ : BufTy).Contents (Elt Ideal))⟩, ⟨S32768x512, ((extractStridedSlice S32768x512 ![0, 4112] p slices_S32768x5560_S32768x512_0_4112) : (⟨S32768x512, .f32⟩ : BufTy).Contents (Elt Ideal))⟩, ⟨S32768x256, ((extractStridedSlice S32768x256 ![0, 4632] p slices_S32768x5560_S32768x256_0_4632) : (⟨S32768x256, .f32⟩ : BufTy).Contents (Elt Ideal))⟩, ⟨S32768x128, ((extractStridedSlice S32768x128 ![0, 4888] p slices_S32768x5560_S32768x128_0_4888) : (⟨S32768x128, .f32⟩ : BufTy).Contents (Elt Ideal))⟩, ⟨S32768x128, (((small p)) : (⟨S32768x128, .f32⟩ : BufTy).Contents (Elt Ideal))⟩, ⟨S32768x512, ((extractStridedSlice S32768x512 ![0, 5048] p slices_S32768x5560_S32768x512_0_5048) : (⟨S32768x512, .f32⟩ : BufTy).Contents (Elt Ideal))⟩] concatenates_S32768x2048_S32768x256_S32768x256_S32768x512_S32768x512_S32768x512_S32768x512_S32768x256_S32768x128_S32768x128_S32768x512_S32768x5632_d1 : (⟨S32768x5632, .f32⟩ : BufTy).Contents (Elt Ideal))) bitsLt_bf16_f32

/-- The entry of the call's column order: which of the 5560 columns stands at each of the 5632 places, zero at the rest. -/
def placed (f : Fin 5560 → EReal) (l : Fin 5632) : EReal :=
  if h : l.val < 3072 then f ⟨l.val, by omega⟩
  else if h : l.val < 4608 then f ⟨l.val + 16, by omega⟩
  else if h : l.val < 5024 then f ⟨l.val + 24, by omega⟩
  else if h : l.val < 5040 then f ⟨l.val - 1952, by omega⟩
  else if h : l.val < 5048 then f ⟨l.val - 416, by omega⟩
  else if h : l.val < 5120 then 0
  else f ⟨l.val - 72, by omega⟩

theorem placed_of (f : Fin 5560 → EReal) (l : Fin 5632) (q : Fin 5560)
    (h : l.val < 3072 ∧ q.val = l.val ∨ 3072 ≤ l.val ∧ l.val < 4608 ∧ q.val = l.val + 16 ∨ 4608 ≤ l.val ∧ l.val < 5024 ∧ q.val = l.val + 24
      ∨ 5024 ≤ l.val ∧ l.val < 5040 ∧ q.val + 1952 = l.val ∨ 5040 ≤ l.val ∧ l.val < 5048 ∧ q.val + 416 = l.val
      ∨ 5120 ≤ l.val ∧ q.val + 72 = l.val) : placed f l = f q := by
  unfold placed
  rcases h with h | h | h | h | h | h
  · rw [dif_pos (by omega)]; exact congrArg f (Fin.ext (by dsimp only <;> omega))
  · rw [dif_neg (by omega), dif_pos (by omega)]; exact congrArg f (Fin.ext (by dsimp only <;> omega))
  · rw [dif_neg (by omega), dif_neg (by omega), dif_pos (by omega)]; exact congrArg f (Fin.ext (by dsimp only <;> omega))
  · rw [dif_neg (by omega), dif_neg (by omega), dif_neg (by omega), dif_pos (by omega)]; exact congrArg f (Fin.ext (by dsimp only <;> omega))
  · rw [dif_neg (by omega), dif_neg (by omega), dif_neg (by omega), dif_neg (by omega), dif_pos (by omega)]
    exact congrArg f (Fin.ext (by dsimp only <;> omega))
  · rw [dif_neg (by omega), dif_neg (by omega), dif_neg (by omega), dif_neg (by omega), dif_neg (by omega), dif_neg (by omega)]
    exact congrArg f (Fin.ext (by dsimp only <;> omega))

theorem placed_zero (f : Fin 5560 → EReal) (l : Fin 5632) (h : 5048 ≤ l.val ∧ l.val < 5120) : placed f l = 0 := by
  unfold placed
  rw [dif_neg (by omega), dif_neg (by omega), dif_neg (by omega), dif_neg (by omega), dif_neg (by omega), dif_pos (by omega)]

theorem result0_eq (m : (ℓ : Loc nD τ sig) → Buf (Elt Ideal) ℓ) (c : Dev nD) :
    Value.res_out0 m c = parts (projected (normed (m ((c.tc : Thread nD τ).loc main_arg0)) (m ((c.tc : Thread nD τ).loc main_arg1))) (m ((c.tc : Thread nD τ).loc main_arg2))) := by
  unfold Value.res_out0 Value.res_main_v31 parts small projected normed
  rfl

theorem normed_at (x : FVec Ideal S16x2048x1024 .f32) (g : FVec Ideal S1024 .f32) (b : Fin 16) (t : Fin 2048) (k : Fin 1024) :
    normed x g (ix3 b t k) = x (ix3 b t k) * Ideal.rsqrt (Ideal.div (∑ q : Fin 1024, x (ix3 b t q) * x (ix3 b t q)) (Ideal.ofBits .f32 0x44800000#32)
      + Ideal.ofBits .f32 0x358637BD#32) * g (ix1 k) := by
  unfold normed
  pointwise

theorem projected_at (h : FVec Ideal S16x2048x1024 .f32) (w : FVec Ideal S1024x5560 .f32) (r : Fin 32768) (l : Fin 5560) :
    projected h w (ix2 r l) = ∑ k : Fin 1024, h (ix3 ⟨r.val / 2048, by omega⟩ ⟨r.val % 2048, by omega⟩ k) * w (ix2 k l) := by
  unfold projected
  pointwise

theorem small_at (p : FVec Ideal S32768x5560 .f32) (r : Fin 32768) (l : Fin 128) :
    small p (ix2 r l) = placed (fun q => p (ix2 r q)) ⟨4992 + l.val, by omega⟩ := by
  unfold small
  pointwise
  by_cases h1 : l.val < 32
  · rw [dif_pos h1]; refine Eq.symm (placed_of _ _ _ ?_); dsimp only; omega
  rw [dif_neg h1]
  by_cases h2 : l.val - 32 < 16
  · rw [dif_pos h2]; refine Eq.symm (placed_of _ _ _ ?_); dsimp only; omega
  rw [dif_neg h2]
  by_cases h3 : l.val - 32 - 16 < 8
  · rw [dif_pos h3]; refine Eq.symm (placed_of _ _ _ ?_); dsimp only; omega
  rw [dif_neg h3]
  refine Eq.symm (placed_zero _ _ ?_); dsimp only; omega

set_option maxHeartbeats 2000000 in
theorem parts_at (p : FVec Ideal S32768x5560 .f32) (r : Fin 32768) (l : Fin 5632) :
    parts p (ix2 r l) = placed (fun q => p (ix2 r q)) l := by
  unfold parts
  pointwise
  by_cases h0 : l.val < 2048
  · rw [dif_pos h0]; refine Eq.symm (placed_of _ _ _ ?_); dsimp only; omega
  rw [dif_neg h0]
  by_cases h1 : l.val - 2048 < 256
  · rw [dif_pos h1]; refine Eq.symm (placed_of _ _ _ ?_); dsimp only; omega
  rw [dif_neg h1]
  by_cases h2 : l.val - 2048 - 256 < 256
  · rw [dif_pos h2]; refine Eq.symm (placed_of _ _ _ ?_); dsimp only; omega
  rw [dif_neg h2]
  by_cases h3 : l.val - 2048 - 256 - 256 < 512
  · rw [dif_pos h3]; refine Eq.symm (placed_of _ _ _ ?_); dsimp only; omega
  rw [dif_neg h3]
  by_cases h4 : l.val - 2048 - 256 - 256 - 512 < 512
  · rw [dif_pos h4]; refine Eq.symm (placed_of _ _ _ ?_); dsimp only; omega
  rw [dif_neg h4]
  by_cases h5 : l.val - 2048 - 256 - 256 - 512 - 512 < 512
  · rw [dif_pos h5]; refine Eq.symm (placed_of _ _ _ ?_); dsimp only; omega
  rw [dif_neg h5]
  by_cases h6 : l.val - 2048 - 256 - 256 - 512 - 512 - 512 < 512
  · rw [dif_pos h6]; refine Eq.symm (placed_of _ _ _ ?_); dsimp only; omega
  rw [dif_neg h6]
  by_cases h7 : l.val - 2048 - 256 - 256 - 512 - 512 - 512 - 512 < 256
  · rw [dif_pos h7]; refine Eq.symm (placed_of _ _ _ ?_); dsimp only; omega
  rw [dif_neg h7]
  by_cases h8 : l.val - 2048 - 256 - 256 - 512 - 512 - 512 - 512 - 256 < 128
  · rw [dif_pos h8]; refine Eq.symm (placed_of _ _ _ ?_); dsimp only; omega
  rw [dif_neg h8]
  by_cases h9 : l.val - 2048 - 256 - 256 - 512 - 512 - 512 - 512 - 256 - 128 < 128
  · rw [dif_pos h9, small_at]
    refine congrArg (placed _) (Fin.ext ?_); dsimp only; omega
  rw [dif_neg h9]
  refine Eq.symm (placed_of _ _ _ ?_); dsimp only; omega

end Cert.Reference3Ideal.Inp
-- ==== Proof.Inp.Host.lean ====
/-
  What the host code before the normalised input projection stages, read at an index, and the staged blocks of a grid
  point as parts of it.
-/
module

public import proofs.«01_k».proof.Proof.Inp.Block
public import proofs.«01_k».proof.Proof.Inp.Ref
public import Idealize.ShloMosaic.Lib.StableHlo.ReadAt

@[expose] public section

noncomputable section

namespace Cert.Kernel3Ideal.Inp

open Idealize.ShloMosaic Idealize.ShloMosaic.TcCoe
open Cert.Kernel3Ideal Cert.Kernel3Ideal.Gen
open Cert.Reference3Ideal.Inp (placed placed_of placed_zero)

variable (m : (ℓ : Loc nD τ sig) → Buf (Elt Ideal) ℓ)

/-- The rows, the norm's weights and the projection's weights that the program is given. -/
def xA (c : Dev nD) : S16x2048x1024.Idx → EReal := m (c, Proc.tc.devRef main_arg0)
@[inherit_doc xA] def gA (c : Dev nD) : S1024.Idx → EReal := m (c, Proc.tc.devRef main_arg1)
@[inherit_doc xA] def wA (c : Dev nD) : S1024x5560.Idx → EReal := m (c, Proc.tc.devRef main_arg2)

theorem xRow_at (c : Dev nD) (r : Fin 32768) (l : Fin 1024) :
    (V m c main_v8 : S32768x1024.Idx → EReal) (ix2 r l) = xA m c (ix3 ⟨r.val / 2048, by omega⟩ ⟨r.val % 2048, by omega⟩ l) := by
  unfold V
  after_reads_at
  rfl

theorem g_at (c : Dev nD) (l : Fin 1024) : (V m c main_v9 : S1x1024.Idx → EReal) (ix2 (0 : Fin 1) l) = gA m c (ix1 l) := by
  unfold V
  after_reads_at
  rfl

/-- The staged weights are the given ones in the order of the call. -/
theorem w_at (c : Dev nD) (k : Fin 1024) (l : Fin 5632) :
    (V m c main_v11 : S1x1024x5632.Idx → EReal) (ix3 (0 : Fin 1) k l) = placed (fun q => wA m c (ix2 k q)) l := by
  unfold V
  after_reads_at
  by_cases h0 : l.val < 3072
  · rw [dif_pos h0]
    after_reads_at
    exact (placed_of (fun q => wA m c (ix2 k q)) l ⟨l.val, by omega⟩ (by dsimp only; omega)).symm
  rw [dif_neg h0]
  by_cases h1 : l.val - 3072 < 1536
  · rw [dif_pos h1]
    after_reads_at
    exact (placed_of (fun q => wA m c (ix2 k q)) l ⟨3088 + (l.val - 3072), by omega⟩ (by dsimp only; omega)).symm
  rw [dif_neg h1]
  by_cases h2 : l.val - 3072 - 1536 < 416
  · rw [dif_pos h2]
    after_reads_at
    exact (placed_of (fun q => wA m c (ix2 k q)) l ⟨4632 + (l.val - 3072 - 1536), by omega⟩ (by dsimp only; omega)).symm
  rw [dif_neg h2]
  by_cases h3 : l.val - 3072 - 1536 - 416 < 16
  · rw [dif_pos h3]
    after_reads_at
    exact (placed_of (fun q => wA m c (ix2 k q)) l ⟨3072 + (l.val - 3072 - 1536 - 416), by omega⟩ (by dsimp only; omega)).symm
  rw [dif_neg h3]
  by_cases h4 : l.val - 3072 - 1536 - 416 - 16 < 8
  · rw [dif_pos h4]
    after_reads_at
    exact (placed_of (fun q => wA m c (ix2 k q)) l ⟨4624 + (l.val - 3072 - 1536 - 416 - 16), by omega⟩ (by dsimp only; omega)).symm
  rw [dif_neg h4]
  by_cases h5 : l.val - 3072 - 1536 - 416 - 16 - 8 < 72
  · rw [dif_pos h5]
    after_reads_at
    exact (placed_zero _ l (by omega)).symm
  rw [dif_neg h5]
  after_reads_at
  exact (placed_of (fun q => wA m c (ix2 k q)) l ⟨5048 + (l.val - 3072 - 1536 - 416 - 16 - 8 - 72), by omega⟩ (by dsimp only; omega)).symm

theorem index_x : ∀ t : Fin cfg0.N, (cfg0.win 0).index t 0 = t.val / 2 ∧ (cfg0.win 0).index t 1 = 0 := by decide +kernel
theorem index_g : ∀ t : Fin cfg0.N, (cfg0.win 1).index t 0 = 0 ∧ (cfg0.win 1).index t 1 = 0 := by decide +kernel
theorem index_w : ∀ t : Fin cfg0.N, (cfg0.win 2).index t 0 = 0 ∧ (cfg0.win 2).index t 1 = 0 ∧ (cfg0.win 2).index t 2 = t.val % 2 := by decide +kernel
theorem index_o : ∀ t : Fin cfg0.N, (cfg0.win 3).index t 0 = t.val / 2 ∧ (cfg0.win 3).index t 1 = t.val % 2 := by decide +kernel
theorem index_s : ∀ t : Fin cfg0.N, (cfg0.win 4).index t 0 = t.val / 2 ∧ (cfg0.win 4).index t 1 = 0 := by decide +kernel
theorem flush_o : ∀ t : Fin cfg0.N, (cfg0.win 3).flush t = true := by decide +kernel
theorem flush_s : ∀ i : Fin 32, (cfg0.win 4).flush (pt i 1) = true := by decide +kernel
theorem differ_s : ∀ t t' : Fin cfg0.N, (cfg0.win 4).flush t = true → (cfg0.win 4).flush t' = true → (cfg0.win 4).index t = (cfg0.win 4).index t' → t = t' := by decide +kernel

/-- The row of the arrays that a row block's local row is. -/
def row (i : Fin 32) (j : Fin 1024) : Fin 32768 := ⟨i.val * 1024 + j.val, by omega⟩
/-- The column that a column block's local column is. -/
def col (j : Fin 2) (l : Fin 2816) : Fin 5632 := ⟨j.val * 2816 + l.val, by omega⟩

theorem pt_div (i : Fin 32) (j : Fin 2) : (pt i j).val / 2 = i.val := by show (i.val * 2 + j.val) / 2 = i.val; omega
theorem pt_mod (i : Fin 32) (j : Fin 2) : (pt i j).val % 2 = j.val := by show (i.val * 2 + j.val) % 2 = j.val; omega

theorem x_block (c : Dev nD) (i : Fin 32) (s : Fin 2) (j : Fin 1024) (l : Fin 1024) :
    (iblk m c 0 (pt i s) : S1024x1024.Idx → EReal) (ix2 j l) = xA m c (ix3 ⟨(row i j).val / 2048, by omega⟩ ⟨(row i j).val % 2048, by omega⟩ l) := by
  have e := index_x (pt i s)
  rw [pt_div] at e
  refine Eq.trans ?_ (xRow_at m c (row i j) l)
  blk_ext [iblk, row, e.1, e.2]

theorem g_block (c : Dev nD) (i : Fin 32) (s : Fin 2) (l : Fin 1024) :
    (iblk m c 1 (pt i s) : S1x1024.Idx → EReal) (ix2 (0 : Fin 1) l) = gA m c (ix1 l) := by
  have e := index_g (pt i s)
  refine Eq.trans ?_ (g_at m c l)
  blk_ext [iblk, e.1, e.2]

theorem w_block (c : Dev nD) (i : Fin 32) (s : Fin 2) (k : Fin 1024) (l : Fin 2816) :
    (iblk m c 2 (pt i s) : S1x1024x2816.Idx → EReal) (ix3 (0 : Fin 1) k l) = placed (fun q => wA m c (ix2 k q)) (col s l) := by
  have e := index_w (pt i s)
  rw [pt_mod] at e
  refine Eq.trans ?_ (w_at m c k (col s l))
  blk_ext [iblk, col, e.1, e.2.1, e.2.2]

/-- The first result at a row and column of a grid point is what the point leaves there. -/
theorem result_at (c : Dev nD) (i : Fin 32) (s : Fin 2) (j : Fin 1024) (l : Fin 2816) :
    ((dats m 0 c).arrAt 3 cfg0.N : S32768x5632.Idx → EReal) (ix2 (row i j) (col s l))
      = ((Gen.outsAt0 m c (pt i s).val (pt i s).isLt).1 : S1024x2816.Idx → EReal) (ix2 j l) := by
  have e := index_o (pt i s)
  rw [pt_div, pt_mod] at e
  have h := congrFun ((Value.blocks3 m c (pt i s) (flush_o _)).trans (Value.flushed3 m c (pt i s))) (ix2 j l)
  refine Eq.trans ?_ (h.trans ?_)
  · blk_ext [row, col, e.1, e.2]
  · blk_ext

/-- The second result at a row and column is what the row block's odd point leaves there. -/
theorem last_at (c : Dev nD) (i : Fin 32) (j : Fin 1024) (l : Fin 128) :
    ((dats m 0 c).arrAt 4 cfg0.N : S32768x128.Idx → EReal) (ix2 (row i j) l)
      = ((Gen.outsAt0 m c (pt i 1).val (pt i 1).isLt).2.1 : S1024x128.Idx → EReal) (ix2 j l) := by
  have e := index_s (pt i 1)
  rw [pt_div] at e
  have hb := (dats m 0 c).read_blk_arrAt_eq_flushed 4 (fun t t' ht ht' hne => (cfg0.win 4).disjoint_blk fun h => hne (differ_s t t' ht ht' h))
    cfg0.N (pt i 1) (pt i 1).isLt (flush_s i)
  have h := congrFun (hb.trans (Value.flushed4 m c (pt i 1))) (ix2 j l)
  refine Eq.trans ?_ (h.trans ?_)
  · blk_ext [row, e.1, e.2]
  · blk_ext

end Cert.Kernel3Ideal.Inp
-- ==== Proof.Inp.Equation.lean ====
/-
  The normalised input projection and its reference agree on both results: the same normalised rows meet the same
  columns, and the columns of zeros give zero.
-/
module

public import proofs.«01_k».proof.Proof.Inp.Host

@[expose] public section

noncomputable section

namespace Cert.Kernel3Ideal.Inp

open Idealize.ShloMosaic Idealize.ShloMosaic.TcCoe
open Cert.Kernel3Ideal Cert.Kernel3Ideal.Gen
open Cert.Reference3Ideal.Inp (placed placed_of placed_zero normed projected small parts)

variable (m : (ℓ : Loc nD τ sig) → Buf (Elt Ideal) ℓ)

/-- A row times the weights in the order of the call is the row times the weights, in the order of the call. -/
theorem sum_placed (h : Fin 1024 → EReal) (w : Fin 1024 → Fin 5560 → EReal) (l : Fin 5632) :
    ∑ k, h k * placed (w k) l = placed (fun q => ∑ k, h k * w k q) l := by
  unfold placed
  by_cases h1 : l.val < 3072
  · simp only [dif_pos h1]
  by_cases h2 : l.val < 4608
  · simp only [dif_neg h1, dif_pos h2]
  by_cases h3 : l.val < 5024
  · simp only [dif_neg h1, dif_neg h2, dif_pos h3]
  by_cases h4 : l.val < 5040
  · simp only [dif_neg h1, dif_neg h2, dif_neg h3, dif_pos h4]
  by_cases h5 : l.val < 5048
  · simp only [dif_neg h1, dif_neg h2, dif_neg h3, dif_neg h4, dif_pos h5]
  by_cases h6 : l.val < 5120
  · simp only [dif_neg h1, dif_neg h2, dif_neg h3, dif_neg h4, dif_neg h5, dif_pos h6, mul_zero, Finset.sum_const_zero]
  · simp only [dif_neg h1, dif_neg h2, dif_neg h3, dif_neg h4, dif_neg h5, dif_neg h6]

/-- The rows a row block keeps are the reference's normalised rows. -/
theorem kept_at (c : Dev nD) (i : Fin 32) (j k : Fin 1024) :
    k0_pay1 (F := Ideal) (iblk m c 0 (pt i 0)) (iblk m c 1 (pt i 0)) (ix2 j k)
      = normed (xA m c) (gA m c) (ix3 ⟨(row i j).val / 2048, by omega⟩ ⟨(row i j).val % 2048, by omega⟩ k) := by
  rw [pay1_at, Cert.Reference3Ideal.Inp.normed_at]
  simp only [x_block, g_block]
  rfl

/-- The reference's projection at a row of a row block. -/
theorem projected_row (c : Dev nD) (i : Fin 32) (j : Fin 1024) (l : Fin 5632) :
    placed (fun q => projected (normed (xA m c) (gA m c)) (wA m c) (ix2 (row i j) q)) l
      = ∑ k : Fin 1024, k0_pay1 (F := Ideal) (iblk m c 0 (pt i 0)) (iblk m c 1 (pt i 0)) (ix2 j k) * placed (fun q => wA m c (ix2 k q)) l := by
  simp only [Cert.Reference3Ideal.Inp.projected_at]
  rw [← sum_placed]
  exact Finset.sum_congr rfl fun k _ => by rw [kept_at]

/-- The first results agree at every row and column. -/
theorem result_eq (c : Dev nD) (z : S32768x5632.Idx) :
    ((dats m 0 c).arrAt 3 cfg0.N : S32768x5632.Idx → EReal) z = parts (projected (normed (xA m c) (gA m c)) (wA m c)) z := by
  suffices hh : ∀ (i : Fin 32) (s : Fin 2) (j : Fin 1024) (l : Fin 2816), ((dats m 0 c).arrAt 3 cfg0.N : S32768x5632.Idx → EReal) (ix2 (row i j) (col s l))
      = parts (projected (normed (xA m c) (gA m c)) (wA m c)) (ix2 (row i j) (col s l)) by
    have h0 : (z 0).val < 32768 := (z 0).isLt
    have h1 : (z 1).val < 5632 := (z 1).isLt
    have key := hh ⟨(z 0).val / 1024, by omega⟩ ⟨(z 1).val / 2816, by omega⟩ ⟨(z 0).val % 1024, by omega⟩ ⟨(z 1).val % 2816, by omega⟩
    have hz : (ix2 (row ⟨(z 0).val / 1024, by omega⟩ ⟨(z 0).val % 1024, by omega⟩) (col ⟨(z 1).val / 2816, by omega⟩ ⟨(z 1).val % 2816, by omega⟩) : S32768x5632.Idx) = z := by
      refine Eq.trans ?_ (ix2_eta (n0 := 32768) (n1 := 5632) z)
      congr 1
      · exact Fin.ext (by show (z 0).val / 1024 * 1024 + (z 0).val % 1024 = (z 0).val; omega)
      · exact Fin.ext (by show (z 1).val / 2816 * 2816 + (z 1).val % 2816 = (z 1).val; omega)
    rw [hz] at key
    exact key
  intro i s j l
  rw [Cert.Reference3Ideal.Inp.parts_at, projected_row]
  refine (result_at m c i s j l).trans ?_
  have hs : (Gen.outsAt0 m c (pt i s).val (pt i s).isLt).1
      = k0_pay3 (F := Ideal) (k0_pay1 (F := Ideal) (iblk m c 0 (pt i 0)) (iblk m c 1 (pt i 0))) (iblk m c 2 (pt i s)) := by
    match s with
    | 0 => exact even_eq m c i
    | 1 => exact odd_eq m c i
  rw [hs, pay3_at]
  simp only [w_block]

/-- The second results agree at every row and column. -/
theorem last_result_eq (c : Dev nD) (z : S32768x128.Idx) :
    ((dats m 0 c).arrAt 4 cfg0.N : S32768x128.Idx → EReal) z = small (projected (normed (xA m c) (gA m c)) (wA m c)) z := by
  suffices hh : ∀ (i : Fin 32) (j : Fin 1024) (l : Fin 128), ((dats m 0 c).arrAt 4 cfg0.N : S32768x128.Idx → EReal) (ix2 (row i j) l)
      = small (projected (normed (xA m c) (gA m c)) (wA m c)) (ix2 (row i j) l) by
    have h0 : (z 0).val < 32768 := (z 0).isLt
    have key := hh ⟨(z 0).val / 1024, by omega⟩ ⟨(z 0).val % 1024, by omega⟩ (z 1)
    have hz : (ix2 (row ⟨(z 0).val / 1024, by omega⟩ ⟨(z 0).val % 1024, by omega⟩) (z 1) : S32768x128.Idx) = z := by
      refine Eq.trans ?_ (ix2_eta (n0 := 32768) (n1 := 128) z)
      congr 1
      exact Fin.ext (by show (z 0).val / 1024 * 1024 + (z 0).val % 1024 = (z 0).val; omega)
    rw [hz] at key
    exact key
  intro i j l
  rw [Cert.Reference3Ideal.Inp.small_at, projected_row]
  refine (last_at m c i j l).trans ?_
  rw [last_eq, pay4_at]
  simp only [w_block]
  have hl : col 1 ⟨2176 + l.val, by omega⟩ = ⟨4992 + l.val, by omega⟩ := Fin.ext (by show 1 * 2816 + (2176 + l.val) = 4992 + l.val; omega)
  rw [hl]

end Cert.Kernel3Ideal.Inp
-- ==== Proof.Mla.Items.lean ====
/-
  The attention body as the schedule it was written as: work items over (head, group of key blocks), each of which
  issues its scores, is consumed, and hands its slot to the next one.  The printed body is the same program written
  out item by item.
-/
module

public import proofs.«01_k».proof.Proof.Gen.Kernel4Ideal

@[expose] public section

noncomputable section

namespace Cert.Kernel4Ideal.Mla

open Idealize.ShloMosaic Idealize.ShloMosaic.TcCoe Idealize.SL Idealize.SL.Sem
open Cert.Kernel4Ideal.Gen

/-! ## Shapes in the number of key rows -/

/-- A matrix shape. -/
abbrev M2 (a b : ℕ) : Shape := ⟨2, ![a, b]⟩
/-- A matrix shape with a leading axis of one. -/
abbrev M3 (a b : ℕ) : Shape := ⟨3, ![1, a, b]⟩

theorem cast23 (a b : ℕ) : (M2 a b).ShapeCasts (M3 a b) := by
  simp [Shape.ShapeCasts, Shape.numel, Fin.prod_univ_succ]
theorem cast32 (a b : ℕ) : (M3 a b).ShapeCasts (M2 a b) := by
  simp [Shape.ShapeCasts, Shape.numel, Fin.prod_univ_succ]
theorem cast22 (a b : ℕ) : (M2 a b).ShapeCasts (M2 a b) := rfl
theorem cast12 (b : ℕ) : (⟨1, ![b]⟩ : Shape).ShapeCasts (M2 1 b) := by
  simp [Shape.ShapeCasts, Shape.numel, Fin.prod_univ_succ]
theorem red (a b : ℕ) : (M2 a b).Reduces [0] ⟨1, ![b]⟩ :=
  ⟨rfl, Nat.one_pos, fun i => by
    obtain rfl : i = (0 : Fin 1) := Subsingleton.elim (α := Fin 1) i 0
    rfl⟩
theorem bcast (a b : ℕ) : (M2 1 b).Broadcasts (M2 a b) :=
  ⟨le_rfl, fun i => by
    match i with
    | 0 => exact Or.inl rfl
    | 1 => exact Or.inr fun _ => rfl⟩

/-- Keys by queries: the last axes contracted. -/
def dotKQ (n w : ℕ) : DotDims (M2 n 128) (M2 w 128) (M2 n w) where
  lhsContracting := [1]
  rhsContracting := [1]
  lhsNonContracting := [0]
  rhsNonContracting := [0]
  lhsBatch := []
  rhsBatch := []
  wf := ⟨rfl, by simp, rfl, by simp, by simp, by simp, by simp [List.finRange], by simp [List.finRange], rfl, Nat.two_pos, fun b => by
    match b with
    | 0 => rfl
    | 1 => rfl⟩

/-- Values by weights: the rows of the weights contracted. -/
def dotVP (n w : ℕ) : DotDims (M2 80 n) (M2 n w) (M2 80 w) where
  lhsContracting := [1]
  rhsContracting := [0]
  lhsNonContracting := [0]
  rhsNonContracting := [1]
  lhsBatch := []
  rhsBatch := []
  wf := ⟨rfl, by simp, rfl, by simp, by simp, by simp, by simp [List.finRange], by simpa [List.finRange] using List.Perm.swap 0 1 [],
    rfl, Nat.two_pos, fun b => by
    match b with
    | 0 => rfl
    | 1 => rfl⟩

variable {F : FTy → Type} [FloatOps F] [Named F]

/-! ## What one item computes -/

/-- The scores of `n` keys against `w` queries. -/
def scores (n w : ℕ) (k : FVec F (M2 n 128) .bf16) (q : FVec F (M2 w 128) .bf16) : FVec F (M2 n w) .f32 :=
  matmul (dotKQ n w) none (shapeCast (M2 n 128) k (cast22 n 128)) (shapeCast (M2 w 128) q (cast22 w 128)) (constant (M2 n w) .f32 0x00000000#32)

/-- The scores with the keys after the query masked. -/
def masked (n w : ℕ) (mask : IVec (M2 n w) 1) (s : FVec F (M2 n w) .f32) : FVec F (M2 n w) .f32 :=
  select mask s (broadcast (M2 n w) (Named.named κ "mask" 0xF149F2CA#32 : F .f32))

/-- The largest score of every query. -/
def colMax (n w : ℕ) (s : FVec F (M2 n w) .f32) : FVec F (M2 1 w) .f32 :=
  shapeCast (M2 1 w) (multiReduction .maximumf [0] ⟨1, ![w]⟩ s 0xFF800000#32 (red n w) (.inl rfl) rfl) (cast12 w)

/-- The weighted sum of the values, the weights being the powers of two of the scores less `m`. -/
def weigh (n w : ℕ) (s : FVec F (M3 n w) .f32) (m : FVec F (M2 1 w) .f32) (v : FVec F (M3 80 n) .bf16) : FVec F (M2 80 w) .f32 :=
  matmul (dotVP n w) none (shapeCast (M2 80 n) v (cast32 80 n))
    (truncf .bf16 (exp2 (subf (shapeCast (M2 n w) s (cast32 n w)) (broadcastTo (M2 n w) m (bcast n w)))) bitsLt_bf16_f32)
    (constant (M2 80 w) .f32 0x00000000#32)

/-- The accumulator moved to the new maximum and the new group's sum added. -/
def rescale (m m' : FVec F (M2 1 512) .f32) (acc : FVec F (M3 80 512) .f32) (pv : FVec F (M2 80 512) .f32) : FVec F (M2 80 512) .f32 :=
  addf (mulf (broadcastTo (M2 80 512) (exp2 (subf m m')) (bcast 80 512)) (shapeCast (M2 80 512) acc (cast32 80 512))) pv

/-- The queries' maxima over the two halves of the diagonal block. -/
def diagMax (l : FVec F (M2 256 256) .f32) (r : FVec F (M2 512 256) .f32) : FVec F (M2 1 512) .f32 :=
  concatenate (M2 1 512) 1 [⟨M2 1 256, colMax 256 256 l⟩, ⟨M2 1 256, colMax 512 256 r⟩] concatenates_S1x256_S1x256_S1x512_d1

/-! ## Loads and stores -/

/-- The buffers the body works on: queries, keys, values, output, and the four scratch buffers. -/
structure Refs where
  q : Memref sig .tc .vmem S512x1024 .bf16
  k : Memref sig .tc .vmem S2048x1024 .bf16
  v : Memref sig .tc .vmem S1x640x2048 .bf16
  o : Memref sig .tc .vmem S512x512 .bf16
  ho : o.IsWhole
  m : Memref sig .tc .vmem S8x1x512 .f32
  acc : Memref sig .tc .vmem S8x80x512 .f32
  st : Memref sig .tc .vmem S2x1024x512 .f32
  mx : Memref sig .tc .vmem S2x1x512 .f32

/-- A vector load. -/
def ld {s : Shape} {e : EltTy} (r : Memref sig .tc .vmem s e) (off size : Fin s.rank → ℕ) (inb : ∀ a, off a + size a ≤ s.size a)
    (h : 0 < (Rect.unit off size inb).shape.numel) : Prog (TpuEff nD τ sig (Elt F) Λ₀ .tc) ((Rect.unit off size inb).shape.Idx → Elt F e) :=
  Prog.lift (.load r (Rect.unit off size inb).toLoadRect (View.loadsAt_vmem h))

/-- An unmasked vector store of single-precision values. -/
def st {s : Shape} (r : Memref sig .tc .vmem s .f32) (off size : Fin s.rank → ℕ) (inb : ∀ a, off a + size a ≤ s.size a)
    (h : 0 < (Rect.unit off size inb).shape.numel) (w : (Rect.unit off size inb).shape.Idx → Elt F .f32) :
    Prog (TpuEff nD τ sig (Elt F) Λ₀ .tc) PUnit :=
  Prog.lift (.store r (Rect.unit off size inb) w Finset.univ (View.stores_vmem_bits_univ h rfl) (.inl rfl))

theorem inb2 {A B a b x y : ℕ} (h : x + a ≤ A) (h' : y + b ≤ B) : ∀ i, (![x, y] : Fin 2 → ℕ) i + (![a, b] : Fin 2 → ℕ) i ≤ (M2 A B).size i := fun i => by
  match i with
  | 0 => exact h
  | 1 => exact h'

theorem inb3 {A B C a b c x y z : ℕ} (h : x + a ≤ A) (h' : y + b ≤ B) (h'' : z + c ≤ C) :
    ∀ i, (![x, y, z] : Fin 3 → ℕ) i + (![a, b, c] : Fin 3 → ℕ) i ≤ (⟨3, ![A, B, C]⟩ : Shape).size i := fun i => by
  match i with
  | 0 => exact h
  | 1 => exact h'
  | 2 => exact h''

theorem pos2 {a b : ℕ} (ha : 0 < a) (hb : 0 < b) : 0 < (M2 a b).numel := by
  simp [Shape.numel, Fin.prod_univ_succ, ha, hb]
theorem pos3 {a b : ℕ} (ha : 0 < a) (hb : 0 < b) : 0 < (M3 a b).numel := by
  simp [Shape.numel, Fin.prod_univ_succ, ha, hb]

variable (R : Refs)

/-- Rows `k0 ..` of head `h`'s keys. -/
def ldK (h : Fin 8) (k0 n : ℕ) (hk : k0 + n ≤ 2048) (hn : 0 < n) : Prog (TpuEff nD τ sig (Elt F) Λ₀ .tc) (FVec F (M2 n 128) .bf16) :=
  ld R.k ![k0, h.val * 128] ![n, 128] (inb2 hk (by omega)) (pos2 hn (by decide))
/-- Rows `q0 ..` of head `h`'s queries. -/
def ldQ (h : Fin 8) (q0 w : ℕ) (hq : q0 + w ≤ 512) (hw : 0 < w) : Prog (TpuEff nD τ sig (Elt F) Λ₀ .tc) (FVec F (M2 w 128) .bf16) :=
  ld R.q ![q0, h.val * 128] ![w, 128] (inb2 hq (by omega)) (pos2 hw (by decide))
/-- Columns `k0 ..` of head `h`'s transposed values. -/
def ldV (h : Fin 8) (k0 n : ℕ) (hk : k0 + n ≤ 2048) (hn : 0 < n) : Prog (TpuEff nD τ sig (Elt F) Λ₀ .tc) (FVec F (M3 80 n) .bf16) :=
  ld R.v ![0, h.val * 80, k0] ![1, 80, n] (inb3 (by decide) (by omega) hk) (pos3 (by decide) hn)
/-- Head `h`'s running maxima. -/
def ldM (h : Fin 8) : Prog (TpuEff nD τ sig (Elt F) Λ₀ .tc) (FVec F (M3 1 512) .f32) :=
  ld R.m ![h.val, 0, 0] ![1, 1, 512] (inb3 (by omega) (by decide) (by decide)) (pos3 (by decide) (by decide))
def stM (h : Fin 8) (w : FVec F (M2 1 512) .f32) : Prog (TpuEff nD τ sig (Elt F) Λ₀ .tc) PUnit := do
  let _ ← ldM R h
  st R.m ![h.val, 0, 0] ![1, 1, 512] (inb3 (by omega) (by decide) (by decide)) (pos3 (by decide) (by decide)) (shapeCast (M3 1 512) w (cast23 1 512))
/-- The maxima of the item in slot `s`. -/
def ldX (s : Fin 2) : Prog (TpuEff nD τ sig (Elt F) Λ₀ .tc) (FVec F (M3 1 512) .f32) :=
  ld R.mx ![s.val, 0, 0] ![1, 1, 512] (inb3 (by omega) (by decide) (by decide)) (pos3 (by decide) (by decide))
def stX (s : Fin 2) (w : FVec F (M2 1 512) .f32) : Prog (TpuEff nD τ sig (Elt F) Λ₀ .tc) PUnit := do
  let _ ← ldX R s
  st R.mx ![s.val, 0, 0] ![1, 1, 512] (inb3 (by omega) (by decide) (by decide)) (pos3 (by decide) (by decide)) (shapeCast (M3 1 512) w (cast23 1 512))
/-- The scores of the item in slot `s`: `n` keys against the queries `q0 ..`. -/
def ldS (s : Fin 2) (n q0 w : ℕ) (hn : 0 < n) (hn' : n ≤ 1024) (hq : q0 + w ≤ 512) (hw : 0 < w) : Prog (TpuEff nD τ sig (Elt F) Λ₀ .tc) (FVec F (M3 n w) .f32) :=
  ld R.st ![s.val, 0, q0] ![1, n, w] (inb3 (by omega) (by omega) hq) (pos3 hn hw)
def stS (s : Fin 2) (n q0 w : ℕ) (hn : 0 < n) (hn' : n ≤ 1024) (hq : q0 + w ≤ 512) (hw : 0 < w) (x : FVec F (M2 n w) .f32) : Prog (TpuEff nD τ sig (Elt F) Λ₀ .tc) PUnit := do
  let _ ← ldS R s n q0 w hn hn' hq hw
  st R.st ![s.val, 0, q0] ![1, n, w] (inb3 (by omega) (by omega) hq) (pos3 hn hw) (shapeCast (M3 n w) x (cast23 n w))
/-- Head `h`'s accumulator for the queries `q0 ..`. -/
def ldA (h : Fin 8) (q0 w : ℕ) (hq : q0 + w ≤ 512) (hw : 0 < w) : Prog (TpuEff nD τ sig (Elt F) Λ₀ .tc) (FVec F (M3 80 w) .f32) :=
  ld R.acc ![h.val, 0, q0] ![1, 80, w] (inb3 (by omega) (by decide) hq) (pos3 (by decide) hw)
def stA (h : Fin 8) (q0 w : ℕ) (hq : q0 + w ≤ 512) (hw : 0 < w) (x : FVec F (M2 80 w) .f32) : Prog (TpuEff nD τ sig (Elt F) Λ₀ .tc) PUnit := do
  let _ ← ldA R h q0 w hq hw
  st R.acc ![h.val, 0, q0] ![1, 80, w] (inb3 (by omega) (by decide) hq) (pos3 (by decide) hw) (shapeCast (M3 80 w) x (cast23 80 w))

/-! ## The items -/

/-- A work item: head `h`'s diagonal block, or `n` keys from `k0` on before it. -/
inductive Item where
  | diag (h : Fin 8)
  | grp (h : Fin 8) (k0 n : ℕ) (hk : k0 + n ≤ 2048) (hn : 0 < n) (hn' : n ≤ 1024)

variable (c : Fin 4) (tri : IVec (M2 256 256) 1) (low : IVec (M2 512 256) 1)

/-- Half of a diagonal item's scores. -/
def issueHalf (h : Fin 8) (n q0 : ℕ) (hn : 0 < n) (hn' : n ≤ 512) (hq : q0 + 256 ≤ 512) (mask : IVec (M2 n 256) 1) :
    Prog (TpuEff nD τ sig (Elt F) Λ₀ .tc) (FVec F (M2 n 256) .f32) := do
  let k ← ldK R h (c.val * 512) n (by omega) hn
  let q ← ldQ R h q0 256 hq (by decide)
  pure (masked n 256 mask (scores n 256 k q))

/-- A group item's scores. -/
def issueGrp (h : Fin 8) (k0 n : ℕ) (hk : k0 + n ≤ 2048) (hn : 0 < n) : Prog (TpuEff nD τ sig (Elt F) Λ₀ .tc) (FVec F (M2 n 512) .f32) := do
  let k ← ldK R h k0 n hk hn
  let q ← ldQ R h 0 512 (by decide) (by decide)
  pure (scores n 512 k q)

/-- A diagonal item's scores and maxima into slot `s`. -/
def storeDiag (s : Fin 2) (l : FVec F (M2 256 256) .f32) (r : FVec F (M2 512 256) .f32) : Prog (TpuEff nD τ sig (Elt F) Λ₀ .tc) PUnit := do
  stS R s 256 0 256 (by decide) (by decide) (by decide) (by decide) l
  stS R s 512 256 256 (by decide) (by decide) (by decide) (by decide) r
  stX R s (diagMax l r)

/-- A group item's scores and maxima into slot `s`. -/
def storeGrp (s : Fin 2) (n : ℕ) (hn : 0 < n) (hn' : n ≤ 1024) (x : FVec F (M2 n 512) .f32) : Prog (TpuEff nD τ sig (Elt F) Λ₀ .tc) PUnit := do
  stS R s n 0 512 hn hn' (by decide) (by decide) x
  stX R s (colMax n 512 x)

/-- A diagonal item consumed, for the queries `q0 ..` under the maxima `m`: the accumulator opens. -/
def openHalf (h : Fin 8) (s : Fin 2) (n q0 : ℕ) (hn : 0 < n) (hn' : n ≤ 512) (hq : q0 + 256 ≤ 512) (m : FVec F (M2 1 256) .f32) :
    Prog (TpuEff nD τ sig (Elt F) Λ₀ .tc) PUnit := do
  let x ← ldS R s n q0 256 hn (by omega) hq (by decide)
  let v ← ldV R h (c.val * 512) n (by omega) hn
  stA R h q0 256 hq (by decide) (weigh n 256 x m v)

/-- An item consumed. -/
def consume : Item → Fin 2 → Prog (TpuEff nD τ sig (Elt F) Λ₀ .tc) PUnit
  | .diag h, s => do
    let m ← ldX R s
    stM R h (shapeCast (M2 1 512) m (cast32 1 512))
    openHalf R c h s 256 0 (by decide) (by decide) (by decide) (extractStridedSlice (M2 1 256) ![0, 0] (shapeCast (M2 1 512) m (cast32 1 512)) slices_S1x512_o0_0_S1x256)
    openHalf R c h s 512 256 (by decide) (by decide) (by decide) (extractStridedSlice (M2 1 256) ![0, 256] (shapeCast (M2 1 512) m (cast32 1 512)) slices_S1x512_o0_256_S1x256)
  | .grp h k0 n hk hn hn', s => do
    let m ← ldM R h
    let x ← ldX R s
    stM R h (maximumf (shapeCast (M2 1 512) m (cast32 1 512)) (shapeCast (M2 1 512) x (cast32 1 512)))
    let y ← ldS R s n 0 512 hn hn' (by decide) (by decide)
    let v ← ldV R h k0 n hk hn
    let a ← ldA R h 0 512 (by decide) (by decide)
    stA R h 0 512 (by decide) (by decide)
      (rescale (shapeCast (M2 1 512) m (cast32 1 512)) (maximumf (shapeCast (M2 1 512) m (cast32 1 512)) (shapeCast (M2 1 512) x (cast32 1 512))) a
        (weigh n 512 y (maximumf (shapeCast (M2 1 512) m (cast32 1 512)) (shapeCast (M2 1 512) x (cast32 1 512))) v))

/-- `nxt`'s scores are issued, then `rest` runs, then they go to slot `s`. -/
def around (nxt : Item) (s : Fin 2) (rest : Prog (TpuEff nD τ sig (Elt F) Λ₀ .tc) PUnit) : Prog (TpuEff nD τ sig (Elt F) Λ₀ .tc) PUnit :=
  match nxt with
  | .diag h => do
    let l ← issueHalf R c h 256 0 (by decide) (by decide) (by decide) tri
    let r ← issueHalf R c h 512 256 (by decide) (by decide) (by decide) low
    rest
    storeDiag R s l r
  | .grp h k0 n hk hn hn' => do
    let x ← issueGrp R h k0 n hk hn
    rest
    storeGrp R s n hn hn' x

/-- The rest of the schedule, `cur` being in slot `s`. -/
def run : Fin 2 → Item → List Item → Prog (TpuEff nD τ sig (Elt F) Λ₀ .tc) PUnit
  | s, cur, [] => consume R c cur s
  | s, cur, nxt :: more => do
    around R c tri low nxt (1 - s) (consume R c cur s)
    run (1 - s) nxt more

/-- A whole query block: the first item's scores, then the schedule. -/
def sched (items : List Item) : Prog (TpuEff nD τ sig (Elt F) Λ₀ .tc) PUnit :=
  match items with
  | [] => pure ⟨⟩
  | first :: more => do
    around R c tri low first 0 (pure ⟨⟩)
    run R c tri low 0 first more

/-- All heads of one stage. -/
def heads (f : Fin 8 → Item) : List Item := [f 0, f 1, f 2, f 3, f 4, f 5, f 6, f 7]

/-- The items of query block `c`. -/
def items (c : Fin 4) : List Item :=
  match c with
  | 0 => heads .diag
  | 1 => heads .diag ++ heads fun h => .grp h 0 512 (by decide) (by decide) (by decide)
  | 2 => heads .diag ++ heads fun h => .grp h 0 1024 (by decide) (by decide) (by decide)
  | 3 => heads .diag ++ (heads (fun h => .grp h 0 1024 (by decide) (by decide) (by decide)) ++ heads fun h => .grp h 1024 512 (by decide) (by decide) (by decide))

/-! ## The output -/

/-- One head of the output: the accumulator over its last row. -/
def norm (a : FVec F (M3 64 512) .f32) (l : FVec F (M3 1 512) .f32) : FVec F (M2 64 512) .f32 :=
  mulf (shapeCast (M2 64 512) a (cast32 64 512))
    (broadcastTo (M2 64 512) (divf (broadcast (M2 1 512) (Scalar.ofBits .f32 0x3F800000#32 : F .f32)) (shapeCast (M2 1 512) l (cast32 1 512))) (bcast 64 512))

/-- Head `h`'s output. -/
def headOut (h : Fin 8) : Prog (TpuEff nD τ sig (Elt F) Λ₀ .tc) (FVec F (M2 64 512) .f32) := do
  let a ← ld R.acc ![h.val, 0, 0] ![1, 64, 512] (inb3 (by omega) (by decide) (by decide)) (pos3 (by decide) (by decide))
  let l ← ld R.acc ![h.val, 64, 0] ![1, 1, 512] (inb3 (by omega) (by decide) (by decide)) (pos3 (by decide) (by decide))
  pure (norm a l)

/-- The block of the output from its heads. -/
def assemble (f : Fin 8 → FVec F (M2 64 512) .f32) : FVec F S512x512 .bf16 :=
  truncf .bf16 (transpose S512x512 [1, 0]
    (concatenate S512x512 0 [⟨S64x512, f 0⟩, ⟨S64x512, f 1⟩, ⟨S64x512, f 2⟩, ⟨S64x512, f 3⟩, ⟨S64x512, f 4⟩, ⟨S64x512, f 5⟩, ⟨S64x512, f 6⟩, ⟨S64x512, f 7⟩]
      concatenates_S64x512_S64x512_S64x512_S64x512_S64x512_S64x512_S64x512_S64x512_S512x512_d0)
    transposes_S512x512_p1_0_S512x512) bitsLt_bf16_f32

/-- The output of the query block. -/
def output : Prog (TpuEff nD τ sig (Elt F) Λ₀ .tc) PUnit := do
  let y0 ← headOut R 0
  let y1 ← headOut R 1
  let y2 ← headOut R 2
  let y3 ← headOut R 3
  let y4 ← headOut R 4
  let y5 ← headOut R 5
  let y6 ← headOut R 6
  let y7 ← headOut R 7
  let _ ← ld R.o ![0, 0] ![512, 512] (inb2 (by decide) (by decide)) (pos2 (by decide) (by decide))
  Prog.lift (.store R.o (Rect.unit (s := S512x512) ![0, 0] S512x512.size inb_S512x512_S512x512_0_0)
    (assemble ![y0, y1, y2, y3, y4, y5, y6, y7]) Finset.univ
    (View.stores_vmem h_S512x512 (R.ho.storeExact_slice rfl _ packedbf16_S512x512_S512x512_0_0) (fun _ => rfl)) (.inl rfl))

/-- Keys at or before the query, in the first half of the diagonal block. -/
def triMask : IVec (M2 256 256) 1 :=
  cmpi .sle (iota .tc S256x256 32 [0] iota_S256x256_d0_w32) (iota .tc S256x256 32 [1] iota_S256x256_d1_w32)
/-- Keys at or before the query, in the second half. -/
def lowMask : IVec (M2 512 256) 1 :=
  cmpi .sle (iota .tc S512x256 32 [0] iota_S512x256_d0_w32) (addi (iota .tc S512x256 32 [1] iota_S512x256_d1_w32) (broadcast S512x256 (256#32 : BitVec 32)))

end Cert.Kernel4Ideal.Mla
-- ==== Proof.Mla.Body.lean ====
/-
  The printed body is the schedule of Items.lean.
-/
module

public import proofs.«01_k».proof.Proof.Mla.Items

@[expose] public section

noncomputable section

namespace Cert.Kernel4Ideal.Mla

open Idealize.ShloMosaic Idealize.ShloMosaic.TcCoe Idealize.SL Idealize.SL.Sem
open Cert.Kernel4Ideal.Gen

variable {F : FTy → Type} [FloatOps F] [Named F]

variable (i : grid0.Coords) (arg3 : Memref sig .tc .vmem S512x1024 .bf16) (harg3 : arg3.IsWhole) (arg4 : Memref sig .tc .vmem S2048x1024 .bf16) (harg4 : arg4.IsWhole) (arg5 : Memref sig .tc .vmem S1x640x2048 .bf16) (harg5 : arg5.IsWhole) (arg6 : Memref sig .tc .vmem S512x512 .bf16) (harg6 : arg6.IsWhole) (arg7 : Memref sig .tc .vmem S8x1x512 .f32) (harg7 : arg7.IsWhole) (arg8 : Memref sig .tc .vmem S8x80x512 .f32) (harg8 : arg8.IsWhole) (arg9 : Memref sig .tc .vmem S2x1024x512 .f32) (harg9 : arg9.IsWhole) (arg10 : Memref sig .tc .vmem S2x1x512 .f32) (harg10 : arg10.IsWhole)

variable (R : Refs)

/-- The loads of the first two heads' outputs, and the first head's output. -/
def opening : Prog (TpuEff nD τ sig (Elt F) Λ₀ .tc) (Σ' (_ : FVec F S64x512 .f32) (_ : FVec F S64x512 .f32), Vec F S1x1x512 .f32) := do
  let y0 ← headOut R 0
  let a ← ld R.acc ![1, 0, 0] ![1, 64, 512] (inb3 (by omega) (by decide) (by decide)) (pos3 (by decide) (by decide))
  let l ← ld R.acc ![1, 64, 0] ![1, 1, 512] (inb3 (by omega) (by decide) (by decide)) (pos3 (by decide) (by decide))
  pure ⟨y0, shapeCast (M2 64 512) a (cast32 64 512), l⟩

/-- The rest of the schedule, then `T`. -/
def runThen (c : Fin 4) (tri : IVec (M2 256 256) 1) (low : IVec (M2 512 256) 1) {α : Type} (T : Prog (TpuEff nD τ sig (Elt F) Λ₀ .tc) α) :
    Fin 2 → Item → List Item → Prog (TpuEff nD τ sig (Elt F) Λ₀ .tc) α
  | s, cur, [] => do consume R c cur s; T
  | s, cur, nxt :: more => do
    around R c tri low nxt (1 - s) (consume R c cur s)
    runThen c tri low T (1 - s) nxt more

/-- A query block's schedule, then `T`. -/
def schedThen (c : Fin 4) (tri : IVec (M2 256 256) 1) (low : IVec (M2 512 256) 1) {α : Type} (T : Prog (TpuEff nD τ sig (Elt F) Λ₀ .tc) α) :
    List Item → Prog (TpuEff nD τ sig (Elt F) Λ₀ .tc) α
  | [] => T
  | first :: more => do
    around R c tri low first 0 (pure ⟨⟩)
    runThen R c tri low T 0 first more

theorem runThen_eq (c : Fin 4) (tri : IVec (M2 256 256) 1) (low : IVec (M2 512 256) 1) {α : Type} (T : Prog (TpuEff nD τ sig (Elt F) Λ₀ .tc) α)
    (items : List Item) : ∀ (s : Fin 2) (cur : Item), runThen R c tri low T s cur items = (do run R c tri low s cur items; T) := by
  induction items with
  | nil => intro s cur; rfl
  | cons nxt more ih => intro s cur; simp only [runThen, run, bind_assoc, ih]

theorem schedThen_eq (c : Fin 4) (tri : IVec (M2 256 256) 1) (low : IVec (M2 512 256) 1) {α : Type} (T : Prog (TpuEff nD τ sig (Elt F) Λ₀ .tc) α)
    (items : List Item) : schedThen R c tri low T items = (do sched R c tri low items; T) := by
  cases items with
  | nil => simp only [schedThen, sched, pure_bind]
  | cons first more => simp only [schedThen, sched, bind_assoc, runThen_eq]

omit [FloatOps F] [Named F] in
theorem glue {α : Type} {X T : Prog (TpuEff nD τ sig (Elt F) Λ₀ .tc) α} {S O : Prog (TpuEff nD τ sig (Elt F) Λ₀ .tc) PUnit}
    {K : α → Prog (TpuEff nD τ sig (Elt F) Λ₀ .tc) PUnit} (h : X = S >>= fun _ => T) (h' : T >>= K = O) : X >>= K = S >>= fun _ => O := by
  rw [h, bind_assoc, h']

set_option maxRecDepth 1000000 in
set_option maxHeartbeats 0 in
/-- At the first query block the body is that block's schedule, then the output. -/
theorem body_0 (h : (i 2).val = 0) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ 0 triMask lowMask (items 0)
          output ⟨arg3, arg4, arg5, arg6, harg6, arg7, arg8, arg9, arg10⟩) := by
  have h0 : (Scalar.cmpi .ne (Scalar.extui (Scalar.cmpi .eq (BitVec.ofNat 32 (i 2).val) 0#32) : BitVec 32) 0#32) = 1#1 := by rw [h]; decide
  have h1 : ¬ (Scalar.cmpi .ne (Scalar.extui (Scalar.cmpi .eq (BitVec.ofNat 32 (i 2).val) 1#32) : BitVec 32) 0#32) = 1#1 := by rw [h]; decide
  have h2 : ¬ (Scalar.cmpi .ne (Scalar.extui (Scalar.cmpi .eq (BitVec.ofNat 32 (i 2).val) 2#32) : BitVec 32) 0#32) = 1#1 := by rw [h]; decide
  have h3 : ¬ (Scalar.cmpi .ne (Scalar.extui (Scalar.cmpi .eq (BitVec.ofNat 32 (i 2).val) 3#32) : BitVec 32) 0#32) = 1#1 := by rw [h]; decide
  unfold cc0_causal_attention k0_part104
  simp only [dif_pos h0, dif_neg h1, dif_neg h2, dif_neg h3]
  unfold triMask lowMask
  generalize (cmpi .sle (iota .tc S256x256 32 [0] iota_S256x256_d0_w32) (iota .tc S256x256 32 [1] iota_S256x256_d1_w32) : IVec S256x256 1) = tri
  generalize (cmpi .sle (iota .tc S512x256 32 [0] iota_S512x256_d0_w32) (addi (iota .tc S512x256 32 [1] iota_S512x256_d1_w32) (broadcast S512x256 (256#32 : BitVec 32))) : IVec S512x256 1) = low
  refine glue (T := opening ⟨arg3, arg4, arg5, arg6, harg6, arg7, arg8, arg9, arg10⟩) ?_ ?_
  · rw [← schedThen_eq]; rfl
  · rfl

set_option maxRecDepth 1000000 in
set_option maxHeartbeats 0 in
/-- At the second query block the body is that block's schedule, then the output. -/
theorem body_1 (h : (i 2).val = 1) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ 1 triMask lowMask (items 1)
          output ⟨arg3, arg4, arg5, arg6, harg6, arg7, arg8, arg9, arg10⟩) := by
  have h0 : ¬ (Scalar.cmpi .ne (Scalar.extui (Scalar.cmpi .eq (BitVec.ofNat 32 (i 2).val) 0#32) : BitVec 32) 0#32) = 1#1 := by rw [h]; decide
  have h1 : (Scalar.cmpi .ne (Scalar.extui (Scalar.cmpi .eq (BitVec.ofNat 32 (i 2).val) 1#32) : BitVec 32) 0#32) = 1#1 := by rw [h]; decide
  have h2 : ¬ (Scalar.cmpi .ne (Scalar.extui (Scalar.cmpi .eq (BitVec.ofNat 32 (i 2).val) 2#32) : BitVec 32) 0#32) = 1#1 := by rw [h]; decide
  have h3 : ¬ (Scalar.cmpi .ne (Scalar.extui (Scalar.cmpi .eq (BitVec.ofNat 32 (i 2).val) 3#32) : BitVec 32) 0#32) = 1#1 := by rw [h]; decide
  unfold cc0_causal_attention k0_part104
  simp only [dif_neg h0, dif_pos h1, dif_neg h2, dif_neg h3]
  unfold triMask lowMask
  generalize (cmpi .sle (iota .tc S256x256 32 [0] iota_S256x256_d0_w32) (iota .tc S256x256 32 [1] iota_S256x256_d1_w32) : IVec S256x256 1) = tri
  generalize (cmpi .sle (iota .tc S512x256 32 [0] iota_S512x256_d0_w32) (addi (iota .tc S512x256 32 [1] iota_S512x256_d1_w32) (broadcast S512x256 (256#32 : BitVec 32))) : IVec S512x256 1) = low
  refine glue (T := opening ⟨arg3, arg4, arg5, arg6, harg6, arg7, arg8, arg9, arg10⟩) ?_ ?_
  · rw [← schedThen_eq]; rfl
  · rfl

set_option maxRecDepth 1000000 in
set_option maxHeartbeats 0 in
/-- At the third query block the body is that block's schedule, then the output. -/
theorem body_2 (h : (i 2).val = 2) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ 2 triMask lowMask (items 2)
          output ⟨arg3, arg4, arg5, arg6, harg6, arg7, arg8, arg9, arg10⟩) := by
  have h0 : ¬ (Scalar.cmpi .ne (Scalar.extui (Scalar.cmpi .eq (BitVec.ofNat 32 (i 2).val) 0#32) : BitVec 32) 0#32) = 1#1 := by rw [h]; decide
  have h1 : ¬ (Scalar.cmpi .ne (Scalar.extui (Scalar.cmpi .eq (BitVec.ofNat 32 (i 2).val) 1#32) : BitVec 32) 0#32) = 1#1 := by rw [h]; decide
  have h2 : (Scalar.cmpi .ne (Scalar.extui (Scalar.cmpi .eq (BitVec.ofNat 32 (i 2).val) 2#32) : BitVec 32) 0#32) = 1#1 := by rw [h]; decide
  have h3 : ¬ (Scalar.cmpi .ne (Scalar.extui (Scalar.cmpi .eq (BitVec.ofNat 32 (i 2).val) 3#32) : BitVec 32) 0#32) = 1#1 := by rw [h]; decide
  unfold cc0_causal_attention k0_part104
  simp only [dif_neg h0, dif_neg h1, dif_pos h2, dif_neg h3]
  unfold triMask lowMask
  generalize (cmpi .sle (iota .tc S256x256 32 [0] iota_S256x256_d0_w32) (iota .tc S256x256 32 [1] iota_S256x256_d1_w32) : IVec S256x256 1) = tri
  generalize (cmpi .sle (iota .tc S512x256 32 [0] iota_S512x256_d0_w32) (addi (iota .tc S512x256 32 [1] iota_S512x256_d1_w32) (broadcast S512x256 (256#32 : BitVec 32))) : IVec S512x256 1) = low
  refine glue (T := opening ⟨arg3, arg4, arg5, arg6, harg6, arg7, arg8, arg9, arg10⟩) ?_ ?_
  · rw [← schedThen_eq]; rfl
  · rfl

set_option maxRecDepth 1000000 in
set_option maxHeartbeats 0 in
/-- At the fourth query block the body is that block's schedule, then the output. -/
theorem body_3 (h : (i 2).val = 3) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ 3 triMask lowMask (items 3)
          output ⟨arg3, arg4, arg5, arg6, harg6, arg7, arg8, arg9, arg10⟩) := by
  have h0 : ¬ (Scalar.cmpi .ne (Scalar.extui (Scalar.cmpi .eq (BitVec.ofNat 32 (i 2).val) 0#32) : BitVec 32) 0#32) = 1#1 := by rw [h]; decide
  have h1 : ¬ (Scalar.cmpi .ne (Scalar.extui (Scalar.cmpi .eq (BitVec.ofNat 32 (i 2).val) 1#32) : BitVec 32) 0#32) = 1#1 := by rw [h]; decide
  have h2 : ¬ (Scalar.cmpi .ne (Scalar.extui (Scalar.cmpi .eq (BitVec.ofNat 32 (i 2).val) 2#32) : BitVec 32) 0#32) = 1#1 := by rw [h]; decide
  have h3 : (Scalar.cmpi .ne (Scalar.extui (Scalar.cmpi .eq (BitVec.ofNat 32 (i 2).val) 3#32) : BitVec 32) 0#32) = 1#1 := by rw [h]; decide
  unfold cc0_causal_attention k0_part104
  simp only [dif_neg h0, dif_neg h1, dif_neg h2, dif_pos h3]
  unfold triMask lowMask
  generalize (cmpi .sle (iota .tc S256x256 32 [0] iota_S256x256_d0_w32) (iota .tc S256x256 32 [1] iota_S256x256_d1_w32) : IVec S256x256 1) = tri
  generalize (cmpi .sle (iota .tc S512x256 32 [0] iota_S512x256_d0_w32) (addi (iota .tc S512x256 32 [1] iota_S512x256_d1_w32) (broadcast S512x256 (256#32 : BitVec 32))) : IVec S512x256 1) = low
  refine glue (T := opening ⟨arg3, arg4, arg5, arg6, harg6, arg7, arg8, arg9, arg10⟩) ?_ ?_
  · rw [← schedThen_eq]; rfl
  · rfl

/-- At query block `c` the body is that block's schedule, then the output. -/
theorem body_eq (c : Fin 4) (h : (i 2).val = c.val) :
    cc0_causal_attention (F := F) i arg3 harg3 arg4 harg4 arg5 harg5 arg6 harg6 arg7 harg7 arg8 harg8 arg9 harg9 arg10 harg10
      = (do
          sched (F := F) ⟨arg3, arg4, arg5, arg6, harg6, arg7, arg8, arg9, arg10⟩ c triMask lowMask (items c)
          output ⟨arg3, arg4, arg5, arg6, harg6, arg7, arg8, arg9, arg10⟩) := by
  match c with
  | 0 => exact body_0 i arg3 harg3 arg4 harg4 arg5 harg5 arg6 harg6 arg7 harg7 arg8 harg8 arg9 harg9 arg10 harg10 h
  | 1 => exact body_1 i arg3 harg3 arg4 harg4 arg5 harg5 arg6 harg6 arg7 harg7 arg8 harg8 arg9 harg9 arg10 harg10 h
  | 2 => exact body_2 i arg3 harg3 arg4 harg4 arg5 harg5 arg6 harg6 arg7 harg7 arg8 harg8 arg9 harg9 arg10 harg10 h
  | 3 => exact body_3 i arg3 harg3 arg4 harg4 arg5 harg5 arg6 harg6 arg7 harg7 arg8 harg8 arg9 harg9 arg10 harg10 h

end Cert.Kernel4Ideal.Mla
-- ==== Proof.Mla.Values.lean ====
/-
  What one item computes, entry by entry, on the extended reals.
-/
module

public import proofs.«01_k».proof.Proof.Mla.Items
public import Idealize.ShloMosaic.Lib.VecWindow
public import Idealize.ShloMosaic.Lib.MatmulPlain
public import Idealize.ShloMosaic.Lib.ValueIdx
public import Idealize.ShloMosaic.Lib.ValueLayout
public import Idealize.ShloMosaic.Lib.Pipeline.Value
public import Idealize.ShloMosaic.PureOps.Reduce
public import Idealize.ShloMosaic.Lib.IdealHost

@[expose] public section

noncomputable section

namespace Cert.Kernel4Ideal.Mla

open Idealize.ShloMosaic Idealize.ShloMosaic.TcCoe Idealize.ShloMosaic.ValueIdx
open Cert.Kernel4Ideal.Gen
open scoped BigOperators

/-- A score is the product of a key row and a query row. -/
theorem scores_apply {n w : ℕ} (k : FVec Ideal (M2 n 128) .bf16) (q : FVec Ideal (M2 w 128) .bf16) (r : Fin n) (j : Fin w) :
    scores (F := Ideal) n w k q (ix2 r j) = ∑ l : Fin 128, k (ix2 r l) * q (ix2 j l) := by
  unfold scores
  rw [shapeCast_self, shapeCast_self]
  refine (Ideal.matmul_transposedRhs_apply (M := n) (K := 128) (N := w) none k q _ r j).trans ?_
  rw [constant_apply, Ideal.ofBits_zero_f32]
  exact zero_add _

/-- A masked score is the score, or −∞. -/
theorem masked_apply {n w : ℕ} (mask : IVec (M2 n w) 1) (s : FVec Ideal (M2 n w) .f32) (y : (M2 n w).Idx) :
    masked (F := Ideal) n w mask s y = if mask y = 1#1 then s y else ⊥ := by
  show Scalar.select (mask y) (s y) _ = _
  by_cases h : mask y = 1#1
  · rw [h, if_pos rfl]; rfl
  · rw [eq_zero_of_ne_one h, if_neg (by decide)]; rfl

/-- The weighted sum of the values. -/
theorem weigh_apply {n w : ℕ} (s : FVec Ideal (M3 n w) .f32) (m : FVec Ideal (M2 1 w) .f32) (v : FVec Ideal (M3 80 n) .bf16) (e : Fin 80) (j : Fin w) :
    weigh (F := Ideal) n w s m v (ix2 e j) = ∑ r : Fin n, v (ix3 (0 : Fin 1) e r) * Ideal.exp2 (s (ix3 (0 : Fin 1) r j) - m (ix2 (0 : Fin 1) j)) := by
  unfold weigh
  refine (Ideal.matmul_plain_apply (M := 80) (K := n) (N := w) none _ _ _ e j).trans ?_
  rw [constant_apply, Ideal.ofBits_zero_f32]
  refine (zero_add _).trans (Finset.sum_congr rfl fun r _ => ?_)
  rw [shapeCast_1ab_ab_apply]
  refine congrArg (_ * ·) ?_
  show Ideal.exp2 (shapeCast (M2 n w) s (cast32 n w) (ix2 r j) - broadcastTo (M2 n w) m (bcast n w) (ix2 r j)) = _
  rw [shapeCast_1ab_ab_apply, broadcastTo_1b_ab_apply]

/-- The accumulator rescaled and added to. -/
theorem rescale_apply (m m' : FVec Ideal (M2 1 512) .f32) (acc : FVec Ideal (M3 80 512) .f32) (pv : FVec Ideal (M2 80 512) .f32) (e : Fin 80) (j : Fin 512) :
    rescale (F := Ideal) m m' acc pv (ix2 e j)
      = Ideal.exp2 (m (ix2 (0 : Fin 1) j) - m' (ix2 (0 : Fin 1) j)) * acc (ix3 (0 : Fin 1) e j) + pv (ix2 e j) := by
  show broadcastTo (M2 80 512) (exp2 (subf m m')) (bcast 80 512) (ix2 e j) * shapeCast (M2 80 512) acc (cast32 80 512) (ix2 e j) + _ = _
  rw [shapeCast_1ab_ab_apply, broadcastTo_1b_ab_apply]
  rfl

/-- The largest of a column of scores is a real number when one of them is and none is +∞. -/
theorem colMax_real {n w : ℕ} (s : FVec Ideal (M2 n w) .f32) (j : Fin w) (h : ∀ r, s (ix2 r j) ≠ ⊤) (r : Fin n) (hr : s (ix2 r j) ≠ ⊥) :
    ∃ M : ℝ, colMax (F := Ideal) n w s (ix2 (0 : Fin 1) j) = (M : EReal) := by
  classical
  have e : colMax (F := Ideal) n w s (ix2 (0 : Fin 1) j) = (Finset.univ.filter fun i => (red n w).drop i = ix1 j).fold (max : EReal → EReal → EReal) ⊥ s := by
    unfold colMax
    refine (shapeCast_a_1a_apply _ (cast12 w) 0 j).trans ?_
    have h0 : (FloatOps.ofBits (F := Ideal) .f32 0xFF800000#32) = (⊥ : EReal) := by
      show Ideal.ofBits .f32 0xFF800000#32 = ⊥
      simp [Ideal.ofBits, Ideal.ieee]
    show reduceFold (red n w) (max : EReal → EReal → EReal) (FloatOps.ofBits (F := Ideal) .f32 0xFF800000#32) s (ix1 j) = _
    rw [h0]
    exact reduceFold_eq_fold (red n w) (max : EReal → EReal → EReal) ⊥ s (ix1 j)
  have hd : ∀ i : (M2 n w).Idx, (red n w).drop i = ix1 j ↔ i 1 = j := by
    intro i
    constructor
    · intro hh
      have := congrFun hh 0
      have h2 := (red n w).drop_apply_val i 0
      apply Fin.ext
      have h3 := congrArg Fin.val this
      exact (h2.symm.trans h3)
    · intro hh
      funext b
      obtain rfl : b = (0 : Fin 1) := Subsingleton.elim (α := Fin 1) b 0
      apply Fin.ext
      exact ((red n w).drop_apply_val i 0).trans (congrArg Fin.val hh)
  have hb : colMax (F := Ideal) n w s (ix2 (0 : Fin 1) j) ≠ ⊥ := by
    rw [e]
    have hle : s (ix2 r j) ≤ (Finset.univ.filter fun i => (red n w).drop i = ix1 j).fold (max : EReal → EReal → EReal) ⊥ s :=
      (Finset.le_fold_max _).2 (Or.inr ⟨ix2 r j, Finset.mem_filter.2 ⟨Finset.mem_univ _, (hd _).2 rfl⟩, le_rfl⟩)
    intro hh
    rw [hh] at hle
    exact hr (le_bot_iff.1 hle)
  have ht : colMax (F := Ideal) n w s (ix2 (0 : Fin 1) j) ≠ ⊤ := by
    rw [e]
    refine ne_of_lt ((Finset.fold_max_lt _).2 ⟨bot_lt_top, fun i hi => ?_⟩)
    have hij : i 1 = j := (hd i).1 (Finset.mem_filter.1 hi).2
    have hi2 : i = ix2 (i 0) j := (eq_ix2 i).trans (congrArg (ix2 (i 0)) hij)
    rw [hi2]
    exact lt_top_iff_ne_top.2 (h (i 0))
  exact ⟨_, (EReal.coe_toReal ht hb).symm⟩

/-- The maxima of the diagonal block are those of its halves. -/
theorem diagMax_left (l : FVec Ideal (M2 256 256) .f32) (r : FVec Ideal (M2 512 256) .f32) (j : Fin 512) (h : j.val < 256) :
    diagMax (F := Ideal) l r (ix2 (0 : Fin 1) j) = colMax (F := Ideal) 256 256 l (ix2 (0 : Fin 1) ⟨j.val, h⟩) := by
  unfold diagMax
  exact concatenate_pair_apply_left (t := M2 1 512) (s₁ := M2 1 256) (s₂ := M2 1 256) 1 (colMax (F := Ideal) 256 256 l) (colMax (F := Ideal) 512 256 r)
    concatenates_S1x256_S1x256_S1x512_d1 (ix2 (0 : Fin 1) j) rfl (ix2 (0 : Fin 1) ⟨j.val, h⟩) (fun b : Fin 2 => by match b with | 0 => rfl | 1 => rfl)

theorem diagMax_right (l : FVec Ideal (M2 256 256) .f32) (r : FVec Ideal (M2 512 256) .f32) (j : Fin 512) (h : 256 ≤ j.val) :
    diagMax (F := Ideal) l r (ix2 (0 : Fin 1) j) = colMax (F := Ideal) 512 256 r (ix2 (0 : Fin 1) ⟨j.val - 256, by omega⟩) := by
  unfold diagMax
  refine concatenate_pair_apply_right (t := M2 1 512) (s₁ := M2 1 256) (s₂ := M2 1 256) 1 (colMax (F := Ideal) 256 256 l) (colMax (F := Ideal) 512 256 r)
    concatenates_S1x256_S1x256_S1x512_d1 (ix2 (0 : Fin 1) j) rfl rfl (ix2 (0 : Fin 1) ⟨j.val - 256, by omega⟩) (fun b : Fin 2 => ?_) ?_
  · match b with
    | 0 => exact fun _ => rfl
    | 1 => exact fun hb => absurd rfl hb
  · show j.val - 256 + 256 = j.val
    omega

/-- Signed comparison of small words compares the numbers. -/
theorem sle_small {a b : ℕ} (ha : a < 2 ^ 31) (hb : b < 2 ^ 31) :
    IntOp.cmpi .sle (BitVec.ofNat 32 a) (BitVec.ofNat 32 b) = 1#1 ↔ a ≤ b := by
  have hx : ∀ c : ℕ, c < 2 ^ 31 → (BitVec.ofNat 32 c).toInt = c := fun c hc => by
    rw [BitVec.toInt_eq_toNat_of_lt]
    · simp; omega
    · simp; omega
  show BitVec.ofBool ((BitVec.ofNat 32 a).sle (BitVec.ofNat 32 b)) = 1#1 ↔ a ≤ b
  rw [BitVec.sle, hx a ha, hx b hb]
  by_cases h : a ≤ b
  · simp [h]
  · simp [h]

/-- The first half's mask is the causal one. -/
theorem triMask_apply (r j : Fin 256) : triMask (ix2 r j) = 1#1 ↔ r.val ≤ j.val := by
  have h1 := r.isLt
  have h2 := j.isLt
  show IntOp.cmpi .sle (BitVec.ofNat 32 (0 * 256 + r.val)) (BitVec.ofNat 32 (0 * 256 + j.val)) = 1#1 ↔ _
  rw [sle_small (by omega) (by omega)]
  omega

/-- The second half's mask is the causal one. -/
theorem lowMask_apply (r : Fin 512) (j : Fin 256) : lowMask (ix2 r j) = 1#1 ↔ r.val ≤ j.val + 256 := by
  have h1 := r.isLt
  have h2 := j.isLt
  show IntOp.cmpi .sle (BitVec.ofNat 32 (0 * 512 + r.val)) (BitVec.ofNat 32 (0 * 256 + j.val) + 256#32) = 1#1 ↔ _
  rw [show BitVec.ofNat 32 (0 * 256 + j.val) + 256#32 = BitVec.ofNat 32 (j.val + 256) from by rw [Nat.zero_mul, Nat.zero_add, BitVec.ofNat_add], sle_small (by omega) (by omega)]
  omega

/-- One head's output: the accumulator over its last row. -/
theorem norm_apply (a : FVec Ideal (M3 64 512) .f32) (l : FVec Ideal (M3 1 512) .f32) (e : Fin 64) (j : Fin 512) :
    norm (F := Ideal) a l (ix2 e j) = a (ix3 (0 : Fin 1) e j) * Ideal.div 1 (l (ix3 (0 : Fin 1) (0 : Fin 1) j)) := by
  show shapeCast (M2 64 512) a (cast32 64 512) (ix2 e j) * broadcastTo (M2 64 512) _ (bcast 64 512) (ix2 e j) = _
  rw [shapeCast_1ab_ab_apply, broadcastTo_1b_ab_apply]
  show _ * Ideal.div (Ideal.ofBits .f32 0x3F800000#32) (shapeCast (M2 1 512) l (cast32 1 512) (ix2 (0 : Fin 1) j)) = _
  rw [shapeCast_1ab_ab_apply, Ideal.ofBits_one_f32]

/-- The block of the output, entry by entry. -/
theorem assemble_apply (f : Fin 8 → FVec Ideal (M2 64 512) .f32) (j : Fin 512) (h : Fin 8) (e : Fin 64) :
    assemble (F := Ideal) f (ix2 j ⟨h.val * 64 + e.val, by omega⟩) = f h (ix2 e j) := by
  unfold assemble
  rw [truncf_apply]
  refine (transpose_ix2_apply (a := 512) (b := 512) _ transposes_S512x512_p1_0_S512x512 j ⟨h.val * 64 + e.val, by omega⟩).trans ?_
  refine concatenate_ofFn_apply (t := M2 512 512) (s₁ := M2 64 512) 0 f concatenates_S64x512_S64x512_S64x512_S64x512_S64x512_S64x512_S64x512_S64x512_S512x512_d0
    rfl 64 rfl _ h ?_ (ix2 e j) ?_ ?_
  · show (h.val * 64 + e.val) / 64 = h.val
    omega
  · show e.val = (h.val * 64 + e.val) % 64
    omega
  · intro b
    match b with
    | 0 => exact fun hb => absurd rfl hb
    | 1 => exact fun _ => rfl

end Cert.Kernel4Ideal.Mla
-- ==== Proof.Mla.Triple.lean ====
/-
  Running a program on the attention body's buffers, stated by what the buffers hold: from contents `s` the program
  ends with a value and contents of which `Q` holds.  Loads read a window of the contents, stores put one.
-/
module

public import proofs.«01_k».proof.Proof.Mla.Items
public import proofs.«01_k».proof.Proof.Gen.Kernel4Ideal.Launch
public import Idealize.ShloMosaic.Lib.VecWindow
public import Idealize.ShloMosaic.Lib.Claim

@[expose] public section

noncomputable section

namespace Cert.Kernel4Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F] [Named F]

local notation "𝕄" => MT nD τ sig Unit (Elt F) ℕ (UR sig nD τ) ℕ

/-- What the three input buffers hold. -/
structure Ins (F : FTy → Type) where
  q : S512x1024.Idx → Elt F .bf16
  k : S2048x1024.Idx → Elt F .bf16
  v : S1x640x2048.Idx → Elt F .bf16

/-- What the four scratch buffers hold. -/
structure St (F : FTy → Type) where
  m : S8x1x512.Idx → Elt F .f32
  acc : S8x80x512.Idx → Elt F .f32
  st : S2x1024x512.Idx → Elt F .f32
  mx : S2x1x512.Idx → Elt F .f32

variable (d : Dev nD) (R : Refs) (x : Ins F)

/-- The buffers are held, at these contents. -/
def Own (s : St F) : sProp 𝕄 :=
  iprop(owns (d : Thread nD τ) R.q fullShare x.q ∗ owns (d : Thread nD τ) R.k fullShare x.k ∗ owns (d : Thread nD τ) R.v fullShare x.v
    ∗ owns (d : Thread nD τ) R.m fullShare s.m ∗ owns (d : Thread nD τ) R.acc fullShare s.acc ∗ owns (d : Thread nD τ) R.st fullShare s.st
    ∗ owns (d : Thread nD τ) R.mx fullShare s.mx)

/-- From contents `s` the program `p` ends with a value and contents of which `Q` holds. -/
def Tr {α : Type} (p : Prog (TpuEff nD τ sig (Elt F) Λ₀ .tc) α) (s : St F) (Q : α → St F → Prop) : Prop :=
  ∀ (Fr : sProp 𝕄) (E : Set ℕ) (K : α → sProp 𝕄), (∀ a s', Q a s' → iprop(Own d R x s' ∗ Fr) ⊢ K a) →
    iprop(Own d R x s ∗ Fr) ⊢ wp frame (wpE (defs₀ (F := F)) Variants.none (d : Thread nD τ) none) E p K

variable {d R x}
variable {α β : Type} {p : Prog (TpuEff nD τ sig (Elt F) Λ₀ .tc) α}

theorem Tr.pure {a : α} {s : St F} {Q : α → St F → Prop} (h : Q a s) : Tr d R x (pure a : Prog (TpuEff nD τ sig (Elt F) Λ₀ .tc) α) s Q := by
  intro Fr E K hK
  exact ((hK a s h).trans fupd_intro).trans (BIBase.Entails.of_eq (wp_pure _ _ _ _ _).symm)

theorem Tr.bind {f : α → Prog (TpuEff nD τ sig (Elt F) Λ₀ .tc) β} {s : St F} {Q : β → St F → Prop}
    (h : Tr d R x p s fun a s' => Tr d R x (f a) s' Q) : Tr d R x (p >>= f) s Q := by
  intro Fr E K hK
  exact (h Fr E _ fun a s' h' => h' Fr E K hK).trans (BIBase.Entails.of_eq (wp_bind _ _ _ _ _ _).symm)

theorem Tr.mono {s : St F} {Q Q' : α → St F → Prop} (h : Tr d R x p s Q) (hQ : ∀ a s', Q a s' → Q' a s') : Tr d R x p s Q' :=
  fun Fr E K hK => h Fr E K fun a s' h' => hK a s' (hQ a s' h')

/-- A load reads a window of what the buffer holds. -/
theorem wp_ld {s : Shape} {e : EltTy} (r : Memref sig .tc .vmem s e) (off size : Fin s.rank → ℕ) (inb : ∀ a, off a + size a ≤ s.size a)
    (h : 0 < (Rect.unit off size inb).shape.numel) (X : s.Idx → Elt F e) (Fr : sProp 𝕄) (E : Set ℕ) (K : _ → sProp 𝕄)
    (hK : iprop(owns (d : Thread nD τ) r fullShare X ∗ Fr) ⊢ K (VecWindow.window X off size inb)) :
    iprop(owns (d : Thread nD τ) r fullShare X ∗ Fr) ⊢ wp frame (wpE (defs₀ (F := F)) Variants.none (d : Thread nD τ) none) E (ld r off size inb h) K := by
  unfold ld owns
  iintro ⟨⟨%f, %hf, H⟩, HF⟩
  iapply (wp_load_rect (defs := defs₀ (F := F)) Variants.none (d : Thread nD τ) none E (m := r) (r := Rect.unit off size inb) (hl := View.loadsAt_vmem h) (k := Prog.ret) (f := f)
    (S := r.view.set) (q := fullShare) (Q := K) (r.view.set_slice_subset _)) $$ H
  iintro H
  rw [wp_ret]
  iapply fupd_intro
  have e : (r.access (Rect.unit off size inb)).read (Elt F) f = VecWindow.window X off size inb := by subst hf; rfl
  rw [e]
  iapply hK
  isplitl [H]
  · unfold owns; iexists f; isplitr
    · ipureintro; exact hf
    · iexact H
  · iexact HF

/-- A store puts a window over what the buffer holds. -/
theorem wp_st {s : Shape} (r : Memref sig .tc .vmem s .f32) (off size : Fin s.rank → ℕ) (inb : ∀ a, off a + size a ≤ s.size a)
    (h : 0 < (Rect.unit off size inb).shape.numel) (w : (Rect.unit off size inb).shape.Idx → Elt F .f32) (X : s.Idx → Elt F .f32) (Fr : sProp 𝕄) (E : Set ℕ) (K : _ → sProp 𝕄)
    (hK : iprop(owns (d : Thread nD τ) r fullShare (VecWindow.put X off size w) ∗ Fr) ⊢ K ⟨⟩) :
    iprop(owns (d : Thread nD τ) r fullShare X ∗ Fr) ⊢ wp frame (wpE (defs₀ (F := F)) Variants.none (d : Thread nD τ) none) E (st r off size inb h w) K := by
  unfold st owns
  iintro ⟨⟨%f, %hf, H⟩, HF⟩
  iapply (wp_store (defs := defs₀ (F := F)) Variants.none (d : Thread nD τ) none E (m := r) (r := Rect.unit off size inb) (w := w) (Mk := Finset.univ)
    (hx := View.stores_vmem_bits_univ h rfl) (hm := .inl rfl) (k := Prog.ret) (f := f) (S := r.view.set) (Q := K) (r.setOn_access_subset _ _)) $$ H
  iintro H
  rw [wp_ret]
  iapply fupd_intro
  iapply hK
  isplitl [H]
  · unfold owns; iexists _; isplitr
    swap; · iexact H
    · ipureintro
      have e := View.read_writes_cons_put (Val := Elt F) r.view f inb w [] rfl
      subst hf
      exact e
  · iexact HF

theorem Tr.ld_q {off size inb h} {s : St F} {Q : _ → St F → Prop} (hQ : Q (VecWindow.window x.q off size inb) s) :
    Tr d R x (ld R.q off size inb h) s Q := by
  intro Fr E K hK
  unfold Own
  iintro ⟨⟨H0, H1, H2, H3, H4, H5, H6⟩, HF⟩
  iapply (wp_ld R.q off size inb h x.q (iprop((owns (d : Thread nD τ) R.q fullShare x.q -∗ Own d R x s) ∗ Fr)) E K (by
    iintro ⟨H, HW, HF⟩
    iapply (hK _ s hQ)
    isplitr [HF]
    · iapply HW $$ H
    · iexact HF))
  isplitl [H0]; · iexact H0
  isplitr [HF]
  · iintro H0
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_k {off size inb h} {s : St F} {Q : _ → St F → Prop} (hQ : Q (VecWindow.window x.k off size inb) s) :
    Tr d R x (ld R.k off size inb h) s Q := by
  intro Fr E K hK
  unfold Own
  iintro ⟨⟨H0, H1, H2, H3, H4, H5, H6⟩, HF⟩
  iapply (wp_ld R.k off size inb h x.k (iprop((owns (d : Thread nD τ) R.k fullShare x.k -∗ Own d R x s) ∗ Fr)) E K (by
    iintro ⟨H, HW, HF⟩
    iapply (hK _ s hQ)
    isplitr [HF]
    · iapply HW $$ H
    · iexact HF))
  isplitl [H1]; · iexact H1
  isplitr [HF]
  · iintro H1
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_v {off size inb h} {s : St F} {Q : _ → St F → Prop} (hQ : Q (VecWindow.window x.v off size inb) s) :
    Tr d R x (ld R.v off size inb h) s Q := by
  intro Fr E K hK
  unfold Own
  iintro ⟨⟨H0, H1, H2, H3, H4, H5, H6⟩, HF⟩
  iapply (wp_ld R.v off size inb h x.v (iprop((owns (d : Thread nD τ) R.v fullShare x.v -∗ Own d R x s) ∗ Fr)) E K (by
    iintro ⟨H, HW, HF⟩
    iapply (hK _ s hQ)
    isplitr [HF]
    · iapply HW $$ H
    · iexact HF))
  isplitl [H2]; · iexact H2
  isplitr [HF]
  · iintro H2
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_m {off size inb h} {s : St F} {Q : _ → St F → Prop} (hQ : Q (VecWindow.window s.m off size inb) s) :
    Tr d R x (ld R.m off size inb h) s Q := by
  intro Fr E K hK
  unfold Own
  iintro ⟨⟨H0, H1, H2, H3, H4, H5, H6⟩, HF⟩
  iapply (wp_ld R.m off size inb h s.m (iprop((owns (d : Thread nD τ) R.m fullShare s.m -∗ Own d R x s) ∗ Fr)) E K (by
    iintro ⟨H, HW, HF⟩
    iapply (hK _ s hQ)
    isplitr [HF]
    · iapply HW $$ H
    · iexact HF))
  isplitl [H3]; · iexact H3
  isplitr [HF]
  · iintro H3
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_acc {off size inb h} {s : St F} {Q : _ → St F → Prop} (hQ : Q (VecWindow.window s.acc off size inb) s) :
    Tr d R x (ld R.acc off size inb h) s Q := by
  intro Fr E K hK
  unfold Own
  iintro ⟨⟨H0, H1, H2, H3, H4, H5, H6⟩, HF⟩
  iapply (wp_ld R.acc off size inb h s.acc (iprop((owns (d : Thread nD τ) R.acc fullShare s.acc -∗ Own d R x s) ∗ Fr)) E K (by
    iintro ⟨H, HW, HF⟩
    iapply (hK _ s hQ)
    isplitr [HF]
    · iapply HW $$ H
    · iexact HF))
  isplitl [H4]; · iexact H4
  isplitr [HF]
  · iintro H4
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_st {off size inb h} {s : St F} {Q : _ → St F → Prop} (hQ : Q (VecWindow.window s.st off size inb) s) :
    Tr d R x (ld R.st off size inb h) s Q := by
  intro Fr E K hK
  unfold Own
  iintro ⟨⟨H0, H1, H2, H3, H4, H5, H6⟩, HF⟩
  iapply (wp_ld R.st off size inb h s.st (iprop((owns (d : Thread nD τ) R.st fullShare s.st -∗ Own d R x s) ∗ Fr)) E K (by
    iintro ⟨H, HW, HF⟩
    iapply (hK _ s hQ)
    isplitr [HF]
    · iapply HW $$ H
    · iexact HF))
  isplitl [H5]; · iexact H5
  isplitr [HF]
  · iintro H5
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.ld_mx {off size inb h} {s : St F} {Q : _ → St F → Prop} (hQ : Q (VecWindow.window s.mx off size inb) s) :
    Tr d R x (ld R.mx off size inb h) s Q := by
  intro Fr E K hK
  unfold Own
  iintro ⟨⟨H0, H1, H2, H3, H4, H5, H6⟩, HF⟩
  iapply (wp_ld R.mx off size inb h s.mx (iprop((owns (d : Thread nD τ) R.mx fullShare s.mx -∗ Own d R x s) ∗ Fr)) E K (by
    iintro ⟨H, HW, HF⟩
    iapply (hK _ s hQ)
    isplitr [HF]
    · iapply HW $$ H
    · iexact HF))
  isplitl [H6]; · iexact H6
  isplitr [HF]
  · iintro H6
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.st_m {off size inb h w} {s : St F} {Q : _ → St F → Prop} (hQ : Q ⟨⟩ { s with m := VecWindow.put s.m off size w }) :
    Tr d R x (st R.m off size inb h w) s Q := by
  intro Fr E K hK
  unfold Own
  iintro ⟨⟨H0, H1, H2, H3, H4, H5, H6⟩, HF⟩
  iapply (wp_st R.m off size inb h w s.m (iprop((owns (d : Thread nD τ) R.m fullShare (VecWindow.put s.m off size w) -∗ Own d R x { s with m := VecWindow.put s.m off size w }) ∗ Fr)) E K (by
    iintro ⟨H, HW, HF⟩
    iapply (hK _ _ hQ)
    isplitr [HF]
    · iapply HW $$ H
    · iexact HF))
  isplitl [H3]; · iexact H3
  isplitr [HF]
  · iintro H3
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.st_acc {off size inb h w} {s : St F} {Q : _ → St F → Prop} (hQ : Q ⟨⟩ { s with acc := VecWindow.put s.acc off size w }) :
    Tr d R x (st R.acc off size inb h w) s Q := by
  intro Fr E K hK
  unfold Own
  iintro ⟨⟨H0, H1, H2, H3, H4, H5, H6⟩, HF⟩
  iapply (wp_st R.acc off size inb h w s.acc (iprop((owns (d : Thread nD τ) R.acc fullShare (VecWindow.put s.acc off size w) -∗ Own d R x { s with acc := VecWindow.put s.acc off size w }) ∗ Fr)) E K (by
    iintro ⟨H, HW, HF⟩
    iapply (hK _ _ hQ)
    isplitr [HF]
    · iapply HW $$ H
    · iexact HF))
  isplitl [H4]; · iexact H4
  isplitr [HF]
  · iintro H4
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.st_st {off size inb h w} {s : St F} {Q : _ → St F → Prop} (hQ : Q ⟨⟩ { s with st := VecWindow.put s.st off size w }) :
    Tr d R x (st R.st off size inb h w) s Q := by
  intro Fr E K hK
  unfold Own
  iintro ⟨⟨H0, H1, H2, H3, H4, H5, H6⟩, HF⟩
  iapply (wp_st R.st off size inb h w s.st (iprop((owns (d : Thread nD τ) R.st fullShare (VecWindow.put s.st off size w) -∗ Own d R x { s with st := VecWindow.put s.st off size w }) ∗ Fr)) E K (by
    iintro ⟨H, HW, HF⟩
    iapply (hK _ _ hQ)
    isplitr [HF]
    · iapply HW $$ H
    · iexact HF))
  isplitl [H5]; · iexact H5
  isplitr [HF]
  · iintro H5
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

theorem Tr.st_mx {off size inb h w} {s : St F} {Q : _ → St F → Prop} (hQ : Q ⟨⟩ { s with mx := VecWindow.put s.mx off size w }) :
    Tr d R x (st R.mx off size inb h w) s Q := by
  intro Fr E K hK
  unfold Own
  iintro ⟨⟨H0, H1, H2, H3, H4, H5, H6⟩, HF⟩
  iapply (wp_st R.mx off size inb h w s.mx (iprop((owns (d : Thread nD τ) R.mx fullShare (VecWindow.put s.mx off size w) -∗ Own d R x { s with mx := VecWindow.put s.mx off size w }) ∗ Fr)) E K (by
    iintro ⟨H, HW, HF⟩
    iapply (hK _ _ hQ)
    isplitr [HF]
    · iapply HW $$ H
    · iexact HF))
  isplitl [H6]; · iexact H6
  isplitr [HF]
  · iintro H6
    unfold Own
    isplitl [H0]; · iexact H0
    isplitl [H1]; · iexact H1
    isplitl [H2]; · iexact H2
    isplitl [H3]; · iexact H3
    isplitl [H4]; · iexact H4
    isplitl [H5]; · iexact H5
    iexact H6
  · iexact HF

end Cert.Kernel4Ideal.Mla
-- ==== Proof.Mla.Inv.lean ====
/-
  What the scratch buffers hold between items: a slot holds its item's scores and a real bound, and every head's
  accumulator holds the weighted sum of the values over the keys done so far, under the head's running bound.
-/
module

public import proofs.«01_k».proof.Proof.Mla.Values
public import proofs.«01_k».proof.Proof.Mla.Triple

@[expose] public section

noncomputable section

namespace Cert.Kernel4Ideal.Mla

open Idealize.ShloMosaic Idealize.ShloMosaic.TcCoe Idealize.ShloMosaic.ValueIdx
open Cert.Kernel4Ideal.Gen
open scoped BigOperators

/-! ## Windows by coordinates -/

section Windows
variable {α : Type} {A B C n w x y z : ℕ}

theorem window2 (X : (M2 A B).Idx → α) (inb : ∀ a, (![x, y] : Fin 2 → ℕ) a + (![n, w] : Fin 2 → ℕ) a ≤ (M2 A B).size a)
    (r : Fin n) (l : Fin w) (r' : Fin A) (l' : Fin B) (hr : r'.val = x + r.val) (hl : l'.val = y + l.val) :
    VecWindow.window X ![x, y] ![n, w] inb (ix2 r l) = X (ix2 r' l') :=
  congrArg X (funext fun a : Fin 2 => Fin.ext (by
    match a with
    | 0 => show x + 1 * r.val = r'.val; omega
    | 1 => show y + 1 * l.val = l'.val; omega))

theorem window3 (X : (⟨3, ![A, B, C]⟩ : Shape).Idx → α) (inb : ∀ a, (![x, y, z] : Fin 3 → ℕ) a + (![1, n, w] : Fin 3 → ℕ) a ≤ (⟨3, ![A, B, C]⟩ : Shape).size a)
    (r : Fin n) (l : Fin w) (a' : Fin A) (r' : Fin B) (l' : Fin C) (ha : a'.val = x) (hr : r'.val = y + r.val) (hl : l'.val = z + l.val) :
    VecWindow.window X ![x, y, z] ![1, n, w] inb (ix3 (0 : Fin 1) r l) = X (ix3 a' r' l') :=
  congrArg X (funext fun a : Fin 3 => Fin.ext (by
    match a with
    | 0 => show x + 1 * 0 = a'.val; omega
    | 1 => show y + 1 * r.val = r'.val; omega
    | 2 => show z + 1 * l.val = l'.val; omega))

theorem put3_in (X : (⟨3, ![A, B, C]⟩ : Shape).Idx → α) (W : (M3 n w).Idx → α) (a : Fin A) (b : Fin B) (c : Fin C) (b' : Fin n) (c' : Fin w)
    (ha : a.val = x) (hb : b.val = y + b'.val) (hc : c.val = z + c'.val) :
    VecWindow.put X ![x, y, z] ![1, n, w] W (ix3 a b c) = W (ix3 (0 : Fin 1) b' c') := by
  have h : ∀ t : Fin 3, (![x, y, z] : Fin 3 → ℕ) t ≤ (ix3 a b c t).val ∧ (ix3 a b c t).val < (![x, y, z] : Fin 3 → ℕ) t + (![1, n, w] : Fin 3 → ℕ) t := fun t => by
    match t with
    | 0 => exact ⟨by show x ≤ a.val; omega, by show a.val < x + 1; omega⟩
    | 1 => exact ⟨by show y ≤ b.val; omega, by show b.val < y + n; omega⟩
    | 2 => exact ⟨by show z ≤ c.val; omega, by show c.val < z + w; omega⟩
  refine (dif_pos h).trans (congrArg W (funext fun t : Fin 3 => Fin.ext ?_))
  match t with
  | 0 => show a.val - x = 0; omega
  | 1 => show b.val - y = b'.val; omega
  | 2 => show c.val - z = c'.val; omega

theorem put3_out (X : (⟨3, ![A, B, C]⟩ : Shape).Idx → α) (W : (M3 n w).Idx → α) (a : Fin A) (b : Fin B) (c : Fin C)
    (h : a.val ≠ x ∨ c.val < z ∨ z + w ≤ c.val) :
    VecWindow.put X ![x, y, z] ![1, n, w] W (ix3 a b c) = X (ix3 a b c) := by
  refine dif_neg fun hh : ∀ t : Fin 3, (![x, y, z] : Fin 3 → ℕ) t ≤ (ix3 a b c t).val ∧ (ix3 a b c t).val < (![x, y, z] : Fin 3 → ℕ) t + (![1, n, w] : Fin 3 → ℕ) t => ?_
  have h0 : x ≤ a.val ∧ a.val < x + 1 := hh 0
  have h2 : z ≤ c.val ∧ c.val < z + w := hh 2
  omega

end Windows

/-! ## Scores, values and weights -/

variable (x : Ins Ideal) (c : Fin 4)

/-- The score of key `r` against the block's query `j` at head `h`. -/
def sc (h : Fin 8) (r : ℕ) (j : Fin 512) : EReal :=
  if hr : r < 2048 then ∑ l : Fin 128, x.k (ix2 (⟨r, hr⟩ : Fin 2048) (⟨h.val * 128 + l.val, by omega⟩ : Fin 1024)) * x.q (ix2 j (⟨h.val * 128 + l.val, by omega⟩ : Fin 1024)) else 0

/-- The masked score: −∞ for a key after the query. -/
def lg (h : Fin 8) (r : ℕ) (j : Fin 512) : EReal := if r ≤ c.val * 512 + j.val then sc x h r j else ⊥

/-- Row `e` of the values of head `h` at key `r`. -/
def vl (h : Fin 8) (e : Fin 80) (r : ℕ) : EReal :=
  if hr : r < 2048 then x.v (ix3 (0 : Fin 1) (⟨h.val * 80 + e.val, by omega⟩ : Fin 640) (⟨r, hr⟩ : Fin 2048)) else 0

/-- A key's share of the accumulator under the bound `M`. -/
def wt (M : ℝ) (h : Fin 8) (e : Fin 80) (j : Fin 512) (r : ℕ) : EReal := vl x h e r * Ideal.exp2 (lg x c h r j - (M : EReal))

/-- The accumulator once the diagonal block and the keys before `n` are done. -/
def part (M : ℝ) (n : ℕ) (h : Fin 8) (e : Fin 80) (j : Fin 512) : EReal :=
  ∑ r ∈ Finset.range n, wt x c M h e j r + ∑ r ∈ Finset.range 512, wt x c M h e j (c.val * 512 + r)

/-- Every score is a real number. -/
def RealScores : Prop := ∀ h r j, ∃ a : ℝ, sc x h r j = (a : EReal)

theorem exp2_real (a : ℝ) : Ideal.exp2 (a : EReal) = (((2 : ℝ) ^ a : ℝ) : EReal) := Ideal.exp2_coe a

theorem exp2_shift (M M' : ℝ) (T : EReal) (hT : T = ⊥ ∨ ∃ a : ℝ, T = (a : EReal)) :
    Ideal.exp2 ((M : EReal) - (M' : EReal)) * Ideal.exp2 (T - (M : EReal)) = Ideal.exp2 (T - (M' : EReal)) := by
  rcases hT with rfl | ⟨a, rfl⟩
  · rw [EReal.bot_sub, EReal.bot_sub, Ideal.exp2_bot, mul_zero]
  · rw [← EReal.coe_sub, ← EReal.coe_sub, ← EReal.coe_sub, exp2_real, exp2_real, exp2_real, ← EReal.coe_mul, ← Real.rpow_add (by norm_num)]
    congr 2
    ring

theorem lg_cases (hS : RealScores x) (h : Fin 8) (r : ℕ) (j : Fin 512) : lg x c h r j = ⊥ ∨ ∃ a : ℝ, lg x c h r j = (a : EReal) := by
  unfold lg
  split
  · exact Or.inr (hS h r j)
  · exact Or.inl rfl

theorem wt_shift (hS : RealScores x) (M M' : ℝ) (h : Fin 8) (e : Fin 80) (j : Fin 512) (r : ℕ) :
    Ideal.exp2 ((M : EReal) - (M' : EReal)) * wt x c M h e j r = wt x c M' h e j r := by
  unfold wt
  rw [mul_left_comm, exp2_shift M M' _ (lg_cases x c hS h r j)]

/-- A nonnegative real factor moves into a sum of extended reals. -/
theorem coe_mul_sum {ι : Type} (a : ℝ) (ha : 0 ≤ a) (s : Finset ι) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

theorem part_shift (hS : RealScores x) (M M' : ℝ) (n : ℕ) (h : Fin 8) (e : Fin 80) (j : Fin 512) :
    Ideal.exp2 ((M : EReal) - (M' : EReal)) * part x c M n h e j = part x c M' n h e j := by
  have h0 : Ideal.exp2 ((M : EReal) - (M' : EReal)) = (((2 : ℝ) ^ (M - M') : ℝ) : EReal) := by rw [← EReal.coe_sub, exp2_real]
  have hp : (0 : ℝ) ≤ (2 : ℝ) ^ (M - M') := by positivity
  unfold part
  rw [h0, EReal.left_distrib_of_nonneg_of_ne_top (by exact_mod_cast hp) (EReal.coe_ne_top _), coe_mul_sum _ hp, coe_mul_sum _ hp, ← h0]
  simp only [wt_shift x c hS]

theorem part_add (M : ℝ) (k n : ℕ) (h : Fin 8) (e : Fin 80) (j : Fin 512) :
    part x c M k h e j + ∑ r : Fin n, wt x c M h e j (k + r.val) = part x c M (k + n) h e j := by
  unfold part
  rw [Finset.sum_range_add, Finset.sum_range (fun r => wt x c M h e j (k + r)), add_assoc, add_assoc, add_comm (∑ r ∈ Finset.range 512, _)]

/-! ## The invariant -/

/-- Slot `s` holds the item's masked scores and real bounds. -/
def Slot (it : Item) (s : Fin 2) (t : St Ideal) : Prop :=
  match it with
  | .diag h => (∀ (r : Fin 1024) (j : Fin 512), r.val < 512 → (r.val < 256 ∨ 256 ≤ j.val) → t.st (ix3 s r j) = lg x c h (c.val * 512 + r.val) j)
      ∧ ∀ j : Fin 512, ∃ M : ℝ, t.mx (ix3 s (0 : Fin 1) j) = (M : EReal)
  | .grp h k0 n _ _ _ => (∀ (r : Fin 1024) (j : Fin 512), r.val < n → t.st (ix3 s r j) = lg x c h (k0 + r.val) j)
      ∧ ∀ j : Fin 512, ∃ M : ℝ, t.mx (ix3 s (0 : Fin 1) j) = (M : EReal)

/-- Head `h` holds the diagonal block and the keys before `n`. -/
def Head (h : Fin 8) (n : ℕ) (t : St Ideal) : Prop :=
  ∀ j : Fin 512, ∃ M : ℝ, t.m (ix3 h (0 : Fin 1) j) = (M : EReal) ∧ ∀ e : Fin 80, t.acc (ix3 h e j) = part x c M n h e j

/-- Every head holds what `D` says it has done. -/
def Inv (D : Fin 8 → Option ℕ) (t : St Ideal) : Prop := ∀ h n, D h = some n → Head x c h n t

/-- What is done after an item. -/
def step (D : Fin 8 → Option ℕ) : Item → Fin 8 → Option ℕ
  | .diag h => Function.update D h (some 0)
  | .grp h k0 n _ _ _ => Function.update D h (some (k0 + n))

/-- The item lies before the diagonal block. -/
def Fits : Item → Prop
  | .diag _ => True
  | .grp _ k0 n _ _ _ => k0 + n ≤ c.val * 512

/-- The item continues what is done. -/
def Next (D : Fin 8 → Option ℕ) : Item → Prop
  | .diag _ => True
  | .grp h k0 _ _ _ _ => D h = some k0

variable {x c}
variable {d : Dev nD} {R : Refs}

theorem head_of_eq {h : Fin 8} {n : ℕ} {t t' : St Ideal} (H : Head x c h n t) (hm : ∀ j : Fin 512, t'.m (ix3 h (0 : Fin 1) j) = t.m (ix3 h (0 : Fin 1) j))
    (ha : ∀ (e : Fin 80) (j : Fin 512), t'.acc (ix3 h e j) = t.acc (ix3 h e j)) : Head x c h n t' := by
  intro j
  obtain ⟨M, h1, h2⟩ := H j
  exact ⟨M, (hm j).trans h1, fun e => (ha e j).trans (h2 e)⟩

/-- The invariant after head `h` alone has changed. -/
theorem inv_update {D : Fin 8 → Option ℕ} {h : Fin 8} {n : ℕ} {t t' : St Ideal} (H : Inv x c D t) (hh : Head x c h n t')
    (hm : ∀ h' : Fin 8, h' ≠ h → ∀ j : Fin 512, t'.m (ix3 h' (0 : Fin 1) j) = t.m (ix3 h' (0 : Fin 1) j))
    (ha : ∀ h' : Fin 8, h' ≠ h → ∀ (e : Fin 80) (j : Fin 512), t'.acc (ix3 h' e j) = t.acc (ix3 h' e j)) :
    Inv x c (Function.update D h (some n)) t' := by
  intro h' n' e
  by_cases hne : h' = h
  · subst hne
    rw [Function.update_self] at e
    obtain rfl := Option.some.inj e
    exact hh
  · rw [Function.update_of_ne hne] at e
    exact head_of_eq (H h' n' e) (hm h' hne) (ha h' hne)

theorem cast3 {α : Type} (w : (M3 1 512).Idx → α) : shapeCast (M3 1 512) (shapeCast (M2 1 512) w (cast32 1 512)) (cast23 1 512) = w := by
  rw [shapeCast_shapeCast]

/-- The bits of a block's values: what the weighing of `n` keys from `k0` on adds. -/
theorem weigh_wt {n w : ℕ} (k0 q0 : ℕ) (h : Fin 8) (M : Fin w → ℝ) (s : FVec Ideal (M3 n w) .f32) (m : FVec Ideal (M2 1 w) .f32) (v : FVec Ideal (M3 80 n) .bf16)
    (hq : q0 + w ≤ 512) (hs : ∀ (r : Fin n) (j : Fin w), s (ix3 (0 : Fin 1) r j) = lg x c h (k0 + r.val) ⟨q0 + j.val, by omega⟩)
    (hm : ∀ j : Fin w, m (ix2 (0 : Fin 1) j) = (M j : EReal)) (hv : ∀ (e : Fin 80) (r : Fin n), v (ix3 (0 : Fin 1) e r) = vl x h e (k0 + r.val)) (e : Fin 80) (j : Fin w) :
    weigh (F := Ideal) n w s m v (ix2 e j) = ∑ r : Fin n, wt x c (M j) h e ⟨q0 + j.val, by omega⟩ (k0 + r.val) := by
  rw [weigh_apply]
  refine Finset.sum_congr rfl fun r _ => ?_
  rw [hs, hm, hv]
  rfl

end Cert.Kernel4Ideal.Mla
-- ==== Proof.Mla.Consume.lean ====
/-
  Consuming an item: a slot's scores weigh the values into the head's accumulator.
-/
module

public import proofs.«01_k».proof.Proof.Mla.Inv

@[expose] public section

noncomputable section

namespace Cert.Kernel4Ideal.Mla

open Idealize.ShloMosaic Idealize.ShloMosaic.TcCoe Idealize.ShloMosaic.ValueIdx
open Cert.Kernel4Ideal.Gen
open scoped BigOperators

variable {d : Dev nD} {R : Refs} {x : Ins Ideal} {c : Fin 4}

/-! ## The two programs that write the running bounds and the accumulator -/

theorem Tr.stM {h : Fin 8} {w : FVec Ideal (M2 1 512) .f32} {t : St Ideal} {Q : PUnit → St Ideal → Prop}
    (hQ : Q ⟨⟩ { t with m := VecWindow.put t.m ![h.val, 0, 0] ![1, 1, 512] (shapeCast (M3 1 512) w (cast23 1 512)) }) : Tr d R x (stM R h w) t Q :=
  Tr.bind (Tr.ld_m (Tr.st_m hQ))

theorem Tr.stA {h : Fin 8} {q0 w : ℕ} {hq : q0 + w ≤ 512} {hw : 0 < w} {y : FVec Ideal (M2 80 w) .f32} {t : St Ideal} {Q : PUnit → St Ideal → Prop}
    (hQ : Q ⟨⟩ { t with acc := VecWindow.put t.acc ![h.val, 0, q0] ![1, 80, w] (shapeCast (M3 80 w) y (cast23 80 w)) }) : Tr d R x (stA R h q0 w hq hw y) t Q :=
  Tr.bind (Tr.ld_acc (Tr.st_acc hQ))

theorem vl_window (h : Fin 8) (k0 n : ℕ) (hk : k0 + n ≤ 2048) (inb) (e : Fin 80) (r : Fin n) :
    VecWindow.window x.v ![0, h.val * 80, k0] ![1, 80, n] inb (ix3 (0 : Fin 1) e r) = vl x h e (k0 + r.val) := by
  have hr : k0 + r.val < 2048 := by omega
  unfold vl
  rw [dif_pos hr]
  exact window3 x.v inb e r (0 : Fin 1) (⟨h.val * 80 + e.val, by omega⟩ : Fin 640) (⟨k0 + r.val, hr⟩ : Fin 2048) rfl rfl rfl

theorem put_m_in (X : S8x1x512.Idx → EReal) (h : Fin 8) (w : FVec Ideal (M2 1 512) .f32) (j : Fin 512) :
    VecWindow.put X ![h.val, 0, 0] ![1, 1, 512] (shapeCast (M3 1 512) w (cast23 1 512)) (ix3 h (0 : Fin 1) j) = w (ix2 (0 : Fin 1) j) := by
  refine (put3_in (A := 8) (B := 1) (C := 512) (n := 1) (w := 512) X (shapeCast (M3 1 512) w (cast23 1 512)) h (0 : Fin 1) j (0 : Fin 1) j rfl rfl (Nat.zero_add _).symm).trans ?_
  exact shapeCast_ab_1ab_apply w (cast23 1 512) 0 0 j

theorem put_m_out (X : S8x1x512.Idx → EReal) (h h' : Fin 8) (hne : h' ≠ h) (W : (M3 1 512).Idx → EReal) (j : Fin 512) :
    VecWindow.put X ![h.val, 0, 0] ![1, 1, 512] W (ix3 h' (0 : Fin 1) j) = X (ix3 h' (0 : Fin 1) j) :=
  put3_out (A := 8) (B := 1) (C := 512) (n := 1) (w := 512) X W h' (0 : Fin 1) j (Or.inl fun hh => hne (Fin.ext hh))

theorem put_acc_in {w q0 : ℕ} (X : S8x80x512.Idx → EReal) (h : Fin 8) (y : FVec Ideal (M2 80 w) .f32) (e : Fin 80) (j : Fin 512) (j' : Fin w) (hj : j.val = q0 + j'.val) :
    VecWindow.put X ![h.val, 0, q0] ![1, 80, w] (shapeCast (M3 80 w) y (cast23 80 w)) (ix3 h e j) = y (ix2 e j') := by
  refine (put3_in (A := 8) (B := 80) (C := 512) (n := 80) (w := w) X (shapeCast (M3 80 w) y (cast23 80 w)) h e j e j' rfl (Nat.zero_add _).symm hj).trans ?_
  exact shapeCast_ab_1ab_apply y (cast23 80 w) 0 e j'

theorem put_acc_out {w q0 : ℕ} (X : S8x80x512.Idx → EReal) (h h' : Fin 8) (W : (M3 80 w).Idx → EReal) (e : Fin 80) (j : Fin 512) (ho : h' ≠ h ∨ j.val < q0 ∨ q0 + w ≤ j.val) :
    VecWindow.put X ![h.val, 0, q0] ![1, 80, w] W (ix3 h' e j) = X (ix3 h' e j) :=
  put3_out (A := 8) (B := 80) (C := 512) (n := 80) (w := w) X W h' e j (ho.imp_left fun hne hh => hne (Fin.ext hh))

/-- Opening the accumulator for 256 queries. -/
theorem openHalf_spec (h : Fin 8) (s : Fin 2) (n q0 : ℕ) (hn : 0 < n) (hn' : n ≤ 512) (hq : q0 + 256 ≤ 512) (m : FVec Ideal (M2 1 256) .f32) (M : Fin 512 → ℝ) (t : St Ideal)
    (hm : ∀ j : Fin 256, m (ix2 (0 : Fin 1) j) = (M ⟨q0 + j.val, by omega⟩ : EReal))
    (hs : ∀ (r : Fin n) (j : Fin 256), t.st (ix3 s (⟨r.val, by omega⟩ : Fin 1024) (⟨q0 + j.val, by omega⟩ : Fin 512)) = lg x c h (c.val * 512 + r.val) ⟨q0 + j.val, by omega⟩) :
    Tr d R x (openHalf R c h s n q0 hn hn' hq m) t fun _ t' => t'.m = t.m ∧ t'.st = t.st ∧ t'.mx = t.mx
      ∧ (∀ (e : Fin 80) (j : Fin 512), q0 ≤ j.val → j.val < q0 + 256 → t'.acc (ix3 h e j) = ∑ r : Fin n, wt x c (M j) h e j (c.val * 512 + r.val))
      ∧ ∀ (h' : Fin 8) (e : Fin 80) (j : Fin 512), (h' ≠ h ∨ j.val < q0 ∨ q0 + 256 ≤ j.val) → t'.acc (ix3 h' e j) = t.acc (ix3 h' e j) := by
  unfold openHalf
  refine Tr.bind (Tr.ld_st (Tr.bind (Tr.ld_v (Tr.stA ?_))))
  refine ⟨rfl, rfl, rfl, fun e j h1 h2 => ?_, fun h' e j ho => put_acc_out t.acc h h' _ e j ho⟩
  refine (put_acc_in t.acc h _ e j (⟨j.val - q0, by omega⟩ : Fin 256) (by show j.val = q0 + (j.val - q0); omega)).trans ?_
  have hj : (⟨q0 + (j.val - q0), by omega⟩ : Fin 512) = j := Fin.ext (by show q0 + (j.val - q0) = j.val; omega)
  refine (weigh_wt (x := x) (c := c) (c.val * 512) q0 h (fun j : Fin 256 => M ⟨q0 + j.val, by omega⟩) _ m _ hq (fun r j => ?_) hm
    (fun e r => vl_window h (c.val * 512) n (by omega) _ e r) e ⟨j.val - q0, by omega⟩).trans ?_
  · refine (window3 (A := 2) (B := 1024) (C := 512) (n := n) (w := 256) t.st _ r j s (⟨r.val, by omega⟩ : Fin 1024) (⟨q0 + j.val, by omega⟩ : Fin 512) rfl (Nat.zero_add _).symm rfl).trans (hs r j)
  · simp only [hj]

theorem wt_masked (M : ℝ) (h : Fin 8) (e : Fin 80) (j : Fin 512) (r : ℕ) (hr : c.val * 512 + j.val < r) : wt x c M h e j r = 0 := by
  unfold wt lg
  rw [if_neg (by omega), EReal.bot_sub, Ideal.exp2_bot, mul_zero]

/-- The first half's queries see no key of the second half. -/
theorem part_left (M : ℝ) (h : Fin 8) (e : Fin 80) (j : Fin 512) (hj : j.val < 256) :
    ∑ r : Fin 256, wt x c M h e j (c.val * 512 + r.val) = part x c M 0 h e j := by
  unfold part
  rw [Finset.sum_range_zero, zero_add, show (512 : ℕ) = 256 + 256 from rfl, Finset.sum_range_add, Finset.sum_range (n := 256)]
  refine (add_zero _).symm.trans (congrArg _ ?_)
  exact (Finset.sum_eq_zero fun r _ => wt_masked M h e j _ (by omega)).symm

theorem part_right (M : ℝ) (h : Fin 8) (e : Fin 80) (j : Fin 512) :
    ∑ r : Fin 512, wt x c M h e j (c.val * 512 + r.val) = part x c M 0 h e j := by
  unfold part
  rw [Finset.sum_range_zero, zero_add, Finset.sum_range (n := 512)]

theorem consume_diag (D : Fin 8 → Option ℕ) (h : Fin 8) (s : Fin 2) (t : St Ideal) (hI : Inv x c D t) (hs : Slot x c (.diag h) s t) :
    Tr d R x (consume R c (.diag h) s) t fun _ t' => Inv x c (step D (.diag h)) t' := by
  obtain ⟨hst, hmx⟩ := hs
  choose M hM using hmx
  have hX : ∀ (inb) (j : Fin 512), shapeCast (M2 1 512) (VecWindow.window t.mx ![s.val, 0, 0] ![1, 1, 512] inb : FVec Ideal (M3 1 512) .f32) (cast32 1 512) (ix2 (0 : Fin 1) j) = (M j : EReal) := fun inb j => by
    refine (shapeCast_1ab_ab_apply _ (cast32 1 512) 0 j).trans ?_
    exact (window3 (A := 2) (B := 1) (C := 512) (n := 1) (w := 512) t.mx inb (0 : Fin 1) j s (0 : Fin 1) j rfl rfl (Nat.zero_add _).symm).trans (hM j)
  unfold consume
  refine Tr.bind (Tr.ld_mx (Tr.bind (Tr.stM (Tr.bind ?_))))
  refine Tr.mono (openHalf_spec h s 256 0 (by decide) (by decide) (by decide) _ M _ (fun j => ?_) (fun r j => ?_)) ?_
  · refine (congrArg _ (?_ : _ = ix2 (0 : Fin 1) (⟨0 + j.val, by omega⟩ : Fin 512))).trans (hX _ _)
    exact funext fun a : Fin 2 => by match a with | 0 => rfl | 1 => rfl
  · exact hst _ _ (by show r.val < 512; omega) (Or.inl r.isLt)
  rintro _ t1 ⟨hm1, hs1, hx1, ha1, ho1⟩
  refine Tr.mono (openHalf_spec h s 512 256 (by decide) (by decide) (by decide) _ M _ (fun j => ?_) (fun r j => ?_)) ?_
  · refine (congrArg _ (?_ : _ = ix2 (0 : Fin 1) (⟨256 + j.val, by omega⟩ : Fin 512))).trans (hX _ _)
    exact funext fun a : Fin 2 => by match a with | 0 => rfl | 1 => rfl
  · rw [hs1]
    exact hst _ _ r.isLt (Or.inr (by show 256 ≤ 256 + j.val; omega))
  rintro _ t2 ⟨hm2, hs2, hx2, ha2, ho2⟩
  refine inv_update hI (fun j => ⟨M j, ?_, fun e => ?_⟩) (fun h' hne j => ?_) (fun h' hne e j => ?_)
  · rw [hm2, hm1]
    exact (put_m_in t.m h _ j).trans (hX _ j)
  · by_cases hj : j.val < 256
    · rw [ho2 h e j (Or.inr (Or.inl hj)), ha1 e j (Nat.zero_le _) (by omega), part_left (M j) h e j hj]
    · rw [ha2 e j (by omega) (by omega), part_right]
  · rw [hm2, hm1]
    exact put_m_out t.m h h' hne _ j
  · rw [ho2 h' e j (Or.inl hne), ho1 h' e j (Or.inl hne)]

theorem consume_grp (hS : RealScores x) (D : Fin 8 → Option ℕ) (h : Fin 8) (k0 n : ℕ) (hk : k0 + n ≤ 2048) (hn : 0 < n) (hn' : n ≤ 1024) (s : Fin 2) (t : St Ideal)
    (hI : Inv x c D t) (hD : D h = some k0) (hs : Slot x c (.grp h k0 n hk hn hn') s t) :
    Tr d R x (consume R c (.grp h k0 n hk hn hn') s) t fun _ t' => Inv x c (step D (.grp h k0 n hk hn hn')) t' := by
  obtain ⟨hst, hmx⟩ := hs
  choose X hX using hmx
  choose M hM hA using hI h k0 hD
  have hx : ∀ (inb) (j : Fin 512), shapeCast (M2 1 512) (VecWindow.window t.mx ![s.val, 0, 0] ![1, 1, 512] inb : FVec Ideal (M3 1 512) .f32) (cast32 1 512) (ix2 (0 : Fin 1) j) = (X j : EReal) := fun inb j => by
    refine (shapeCast_1ab_ab_apply _ (cast32 1 512) 0 j).trans ?_
    exact (window3 (A := 2) (B := 1) (C := 512) (n := 1) (w := 512) t.mx inb (0 : Fin 1) j s (0 : Fin 1) j rfl rfl (Nat.zero_add _).symm).trans (hX j)
  have hm : ∀ (inb) (j : Fin 512), shapeCast (M2 1 512) (VecWindow.window t.m ![h.val, 0, 0] ![1, 1, 512] inb : FVec Ideal (M3 1 512) .f32) (cast32 1 512) (ix2 (0 : Fin 1) j) = (M j : EReal) := fun inb j => by
    refine (shapeCast_1ab_ab_apply _ (cast32 1 512) 0 j).trans ?_
    exact (window3 (A := 8) (B := 1) (C := 512) (n := 1) (w := 512) t.m inb (0 : Fin 1) j h (0 : Fin 1) j rfl rfl (Nat.zero_add _).symm).trans (hM j)
  have hmax : ∀ (i1) (i2) (j : Fin 512), (maximumf (shapeCast (M2 1 512) (VecWindow.window t.m ![h.val, 0, 0] ![1, 1, 512] i1 : FVec Ideal (M3 1 512) .f32) (cast32 1 512))
      (shapeCast (M2 1 512) (VecWindow.window t.mx ![s.val, 0, 0] ![1, 1, 512] i2 : FVec Ideal (M3 1 512) .f32) (cast32 1 512)) : FVec Ideal (M2 1 512) .f32) (ix2 (0 : Fin 1) j) = ((max (M j) (X j) : ℝ) : EReal) := fun i1 i2 j => by
    rw [maximumf_apply, hm, hx]
    exact (EReal.coe_strictMono.monotone.map_max).symm
  unfold consume
  refine Tr.bind (Tr.ld_m (Tr.bind (Tr.ld_mx (Tr.bind (Tr.stM (Tr.bind (Tr.ld_st (Tr.bind (Tr.ld_v (Tr.bind (Tr.ld_acc (Tr.stA ?_))))))))))))
  refine inv_update hI (fun j => ⟨max (M j) (X j), ?_, fun e => ?_⟩) (fun h' hne j => ?_) (fun h' hne e j => ?_)
  · exact (put_m_in t.m h _ j).trans (hmax _ _ j)
  · refine (put_acc_in t.acc h _ e j j (Nat.zero_add _).symm).trans ?_
    rw [rescale_apply, hm, hmax]
    have h0 : ∀ j : Fin 512, (⟨0 + j.val, by omega⟩ : Fin 512) = j := fun j => Fin.ext (Nat.zero_add _)
    have e1 := weigh_wt (x := x) (c := c) k0 0 h (fun j : Fin 512 => max (M j) (X j)) _ _ _ le_rfl (fun r j =>
      (window3 (A := 2) (B := 1024) (C := 512) (n := n) (w := 512) t.st (inb3 (by omega) (by omega) le_rfl) r j s (⟨r.val, by omega⟩ : Fin 1024) (⟨0 + j.val, by omega⟩ : Fin 512) rfl (Nat.zero_add _).symm rfl).trans (hst _ _ r.isLt))
      (hmax (inb3 (by omega) (by omega) (by omega)) (inb3 (by omega) (by omega) (by omega))) (fun e r => vl_window (x := x) h k0 n hk (inb3 (by omega) (by omega) (by omega)) e r) e j
    simp only [h0] at e1
    refine (congrArg₂ (· + ·) ?_ e1).trans (part_add x c _ k0 n h e j)
    refine (congrArg _ ?_).trans (part_shift x c hS (M j) _ k0 h e j)
    exact (window3 (A := 8) (B := 80) (C := 512) (n := 80) (w := 512) t.acc _ e j h e j rfl (Nat.zero_add _).symm (Nat.zero_add _).symm).trans (hA j e)
  · exact put_m_out t.m h h' hne _ j
  · exact put_acc_out t.acc h h' _ e j (Or.inl hne)

/-- Consuming an item that continues what is done. -/
theorem consume_spec (hS : RealScores x) (D : Fin 8 → Option ℕ) (it : Item) (s : Fin 2) (t : St Ideal) (hI : Inv x c D t) (hD : Next D it) (hs : Slot x c it s t) :
    Tr d R x (consume R c it s) t fun _ t' => Inv x c (step D it) t' := by
  cases it with
  | diag h => exact consume_diag D h s t hI hs
  | grp h k0 n hk hn hn' => exact consume_grp hS D h k0 n hk hn hn' s t hI hD hs

end Cert.Kernel4Ideal.Mla
-- ==== Proof.Mla.Schedule.lean ====
/-
  The whole schedule: issuing fills a slot with an item's masked scores, and running the items of a query block leaves
  in every head's accumulator the weighted sum over all the keys up to the block's end.
-/
module

public import proofs.«01_k».proof.Proof.Mla.Consume

@[expose] public section

noncomputable section

namespace Cert.Kernel4Ideal.Mla

open Idealize.ShloMosaic Idealize.ShloMosaic.TcCoe Idealize.ShloMosaic.ValueIdx Idealize.SL.Sem
open Cert.Kernel4Ideal.Gen
open scoped BigOperators

variable {d : Dev nD} {R : Refs} {x : Ins Ideal} {c : Fin 4}

/-! ## Issuing -/

/-- The scores of the loaded rows are the scores of the heads. -/
theorem scores_sc (h : Fin 8) (k0 n q0 w : ℕ) (hk : k0 + n ≤ 2048) (hq : q0 + w ≤ 512) (i1) (i2) (r : Fin n) (j : Fin w) :
    scores (F := Ideal) n w (VecWindow.window x.k ![k0, h.val * 128] ![n, 128] i1) (VecWindow.window x.q ![q0, h.val * 128] ![w, 128] i2) (ix2 r j)
      = sc x h (k0 + r.val) ⟨q0 + j.val, by omega⟩ := by
  have hr : k0 + r.val < 2048 := by omega
  rw [scores_apply]
  unfold sc
  rw [dif_pos hr]
  refine Finset.sum_congr rfl fun l _ => congrArg₂ (· * ·) ?_ ?_
  · exact window2 (A := 2048) (B := 1024) (n := n) (w := 128) x.k i1 r l ⟨k0 + r.val, hr⟩ ⟨h.val * 128 + l.val, by omega⟩ rfl rfl
  · exact window2 (A := 512) (B := 1024) (n := w) (w := 128) x.q i2 j l ⟨q0 + j.val, by omega⟩ ⟨h.val * 128 + l.val, by omega⟩ rfl rfl

theorem issueHalf_spec (h : Fin 8) (n q0 : ℕ) (hn : 0 < n) (hn' : n ≤ 512) (hq : q0 + 256 ≤ 512) (mask : IVec (M2 n 256) 1) (t : St Ideal)
    (hmask : ∀ (r : Fin n) (j : Fin 256), mask (ix2 r j) = 1#1 ↔ r.val ≤ q0 + j.val) :
    Tr d R x (issueHalf R c h n q0 hn hn' hq mask) t fun y t' => t' = t ∧ ∀ (r : Fin n) (j : Fin 256), y (ix2 r j) = lg x c h (c.val * 512 + r.val) ⟨q0 + j.val, by omega⟩ := by
  unfold issueHalf
  refine Tr.bind (Tr.ld_k (Tr.bind (Tr.ld_q (Tr.pure ⟨rfl, fun r j => ?_⟩))))
  rw [masked_apply, scores_sc h _ _ _ _ (by omega) hq]
  unfold lg
  by_cases hh : r.val ≤ q0 + j.val
  · rw [if_pos ((hmask r j).2 hh), if_pos (by show c.val * 512 + r.val ≤ c.val * 512 + (q0 + j.val); omega)]
  · rw [if_neg (fun e => hh ((hmask r j).1 e)), if_neg (by show ¬ c.val * 512 + r.val ≤ c.val * 512 + (q0 + j.val); omega)]

theorem issueGrp_spec (h : Fin 8) (k0 n : ℕ) (hk : k0 + n ≤ 2048) (hn : 0 < n) (hf : k0 + n ≤ c.val * 512) (t : St Ideal) :
    Tr d R x (issueGrp R h k0 n hk hn) t fun y t' => t' = t ∧ ∀ (r : Fin n) (j : Fin 512), y (ix2 r j) = lg x c h (k0 + r.val) j := by
  unfold issueGrp
  refine Tr.bind (Tr.ld_k (Tr.bind (Tr.ld_q (Tr.pure ⟨rfl, fun r j => ?_⟩))))
  rw [scores_sc h _ _ _ _ hk le_rfl]
  unfold lg
  rw [if_pos (by omega)]
  congr 1
  exact Fin.ext (Nat.zero_add _)

/-! ## Storing -/

theorem Tr.stS {s : Fin 2} {n q0 w : ℕ} {hn : 0 < n} {hn' : n ≤ 1024} {hq : q0 + w ≤ 512} {hw : 0 < w} {y : FVec Ideal (M2 n w) .f32} {t : St Ideal} {Q : PUnit → St Ideal → Prop}
    (hQ : Q ⟨⟩ { t with st := VecWindow.put t.st ![s.val, 0, q0] ![1, n, w] (shapeCast (M3 n w) y (cast23 n w)) }) : Tr d R x (stS R s n q0 w hn hn' hq hw y) t Q :=
  Tr.bind (Tr.ld_st (Tr.st_st hQ))

theorem Tr.stX {s : Fin 2} {w : FVec Ideal (M2 1 512) .f32} {t : St Ideal} {Q : PUnit → St Ideal → Prop}
    (hQ : Q ⟨⟩ { t with mx := VecWindow.put t.mx ![s.val, 0, 0] ![1, 1, 512] (shapeCast (M3 1 512) w (cast23 1 512)) }) : Tr d R x (stX R s w) t Q :=
  Tr.bind (Tr.ld_mx (Tr.st_mx hQ))

theorem put_st_in {n w q0 : ℕ} (X : S2x1024x512.Idx → EReal) (s : Fin 2) (y : FVec Ideal (M2 n w) .f32) (r : Fin 1024) (j : Fin 512) (r' : Fin n) (j' : Fin w)
    (hr : r.val = r'.val) (hj : j.val = q0 + j'.val) :
    VecWindow.put X ![s.val, 0, q0] ![1, n, w] (shapeCast (M3 n w) y (cast23 n w)) (ix3 s r j) = y (ix2 r' j') := by
  refine (put3_in (A := 2) (B := 1024) (C := 512) (n := n) (w := w) X (shapeCast (M3 n w) y (cast23 n w)) s r j r' j' rfl (hr.trans (Nat.zero_add _).symm) hj).trans ?_
  exact shapeCast_ab_1ab_apply y (cast23 n w) 0 r' j'

theorem put_mx_in (X : S2x1x512.Idx → EReal) (s : Fin 2) (w : FVec Ideal (M2 1 512) .f32) (j : Fin 512) :
    VecWindow.put X ![s.val, 0, 0] ![1, 1, 512] (shapeCast (M3 1 512) w (cast23 1 512)) (ix3 s (0 : Fin 1) j) = w (ix2 (0 : Fin 1) j) := by
  refine (put3_in (A := 2) (B := 1) (C := 512) (n := 1) (w := 512) X (shapeCast (M3 1 512) w (cast23 1 512)) s (0 : Fin 1) j (0 : Fin 1) j rfl rfl (Nat.zero_add _).symm).trans ?_
  exact shapeCast_ab_1ab_apply w (cast23 1 512) 0 0 j

theorem lg_ne_top (hS : RealScores x) (h : Fin 8) (r : ℕ) (j : Fin 512) : lg x c h r j ≠ ⊤ := by
  rcases lg_cases x c hS h r j with e | ⟨a, e⟩
  · rw [e]; exact bot_ne_top
  · rw [e]; exact EReal.coe_ne_top a

theorem lg_ne_bot (hS : RealScores x) (h : Fin 8) (r : ℕ) (j : Fin 512) (hr : r ≤ c.val * 512 + j.val) : lg x c h r j ≠ ⊥ := by
  unfold lg
  rw [if_pos hr]
  obtain ⟨a, e⟩ := hS h r j
  rw [e]
  exact EReal.coe_ne_bot a

theorem storeDiag_spec (hS : RealScores x) (D : Fin 8 → Option ℕ) (h : Fin 8) (s : Fin 2) (l : FVec Ideal (M2 256 256) .f32) (r : FVec Ideal (M2 512 256) .f32) (t : St Ideal)
    (hl : ∀ (a b : Fin 256), l (ix2 a b) = lg x c h (c.val * 512 + a.val) ⟨0 + b.val, by omega⟩)
    (hr : ∀ (a : Fin 512) (b : Fin 256), r (ix2 a b) = lg x c h (c.val * 512 + a.val) ⟨256 + b.val, by omega⟩) (hI : Inv x c D t) :
    Tr d R x (storeDiag R s l r) t fun _ t' => Inv x c D t' ∧ Slot x c (.diag h) s t' := by
  unfold storeDiag
  refine Tr.bind (Tr.stS (Tr.bind (Tr.stS (Tr.stX ⟨fun h' n e => head_of_eq (hI h' n e) (fun _ => rfl) fun _ _ => rfl, fun a b ha hab => ?_, fun j => ?_⟩))))
  · by_cases hb : b.val < 256
    · have ha' : a.val < 256 := hab.resolve_right (by omega)
      refine (put3_out (A := 2) (B := 1024) (C := 512) (n := 512) (w := 256) _ _ s a b (Or.inr (Or.inl hb))).trans ?_
      refine (put_st_in t.st s l a b ⟨a.val, ha'⟩ ⟨b.val, hb⟩ rfl (Nat.zero_add _).symm).trans ((hl _ _).trans ?_)
      congr 1
      exact Fin.ext (Nat.zero_add _)
    · refine (put_st_in _ s r a b ⟨a.val, ha⟩ ⟨b.val - 256, by omega⟩ rfl (by show b.val = 256 + (b.val - 256); omega)).trans ((hr _ _).trans ?_)
      congr 1
      exact Fin.ext (by show 256 + (b.val - 256) = b.val; omega)
  · have key : ∃ M : ℝ, diagMax (F := Ideal) l r (ix2 (0 : Fin 1) j) = (M : EReal) := by
      by_cases hb : j.val < 256
      · rw [diagMax_left l r j hb]
        exact colMax_real l ⟨j.val, hb⟩ (fun a => by rw [hl]; exact lg_ne_top hS _ _ _) 0 (by rw [hl]; exact lg_ne_bot hS _ _ _ (by show c.val * 512 + 0 ≤ _; omega))
      · rw [diagMax_right l r j (by omega)]
        exact colMax_real r ⟨j.val - 256, by omega⟩ (fun a => by rw [hr]; exact lg_ne_top hS _ _ _) 0 (by rw [hr]; exact lg_ne_bot hS _ _ _ (by show c.val * 512 + 0 ≤ _; omega))
    obtain ⟨M, hM⟩ := key
    exact ⟨M, (put_mx_in t.mx s _ j).trans hM⟩

theorem storeGrp_spec (hS : RealScores x) (D : Fin 8 → Option ℕ) (h : Fin 8) (k0 n : ℕ) (hk : k0 + n ≤ 2048) (hn : 0 < n) (hn' : n ≤ 1024) (hf : k0 + n ≤ c.val * 512) (s : Fin 2)
    (y : FVec Ideal (M2 n 512) .f32) (t : St Ideal) (hy : ∀ (r : Fin n) (j : Fin 512), y (ix2 r j) = lg x c h (k0 + r.val) j) (hI : Inv x c D t) :
    Tr d R x (storeGrp R s n hn hn' y) t fun _ t' => Inv x c D t' ∧ Slot x c (.grp h k0 n hk hn hn') s t' := by
  unfold storeGrp
  refine Tr.bind (Tr.stS (Tr.stX ⟨fun h' n e => head_of_eq (hI h' n e) (fun _ => rfl) fun _ _ => rfl, fun a b ha => ?_, fun j => ?_⟩))
  · exact (put_st_in t.st s y a b ⟨a.val, ha⟩ b rfl (Nat.zero_add _).symm).trans (hy _ _)
  · obtain ⟨M, hM⟩ := colMax_real y j (fun a => by rw [hy]; exact lg_ne_top hS _ _ _) ⟨0, hn⟩ (by rw [hy]; exact lg_ne_bot hS _ _ _ (by show k0 + 0 ≤ _; omega))
    exact ⟨M, (put_mx_in t.mx s _ j).trans hM⟩

/-! ## The schedule -/

/-- Around a program that ends under the invariant, the next item's slot is filled. -/
theorem around_spec (hS : RealScores x) (D : Fin 8 → Option ℕ) (nxt : Item) (hf : Fits c nxt) (s : Fin 2) (rest : Prog (TpuEff nD τ sig (Elt Ideal) Λ₀ .tc) PUnit) (t : St Ideal)
    (hr : Tr d R x rest t fun _ t' => Inv x c D t') :
    Tr d R x (around R c triMask lowMask nxt s rest) t fun _ t' => Inv x c D t' ∧ Slot x c nxt s t' := by
  cases nxt with
  | diag h =>
    unfold around
    refine Tr.bind (Tr.mono (issueHalf_spec h 256 0 (by decide) (by decide) (by decide) triMask t fun r j => by rw [triMask_apply, Nat.zero_add]) ?_)
    rintro l _ ⟨rfl, hl⟩
    refine Tr.bind (Tr.mono (issueHalf_spec h 512 256 (by decide) (by decide) (by decide) lowMask _ fun r j => by rw [lowMask_apply, Nat.add_comm]) ?_)
    rintro r _ ⟨rfl, hr'⟩
    refine Tr.bind (Tr.mono hr ?_)
    rintro _ t' hI
    exact storeDiag_spec hS D h s l r t' hl hr' hI
  | grp h k0 n hk hn hn' =>
    unfold around
    refine Tr.bind (Tr.mono (issueGrp_spec h k0 n hk hn hf t) ?_)
    rintro y _ ⟨rfl, hy⟩
    refine Tr.bind (Tr.mono hr ?_)
    rintro _ t' hI
    exact storeGrp_spec hS D h k0 n hk hn hn' hf s y t' hy hI

variable (c) in
/-- Every item continues what is done before it, and lies before the diagonal block. -/
def Ok : (Fin 8 → Option ℕ) → Item → List Item → Prop
  | D, cur, [] => Next D cur
  | D, cur, nxt :: more => Next D cur ∧ Fits c nxt ∧ Ok (step D cur) nxt more

theorem run_spec (hS : RealScores x) (more : List Item) : ∀ (D : Fin 8 → Option ℕ) (cur : Item) (s : Fin 2) (t : St Ideal), Ok c D cur more → Inv x c D t → Slot x c cur s t →
    Tr d R x (run R c triMask lowMask s cur more) t fun _ t' => Inv x c (more.foldl step (step D cur)) t' := by
  induction more with
  | nil =>
    intro D cur s t ho hI hs
    exact consume_spec hS D cur s t hI ho hs
  | cons nxt more ih =>
    intro D cur s t ho hI hs
    obtain ⟨h1, h2, h3⟩ := ho
    refine Tr.bind (Tr.mono (around_spec hS (step D cur) nxt h2 (1 - s) _ t (consume_spec hS D cur s t hI h1 hs)) ?_)
    rintro _ t' ⟨hI', hs'⟩
    exact ih (step D cur) nxt (1 - s) t' h3 hI' hs'

theorem sched_cons_spec (hS : RealScores x) (first : Item) (more : List Item) (hf : Fits c first) (ho : Ok c (fun _ => none) first more) (t : St Ideal) :
    Tr d R x (sched R c triMask lowMask (first :: more)) t fun _ t' => Inv x c (more.foldl step (step (fun _ => none) first)) t' := by
  refine Tr.bind (Tr.mono (around_spec hS (fun _ => none) first hf 0 _ t (Tr.pure fun h n e => absurd e (Option.some_ne_none n).symm)) ?_)
  rintro _ t' ⟨hI, hs⟩
  exact run_spec hS more _ first 0 t' ho hI hs

theorem items_cons (c : Fin 4) : ∃ first more, items c = first :: more ∧ Fits c first ∧ Ok c (fun _ => none) first more
    ∧ ∀ h, more.foldl step (step (fun _ => none) first) h = some (c.val * 512) := by
  match c with
  | 0 => exact ⟨_, _, rfl, trivial, by simp [Ok, Next, Fits], by decide⟩
  | 1 => exact ⟨_, _, rfl, trivial, by simp [Ok, Next, Fits, step, heads, Function.update], by decide⟩
  | 2 => exact ⟨_, _, rfl, trivial, by simp [Ok, Next, Fits, step, heads, Function.update], by decide⟩
  | 3 => exact ⟨_, _, rfl, trivial, by simp [Ok, Next, Fits, step, heads, Function.update], by decide⟩

/-- The schedule of query block `c` leaves every head with all the keys before the block and the diagonal block done. -/
theorem sched_spec (hS : RealScores x) (t : St Ideal) :
    Tr d R x (sched R c triMask lowMask (items c)) t fun _ t' => ∀ h, Head x c h (c.val * 512) t' := by
  obtain ⟨first, more, e, hf, ho, hd⟩ := items_cons c
  rw [e]
  exact Tr.mono (sched_cons_spec hS first more hf ho t) fun _ t' hI h => hI h _ (hd h)

end Cert.Kernel4Ideal.Mla
-- ==== Proof.Mla.Output.lean ====
/-
  The end of a query block: each head's accumulator over its last row, written out, does not depend on the running bound.
-/
module

public import proofs.«01_k».proof.Proof.Mla.Schedule

@[expose] public section

noncomputable section

namespace Cert.Kernel4Ideal.Mla

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel4Ideal.Gen
open scoped BigOperators

local notation "𝕄" => MT nD τ sig Unit (Elt Ideal) ℕ (UR sig nD τ) ℕ

/-- The values' last row of every head is one. -/
def Ones (x : Ins Ideal) : Prop := ∀ (h : Fin 8) (r : ℕ), r < 2048 → vl x h 64 r = 1

/-- Entry `e` of head `h` at query `j` of the block: the weighted values over the weights' sum. -/
def outAt (x : Ins Ideal) (c : Fin 4) (h : Fin 8) (e : Fin 80) (j : Fin 512) : EReal :=
  part x c 0 (c.val * 512) h e j * Ideal.div 1 (part x c 0 (c.val * 512) h 64 j)

/-- The block of the output. -/
def outBlk (x : Ins Ideal) (c : Fin 4) : S512x512.Idx → EReal := fun y =>
  outAt x c ⟨(y 1).val / 64, by have h : (y 1).val < 512 := (y 1).isLt; omega⟩ ⟨(y 1).val % 64, by omega⟩ (y 0)

variable {d : Dev nD} {R : Refs} {x : Ins Ideal} {c : Fin 4}

theorem outBlk_apply (h : Fin 8) (e : Fin 64) (j : Fin 512) : outBlk x c (ix2 j (⟨h.val * 64 + e.val, by omega⟩ : Fin 512)) = outAt x c h ⟨e.val, by omega⟩ j := by
  have h1 : (⟨(h.val * 64 + e.val) / 64, by omega⟩ : Fin 8) = h := Fin.ext (by show (h.val * 64 + e.val) / 64 = h.val; omega)
  have h2 : (⟨(h.val * 64 + e.val) % 64, by omega⟩ : Fin 80) = ⟨e.val, by omega⟩ := Fin.ext (by show (h.val * 64 + e.val) % 64 = e.val; omega)
  show outAt x c ⟨(h.val * 64 + e.val) / 64, _⟩ ⟨(h.val * 64 + e.val) % 64, _⟩ j = _
  rw [h1, h2]

/-- A sum of nonnegative reals, one of them positive, is a positive real. -/
theorem sum_pos_real {ι : Type} (s : Finset ι) (f : ι → EReal) (hf : ∀ i ∈ s, ∃ a : ℝ, 0 ≤ a ∧ f i = (a : EReal)) :
    ∃ a : ℝ, 0 ≤ a ∧ ∑ i ∈ s, f i = (a : EReal) ∧ ((∃ i ∈ s, 0 < f i) → 0 < a) := by
  classical
  induction s using Finset.induction_on with
  | empty => exact ⟨0, le_rfl, by simp, fun ⟨i, hi, _⟩ => absurd hi (Finset.notMem_empty i)⟩
  | insert i s hi ih =>
    obtain ⟨a, ha, e, hp⟩ := ih fun k hk => hf k (Finset.mem_insert_of_mem hk)
    obtain ⟨b, hb, e'⟩ := hf i (Finset.mem_insert_self i s)
    refine ⟨b + a, add_nonneg hb ha, by rw [Finset.sum_insert hi, e, e', EReal.coe_add], ?_⟩
    rintro ⟨k, hk, hpos⟩
    rcases Finset.mem_insert.1 hk with rfl | hk
    · rw [e'] at hpos
      exact add_pos_of_pos_of_nonneg (by exact_mod_cast hpos) ha
    · exact add_pos_of_nonneg_of_pos hb (hp ⟨k, hk, hpos⟩)

theorem wt_one (hS : RealScores x) (hO : Ones x) (M : ℝ) (h : Fin 8) (j : Fin 512) (r : ℕ) (hr : r < 2048) :
    ∃ a : ℝ, 0 ≤ a ∧ wt x c M h 64 j r = (a : EReal) ∧ (r ≤ c.val * 512 + j.val → 0 < a) := by
  unfold wt
  rw [hO h r hr, one_mul]
  by_cases hm : r ≤ c.val * 512 + j.val
  · obtain ⟨a, ha⟩ := hS h r j
    unfold lg
    rw [if_pos hm, ha, ← EReal.coe_sub, exp2_real]
    exact ⟨_, by positivity, rfl, fun _ => by positivity⟩
  · unfold lg
    rw [if_neg hm, EReal.bot_sub, Ideal.exp2_bot]
    exact ⟨0, le_rfl, rfl, fun e => absurd e hm⟩

/-- The last row of the accumulator is a positive real. -/
theorem part_pos (hS : RealScores x) (hO : Ones x) (M : ℝ) (h : Fin 8) (j : Fin 512) :
    ∃ a : ℝ, 0 < a ∧ part x c M (c.val * 512) h 64 j = (a : EReal) := by
  have hc := c.isLt
  obtain ⟨a, ha, e1, -⟩ := sum_pos_real (Finset.range (c.val * 512)) (wt x c M h 64 j) fun r hr => by
    obtain ⟨a, h1, h2, -⟩ := wt_one hS hO M h j r (by have := Finset.mem_range.1 hr; omega)
    exact ⟨a, h1, h2⟩
  obtain ⟨b, hb, e2, hp⟩ := sum_pos_real (Finset.range 512) (fun r => wt x c M h 64 j (c.val * 512 + r)) fun r hr => by
    obtain ⟨a, h1, h2, -⟩ := wt_one hS hO M h j (c.val * 512 + r) (by have := Finset.mem_range.1 hr; omega)
    exact ⟨a, h1, h2⟩
  refine ⟨a + b, add_pos_of_nonneg_of_pos ha (hp ⟨0, Finset.mem_range.2 (by decide), ?_⟩), by unfold part; rw [e1, e2, EReal.coe_add]⟩
  obtain ⟨a, -, h2, h3⟩ := wt_one (c := c) hS hO M h j (c.val * 512 + 0) (by omega)
  show 0 < wt x c M h 64 j (c.val * 512 + 0)
  rw [h2]
  exact_mod_cast h3 (by omega)

/-- The quotient is the same under every bound. -/
theorem outAt_eq (hS : RealScores x) (hO : Ones x) (M : ℝ) (h : Fin 8) (e : Fin 80) (j : Fin 512) :
    part x c M (c.val * 512) h e j * Ideal.div 1 (part x c M (c.val * 512) h 64 j) = outAt x c h e j := by
  obtain ⟨a, ha, e1⟩ := part_pos (c := c) hS hO M h j
  obtain ⟨b, hb, e2⟩ := part_pos (c := c) hS hO 0 h j
  have s1 := part_shift x c hS 0 M (c.val * 512) h e j
  have s2 := part_shift x c hS 0 M (c.val * 512) h 64 j
  rw [← EReal.coe_sub, exp2_real] at s1 s2
  have hp : (0 : ℝ) < (2 : ℝ) ^ ((0 : ℝ) - M) := by positivity
  generalize (2 : ℝ) ^ ((0 : ℝ) - M) = p at s1 s2 hp
  unfold outAt
  rw [e1, e2] at s2
  rw [← EReal.coe_mul] at s2
  have e3 : p * b = a := by exact_mod_cast s2
  rw [← s1, e1, e2, Ideal.div_coe ha.ne', Ideal.div_coe hb.ne', ← e3, one_mul, one_mul, mul_comm (p : EReal), mul_assoc, ← EReal.coe_mul]
  congr 2
  field_simp

theorem headOut_spec (hS : RealScores x) (hO : Ones x) (h : Fin 8) (t : St Ideal) (hH : ∀ h, Head x c h (c.val * 512) t) :
    Tr d R x (headOut R h) t fun y t' => t' = t ∧ ∀ (e : Fin 64) (j : Fin 512), y (ix2 e j) = outAt x c h ⟨e.val, by omega⟩ j := by
  unfold headOut
  refine Tr.bind (Tr.ld_acc (Tr.bind (Tr.ld_acc (Tr.pure ⟨rfl, fun e j => ?_⟩))))
  obtain ⟨M, -, hA⟩ := hH h j
  rw [norm_apply]
  refine Eq.trans (congrArg₂ (fun a b => a * Ideal.div 1 b) ?_ ?_) (outAt_eq hS hO M h ⟨e.val, by omega⟩ j)
  · exact (window3 (A := 8) (B := 80) (C := 512) (n := 64) (w := 512) t.acc _ e j h ⟨e.val, by omega⟩ j rfl (Nat.zero_add _).symm (Nat.zero_add _).symm).trans (hA _)
  · exact (window3 (A := 8) (B := 80) (C := 512) (n := 1) (w := 512) t.acc _ 0 j h 64 j rfl rfl (Nat.zero_add _).symm).trans (hA _)

/-- A program after one that is specified. -/
theorem Tr.then {α β : Type} {p : Prog (TpuEff nD τ sig (Elt Ideal) Λ₀ .tc) α} {f : α → Prog (TpuEff nD τ sig (Elt Ideal) Λ₀ .tc) β} {t : St Ideal} {Q : α → St Ideal → Prop}
    {Fr : sProp 𝕄} {E : Set ℕ} {K : β → sProp 𝕄} (hp : Tr d R x p t Q)
    (h : ∀ a t', Q a t' → iprop(Own d R x t' ∗ Fr) ⊢ wp frame (wpE (defs₀ (F := Ideal)) Variants.none (d : Thread nD τ) none) E (f a) K) :
    iprop(Own d R x t ∗ Fr) ⊢ wp frame (wpE (defs₀ (F := Ideal)) Variants.none (d : Thread nD τ) none) E (p >>= f) K :=
  (hp Fr E _ h).trans (BIBase.Entails.of_eq (wp_bind _ _ _ _ _ _).symm)

theorem assemble_outBlk (y : Fin 8 → FVec Ideal (M2 64 512) .f32) (hy : ∀ (h : Fin 8) (e : Fin 64) (j : Fin 512), y h (ix2 e j) = outAt x c h ⟨e.val, by omega⟩ j) :
    assemble (F := Ideal) y = outBlk x c := by
  suffices hh : ∀ j k : Fin 512, assemble (F := Ideal) y (ix2 j k) = outBlk x c (ix2 j k) from
    funext fun z => (congrArg _ (eq_ix2 (n0 := 512) (n1 := 512) z)).trans ((hh (z 0) (z 1)).trans (congrArg _ (eq_ix2 (n0 := 512) (n1 := 512) z).symm))
  intro j k
  have hk : (⟨(⟨k.val / 64, by omega⟩ : Fin 8).val * 64 + (⟨k.val % 64, by omega⟩ : Fin 64).val, by show k.val / 64 * 64 + k.val % 64 < 512; omega⟩ : Fin 512) = k :=
    Fin.ext (by show k.val / 64 * 64 + k.val % 64 = k.val; omega)
  have e1 := assemble_apply y j ⟨k.val / 64, by omega⟩ ⟨k.val % 64, by omega⟩
  have e2 := outBlk_apply (x := x) (c := c) ⟨k.val / 64, by omega⟩ ⟨k.val % 64, by omega⟩ j
  rw [hk] at e1 e2
  rw [e1, e2, hy]

theorem put_whole {α : Type} (X w : S512x512.Idx → α) : VecWindow.put X ![0, 0] S512x512.size w = w := by
  funext y
  have h : ∀ a : Fin 2, (![0, 0] : Fin 2 → ℕ) a ≤ (y a).val ∧ (y a).val < (![0, 0] : Fin 2 → ℕ) a + S512x512.size a := fun a => by
    have := (y a).isLt
    match a with
    | 0 => exact ⟨Nat.zero_le _, by show (y 0).val < 0 + 512; have : (y 0).val < 512 := (y 0).isLt; omega⟩
    | 1 => exact ⟨Nat.zero_le _, by show (y 1).val < 0 + 512; have : (y 1).val < 512 := (y 1).isLt; omega⟩
  refine (dif_pos h).trans (congrArg w (funext fun a : Fin 2 => Fin.ext ?_))
  match a with
  | 0 => rfl
  | 1 => rfl

/-- With every head done, the output block ends at the quotients. -/
theorem output_spec (hS : RealScores x) (hO : Ones x) (t : St Ideal) (hH : ∀ h, Head x c h (c.val * 512) t) (X : S512x512.Idx → EReal) (Fr : sProp 𝕄) (E : Set ℕ) (K : PUnit → sProp 𝕄)
    (hK : iprop(Own d R x t ∗ owns (d : Thread nD τ) R.o fullShare (outBlk x c) ∗ Fr) ⊢ K ⟨⟩) :
    iprop(Own d R x t ∗ owns (d : Thread nD τ) R.o fullShare X ∗ Fr) ⊢ wp frame (wpE (defs₀ (F := Ideal)) Variants.none (d : Thread nD τ) none) E (output R) K := by
  unfold output
  refine Tr.then (headOut_spec hS hO 0 t hH) ?_
  rintro y0 _ ⟨rfl, h0⟩
  refine Tr.then (headOut_spec hS hO 1 _ hH) ?_
  rintro y1 _ ⟨rfl, h1⟩
  refine Tr.then (headOut_spec hS hO 2 _ hH) ?_
  rintro y2 _ ⟨rfl, h2⟩
  refine Tr.then (headOut_spec hS hO 3 _ hH) ?_
  rintro y3 _ ⟨rfl, h3⟩
  refine Tr.then (headOut_spec hS hO 4 _ hH) ?_
  rintro y4 _ ⟨rfl, h4⟩
  refine Tr.then (headOut_spec hS hO 5 _ hH) ?_
  rintro y5 _ ⟨rfl, h5⟩
  refine Tr.then (headOut_spec hS hO 6 _ hH) ?_
  rintro y6 _ ⟨rfl, h6⟩
  refine Tr.then (headOut_spec hS hO 7 _ hH) ?_
  rintro y7 t ⟨rfl, h7⟩
  have hy : assemble (F := Ideal) ![y0, y1, y2, y3, y4, y5, y6, y7] = outBlk x c := assemble_outBlk _ fun h => by
    match h with
    | 0 => exact h0
    | 1 => exact h1
    | 2 => exact h2
    | 3 => exact h3
    | 4 => exact h4
    | 5 => exact h5
    | 6 => exact h6
    | 7 => exact h7
  rw [hy, wp_bind]
  iintro ⟨HW, HO, HF⟩
  iapply (wp_ld (d := d) R.o ![0, 0] ![512, 512] (inb2 (by decide) (by decide)) (pos2 (by decide) (by decide)) X (iprop(Own d R x t ∗ Fr)) E _ (by
    unfold owns
    iintro ⟨⟨%f, %hf, H⟩, HW, HF⟩
    iapply (wp_store (defs := defs₀ (F := Ideal)) Variants.none (d : Thread nD τ) none E (m := R.o) (r := Rect.unit (s := S512x512) ![0, 0] S512x512.size inb_S512x512_S512x512_0_0) (w := outBlk x c) (Mk := Finset.univ)
      (hx := View.stores_vmem h_S512x512 (R.ho.storeExact_slice rfl _ packedbf16_S512x512_S512x512_0_0) (fun _ => rfl)) (hm := .inl rfl) (k := Prog.ret) (f := f) (S := R.o.view.set) (Q := K) (R.o.setOn_access_subset _ _)) $$ H
    iintro H
    rw [wp_ret]
    iapply fupd_intro
    iapply hK
    isplitl [HW]; · iexact HW
    isplitl [H]
    · unfold owns; iexists _; isplitr
      swap; · iexact H
      · ipureintro
        have e := View.read_writes_cons_put (Val := Elt Ideal) R.o.view f inb_S512x512_S512x512_0_0 (outBlk x c) [] rfl
        exact e.trans (put_whole _ _)
    · iexact HF))
  isplitl [HO]; · iexact HO
  isplitl [HW]; · iexact HW
  iexact HF

end Cert.Kernel4Ideal.Mla
-- ==== Proof.Mla.Run.lean ====
/-
  The pipelined call run to its end: each grid point leaves its output block at the quotients of its staged inputs,
  given real scores and a row of ones under the values.
-/
module

public import proofs.«01_k».proof.Proof.Mla.Body
public import proofs.«01_k».proof.Proof.Mla.Output
public import proofs.«01_k».proof.Proof.Gen.Kernel4Ideal.Value

@[expose] public section

noncomputable section

namespace Cert.Kernel4Ideal.Mla

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

local notation "𝕄" => MT nD τ sig Unit (Elt Ideal) ℕ (UR sig nD τ) ℕ

variable (m : (ℓ : Loc nD τ sig) → Buf (Elt Ideal) ℓ) (ρ : Dev nD → PrngReg)

/-- What the staged inputs hold at point `t`. -/
def ins (c : Dev nD) (t : Fin cfg0.N) : Ins Ideal := ⟨iblk m c 0 t, iblk m c 1 t, iblk m c 2 t⟩

/-- The query block of point `t`. -/
def qblk (t : Fin cfg0.N) : Fin 4 := ⟨t.val % 4, by omega⟩

theorem coord2 : ∀ t : Fin cfg0.N, (grid0.coords t 2).val = t.val % 4 := (by decide +kernel : ∀ t : Fin grid0.N, (grid0.coords t 2).val = t.val % 4)

/-- The proof data: the output's buffer holds the block of quotients after each point. -/
def valueDat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (ins m c t) (qblk t)
  Φ _ := Pipeline.ΦA spec0 c
  q _ := fullShare
  owed _ := 0

theorem entry_arrays (c : Dev nD) (w : Fin cfg0.W) : (valueDat m 0 c).A w = V m c (Pipeline.arrRef spec0 w) := by
  dsimp only [valueDat]

theorem left_q (c : Dev nD) (t : Fin cfg0.N) : (valueDat m 0 c).after 0 t = iblk m c 0 t := by dsimp only [valueDat]
theorem left_k (c : Dev nD) (t : Fin cfg0.N) : (valueDat m 0 c).after 1 t = iblk m c 1 t := by dsimp only [valueDat]
theorem left_v (c : Dev nD) (t : Fin cfg0.N) : (valueDat m 0 c).after 2 t = iblk m c 2 t := by dsimp only [valueDat]
theorem left_o (c : Dev nD) (t : Fin cfg0.N) : (valueDat m 0 c).after 3 t = outBlk (ins m c t) (qblk t) := by dsimp only [valueDat]

theorem found_q (c : Dev nD) (t : Fin cfg0.N) (d) : (valueDat m 0 c).before 0 t d = iblk m c 0 t :=
  before0_0_of m (valueDat m 0 c) (entry_arrays m c 0) (left_q m c) t d
theorem found_k (c : Dev nD) (t : Fin cfg0.N) (d) : (valueDat m 0 c).before 1 t d = iblk m c 1 t :=
  before0_1_of m (valueDat m 0 c) (entry_arrays m c 1) (left_k m c) t d
theorem found_v (c : Dev nD) (t : Fin cfg0.N) (d) : (valueDat m 0 c).before 2 t d = iblk m c 2 t :=
  before0_2_of m (valueDat m 0 c) (entry_arrays m c 2) (left_v m c) t d

/-- The buffers the body is called on at point `t`. -/
abbrev refs (t : Fin cfg0.N) : Refs := ⟨ms0_0 t, ms0_1 t, ms0_2 t, ms0_3 t, hs0_3 t, scM0_0, scM0_1, scM0_2, scM0_3⟩

/-- The whole body, from any scratch contents. -/
theorem body_spec (d : Dev nD) (t : Fin cfg0.N) (x : Ins Ideal) (hS : RealScores x) (hO : Ones x) (s : St Ideal) (X : S512x512.Idx → EReal) (Fr : sProp 𝕄) (K : PUnit → sProp 𝕄)
    (hK : ∀ s', iprop(Own d (refs t) x s' ∗ owns (d : Thread nD τ) (ms0_3 t) fullShare (outBlk x (qblk t)) ∗ Fr) ⊢ K ⟨⟩) :
    iprop(Own d (refs t) x s ∗ owns (d : Thread nD τ) (ms0_3 t) fullShare X ∗ Fr) ⊢ wp frame (wpE (defs₀ (F := Ideal)) Variants.none (d : Thread nD τ) none) Set.univ (bodyAt0 t) K := by
  have e := body_eq (F := Ideal) (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _) (qblk t) (coord2 t)
  refine BIBase.Entails.trans ?_ (BIBase.Entails.of_eq (congrArg (fun p => wp frame (wpE (defs₀ (F := Ideal)) Variants.none (d : Thread nD τ) none) Set.univ p K) e.symm))
  refine Tr.then (sched_spec hS s) ?_
  rintro _ s' hH
  exact output_spec hS hO s' hH X Fr Set.univ K (hK s')

/-- What the body is called with at point `t`, -/
def before (c : Dev nD) (t : Fin cfg0.N) : sProp 𝕄 :=
  iprop((valueDat m 0 c).Φ t.castSucc ∗ (valueDat m 0 c).owesAt () t.castSucc
    ∗ (∃ d, owns (c : Thread nD τ) (ms0_0 t) fullShare ((valueDat m 0 c).before 0 t d))
    ∗ (∃ d, owns (c : Thread nD τ) (ms0_1 t) fullShare ((valueDat m 0 c).before 1 t d))
    ∗ (∃ d, owns (c : Thread nD τ) (ms0_2 t) fullShare ((valueDat m 0 c).before 2 t d))
    ∗ (∃ d, owns (c : Thread nD τ) (ms0_3 t) fullShare ((valueDat m 0 c).before 3 t d)))

/-- and what it returns. -/
def after (c : Dev nD) (t : Fin cfg0.N) : sProp 𝕄 :=
  iprop((valueDat m 0 c).Φ t.succ ∗ (valueDat m 0 c).owesAt () t.succ
    ∗ owns (c : Thread nD τ) (ms0_0 t) fullShare ((valueDat m 0 c).after 0 t)
    ∗ owns (c : Thread nD τ) (ms0_1 t) fullShare ((valueDat m 0 c).after 1 t)
    ∗ owns (c : Thread nD τ) (ms0_2 t) fullShare ((valueDat m 0 c).after 2 t)
    ∗ owns (c : Thread nD τ) (ms0_3 t) fullShare ((valueDat m 0 c).after 3 t))

variable {m}

theorem body_at (hS : ∀ c t, RealScores (ins m c t)) (hO : ∀ c t, Ones (ins m c t)) (c : Dev nD) (t : Fin cfg0.N) :
    before m c t ⊢ wp frame (wpE (defs₀ (F := Ideal)) Variants.none c none) Set.univ (bodyAt0 t) (fun _ => after m c t) := by
  unfold before after
  simp only [found_q, found_k, found_v]
  rw [show (valueDat m 0 c).Φ t.succ = (valueDat m 0 c).Φ t.castSucc from rfl,
    show (valueDat m 0 c).owesAt () t.succ = (valueDat m 0 c).owesAt () t.castSucc from rfl,
    left_q, left_k, left_v, left_o]
  rw [show (valueDat m 0 c).Φ t.castSucc = Pipeline.ΦA spec0 c from rfl, PhiA0_eq]
  iintro ⟨⟨⟨⟨%f0, HS0⟩, ⟨%f1, HS1⟩, ⟨%f2, HS2⟩, ⟨%f3, HS3⟩⟩, Hg⟩, Ho, ⟨%d0, H0⟩, ⟨%d1, H1⟩, ⟨%d2, H2⟩, ⟨%d3, H3⟩⟩
  iapply (body_spec c t (ins m c t) (hS c t) (hO c t) ⟨f0, f1, f2, f3⟩ _ (iprop((valueDat m 0 c).owesAt () t.castSucc ∗ _)) _ (by
    intro s'
    unfold Own
    iintro ⟨⟨H0, H1, H2, HS0, HS1, HS2, HS3⟩, H3, Ho, Hg⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    iexact H3))
  isplitl [H0 H1 H2 HS0 HS1 HS2 HS3]
  · unfold Own
    isplitl [H0]; · iexact H0
    isplitl [H1]; · iexact H1
    isplitl [H2]; · iexact H2
    isplitl [HS0]; · iexact HS0
    isplitl [HS1]; · iexact HS1
    isplitl [HS2]; · iexact HS2
    iexact HS3
  isplitl [H3]; · iexact H3
  isplitl [Ho]; · iexact Ho
  iexact Hg

theorem obligation (hS : ∀ c t, RealScores (ins m c t)) (hO : ∀ c t, Ones (ins m c t)) (c : Dev nD) :
    BodyObligation (valueDat m 0 c) (defs₀ (F := Ideal)) Variants.none () Set.univ := fun t => by
  rw [bigSep_W0, bigSep_W0, defs₀_row]
  exact triple_restated (body_at hS hO c t) rfl .rfl fun _ => .rfl

-- the launch theorem's implicit arguments are found by unfolding definitions in types
set_option backward.isDefEq.respectTransparency.types false in
/-- The run ends, with every array at what the blocks make it. -/
theorem run_value (hS : ∀ c t, RealScores (ins m c t)) (hO : ∀ c t, Ones (ins m c t)) :
    θ_run defs (onTc (τ := τ) (main (F := Ideal))) (s₀ m ρ) (fun r => (Pipeline.FramePost cfgs (valueDat m) 0 (V m)) r ∧ r.2.sem = fun _ => 0) :=
  Pipeline.θ_run_frame (Q' := _) cfgs (valueDat m) (0 : Fin 1) launch0 defs₀ Variants.none m ρ main
    (hbody := fun c => (obligation hS hO c).loose) (hshare := fun c => (valueDat m 0 c).share_full fun _ => rfl)
    (howed := fun _ _ => rfl) (V := V m) (hmain := hmain m Variants.none) (hA := entry_arrays m) (hΦ := fun _ _ => rfl)

/-- Block `t` of the result is that point's quotients. -/
theorem block_value (c : Dev nD) (t : Fin cfg0.N) :
    ((cfg0.win 3).blk t).view.read (Elt Ideal) ((valueDat m 0 c).arrAt 3 cfg0.N) = (cfg0.win 3).cut (grid0.coords t) (outBlk (ins m c t) (qblk t)) := by
  refine ((valueDat m 0 c).read_blk_arrAt_eq_flushed 3 Value.disjoint3 cfg0.N t t.isLt (flush0_3 t)).trans ?_
  show (cfg0.win 3).cut (grid0.coords t) ((valueDat m 0 c).after 3 t) = _
  rw [left_o]

/-- The run ends with the result array read block by block and the arguments unchanged. -/
theorem run_result (hS : ∀ c t, RealScores (ins m c t)) (hO : ∀ c t, Ones (ins m c t)) :
    θ_run defs (onTc (τ := τ) (main (F := Ideal))) ⟨m, fun _ => 0, ρ⟩ fun r => ∀ c : Dev nD,
      r.2.mem ((c : Thread nD τ).loc main_v17) = (valueDat m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_value ρ hS hO)

end Cert.Kernel4Ideal.Mla
-- ==== Proof.Mla.Host.lean ====
/-
  What the host code before the call stages: the rows of queries, of keys and of transposed values, read at an index.
-/
module

public import proofs.«01_k».proof.Proof.Gen.Kernel4Ideal.Value
public import Idealize.ShloMosaic.Lib.StableHlo.ReadAt
public import Idealize.ShloMosaic.Lib.Pointwise

@[expose] public section

noncomputable section

namespace Cert.Kernel4Ideal.Mla

open Idealize.ShloMosaic Idealize.ShloMosaic.TcCoe
open Cert.Kernel4Ideal.Gen

variable (m : (ℓ : Loc nD τ sig) → Buf (Elt Ideal) ℓ)

/-- The base-two logarithm of `e`, as a real number. -/
def lg2 : ℝ := 1 / Real.log 2

/-- The queries, keys and values that the program is given. -/
def qA (c : Dev nD) (b : Fin 16) (t : Fin 2048) (h : Fin 8) (l : Fin 96) : EReal :=
  (m (c, Proc.tc.devRef main_arg0) : S16x2048x8x96.Idx → EReal) (ix4 b t h l)
@[inherit_doc qA] def kA (c : Dev nD) (b : Fin 16) (t : Fin 2048) (h : Fin 8) (l : Fin 96) : EReal :=
  (m (c, Proc.tc.devRef main_arg1) : S16x2048x8x96.Idx → EReal) (ix4 b t h l)
@[inherit_doc qA] def vA (c : Dev nD) (b : Fin 16) (t : Fin 2048) (h : Fin 8) (l : Fin 64) : EReal :=
  (m (c, Proc.tc.devRef main_arg2) : S16x2048x8x64.Idx → EReal) (ix4 b t h l)

theorem two_bits : Ideal.ofBits .f32 0x40000000#32 = ((2 : ℝ) : EReal) := by
  simp [Ideal.ofBits, Ideal.ieee]
  norm_num
  rw [← EReal.coe_mul]; norm_num

/-- The scale of the scores, the single-precision number nearest to `1 / √96`. -/
def scale : ℝ := 13698540 / 134217728

theorem scale_bits : Ideal.ofBits .f32 0x3DD105EC#32 = ((scale : ℝ) : EReal) := by
  simp [Ideal.ofBits, Ideal.ieee, scale]
  norm_num
  rw [← EReal.coe_mul]; norm_num

theorem lg2_eq : Ideal.div 1 (Ideal.log (Ideal.ofBits .f32 0x40000000#32)) = ((lg2 : ℝ) : EReal) := by
  have h2 : Real.log 2 ≠ 0 := (Real.log_pos (by norm_num)).ne'
  have hlog : Ideal.log ((2 : ℝ) : EReal) = ((Real.log 2 : ℝ) : EReal) := by
    show (if (2 : ℝ) ≤ 0 then (⊥ : EReal) else ((Real.log 2 : ℝ) : EReal)) = _
    rw [if_neg (by norm_num)]
  rw [two_bits, hlog, Ideal.div_coe h2, one_mul, lg2]

theorem pad_zero : (FloatOps.sitofp (F := Ideal) FTy.f32 (0#32 : BitVec 32) : EReal) = 0 := by
  show (((0#32 : BitVec 32).toInt : ℝ) : EReal) = 0
  simp

/-- A staged query row: the query scaled, then zeros. -/
theorem qRow_at (c : Dev nD) (b : Fin 16) (t : Fin 2048) (h : Fin 8) (l : Fin 128) :
    (V m c main_v13 : S32768x1024.Idx → EReal) (ix2 ⟨b.val * 2048 + t.val, by omega⟩ ⟨h.val * 128 + l.val, by omega⟩)
      = if hl : l.val < 96 then qA m c b t h ⟨l.val, hl⟩ * (((scale : ℝ) : EReal) * ((lg2 : ℝ) : EReal)) else 0 := by
  have hb : (b.val * 2048 + t.val) / 2048 = b.val := by omega
  have ht : (b.val * 2048 + t.val) % 2048 = t.val := by omega
  have hh : (h.val * 128 + l.val) / 128 = h.val := by omega
  have hl : (h.val * 128 + l.val) % 128 = l.val := by omega
  unfold V
  after_reads_at
  simp only [hb, ht, hh, hl, Fin.eta]
  split_ifs
  all_goals try (exfalso; omega)
  all_goals try after_reads_at
  · simp only [qA, lg2_eq, scale_bits]
  · exact pad_zero

/-- A staged key row: the key, then zeros. -/
theorem kRow_at (c : Dev nD) (b : Fin 16) (t : Fin 2048) (h : Fin 8) (l : Fin 128) :
    (V m c main_v16 : S32768x1024.Idx → EReal) (ix2 ⟨b.val * 2048 + t.val, by omega⟩ ⟨h.val * 128 + l.val, by omega⟩)
      = if hl : l.val < 96 then kA m c b t h ⟨l.val, hl⟩ else 0 := by
  have hb : (b.val * 2048 + t.val) / 2048 = b.val := by omega
  have ht : (b.val * 2048 + t.val) % 2048 = t.val := by omega
  have hh : (h.val * 128 + l.val) / 128 = h.val := by omega
  have hl : (h.val * 128 + l.val) % 128 = l.val := by omega
  unfold V
  after_reads_at
  simp only [hb, ht, hh, hl, Fin.eta]
  split_ifs
  all_goals try (exfalso; omega)
  all_goals try after_reads_at
  · simp only [kA]
  · exact pad_zero

/-- The staged values, transposed: the value, then a one, then zeros. -/
theorem vCol_at (c : Dev nD) (b : Fin 16) (t : Fin 2048) (h : Fin 8) (l : Fin 80) :
    (V m c main_v7 : S16x640x2048.Idx → EReal) (ix3 b ⟨h.val * 80 + l.val, by omega⟩ t)
      = if hl : l.val < 64 then vA m c b t h ⟨l.val, hl⟩ else if l.val = 64 then 1 else 0 := by
  have hh : (h.val * 80 + l.val) / 80 = h.val := by omega
  have hl : (h.val * 80 + l.val) % 80 = l.val := by omega
  unfold V
  after_reads_at
  simp only [hh, hl, Fin.eta]
  split_ifs
  all_goals try (exfalso; omega)
  all_goals try after_reads_at
  · simp only [vA]
  · exact (if_pos (by omega)).symm
  · exact pad_zero

end Cert.Kernel4Ideal.Mla
-- ==== Proof.Mla.Blocks.lean ====
/-
  The staged blocks of a grid point as parts of the arrays that the host code stages, and the result array read by rows.
-/
module

public import proofs.«01_k».proof.Proof.Mla.Run
public import proofs.«01_k».proof.Proof.Mla.Host
public import Idealize.ShloMosaic.Lib.Pipeline.ValueKit

@[expose] public section

noncomputable section

namespace Cert.Kernel4Ideal.Mla

open Idealize.ShloMosaic Idealize.ShloMosaic.TcCoe
open Cert.Kernel4Ideal.Gen

variable (m : (ℓ : Loc nD τ sig) → Buf (Elt Ideal) ℓ)

/-- The two spellings of a matrix index. -/
theorem vix2_eq {a b : ℕ} (i : Fin a) (j : Fin b) : ValueIdx.ix2 i j = ix2 i j := by
  funext d; match d with | ⟨0, _⟩ => rfl | ⟨1, _⟩ => rfl

/-- The two spellings of an index of rank three. -/
theorem vix3_eq {a b c : ℕ} (i : Fin a) (j : Fin b) (k : Fin c) : ValueIdx.ix3 i j k = ix3 i j k := by
  funext d; match d with | ⟨0, _⟩ => rfl | ⟨1, _⟩ => rfl | ⟨2, _⟩ => rfl

theorem q_index : ∀ t : Fin cfg0.N, (cfg0.win 0).index t 0 = t.val ∧ (cfg0.win 0).index t 1 = 0 := by decide +kernel
theorem k_index : ∀ t : Fin cfg0.N, (cfg0.win 1).index t 0 = t.val / 4 ∧ (cfg0.win 1).index t 1 = 0 := by decide +kernel
theorem v_index : ∀ t : Fin cfg0.N, (cfg0.win 2).index t 0 = t.val / 4 ∧ (cfg0.win 2).index t 1 = 0 ∧ (cfg0.win 2).index t 2 = 0 := by decide +kernel
theorem o_index : ∀ t : Fin cfg0.N, (cfg0.win 3).index t 0 = t.val ∧ (cfg0.win 3).index t 1 = 0 := by decide +kernel

/-- The point of batch `b` and query block `i`. -/
def pt (b : Fin 16) (i : Fin 4) : Fin cfg0.N := ⟨b.val * 4 + i.val, by show _ < 64; omega⟩

theorem qblk_pt (b : Fin 16) (i : Fin 4) : qblk (pt b i) = i := Fin.ext (by show (b.val * 4 + i.val) % 4 = i.val; omega)

theorem q_block (c : Dev nD) (b : Fin 16) (i : Fin 4) (j : Fin 512) (l : Fin 1024) :
    (ins m c (pt b i)).q (ValueIdx.ix2 j l) = (V m c main_v13 : S32768x1024.Idx → EReal) (ix2 ⟨b.val * 2048 + (i.val * 512 + j.val), by omega⟩ l) := by
  rw [vix2_eq]
  have e := q_index (pt b i)
  have e0 : (pt b i).val = b.val * 4 + i.val := rfl
  show iblk m c 0 (pt b i) (ix2 j l) = _
  blk_ext [iblk, e.1, e.2]

theorem k_block (c : Dev nD) (b : Fin 16) (i : Fin 4) (r : Fin 2048) (l : Fin 1024) :
    (ins m c (pt b i)).k (ValueIdx.ix2 r l) = (V m c main_v16 : S32768x1024.Idx → EReal) (ix2 ⟨b.val * 2048 + r.val, by omega⟩ l) := by
  rw [vix2_eq]
  have e := k_index (pt b i)
  have e0 : (pt b i).val = b.val * 4 + i.val := rfl
  show iblk m c 1 (pt b i) (ix2 r l) = _
  blk_ext [iblk, e.1, e.2]

theorem v_block (c : Dev nD) (b : Fin 16) (i : Fin 4) (l : Fin 640) (r : Fin 2048) :
    (ins m c (pt b i)).v (ValueIdx.ix3 (0 : Fin 1) l r) = (V m c main_v7 : S16x640x2048.Idx → EReal) (ix3 b l r) := by
  rw [vix3_eq]
  have e := v_index (pt b i)
  have e0 : (pt b i).val = b.val * 4 + i.val := rfl
  show iblk m c 2 (pt b i) (ix3 (0 : Fin 1) l r) = _
  blk_ext [iblk, e.1, e.2.1, e.2.2]

/-- The result array at a row and a column is the block's quotient. -/
theorem result_at (c : Dev nD) (b : Fin 16) (i : Fin 4) (j : Fin 512) (l : Fin 512) :
    ((valueDat m 0 c).arrAt 3 cfg0.N : S32768x512.Idx → EReal) (ix2 ⟨b.val * 2048 + (i.val * 512 + j.val), by omega⟩ l)
      = outBlk (ins m c (pt b i)) i (ValueIdx.ix2 j l) := by
  have e := o_index (pt b i)
  have e0 : (pt b i).val = b.val * 4 + i.val := rfl
  have h := congrFun (block_value (m := m) c (pt b i)) (ix2 j l)
  rw [qblk_pt] at h
  rw [vix2_eq]
  refine Eq.trans ?_ (h.trans ?_)
  · blk_ext [e.1, e.2]
  · blk_ext

end Cert.Kernel4Ideal.Mla
-- ==== Proof.Mla.Weights.lean ====
/-
  The kernel's block as a causal softmax: where queries and keys are real numbers, each entry of a block is the sum of the
  values under weights `exp s`, `s` the scaled product of query and key, divided by the sum of the weights.
-/
module

public import proofs.«01_k».proof.Proof.Mla.Blocks

@[expose] public section

noncomputable section

namespace Cert.Kernel4Ideal.Mla

open Idealize.ShloMosaic Idealize.ShloMosaic.TcCoe
open Cert.Kernel4Ideal.Gen

variable (m : (ℓ : Loc nD τ sig) → Buf (Elt Ideal) ℓ)

/-- The real numbers that the queries and the keys are. -/
structure Reals (c : Dev nD) where
  q : Fin 16 → Fin 2048 → Fin 8 → Fin 96 → ℝ
  k : Fin 16 → Fin 2048 → Fin 8 → Fin 96 → ℝ
  hq : ∀ b t h l, qA m c b t h l = ((q b t h l : ℝ) : EReal)
  hk : ∀ b t h l, kA m c b t h l = ((k b t h l : ℝ) : EReal)

/-- A sum of reals, as a sum of extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- A sum over the lanes of a head whose terms vanish past the key. -/
theorem lane_sum (A : Fin 96 → EReal) (f : Fin 128 → EReal)
    (hA : ∀ (l : Fin 128) (hl : l.val < 96), f l = A ⟨l.val, hl⟩) (hZ : ∀ l : Fin 128, 96 ≤ l.val → f l = 0) :
    ∑ l, f l = ∑ l, A l := by
  rw [show ∑ l : Fin 128, f l = ∑ l : Fin (96 + 32), f l from rfl, Fin.sum_univ_add]
  rw [Finset.sum_congr rfl fun l (_ : l ∈ Finset.univ) => hA (Fin.castAdd 32 l) l.isLt,
    Finset.sum_eq_zero fun (l : Fin 32) _ => hZ (Fin.natAdd 96 l) (Nat.le_add_right 96 l.val), add_zero]
  rfl

variable {m}

/-- The query's score against a key. -/
def Reals.score {c : Dev nD} (R : Reals m c) (b : Fin 16) (h : Fin 8) (t r : Fin 2048) : ℝ :=
  (∑ l, R.q b t h l * R.k b r h l) * scale

/-- A key's weight for a query: zero for a key after the query. -/
def Reals.weight {c : Dev nD} (R : Reals m c) (b : Fin 16) (h : Fin 8) (t r : Fin 2048) : ℝ :=
  if r.val ≤ t.val then Real.exp (R.score b h t r) else 0

/-- A query's place in the sequence. -/
abbrev qpos (i : Fin 4) (j : Fin 512) : Fin 2048 := ⟨i.val * 512 + j.val, by omega⟩

theorem sc_eq {c : Dev nD} (R : Reals m c) (b : Fin 16) (i : Fin 4) (h : Fin 8) (r : ℕ) (hr : r < 2048) (j : Fin 512) :
    sc (ins m c (pt b i)) h r j = ((lg2 * R.score b h (qpos i j) ⟨r, hr⟩ : ℝ) : EReal) := by
  unfold sc
  rw [dif_pos hr]
  rw [lane_sum (fun l => ((R.k b ⟨r, hr⟩ h l * (R.q b (qpos i j) h l * (scale * lg2)) : ℝ) : EReal))]
  · rw [← coe_sum]
    congr 1
    rw [Reals.score, Finset.sum_mul, Finset.mul_sum]
    exact Finset.sum_congr rfl fun l _ => by ring
  · intro l hl
    rw [k_block, q_block, kRow_at m c b ⟨r, hr⟩ h l, qRow_at m c b (qpos i j) h l, dif_pos hl, dif_pos hl, R.hk, R.hq, ← EReal.coe_mul, ← EReal.coe_mul, ← EReal.coe_mul]
  · intro l hl
    rw [k_block, q_block, kRow_at m c b ⟨r, hr⟩ h l, qRow_at m c b (qpos i j) h l, dif_neg (by omega), dif_neg (by omega), zero_mul]

theorem pt_cover (t : Fin cfg0.N) : ∃ b i, t = pt b i := by
  have h64 : t.val < 64 := t.isLt
  exact ⟨⟨t.val / 4, by omega⟩, ⟨t.val % 4, by omega⟩, Fin.ext (by show t.val = t.val / 4 * 4 + t.val % 4; omega)⟩

theorem real_scores {c : Dev nD} (R : Reals m c) (t : Fin cfg0.N) : RealScores (ins m c t) := by
  obtain ⟨b, i, rfl⟩ := pt_cover t
  intro h r j
  by_cases hr : r < 2048
  · exact ⟨_, sc_eq R b i h r hr j⟩
  · exact ⟨0, by unfold sc; rw [dif_neg hr]; rfl⟩

theorem ones (c : Dev nD) (t : Fin cfg0.N) : Ones (ins m c t) := by
  obtain ⟨b, i, rfl⟩ := pt_cover t
  intro h r hr
  unfold vl
  rw [dif_pos hr, v_block, vCol_at m c b ⟨r, hr⟩ h 64, dif_neg (by decide), if_pos (by decide)]

theorem vl_eq (c : Dev nD) (b : Fin 16) (i : Fin 4) (h : Fin 8) (e : Fin 64) (r : Fin 2048) :
    vl (ins m c (pt b i)) h ⟨e.val, by omega⟩ r.val = vA m c b r h e := by
  unfold vl
  rw [dif_pos r.isLt, v_block, vCol_at m c b r h ⟨e.val, by omega⟩, dif_pos e.isLt]

theorem exp2_lg2 (a : ℝ) : Ideal.exp2 ((lg2 * a : ℝ) : EReal) = ((Real.exp a : ℝ) : EReal) := by
  have h2 : Real.log 2 ≠ 0 := (Real.log_pos (by norm_num)).ne'
  rw [exp2_real, Real.rpow_def_of_pos (by norm_num), lg2]
  congr 2
  field_simp

/-- The weight that the kernel gives a key, with no bound subtracted. -/
theorem wt_eq {c : Dev nD} (R : Reals m c) (b : Fin 16) (i : Fin 4) (h : Fin 8) (e : Fin 80) (j : Fin 512) (r : Fin 2048) :
    wt (ins m c (pt b i)) i 0 h e j r.val = vl (ins m c (pt b i)) h e r.val * ((R.weight b h (qpos i j) r : ℝ) : EReal) := by
  unfold wt lg Reals.weight
  by_cases hm : r.val ≤ i.val * 512 + j.val
  · rw [if_pos hm, if_pos (show r.val ≤ (qpos i j).val from hm), sc_eq R b i h r.val r.isLt j, EReal.coe_zero, sub_zero, exp2_lg2]
  · rw [if_neg hm, if_neg (show ¬ r.val ≤ (qpos i j).val from hm), EReal.bot_sub, Ideal.exp2_bot, EReal.coe_zero]

/-- The accumulator over the keys up to the diagonal block's end is the sum over every key. -/
theorem part_eq {c : Dev nD} (R : Reals m c) (b : Fin 16) (i : Fin 4) (h : Fin 8) (e : Fin 80) (j : Fin 512) :
    part (ins m c (pt b i)) i 0 (i.val * 512) h e j
      = ∑ r : Fin 2048, vl (ins m c (pt b i)) h e r.val * ((R.weight b h (qpos i j) r : ℝ) : EReal) := by
  have hw : ∀ r : Fin 2048, wt (ins m c (pt b i)) i 0 h e j r.val = _ := wt_eq R b i h e j
  unfold part
  rw [← Finset.sum_range_add, ← Finset.sum_congr rfl fun r _ => hw r, ← Finset.sum_range (fun r => wt (ins m c (pt b i)) i 0 h e j r)]
  refine Finset.sum_subset (fun a ha => ?_) (fun a _ ha' => ?_)
  · rw [Finset.mem_range] at ha ⊢; omega
  · rw [Finset.mem_range] at ha'
    unfold wt lg
    rw [if_neg (by omega), EReal.bot_sub, Ideal.exp2_bot, mul_zero]

theorem weight_nonneg {c : Dev nD} (R : Reals m c) (b : Fin 16) (h : Fin 8) (t r : Fin 2048) : 0 ≤ R.weight b h t r := by
  unfold Reals.weight
  split
  · exact (Real.exp_pos _).le
  · exact le_rfl

theorem weights_pos {c : Dev nD} (R : Reals m c) (b : Fin 16) (h : Fin 8) (t : Fin 2048) : 0 < ∑ r, R.weight b h t r := by
  refine Finset.sum_pos' (fun r _ => weight_nonneg R b h t r) ⟨t, Finset.mem_univ _, ?_⟩
  rw [Reals.weight, if_pos le_rfl]
  exact Real.exp_pos _

/-- An entry of the kernel's block: the values under the normalised weights. -/
theorem outAt_softmax {c : Dev nD} (R : Reals m c) (b : Fin 16) (i : Fin 4) (h : Fin 8) (e : Fin 64) (j : Fin 512) :
    outAt (ins m c (pt b i)) i h ⟨e.val, by omega⟩ j
      = ∑ r : Fin 2048, vA m c b r h e * ((R.weight b h (qpos i j) r / ∑ s, R.weight b h (qpos i j) s : ℝ) : EReal) := by
  have hpos := weights_pos R b h (qpos i j)
  have hden : part (ins m c (pt b i)) i 0 (i.val * 512) h 64 j = ((∑ s, R.weight b h (qpos i j) s : ℝ) : EReal) := by
    rw [part_eq R, coe_sum]
    exact Finset.sum_congr rfl fun r _ => by rw [ones c (pt b i) h r.val r.isLt, one_mul]
  unfold outAt
  rw [hden, Ideal.div_coe hpos.ne', one_mul, part_eq R, mul_comm, coe_mul_sum _ (by positivity)]
  refine Finset.sum_congr rfl fun r _ => ?_
  rw [vl_eq, mul_left_comm, ← EReal.coe_mul]
  congr 2
  field_simp

end Cert.Kernel4Ideal.Mla
-- ==== Proof.Mla.Ref.lean ====
/-
  The reference without forget gates is the masked softmax of `Ref/Softmax` from scores of its own.
-/
module

public import proofs.«01_k».proof.Proof.Gen.Reference4Ideal.Run
public import proofs.«01_k».proof.Proof.Ref.Softmax

@[expose] public section

noncomputable section

namespace Cert.Reference4Ideal.Softmax

open Idealize.ShloMosaic Idealize.ShloMosaic.TcCoe
open Cert.Reference4Ideal Cert.Reference4Ideal.Gen
open Cert.ReferenceIdeal.Softmax (largest expd weights mixed neg_inf_bits reads_mask)

/-- The masked scores. -/
def maskedScores (q k : FVec Ideal S16x2048x8x96 .f32) : FVec Ideal S16x8x2048x2048 .f32 :=
  select (broadcastInDim S16x8x2048x2048 ![2, 3] bcast_S2048x2048_S16x8x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
    (mulf (Host.dotGeneral dot_S16x2048x8x96_S16x2048x8x96_S16x8x2048x2048_3_3_1_1_02_02 none q k) (broadcastInDim S16x8x2048x2048 ![] bcast_S_S16x8x2048x2048 (constant S_ .f32 0x3DD105EC#32)))
    (broadcastInDim S16x8x2048x2048 ![] bcast_S_S16x8x2048x2048 (id (constant S_ .f32 0xFF800000#32)))

/-- The reference's result, stage by stage. -/
theorem result_eq (m : (ℓ : Loc nD τ sig) → Buf (Elt Ideal) ℓ) (c : Dev nD) :
    Value.res_out0 m c = mixed (m ((c.tc : Thread nD τ).loc main_arg2))
      (weights (expd (maskedScores (m ((c.tc : Thread nD τ).loc main_arg0)) (m ((c.tc : Thread nD τ).loc main_arg1)))
        (largest (maskedScores (m ((c.tc : Thread nD τ).loc main_arg0)) (m ((c.tc : Thread nD τ).loc main_arg1)))))) := by
  unfold Value.res_out0 Value.res_main_v25 mixed weights expd largest maskedScores
  rfl

theorem maskedScores_at (q k : FVec Ideal S16x2048x8x96 .f32) (b : Fin 16) (h : Fin 8) (t r : Fin 2048) :
    maskedScores q k (ix4 b h t r) = if r.val ≤ t.val then
      (∑ l : Fin 96, q (ix4 b t h l) * k (ix4 b r h l)) * Ideal.ofBits .f32 0x3DD105EC#32 else ⊥ := by
  unfold maskedScores
  pointwise
  rw [reads_mask, ← neg_inf_bits]
  rfl

end Cert.Reference4Ideal.Softmax
-- ==== Proof.Mla.Equation.lean ====
/-
  The equation: the reference's softmax, whose scores are shifted by their largest, has the weights of the kernel. So the
  two result arrays agree.
-/
module

public import proofs.«01_k».proof.Proof.Mla.Weights
public import proofs.«01_k».proof.Proof.Mla.Ref

@[expose] public section

noncomputable section

namespace Cert.Kernel4Ideal.Mla

open Idealize.ShloMosaic Idealize.ShloMosaic.TcCoe
open Cert.Kernel4Ideal.Gen
open Cert.ReferenceIdeal.Softmax (largest expd weights mixed)
open Cert.Reference4Ideal.Softmax (maskedScores)

variable {m : (ℓ : Loc nD τ sig) → Buf (Elt Ideal) ℓ}

/-- The arrays that the program is given. -/
abbrev arr0 (m : (ℓ : Loc nD τ sig) → Buf (Elt Ideal) ℓ) (c : Dev nD) : FVec Ideal S16x2048x8x96 .f32 := m (c, Proc.tc.devRef main_arg0)
@[inherit_doc arr0] abbrev arr1 (m : (ℓ : Loc nD τ sig) → Buf (Elt Ideal) ℓ) (c : Dev nD) : FVec Ideal S16x2048x8x96 .f32 := m (c, Proc.tc.devRef main_arg1)
@[inherit_doc arr0] abbrev arr2 (m : (ℓ : Loc nD τ sig) → Buf (Elt Ideal) ℓ) (c : Dev nD) : FVec Ideal S16x2048x8x64 .f32 := m (c, Proc.tc.devRef main_arg2)

/-- The reference's masked score is the kernel's. -/
theorem scores_real {c : Dev nD} (R : Reals m c) (b : Fin 16) (h : Fin 8) (t r : Fin 2048) :
    maskedScores (arr0 m c) (arr1 m c) (ix4 b h t r) = if r.val ≤ t.val then ((R.score b h t r : ℝ) : EReal) else ⊥ := by
  rw [Cert.Reference4Ideal.Softmax.maskedScores_at, scale_bits]
  have hsum : ∑ l : Fin 96, arr0 m c (ix4 b t h l) * arr1 m c (ix4 b r h l) = ((∑ l, R.q b t h l * R.k b r h l : ℝ) : EReal) := by
    rw [coe_sum]
    refine Finset.sum_congr rfl fun l _ => ?_
    rw [EReal.coe_mul, ← R.hq, ← R.hk]
    rfl
  rw [hsum, ← EReal.coe_mul]
  rfl

/-- A row's largest score is a real number. -/
theorem largest_real {c : Dev nD} (R : Reals m c) (b : Fin 16) (h : Fin 8) (t : Fin 2048) :
    ∃ a : ℝ, largest (maskedScores (arr0 m c) (arr1 m c)) (ix3 b h t) = (a : EReal) := by
  rw [Cert.ReferenceIdeal.Softmax.largest_at]
  obtain ⟨r, _, hr⟩ := Finset.exists_mem_eq_sup Finset.univ ⟨t, Finset.mem_univ t⟩ fun r : Fin 2048 => maskedScores (arr0 m c) (arr1 m c) (ix4 b h t r)
  rw [hr]
  have hle := Finset.le_sup (f := fun r : Fin 2048 => maskedScores (arr0 m c) (arr1 m c) (ix4 b h t r)) (Finset.mem_univ t)
  rw [hr] at hle
  rw [scores_real R, scores_real R, if_pos le_rfl] at hle
  rw [scores_real R]
  by_cases hm : r.val ≤ t.val
  · exact ⟨_, if_pos hm⟩
  · rw [if_neg hm] at hle
    exact absurd (le_bot_iff.mp hle) (EReal.coe_ne_bot _)

/-- The reference's weights are the kernel's, normalised. -/
theorem weights_real {c : Dev nD} (R : Reals m c) (b : Fin 16) (h : Fin 8) (t r : Fin 2048) :
    weights (expd (maskedScores (arr0 m c) (arr1 m c)) (largest (maskedScores (arr0 m c) (arr1 m c)))) (ix4 b h t r)
      = ((R.weight b h t r / ∑ s, R.weight b h t s : ℝ) : EReal) := by
  obtain ⟨a, ha⟩ := largest_real R b h t
  have he : ∀ r, expd (maskedScores (arr0 m c) (arr1 m c)) (largest (maskedScores (arr0 m c) (arr1 m c))) (ix4 b h t r)
      = ((R.weight b h t r * Real.exp (-a) : ℝ) : EReal) := by
    intro r
    rw [Cert.ReferenceIdeal.Softmax.expd_at, ha, scores_real R, Reals.weight]
    by_cases hm : r.val ≤ t.val
    · rw [if_pos hm, if_pos hm, ← EReal.coe_sub, Ideal.exp_coe, ← Real.exp_add]
      rw [sub_eq_add_neg]
    · rw [if_neg hm, if_neg hm, EReal.bot_sub, Ideal.exp_bot, zero_mul, EReal.coe_zero]
  have hpos := weights_pos R b h t
  have hE := Real.exp_pos (-a)
  rw [Cert.ReferenceIdeal.Softmax.weights_at, he]
  simp only [he]
  rw [← coe_sum, ← Finset.sum_mul]
  generalize R.weight b h t r = w
  generalize ∑ s, R.weight b h t s = L at hpos
  generalize Real.exp (-a) = E at hE
  rw [Ideal.div_coe (mul_pos hpos hE).ne', ← EReal.coe_mul]
  refine congrArg Real.toEReal ?_
  field_simp

/-- The two results agree at every row and column. -/
theorem result_eq {c : Dev nD} (R : Reals m c) (z : S32768x512.Idx) :
    ((valueDat m 0 c).arrAt 3 cfg0.N : S32768x512.Idx → EReal) z
      = mixed (arr2 m c) (weights (expd (maskedScores (arr0 m c) (arr1 m c)) (largest (maskedScores (arr0 m c) (arr1 m c))))) z := by
  suffices hh : ∀ (b : Fin 16) (i : Fin 4) (j : Fin 512) (h : Fin 8) (e : Fin 64),
      ((valueDat m 0 c).arrAt 3 cfg0.N : S32768x512.Idx → EReal) (ix2 ⟨b.val * 2048 + (i.val * 512 + j.val), by omega⟩ ⟨h.val * 64 + e.val, by omega⟩)
        = mixed (arr2 m c) (weights (expd (maskedScores (arr0 m c) (arr1 m c)) (largest (maskedScores (arr0 m c) (arr1 m c)))))
          (ix2 ⟨b.val * 2048 + (i.val * 512 + j.val), by omega⟩ ⟨h.val * 64 + e.val, by omega⟩) by
    have h0 : (z 0).val < 32768 := (z 0).isLt
    have h1 : (z 1).val < 512 := (z 1).isLt
    have key := hh ⟨(z 0).val / 2048, by omega⟩ ⟨(z 0).val % 2048 / 512, by omega⟩ ⟨(z 0).val % 512, by omega⟩ ⟨(z 1).val / 64, by omega⟩ ⟨(z 1).val % 64, by omega⟩
    have hz : (ix2 (⟨(z 0).val / 2048 * 2048 + ((z 0).val % 2048 / 512 * 512 + (z 0).val % 512), by omega⟩ : Fin 32768)
        (⟨(z 1).val / 64 * 64 + (z 1).val % 64, by omega⟩ : Fin 512)) = z := by
      refine Eq.trans ?_ (ix2_eta (n0 := 32768) (n1 := 512) z)
      congr 1
      · exact Fin.ext (by dsimp only; omega)
      · exact Fin.ext (by dsimp only; omega)
    rw [hz] at key
    exact key
  intro b i j h e
  have hr := Cert.ReferenceIdeal.Softmax.mixed_at (arr2 m c) (weights (expd (maskedScores (arr0 m c) (arr1 m c)) (largest (maskedScores (arr0 m c) (arr1 m c))))) b (qpos i j) h e
  refine ((result_at m c b i j ⟨h.val * 64 + e.val, by omega⟩).trans ((outBlk_apply h e j).trans ((outAt_softmax R b i h e j).trans ?_))).trans hr.symm
  refine Finset.sum_congr rfl fun r _ => ?_
  rw [weights_real R]
  rfl

end Cert.Kernel4Ideal.Mla
-- ==== Proof.Mla.Finite.lean ====
/-
  What the precondition gives: the queries and the keys are real numbers.
-/
module

public import proofs.«01_k».proof.Defs
public import proofs.«01_k».proof.Proof.Finite
public import proofs.«01_k».proof.Proof.Mla.Weights

@[expose] public section

noncomputable section

namespace Cert.Kernel4Ideal.Mla

open Idealize.ShloMosaic Idealize.ShloMosaic.TcCoe
open Cert.Kernel4Ideal.Gen

variable {m : (ℓ : Loc nD τ sig) → Buf (Elt Ideal) ℓ}

theorem reals_of_pre [hP : Cert.Pre_products_finite.Facts] (h : Cert.Pre_Kernel4Ideal_products_finite m) (c : Dev nD) : Nonempty (Reals m c) := by
  obtain ⟨h0, h1⟩ := h c
  have r0 : ∀ b t h l, ∃ a : ℝ, qA m c b t h l = (a : EReal) := fun b t h l => Cert.KernelIdeal.Attn.real_of_lt _ (congrFun h0 (ix4 b t h l))
  have r1 : ∀ b t h l, ∃ a : ℝ, kA m c b t h l = (a : EReal) := fun b t h l => Cert.KernelIdeal.Attn.real_of_lt _ (congrFun h1 (ix4 b t h l))
  choose q hq using r0
  choose k hk using r1
  exact ⟨⟨q, k, hq, hk⟩⟩

end Cert.Kernel4Ideal.Mla
-- ==== Proof.Prep.Host.lean ====
/-
  What the host code before the call before the latent attention stages, read at an index.
-/
module

public import proofs.«01_k».proof.Proof.Gen.Kernel5Ideal.Frame
public import Idealize.ShloMosaic.Lib.StableHlo.ReadAt
public import Idealize.ShloMosaic.Lib.Pointwise
public import Idealize.ShloMosaic.Lib.KernelVsHost

@[expose] public section

noncomputable section

namespace Cert.Kernel5Ideal.Prep

open Idealize.ShloMosaic Idealize.ShloMosaic.TcCoe
open Cert.Kernel5Ideal Cert.Kernel5Ideal.Gen

variable (m : (ℓ : Loc nD τ sig) → Buf (Elt Ideal) ℓ) (c : Dev nD)

/-- The latents, the rotary keys, the cosines and sines, and the weights that the program is given. -/
def cqA : S16x2048x256.Idx → EReal := m (c, Proc.tc.devRef main_arg0)
@[inherit_doc cqA] def ckvA : S16x2048x128.Idx → EReal := m (c, Proc.tc.devRef main_arg1)
@[inherit_doc cqA] def ckrA : S16x2048x32.Idx → EReal := m (c, Proc.tc.devRef main_arg2)
@[inherit_doc cqA] def cosA : S16x2048x16.Idx → EReal := m (c, Proc.tc.devRef main_arg3)
@[inherit_doc cqA] def sinA : S16x2048x16.Idx → EReal := m (c, Proc.tc.devRef main_arg4)
@[inherit_doc cqA] def gcqA : S256.Idx → EReal := m (c, Proc.tc.devRef main_arg5)
@[inherit_doc cqA] def wuqA : S256x768.Idx → EReal := m (c, Proc.tc.devRef main_arg6)
@[inherit_doc cqA] def gckvA : S128.Idx → EReal := m (c, Proc.tc.devRef main_arg7)
@[inherit_doc cqA] def wukvA : S128x1024.Idx → EReal := m (c, Proc.tc.devRef main_arg8)
@[inherit_doc cqA] def gqA : S96.Idx → EReal := m (c, Proc.tc.devRef main_arg9)
@[inherit_doc cqA] def gkA : S96.Idx → EReal := m (c, Proc.tc.devRef main_arg10)

/-- The 96 lanes of a head over zeros up to 128. -/
def padded (f : Fin 96 → EReal) (l : Fin 128) : EReal := if h : l.val < 96 then f ⟨l.val, h⟩ else 0

/-- The rotary lanes of a head with their halves exchanged, the other lanes zero. -/
def swapped (f : Fin 96 → EReal) (l : Fin 128) : EReal :=
  if h : 64 ≤ l.val ∧ l.val < 80 then f ⟨l.val + 16, by omega⟩ else if h : 80 ≤ l.val ∧ l.val < 96 then f ⟨l.val - 16, by omega⟩ else 0

theorem zero_word : (FloatOps.sitofp .f32 0#32 : Ideal .f32) = 0 := sitofp_zero

theorem proj_at (r : Fin 32768) (l : Fin 5632) :
    (V m c main_v3 : S32768x5632.Idx → EReal) (ix2 r l) =
     if h : 4608 ≤ l.val ∧ l.val < 4864 then cqA m c (ix3 ⟨r.val / 2048, by omega⟩ ⟨r.val % 2048, by omega⟩ ⟨l.val - 4608, by omega⟩)
     else if h : 4864 ≤ l.val ∧ l.val < 4992 then ckvA m c (ix3 ⟨r.val / 2048, by omega⟩ ⟨r.val % 2048, by omega⟩ ⟨l.val - 4864, by omega⟩)
     else if h : 4992 ≤ l.val ∧ l.val < 5024 then ckrA m c (ix3 ⟨r.val / 2048, by omega⟩ ⟨r.val % 2048, by omega⟩ ⟨l.val - 4992, by omega⟩)
     else 0 := by
  unfold V
  after_reads_at
  have hr := r.isLt
  by_cases h0 : 4608 ≤ l.val ∧ l.val - 4608 < 416
  · refine (dif_pos (show r.val / 2048 < 16 ∧ r.val % 2048 < 2048 ∧ 4608 ≤ l.val ∧ l.val - 4608 < 416 by omega)).trans ?_
    by_cases h1 : l.val - 4608 < 256
    · refine (dif_pos h1).trans (Eq.trans ?_ (dif_pos (show 4608 ≤ l.val ∧ l.val < 4864 by omega)).symm)
      after_reads_at
      have e : (⟨l.val - 4608, by omega⟩ : Fin 256) = ⟨l.val - 4608, by omega⟩ := rfl
      exact congrArg (fun q => cqA m c (ix3 ⟨r.val / 2048, by omega⟩ ⟨r.val % 2048, by omega⟩ q)) e
    refine (dif_neg h1).trans (Eq.trans ?_ (dif_neg (show ¬(4608 ≤ l.val ∧ l.val < 4864) by omega)).symm)
    by_cases h2 : l.val - 4608 - 256 < 128
    · refine (dif_pos h2).trans (Eq.trans ?_ (dif_pos (show 4864 ≤ l.val ∧ l.val < 4992 by omega)).symm)
      after_reads_at
      have e : (⟨l.val - 4608 - 256, by omega⟩ : Fin 128) = ⟨l.val - 4864, by omega⟩ := Fin.ext (by dsimp only; omega)
      exact congrArg (fun q => ckvA m c (ix3 ⟨r.val / 2048, by omega⟩ ⟨r.val % 2048, by omega⟩ q)) e
    · refine (dif_neg h2).trans (Eq.trans ?_ ((dif_neg (show ¬(4864 ≤ l.val ∧ l.val < 4992) by omega)).trans (dif_pos (show 4992 ≤ l.val ∧ l.val < 5024 by omega))).symm)
      after_reads_at
      have e : (⟨l.val - 4608 - 256 - 128, by omega⟩ : Fin 32) = ⟨l.val - 4992, by omega⟩ := Fin.ext (by dsimp only; omega)
      exact congrArg (fun q => ckrA m c (ix3 ⟨r.val / 2048, by omega⟩ ⟨r.val % 2048, by omega⟩ q)) e
  · exact (dif_neg (show ¬(r.val / 2048 < 16 ∧ r.val % 2048 < 2048 ∧ 4608 ≤ l.val ∧ l.val - 4608 < 416) by omega)).trans
      (zero_word.trans ((dif_neg (show ¬(4608 ≤ l.val ∧ l.val < 4864) by omega)).trans ((dif_neg (show ¬(4864 ≤ l.val ∧ l.val < 4992) by omega)).trans (dif_neg (show ¬(4992 ≤ l.val ∧ l.val < 5024) by omega)))).symm)

theorem cos_at (r : Fin 32768) (l : Fin 128) :
    (V m c main_v8 : S32768x128.Idx → EReal) (ix2 r l) = if h : 64 ≤ l.val ∧ l.val < 80 then cosA m c (ix3 ⟨r.val / 2048, by omega⟩ ⟨r.val % 2048, by omega⟩ ⟨l.val - 64, by omega⟩)
      else if h : 80 ≤ l.val ∧ l.val < 96 then cosA m c (ix3 ⟨r.val / 2048, by omega⟩ ⟨r.val % 2048, by omega⟩ ⟨l.val - 80, by omega⟩) else 1 := by
  unfold V
  after_reads_at
  by_cases h1 : l.val < 64
  · rewrite [dif_pos h1, dif_neg (show ¬(64 ≤ l.val ∧ l.val < 80) by omega), dif_neg (show ¬(80 ≤ l.val ∧ l.val < 96) by omega)]
    after_reads_at
  rewrite [dif_neg h1]
  by_cases h2 : l.val < 80
  · rewrite [dif_pos (show l.val - 64 < 16 by omega), dif_pos (show 64 ≤ l.val ∧ l.val < 80 by omega)]
    after_reads_at
    rfl
  rewrite [dif_neg (show ¬l.val - 64 < 16 by omega), dif_neg (show ¬(64 ≤ l.val ∧ l.val < 80) by omega)]
  by_cases h3 : l.val < 96
  · rewrite [dif_pos (show l.val - 64 - 16 < 16 by omega), dif_pos (show 80 ≤ l.val ∧ l.val < 96 by omega)]
    after_reads_at
    have e : (⟨l.val - 64 - 16, by omega⟩ : Fin 16) = ⟨l.val - 80, by omega⟩ := Fin.ext (by dsimp only; omega)
    exact congrArg (fun q => cosA m c (ix3 ⟨r.val / 2048, by omega⟩ ⟨r.val % 2048, by omega⟩ q)) e
  · rewrite [dif_neg (show ¬l.val - 64 - 16 < 16 by omega), dif_neg (show ¬(80 ≤ l.val ∧ l.val < 96) by omega)]
    after_reads_at

theorem sin_at (r : Fin 32768) (l : Fin 128) :
    (V m c main_v14 : S32768x128.Idx → EReal) (ix2 r l) = if h : 64 ≤ l.val ∧ l.val < 80 then -sinA m c (ix3 ⟨r.val / 2048, by omega⟩ ⟨r.val % 2048, by omega⟩ ⟨l.val - 64, by omega⟩)
      else if h : 80 ≤ l.val ∧ l.val < 96 then sinA m c (ix3 ⟨r.val / 2048, by omega⟩ ⟨r.val % 2048, by omega⟩ ⟨l.val - 80, by omega⟩) else 0 := by
  unfold V
  after_reads_at
  by_cases h1 : l.val < 64
  · rewrite [dif_pos h1, dif_neg (show ¬(64 ≤ l.val ∧ l.val < 80) by omega), dif_neg (show ¬(80 ≤ l.val ∧ l.val < 96) by omega)]
    after_reads_at
  rewrite [dif_neg h1]
  by_cases h2 : l.val < 80
  · rewrite [dif_pos (show l.val - 64 < 16 by omega), dif_pos (show 64 ≤ l.val ∧ l.val < 80 by omega)]
    after_reads_at
    rfl
  rewrite [dif_neg (show ¬l.val - 64 < 16 by omega), dif_neg (show ¬(64 ≤ l.val ∧ l.val < 80) by omega)]
  by_cases h3 : l.val < 96
  · rewrite [dif_pos (show l.val - 64 - 16 < 16 by omega), dif_pos (show 80 ≤ l.val ∧ l.val < 96 by omega)]
    after_reads_at
    have e : (⟨l.val - 64 - 16, by omega⟩ : Fin 16) = ⟨l.val - 80, by omega⟩ := Fin.ext (by dsimp only; omega)
    exact congrArg (fun q => sinA m c (ix3 ⟨r.val / 2048, by omega⟩ ⟨r.val % 2048, by omega⟩ q)) e
  · rewrite [dif_neg (show ¬l.val - 64 - 16 < 16 by omega), dif_neg (show ¬(80 ≤ l.val ∧ l.val < 96) by omega)]
    after_reads_at

theorem gcq_at (k : Fin 256) : (V m c main_v31 : S1x256.Idx → EReal) (ix2 (0 : Fin 1) k) = gcqA m c (ix1 k) := by
  unfold V
  after_reads_at
  rfl

theorem gckv_at (k : Fin 128) : (V m c main_v43 : S1x128.Idx → EReal) (ix2 (0 : Fin 1) k) = gckvA m c (ix1 k) := by
  unfold V
  after_reads_at
  rfl

theorem wuq_at (k : Fin 256) (h : Fin 8) (l : Fin 128) :
    (V m c main_v34 : S256x1024.Idx → EReal) (ix2 k ⟨h.val * 128 + l.val, by omega⟩) = padded (fun d => wuqA m c (ix2 k ⟨h.val * 96 + d.val, by omega⟩)) l := by
  unfold V
  after_reads_at
  have hd : (h.val * 128 + l.val) / 128 = h.val := by omega
  have hm : (h.val * 128 + l.val) % 128 = l.val := by omega
  simp only [hd, hm]
  unfold padded
  by_cases h0 : l.val < 96
  · refine (dif_pos (show h.val < 8 ∧ l.val < 96 from ⟨h.isLt, h0⟩)).trans (Eq.trans ?_ (dif_pos h0).symm)
    exact (rfl : wuqA m c (ix2 k ⟨h.val * 96 + l.val, by omega⟩) = wuqA m c (ix2 k ⟨h.val * 96 + l.val, by omega⟩))
  · refine (dif_neg fun hh => h0 hh.2).trans (Eq.trans ?_ (dif_neg h0).symm)
    exact zero_word

theorem wuqSwap_at (k : Fin 256) (h : Fin 8) (l : Fin 128) :
    (V m c main_v42 : S256x1024.Idx → EReal) (ix2 k ⟨h.val * 128 + l.val, by omega⟩) = swapped (fun d => wuqA m c (ix2 k ⟨h.val * 96 + d.val, by omega⟩)) l := by
  unfold V
  after_reads_at
  have hd : (h.val * 128 + l.val) / 128 = h.val := by omega
  have hm : (h.val * 128 + l.val) % 128 = l.val := by omega
  simp only [hd, hm]
  unfold swapped
  by_cases h0 : l.val < 96
  · refine (dif_pos (show h.val < 8 ∧ l.val < 96 from ⟨h.isLt, h0⟩)).trans ?_
    by_cases h1 : l.val < 64
    · refine (dif_pos h1).trans (Eq.trans ?_ ((dif_neg (show ¬(64 ≤ l.val ∧ l.val < 80) by omega)).trans (dif_neg (show ¬(80 ≤ l.val ∧ l.val < 96) by omega))).symm)
      after_reads_at
    refine (dif_neg h1).trans ?_
    by_cases h2 : l.val < 80
    · refine (dif_pos (show l.val - 64 < 16 by omega)).trans (Eq.trans ?_ (dif_pos (show 64 ≤ l.val ∧ l.val < 80 by omega)).symm)
      after_reads_at
      have e : (⟨h.val * 96 + (80 + (l.val - 64)), by omega⟩ : Fin 768) = ⟨h.val * 96 + (l.val + 16), by omega⟩ := Fin.ext (by dsimp only; omega)
      exact congrArg (fun q => wuqA m c (ix2 k q)) e
    · refine (dif_neg (show ¬l.val - 64 < 16 by omega)).trans (Eq.trans ?_ ((dif_neg (show ¬(64 ≤ l.val ∧ l.val < 80) by omega)).trans (dif_pos (show 80 ≤ l.val ∧ l.val < 96 by omega))).symm)
      after_reads_at
      have e : (⟨h.val * 96 + (64 + (l.val - 64 - 16)), by omega⟩ : Fin 768) = ⟨h.val * 96 + (l.val - 16), by omega⟩ := Fin.ext (by dsimp only; omega)
      exact congrArg (fun q => wuqA m c (ix2 k q)) e
  · exact (dif_neg fun hh => h0 hh.2).trans (zero_word.trans ((dif_neg (show ¬(64 ≤ l.val ∧ l.val < 80) by omega)).trans (dif_neg (show ¬(80 ≤ l.val ∧ l.val < 96) by omega))).symm)

theorem wuk_at (k : Fin 128) (h : Fin 8) (l : Fin 128) :
    (V m c main_v47 : S128x1024.Idx → EReal) (ix2 k ⟨h.val * 128 + l.val, by omega⟩) = if l.val < 64 then wukvA m c (ix2 k ⟨h.val * 128 + l.val, by omega⟩) else 0 := by
  unfold V
  after_reads_at
  have hd : (h.val * 128 + l.val) / 128 = h.val := by omega
  have hm : (h.val * 128 + l.val) % 128 = l.val := by omega
  simp only [hd, hm]
  by_cases h0 : l.val < 64
  · refine (dif_pos (show h.val < 8 ∧ l.val < 64 from ⟨h.isLt, h0⟩)).trans (Eq.trans ?_ (if_pos h0).symm)
    exact (rfl : wukvA m c (ix2 k ⟨h.val * 128 + l.val, by omega⟩) = wukvA m c (ix2 k ⟨h.val * 128 + l.val, by omega⟩))
  · exact (dif_neg fun hh => h0 hh.2).trans (zero_word.trans (if_neg h0).symm)

theorem wv_at (k : Fin 128) (h : Fin 8) (d : Fin 80) :
    (V m c main_v49 : S640x128.Idx → EReal) (ix2 ⟨h.val * 80 + d.val, by omega⟩ k) = if hd : d.val < 64 then wukvA m c (ix2 k ⟨h.val * 128 + (64 + d.val), by omega⟩) else 0 := by
  unfold V
  after_reads_at
  have hd : (h.val * 80 + d.val) / 80 = h.val := by omega
  have hm : (h.val * 80 + d.val) % 80 = d.val := by omega
  simp only [hd, hm]
  by_cases h0 : d.val < 64
  · refine (dif_pos (show h.val < 8 ∧ d.val < 64 from ⟨h.isLt, h0⟩)).trans (Eq.trans ?_ (dif_pos h0).symm)
    exact (rfl : wukvA m c (ix2 k ⟨h.val * 128 + (64 + d.val), by omega⟩) = wukvA m c (ix2 k ⟨h.val * 128 + (64 + d.val), by omega⟩))
  · refine (dif_neg fun hh => h0 hh.2).trans (Eq.trans ?_ (dif_neg h0).symm)
    exact zero_word

theorem gq_at (l : Fin 128) : (V m c main_v50 : S1x128.Idx → EReal) (ix2 (0 : Fin 1) l) = padded (fun d => gqA m c (ix1 d) * Ideal.ofBits .f32 0x3FB8AA3B#32) l := by
  unfold V
  after_reads_at
  unfold padded
  rw [zero_word]
  rfl

theorem gqSwap_at (l : Fin 128) : (V m c main_v56 : S1x128.Idx → EReal) (ix2 (0 : Fin 1) l) = swapped (fun d => gqA m c (ix1 d) * Ideal.ofBits .f32 0x3FB8AA3B#32) l := by
  unfold V
  after_reads_at
  unfold swapped
  by_cases h0 : l.val < 96
  · rewrite [dif_pos h0]
    by_cases h1 : l.val < 64
    · rewrite [dif_pos h1, dif_neg (show ¬(64 ≤ l.val ∧ l.val < 80) by omega), dif_neg (show ¬(80 ≤ l.val ∧ l.val < 96) by omega)]
      after_reads_at
    rewrite [dif_neg h1]
    by_cases h2 : l.val < 80
    · rewrite [dif_pos (show l.val - 64 < 16 by omega), dif_pos (show 64 ≤ l.val ∧ l.val < 80 by omega)]
      after_reads_at
      have e : (⟨80 + (l.val - 64), by omega⟩ : Fin 96) = ⟨l.val + 16, by omega⟩ := Fin.ext (by dsimp only; omega)
      exact congrArg (fun q => gqA m c (ix1 q) * Ideal.ofBits .f32 0x3FB8AA3B#32) e
    · rewrite [dif_neg (show ¬l.val - 64 < 16 by omega), dif_neg (show ¬(64 ≤ l.val ∧ l.val < 80) by omega), dif_pos (show 80 ≤ l.val ∧ l.val < 96 by omega)]
      after_reads_at
      have e : (⟨64 + (l.val - 64 - 16), by omega⟩ : Fin 96) = ⟨l.val - 16, by omega⟩ := Fin.ext (by dsimp only; omega)
      exact congrArg (fun q => gqA m c (ix1 q) * Ideal.ofBits .f32 0x3FB8AA3B#32) e
  · rewrite [dif_neg h0, dif_neg (show ¬(64 ≤ l.val ∧ l.val < 80) by omega), dif_neg (show ¬(80 ≤ l.val ∧ l.val < 96) by omega)]
    exact zero_word

theorem gk_at (l : Fin 128) : (V m c main_v57 : S1x128.Idx → EReal) (ix2 (0 : Fin 1) l) = padded (fun d => gkA m c (ix1 d) * Ideal.sqrt (Ideal.ofBits .f32 0x42C00000#32)) l := by
  unfold V
  after_reads_at
  unfold padded
  rw [zero_word]
  rfl

theorem gkSwap_at (l : Fin 128) : (V m c main_v63 : S1x128.Idx → EReal) (ix2 (0 : Fin 1) l) = swapped (fun d => gkA m c (ix1 d) * Ideal.sqrt (Ideal.ofBits .f32 0x42C00000#32)) l := by
  unfold V
  after_reads_at
  unfold swapped
  by_cases h0 : l.val < 96
  · rewrite [dif_pos h0]
    by_cases h1 : l.val < 64
    · rewrite [dif_pos h1, dif_neg (show ¬(64 ≤ l.val ∧ l.val < 80) by omega), dif_neg (show ¬(80 ≤ l.val ∧ l.val < 96) by omega)]
      after_reads_at
    rewrite [dif_neg h1]
    by_cases h2 : l.val < 80
    · rewrite [dif_pos (show l.val - 64 < 16 by omega), dif_pos (show 64 ≤ l.val ∧ l.val < 80 by omega)]
      after_reads_at
      have e : (⟨80 + (l.val - 64), by omega⟩ : Fin 96) = ⟨l.val + 16, by omega⟩ := Fin.ext (by dsimp only; omega)
      exact congrArg (fun q => gkA m c (ix1 q) * Ideal.sqrt (Ideal.ofBits .f32 0x42C00000#32)) e
    · rewrite [dif_neg (show ¬l.val - 64 < 16 by omega), dif_neg (show ¬(64 ≤ l.val ∧ l.val < 80) by omega), dif_pos (show 80 ≤ l.val ∧ l.val < 96 by omega)]
      after_reads_at
      have e : (⟨64 + (l.val - 64 - 16), by omega⟩ : Fin 96) = ⟨l.val - 16, by omega⟩ := Fin.ext (by dsimp only; omega)
      exact congrArg (fun q => gkA m c (ix1 q) * Ideal.sqrt (Ideal.ofBits .f32 0x42C00000#32)) e
  · rewrite [dif_neg h0, dif_neg (show ¬(64 ≤ l.val ∧ l.val < 80) by omega), dif_neg (show ¬(80 ≤ l.val ∧ l.val < 96) by omega)]
    exact zero_word

theorem ones_at (x y : Fin 256) : (V m c main_v64 : S256x256.Idx → EReal) (ix2 x y) = if x.val / 128 = y.val / 128 then (1 : EReal) else 0 := by
  unfold V
  after_reads_at
  by_cases h : x.val < 128
  · rw [dif_pos h]
    after_reads_at
    rw [zero_word]
    by_cases hy : y.val < 128
    · rw [dif_pos (show x.val < 128 ∧ y.val < 128 by omega), if_pos (by omega)]
    · rw [dif_neg (show ¬(x.val < 128 ∧ y.val < 128) by omega), if_neg (by omega)]
  · rw [dif_neg h]
    after_reads_at
    rw [zero_word]
    by_cases hy : y.val < 128
    · rw [dif_neg (show ¬(x.val - 128 < 128 ∧ 128 ≤ y.val ∧ y.val - 128 < 128) by omega), if_neg (by omega)]
    · rw [dif_pos (show x.val - 128 < 128 ∧ 128 ≤ y.val ∧ y.val - 128 < 128 by omega), if_pos (by omega)]

end Cert.Kernel5Ideal.Prep
-- ==== Proof.Prep.Block.lean ====
/-
  What the body of the call before the latent attention computes from its blocks, read at an index.
-/
module

public import proofs.«01_k».proof.Proof.Gen.Kernel5Ideal.Value
public import Idealize.ShloMosaic.Lib.Pipeline.ValueKit
public import Idealize.ShloMosaic.Lib.Pointwise

@[expose] public section

noncomputable section

namespace Cert.Kernel5Ideal.Prep

open Idealize.ShloMosaic Idealize.ShloMosaic.TcCoe
open Cert.Kernel5Ideal Cert.Kernel5Ideal.Gen

variable (m : (ℓ : Loc nD τ sig) → Buf (Elt Ideal) ℓ)

/-- The number added under the root, and 96 times it. -/
def eps : EReal := Ideal.ofBits .f32 0x358637BD#32
@[inherit_doc eps] def eps96 : EReal := ((26388279 / 274877906944 : ℝ) : EReal)

theorem eps96_eq : (Named.named (F := Ideal) κ "eps96" 0x38C9539C#32 : Ideal .f32) = eps96 := rfl

/-- A row over its root mean square, times the norm's weights, at one place; the count of the row is given as a number. -/
def unitRow {n : ℕ} (cnt : EReal) (x g : Fin n → EReal) (k : Fin n) : EReal :=
  x k * Ideal.rsqrt (Ideal.div (∑ q, x q * x q) cnt + eps) * g k

theorem pay4_at (x : Vec Ideal S1024x256 .bf16) (g : Vec Ideal S1x256 .f32) (j : Fin 1024) (k : Fin 256) :
    k0_pay4 (F := Ideal) x g (ix2 j k) = unitRow (Ideal.ofBits .f32 0x43800000#32) (fun q => x (ix2 j q)) (fun q => g (ix2 (0 : Fin 1) q)) k := by
  unfold k0_pay4 unitRow
  pointwise
  rfl

theorem pay12_at (x : Vec Ideal S1024x128 .bf16) (g : Vec Ideal S1x128 .f32) (j : Fin 1024) (k : Fin 128) :
    k0_pay12 (F := Ideal) x g (ix2 j k) = unitRow (Ideal.ofBits .f32 0x43000000#32) (fun q => x (ix2 j q)) (fun q => g (ix2 (0 : Fin 1) q)) k := by
  unfold k0_pay12 unitRow
  pointwise
  rfl

theorem pay5_at (x : Vec Ideal S1024x256 .bf16) (g : Vec Ideal S1x256 .f32) (w : Vec Ideal S256x1024 .bf16) (j l : Fin 1024) :
    k0_pay5 (F := Ideal) x g w (ix2 j l) = ∑ k : Fin 256, k0_pay4 (F := Ideal) x g (ix2 j k) * w (ix2 k l) := by
  unfold k0_pay5
  pointwise

theorem pay6_eq : k0_pay6 (F := Ideal) = k0_pay5 := rfl

theorem pay13_at (x : Vec Ideal S1024x128 .bf16) (g : Vec Ideal S1x128 .f32) (w : Vec Ideal S128x1024 .bf16) (j l : Fin 1024) :
    k0_pay13 (F := Ideal) x g w (ix2 j l) = ∑ k : Fin 128, k0_pay12 (F := Ideal) x g (ix2 j k) * w (ix2 k l) := by
  unfold k0_pay13
  pointwise

theorem pay14_at (x : Vec Ideal S1024x128 .bf16) (g : Vec Ideal S1x128 .f32) (w : Vec Ideal S640x128 .bf16) (r : Fin 640) (j : Fin 1024) :
    k0_pay14 (F := Ideal) x g w (ix2 r j) = ∑ k : Fin 128, w (ix2 r k) * k0_pay12 (F := Ideal) x g (ix2 j k) := by
  unfold k0_pay14
  pointwise

/-- The remainder of a row number by 80, as the body takes it, is 64 at the rows of ones. -/
theorem remainder_row (r : Fin 640) :
    IntOp.cmpi CmpIPredicate.eq
        (Scalar.select
          (IntOp.andi
            (IntOp.xori
              (IntOp.cmpi CmpIPredicate.slt
                (IntOp.remsi ArithUnit.vector (BitVec.ofNat 32 r.val)
                  (Scalar.select (Scalar.cmpi CmpIPredicate.eq 80#32 0#32) 1#32 80#32))
                0#32)
              (Scalar.cmpi CmpIPredicate.slt (Scalar.select (Scalar.cmpi CmpIPredicate.eq 80#32 0#32) 1#32 80#32) 0#32))
            (IntOp.cmpi CmpIPredicate.ne
              (IntOp.remsi ArithUnit.vector (BitVec.ofNat 32 r.val)
                (Scalar.select (Scalar.cmpi CmpIPredicate.eq 80#32 0#32) 1#32 80#32))
              0#32))
          (IntOp.addi
            (IntOp.remsi ArithUnit.vector (BitVec.ofNat 32 r.val)
              (Scalar.select (Scalar.cmpi CmpIPredicate.eq 80#32 0#32) 1#32 80#32))
            (Scalar.select (Scalar.cmpi CmpIPredicate.eq 80#32 0#32) 1#32 80#32))
          (IntOp.remsi ArithUnit.vector (BitVec.ofNat 32 r.val)
            (Scalar.select (Scalar.cmpi CmpIPredicate.eq 80#32 0#32) 1#32 80#32)))
        64#32 = if r.val % 80 = 64 then 1#1 else 0#1 := by
  revert r
  decide +kernel

theorem pay15_at (z : FVec Ideal S640x1024 .f32) (r : Fin 640) (j : Fin 1024) :
    k0_pay15 (F := Ideal) z (iota .tc S640x1024 32 [0] iota_S640x1024_d0_w32) 80#32 (ix3 (0 : Fin 1) r j)
      = if r.val % 80 = 64 then 1 else z (ix2 r j) := by
  unfold k0_pay15
  pointwise
  rw [remainder_row r]
  split <;> simp [Scalar.select]

theorem lane_lt32 (l : Fin 128) : IntOp.cmpi CmpIPredicate.slt (BitVec.ofNat 32 l.val) 32#32 = if l.val < 32 then 1#1 else 0#1 := by
  revert l; decide +kernel
theorem lane_lt80 (l : Fin 128) : IntOp.cmpi CmpIPredicate.slt (BitVec.ofNat 32 l.val) 80#32 = if l.val < 80 then 1#1 else 0#1 := by
  revert l; decide +kernel
theorem lane_mid (l : Fin 128) : IntOp.andi (IntOp.cmpi CmpIPredicate.sge (BitVec.ofNat 32 l.val) 64#32) (IntOp.cmpi CmpIPredicate.slt (BitVec.ofNat 32 l.val) 96#32)
    = if 64 ≤ l.val ∧ l.val < 96 then 1#1 else 0#1 := by
  revert l; decide +kernel

theorem pay16_at (z : Vec Ideal S1024x128 .bf16) (j : Fin 1024) (l : Fin 128) :
    k0_pay16 (F := Ideal) z (ix2 j l) = if l.val < 32 then z (ix2 j l) else 0 := by
  unfold k0_pay16
  pointwise
  rw [lane_lt32 l]
  split <;> simp [Scalar.select]

theorem pay17_at (z : Vec Ideal S1024x128 .bf16) (j : Fin 1024) :
    k0_pay17 (F := Ideal) z (ix2 j (0 : Fin 1)) = ∑ l : Fin 128, k0_pay16 (F := Ideal) z (ix2 j l) * k0_pay16 (F := Ideal) z (ix2 j l) := by
  unfold k0_pay17
  pointwise

theorem pay18_at (z : Vec Ideal S1024x128 .bf16) (j : Fin 1024) (l : Fin 128) :
    k0_pay18 (F := Ideal) z (ix2 j l) = if 64 ≤ l.val ∧ l.val < 96 then z (ix2 j ⟨l.val - 64, by omega⟩) else 0 := by
  unfold k0_pay18
  pointwise
  rw [pay16_at]
  by_cases h : 64 ≤ l.val ∧ l.val < 96
  · rw [if_pos h, if_pos (by dsimp only; omega)]
    exact congrArg (fun q => z (ix2 j q)) (Fin.ext (by dsimp only; omega))
  · rw [if_neg h, if_neg (by dsimp only; omega)]

theorem pay22_at (z : Vec Ideal S1024x128 .bf16) (j : Fin 1024) (l : Fin 128) :
    k0_pay22 (F := Ideal) (iota .tc S1024x128 32 [1] iota_S1024x128_d1_w32) k0_pay19 (k0_pay20 z) (k0_pay21 z) (ix2 j l)
      = if h : 64 ≤ l.val ∧ l.val < 80 then z (ix2 j ⟨l.val - 48, by omega⟩)
        else if h : 80 ≤ l.val ∧ l.val < 96 then z (ix2 j ⟨l.val - 80, by omega⟩) else 0 := by
  unfold k0_pay22 k0_pay19 k0_pay20 k0_pay21
  pointwise
  rw [lane_mid l, lane_lt80 l, pay16_at, pay16_at]
  by_cases h1 : 64 ≤ l.val ∧ l.val < 80
  · rw [dif_pos h1, if_pos (by omega), if_pos (by omega), if_pos (by dsimp only; omega)]
    simp only [Scalar.select]
    exact congrArg (fun q => z (ix2 j q)) (Fin.ext (by dsimp only; omega))
  rw [dif_neg h1]
  by_cases h2 : 80 ≤ l.val ∧ l.val < 96
  · rw [dif_pos h2, if_pos (by omega), if_neg (by omega)]
    refine Eq.trans (if_pos rfl) (Eq.trans (if_neg (by decide)) (Eq.trans (if_pos (by dsimp only; omega)) ?_))
    exact congrArg (fun q => z (ix2 j q)) (Fin.ext (by dsimp only; omega))
  rw [dif_neg h2, if_neg (by omega)]
  simp [Scalar.select]

/-- The sum of a row's squares over the columns that the block of ones joins to a column. -/
def joined (z : Fin 1024 → EReal) (o : S256x256.Idx → EReal) (l : Fin 1024) : EReal :=
  ∑ x : Fin 256, z ⟨l.val / 256 * 256 + x.val, by omega⟩ * z ⟨l.val / 256 * 256 + x.val, by omega⟩ * o (ix2 x ⟨l.val % 256, by omega⟩)

theorem four_parts (z : Fin 1024 → EReal) (o : S256x256.Idx → EReal) (l : Fin 1024) :
    (if h : l.val < 256 then ∑ x : Fin 256, z ⟨x.val, by omega⟩ * z ⟨x.val, by omega⟩ * o (ix2 x ⟨l.val, by omega⟩)
      else if h1 : l.val - 256 < 256 then ∑ x : Fin 256, z ⟨256 + x.val, by omega⟩ * z ⟨256 + x.val, by omega⟩ * o (ix2 x ⟨l.val - 256, by omega⟩)
      else if h2 : l.val - 256 - 256 < 256 then ∑ x : Fin 256, z ⟨512 + x.val, by omega⟩ * z ⟨512 + x.val, by omega⟩ * o (ix2 x ⟨l.val - 256 - 256, by omega⟩)
      else ∑ x : Fin 256, z ⟨768 + x.val, by omega⟩ * z ⟨768 + x.val, by omega⟩ * o (ix2 x ⟨l.val - 256 - 256 - 256, by omega⟩)) = joined z o l := by
  unfold joined
  split_ifs with h h1 h2
  all_goals
    refine Finset.sum_congr rfl fun x _ => ?_
    congr 1
    · congr 1 <;> exact congrArg z (Fin.ext (by dsimp only; omega))
    · exact congrArg (fun q => o (ix2 x q)) (Fin.ext (by dsimp only; omega))

theorem pay23_at (z : FVec Ideal S1024x1024 .f32) (a : FVec Ideal S1024x1 .f32) (o : Vec Ideal S256x256 .bf16) (j l : Fin 1024) :
    k0_pay23 (F := Ideal) z a o o o o (ix2 j l) = Ideal.rsqrt (joined (fun q => z (ix2 j q)) o l + a (ix2 j (0 : Fin 1)) + eps96) := by
  unfold k0_pay23
  pointwise
  rw [← four_parts]
  rfl

theorem pay11_at (x : Vec Ideal S1024x256 .bf16) (g : Vec Ideal S1x256 .f32) (w : Vec Ideal S256x1024 .bf16) (o : Vec Ideal S256x256 .bf16) (j l : Fin 1024) :
    k0_pay11 (F := Ideal) (k0_pay7 x g w) (k0_pay8 x g w o) (k0_pay9 x g w) (k0_pay10 o) o o (ix2 j l)
      = Ideal.rsqrt (joined (fun q => k0_pay5 (F := Ideal) x g w (ix2 j q)) o l + eps96) := by
  unfold k0_pay11 k0_pay8 k0_pay9 k0_pay10 k0_pay7
  pointwise
  rw [← four_parts]
  rfl

theorem pay24_at (t : Vec Ideal S1024x128 .f32) (g : Vec Ideal S1x128 .f32) (j : Fin 1024) (l : Fin 128) :
    k0_pay24 (F := Ideal) (k0_pay2 t) g (ix2 j l) = g (ix2 (0 : Fin 1) l) * t (ix2 j l) := by
  unfold k0_pay24 k0_pay2
  pointwise

theorem pay25_eq : k0_pay25 (F := Ideal) = k0_pay24 := rfl
theorem pay3_eq : k0_pay3 (F := Ideal) = k0_pay2 := rfl
theorem pay26_eq : k0_pay26 (F := Ideal) = k0_pay24 := rfl

theorem pay27_at (ct st : Vec Ideal S1024x128 .f32) (a b : FVec Ideal S1024x128 .f32) (g gs : Vec Ideal S1x128 .f32) (j : Fin 1024) (l : Fin 128) :
    k0_pay27 (F := Ideal) (k0_pay2 ct) (k0_pay3 st) a b g gs (ix2 j l)
      = a (ix2 j l) * (g (ix2 (0 : Fin 1) l) * ct (ix2 j l)) + b (ix2 j l) * (gs (ix2 (0 : Fin 1) l) * st (ix2 j l)) := by
  unfold k0_pay27 k0_pay26 k0_pay2 k0_pay3
  pointwise

/-- The queries of a block: at a column, its head's scale times the rotated projections. -/
def qOut (a b r : S1024x1024.Idx → EReal) (g gs : S1024x128.Idx → EReal) (y : S1024x1024.Idx) : EReal :=
  r y * (a y * g (ix2 (y 0) ⟨(y 1).val % 128, Nat.mod_lt _ (by decide)⟩) + b y * gs (ix2 (y 0) ⟨(y 1).val % 128, Nat.mod_lt _ (by decide)⟩))

/-- The keys of a block: at a column, its head's scale times the projection and the common rotated lanes. -/
def kOut (a r : S1024x1024.Idx → EReal) (g p : S1024x128.Idx → EReal) (y : S1024x1024.Idx) : EReal :=
  r y * (a y * g (ix2 (y 0) ⟨(y 1).val % 128, Nat.mod_lt _ (by decide)⟩) + p (ix2 (y 0) ⟨(y 1).val % 128, Nat.mod_lt _ (by decide)⟩))

theorem qOut_at (a b r : S1024x1024.Idx → EReal) (g gs : S1024x128.Idx → EReal) (j : Fin 1024) (o : ℕ) (ho : o + 128 ≤ 1024) (hm : o % 128 = 0) (l : Fin 128) :
    qOut a b r g gs (ix2 j ⟨o + l.val, by omega⟩) = r (ix2 j ⟨o + l.val, by omega⟩) * (a (ix2 j ⟨o + l.val, by omega⟩) * g (ix2 j l) + b (ix2 j ⟨o + l.val, by omega⟩) * gs (ix2 j l)) := by
  have hl : (⟨(o + l.val) % 128, Nat.mod_lt _ (by decide)⟩ : Fin 128) = l := Fin.ext (by dsimp only; omega)
  show _ * (_ * g (ix2 j ⟨(o + l.val) % 128, _⟩) + _ * gs (ix2 j ⟨(o + l.val) % 128, _⟩)) = _
  rw [hl]

theorem kOut_at (a r : S1024x1024.Idx → EReal) (g p : S1024x128.Idx → EReal) (j : Fin 1024) (o : ℕ) (ho : o + 128 ≤ 1024) (hm : o % 128 = 0) (l : Fin 128) :
    kOut a r g p (ix2 j ⟨o + l.val, by omega⟩) = r (ix2 j ⟨o + l.val, by omega⟩) * (a (ix2 j ⟨o + l.val, by omega⟩) * g (ix2 j l) + p (ix2 j l)) := by
  have hl : (⟨(o + l.val) % 128, Nat.mod_lt _ (by decide)⟩ : Fin 128) = l := Fin.ext (by dsimp only; omega)
  show _ * (_ * g (ix2 j ⟨(o + l.val) % 128, _⟩) + p (ix2 j ⟨(o + l.val) % 128, _⟩)) = _
  rw [hl]

/-- A store of 128 columns agrees with a function of the whole block if it does at its columns. -/
theorem piece_of (f : S1024x1024.Idx → EReal) (p : S1024x128.Idx → EReal) (o : ℕ) (ho : o + 128 ≤ 1024)
    (inb : ∀ i, (![0, o] : Fin 2 → ℕ) i + S1024x128.size i ≤ S1024x1024.size i)
    (hp : ∀ (j : Fin 1024) (l : Fin 128), p (ix2 j l) = f (ix2 j ⟨o + l.val, by omega⟩))
    (x : (Rect.unit (s := S1024x1024) ![0, o] S1024x128.size inb).shape.Idx) :
    p x = f ((Rect.unit (s := S1024x1024) ![0, o] S1024x128.size inb).emb x) := by
  have hx : (Rect.unit (s := S1024x1024) ![0, o] S1024x128.size inb).emb x = (ix2 (x 0) ⟨o + (x 1).val, by have : (x 1).val < 128 := (x 1).isLt; omega⟩ : S1024x1024.Idx) := by
    funext i
    match i with
    | ⟨0, _⟩ => exact Fin.ext (by show 0 + 1 * (x 0).val = (x 0).val; omega)
    | ⟨1, _⟩ => exact Fin.ext (by show o + 1 * (x 1).val = o + (x 1).val; omega)
  rw [hx]
  have key := hp (x 0) (x 1)
  rw [ix2_eta (n0 := 1024) (n1 := 128) x] at key
  exact key

section pieces
variable (a b r : FVec Ideal S1024x1024 .f32) (g gs p : FVec Ideal S1024x128 .f32) (j : Fin 1024) (l : Fin 128)

theorem pay28_at : k0_pay28 (F := Ideal) a b r g gs (ix2 j l) = qOut a b r g gs (ix2 j ⟨0 + l.val, by omega⟩) := by
  rw [qOut_at _ _ _ _ _ _ 0 (by omega) (by decide)]
  unfold k0_pay28
  pointwise

theorem pay30_at : k0_pay30 (F := Ideal) a b r g gs (ix2 j l) = qOut a b r g gs (ix2 j ⟨128 + l.val, by omega⟩) := by
  rw [qOut_at _ _ _ _ _ _ 128 (by omega) (by decide)]
  unfold k0_pay30
  pointwise

theorem pay35_at : k0_pay35 (F := Ideal) a b r g gs (ix2 j l) = qOut a b r g gs (ix2 j ⟨384 + l.val, by omega⟩) := by
  rw [qOut_at _ _ _ _ _ _ 384 (by omega) (by decide)]
  unfold k0_pay35
  pointwise

theorem pay37_at : k0_pay37 (F := Ideal) a b r g gs (ix2 j l) = qOut a b r g gs (ix2 j ⟨512 + l.val, by omega⟩) := by
  rw [qOut_at _ _ _ _ _ _ 512 (by omega) (by decide)]
  unfold k0_pay37
  pointwise

theorem pay40_at : k0_pay40 (F := Ideal) a b r g gs (ix2 j l) = qOut a b r g gs (ix2 j ⟨640 + l.val, by omega⟩) := by
  rw [qOut_at _ _ _ _ _ _ 640 (by omega) (by decide)]
  unfold k0_pay40
  pointwise

theorem pay42_at : k0_pay42 (F := Ideal) a b r g gs (ix2 j l) = qOut a b r g gs (ix2 j ⟨768 + l.val, by omega⟩) := by
  rw [qOut_at _ _ _ _ _ _ 768 (by omega) (by decide)]
  unfold k0_pay42
  pointwise

theorem pay44_at : k0_pay44 (F := Ideal) a b r g gs (ix2 j l) = qOut a b r g gs (ix2 j ⟨896 + l.val, by omega⟩) := by
  rw [qOut_at _ _ _ _ _ _ 896 (by omega) (by decide)]
  unfold k0_pay44
  pointwise

theorem pay33_at : k0_pay33 (F := Ideal) a b g gs (k0_pay32 r) (ix2 j l) = qOut a b r g gs (ix2 j ⟨256 + l.val, by omega⟩) := by
  rw [qOut_at _ _ _ _ _ _ 256 (by omega) (by decide)]
  unfold k0_pay33 k0_pay32
  pointwise

theorem pay34_at : k0_pay34 (F := Ideal) a r g p (ix2 j l) = kOut a r g p (ix2 j ⟨256 + l.val, by omega⟩) := by
  rw [kOut_at _ _ _ _ _ 256 (by omega) (by decide)]
  unfold k0_pay34
  pointwise

theorem pay36_at : k0_pay36 (F := Ideal) a r g p (ix2 j l) = kOut a r g p (ix2 j ⟨384 + l.val, by omega⟩) := by
  rw [kOut_at _ _ _ _ _ 384 (by omega) (by decide)]
  unfold k0_pay36
  pointwise

theorem pay41_at : k0_pay41 (F := Ideal) a r g p (ix2 j l) = kOut a r g p (ix2 j ⟨640 + l.val, by omega⟩) := by
  rw [kOut_at _ _ _ _ _ 640 (by omega) (by decide)]
  unfold k0_pay41
  pointwise

theorem pay43_at : k0_pay43 (F := Ideal) a r g p (ix2 j l) = kOut a r g p (ix2 j ⟨768 + l.val, by omega⟩) := by
  rw [kOut_at _ _ _ _ _ 768 (by omega) (by decide)]
  unfold k0_pay43
  pointwise

theorem pay1_at : k0_pay1 (F := Ideal) a r g p (ix2 j l) = kOut a r g p (ix2 j ⟨896 + l.val, by omega⟩) := by
  rw [kOut_at _ _ _ _ _ 896 (by omega) (by decide)]
  unfold k0_pay1
  pointwise

theorem pay39_at : k0_pay39 (F := Ideal) (k0_pay38 a r g p) (ix2 j l) = kOut a r g p (ix2 j ⟨512 + l.val, by omega⟩) := by
  rw [kOut_at _ _ _ _ _ 512 (by omega) (by decide)]
  unfold k0_pay39 k0_pay38
  pointwise

theorem pay29_at (ct st : FVec Ideal S1024x128 .f32) (rot swp : FVec Ideal S1024x128 .f32) (w ws : Vec Ideal S1x128 .f32) :
    k0_pay29 (F := Ideal) ct st a rot swp r w ws (ix2 j l)
      = kOut a r (k0_pay26 (F := Ideal) ct w) (k0_pay27 (F := Ideal) ct st rot swp w ws) (ix2 j ⟨0 + l.val, by omega⟩) := by
  rw [kOut_at _ _ _ _ _ 0 (by omega) (by decide)]
  unfold k0_pay29
  pointwise

theorem pay31_at (ct st : FVec Ideal S1024x128 .f32) (rot swp : FVec Ideal S1024x128 .f32) (w ws : Vec Ideal S1x128 .f32) :
    k0_pay31 (F := Ideal) ct st a rot swp r w ws (ix2 j l)
      = kOut a r (k0_pay26 (F := Ideal) ct w) (k0_pay27 (F := Ideal) ct st rot swp w ws) (ix2 j ⟨128 + l.val, by omega⟩) := by
  rw [kOut_at _ _ _ _ _ 128 (by omega) (by decide)]
  unfold k0_pay31
  pointwise

end pieces

end Cert.Kernel5Ideal.Prep
-- ==== Proof.Prep.Store.lean ====
/-
  What one grid point leaves in the blocks of the queries, the keys and the values: each block's stores as one function
  of the blocks that the point reads.
-/
module

public import proofs.«01_k».proof.Proof.Prep.Block

@[expose] public section

noncomputable section

namespace Cert.Kernel5Ideal.Prep

open Idealize.ShloMosaic Idealize.ShloMosaic.TcCoe
open Cert.Kernel5Ideal Cert.Kernel5Ideal.Gen

variable (x0 : Vec Ideal S1024x256 .bf16) (x1 x2 : Vec Ideal S1024x128 .bf16) (x3 x4 : Vec Ideal S1024x128 .f32) (x5 : Vec Ideal S1x256 .f32)
  (x6 x7 : Vec Ideal S256x1024 .bf16) (x8 : Vec Ideal S1x128 .f32) (x9 : Vec Ideal S128x1024 .bf16) (x10 : Vec Ideal S640x128 .bf16)
  (x11 x12 x13 x14 : Vec Ideal S1x128 .f32) (x15 : Vec Ideal S256x256 .bf16)

theorem ld0 {e : EltTy} (x : S1024x128.Idx → Elt Ideal e) : View.ld x r0_0 = x := View.ld_unit_lit _ x (by decide)
theorem ld1 {e : EltTy} (x : S1024x256.Idx → Elt Ideal e) : View.ld x r0_1 = x := View.ld_unit_lit _ x (by decide)
theorem ld2 {e : EltTy} (x : S1x256.Idx → Elt Ideal e) : View.ld x r0_2 = x := View.ld_unit_lit _ x (by decide)
theorem ld3 {e : EltTy} (x : S256x1024.Idx → Elt Ideal e) : View.ld x r0_3 = x := View.ld_unit_lit _ x (by decide)
theorem ld4 {e : EltTy} (x : S256x256.Idx → Elt Ideal e) : View.ld x r0_4 = x := View.ld_unit_lit _ x (by decide)
theorem ld5 {e : EltTy} (x : S1x128.Idx → Elt Ideal e) : View.ld x r0_5 = x := View.ld_unit_lit _ x (by decide)
theorem ld6 {e : EltTy} (x : S128x1024.Idx → Elt Ideal e) : View.ld x r0_6 = x := View.ld_unit_lit _ x (by decide)

/-- The scale of the queries' heads. -/
def qScale : FVec Ideal S1024x1024 .f32 := k0_pay11 (F := Ideal) (k0_pay7 x0 x5 x6) (k0_pay8 x0 x5 x6 x15) (k0_pay9 x0 x5 x6) (k0_pay10 x15) x15 x15

/-- The scale of the keys' heads. -/
def kScale : FVec Ideal S1024x1024 .f32 := k0_pay23 (F := Ideal) (k0_pay13 x1 x8 x9) (k0_pay17 x2) x15 x15 x15 x15

/-- The rotary lanes of the keys, rotated and under their weights. -/
def kRotary : FVec Ideal S1024x128 .f32 :=
  k0_pay27 (F := Ideal) (k0_pay2 x3) (k0_pay3 x4) (k0_pay18 x2) (k0_pay22 (iota .tc S1024x128 32 [1] iota_S1024x128_d1_w32) k0_pay19 (k0_pay20 x2) (k0_pay21 x2)) x13 x14

theorem out16_eq : out0_16 x0 x1 x2 x3 x4 x5 x6 x7 x8 x9 x10 x11 x12 x13 x14 x15
    = qOut (k0_pay5 (F := Ideal) x0 x5 x6) (k0_pay5 (F := Ideal) x0 x5 x7) (qScale x0 x5 x6 x15) (k0_pay24 (F := Ideal) (k0_pay2 x3) x11) (k0_pay24 (F := Ideal) (k0_pay2 x4) x12) := by
  unfold_out out0_16
  simp only [ld0, ld1, ld2, ld3, ld4, ld5, ld6]
  refine funext fun y => View.canon_apply_of_pieces (Val := Elt Ideal) (e := .bf16) _ _ ?_ y (cover0_16 _ _ _ _ _ _ _ _ y)
  intro p hp
  simp only [List.mem_cons, List.not_mem_nil, or_false] at hp
  rcases hp with rfl | rfl | rfl | rfl | rfl | rfl | rfl | rfl
  · exact piece_of _ _ 896 (by omega) inb_S1024x1024_S1024x128_0_896 fun j l => pay44_at _ _ _ _ _ j l
  · exact piece_of _ _ 768 (by omega) inb_S1024x1024_S1024x128_0_768 fun j l => pay42_at _ _ _ _ _ j l
  · exact piece_of _ _ 640 (by omega) inb_S1024x1024_S1024x128_0_640 fun j l => pay40_at _ _ _ _ _ j l
  · exact piece_of _ _ 512 (by omega) inb_S1024x1024_S1024x128_0_512 fun j l => pay37_at _ _ _ _ _ j l
  · exact piece_of _ _ 384 (by omega) inb_S1024x1024_S1024x128_0_384 fun j l => pay35_at _ _ _ _ _ j l
  · exact piece_of _ _ 256 (by omega) inb_S1024x1024_S1024x128_0_256 fun j l => pay33_at _ _ _ _ _ j l
  · exact piece_of _ _ 128 (by omega) inb_S1024x1024_S1024x128_0_128 fun j l => pay30_at _ _ _ _ _ j l
  · exact piece_of _ _ 0 (by omega) inb_S1024x1024_S1024x128_0_0 fun j l => pay28_at _ _ _ _ _ j l

theorem out17_eq : out0_17 x0 x1 x2 x3 x4 x5 x6 x7 x8 x9 x10 x11 x12 x13 x14 x15
    = kOut (k0_pay13 (F := Ideal) x1 x8 x9) (kScale x1 x2 x8 x9 x15) (k0_pay26 (F := Ideal) (k0_pay2 x3) x13) (kRotary x2 x3 x4 x13 x14) := by
  unfold_out out0_17
  simp only [ld0, ld1, ld2, ld3, ld4, ld5, ld6]
  refine funext fun y => View.canon_apply_of_pieces (Val := Elt Ideal) (e := .bf16) _ _ ?_ y (cover0_17 _ _ _ _ _ _ _ _ y)
  intro p hp
  simp only [List.mem_cons, List.not_mem_nil, or_false] at hp
  rcases hp with rfl | rfl | rfl | rfl | rfl | rfl | rfl | rfl
  · exact piece_of _ _ 896 (by omega) inb_S1024x1024_S1024x128_0_896 fun j l => pay1_at _ _ _ _ j l
  · exact piece_of _ _ 768 (by omega) inb_S1024x1024_S1024x128_0_768 fun j l => pay43_at _ _ _ _ j l
  · exact piece_of _ _ 640 (by omega) inb_S1024x1024_S1024x128_0_640 fun j l => pay41_at _ _ _ _ j l
  · exact piece_of _ _ 512 (by omega) inb_S1024x1024_S1024x128_0_512 fun j l => pay39_at _ _ _ _ j l
  · exact piece_of _ _ 384 (by omega) inb_S1024x1024_S1024x128_0_384 fun j l => pay36_at _ _ _ _ j l
  · exact piece_of _ _ 256 (by omega) inb_S1024x1024_S1024x128_0_256 fun j l => pay34_at _ _ _ _ j l
  · exact piece_of _ _ 128 (by omega) inb_S1024x1024_S1024x128_0_128 fun j l => pay31_at _ _ j l _ _ _ _ _ _
  · exact piece_of _ _ 0 (by omega) inb_S1024x1024_S1024x128_0_0 fun j l => pay29_at _ _ j l _ _ _ _ _ _

theorem out18_eq : out0_18 x0 x1 x2 x3 x4 x5 x6 x7 x8 x9 x10 x11 x12 x13 x14 x15
    = k0_pay15 (F := Ideal) (k0_pay14 x1 x8 x10) (iota .tc S640x1024 32 [0] iota_S640x1024_d0_w32) 80#32 := by
  frame_out

end Cert.Kernel5Ideal.Prep
-- ==== Proof.Prep.Blocks.lean ====
/-
  The blocks that a grid point reads, as parts of the given arrays, and the results at a row as what its grid point leaves.
-/
module

public import proofs.«01_k».proof.Proof.Prep.Host
public import proofs.«01_k».proof.Proof.Prep.Store

@[expose] public section

noncomputable section

namespace Cert.Kernel5Ideal.Prep

open Idealize.ShloMosaic Idealize.ShloMosaic.TcCoe
open Cert.Kernel5Ideal Cert.Kernel5Ideal.Gen

variable (m : (ℓ : Loc nD τ sig) → Buf (Elt Ideal) ℓ)

/-- The grid point of a row block. -/
def pt (i : Fin 32) : Fin cfg0.N := ⟨i.val, i.isLt⟩

/-- The row of the arrays that a row block's local row is, its batch and its place in the batch. -/
def row (i : Fin 32) (j : Fin 1024) : Fin 32768 := ⟨i.val * 1024 + j.val, by omega⟩
@[inherit_doc row] def bat (i : Fin 32) (j : Fin 1024) : Fin 16 := ⟨(row i j).val / 2048, by omega⟩
@[inherit_doc row] def tok (i : Fin 32) (j : Fin 1024) : Fin 2048 := ⟨(row i j).val % 2048, by omega⟩

theorem index0 : ∀ t : Fin cfg0.N, (cfg0.win 0).index t 0 = t.val ∧ (cfg0.win 0).index t 1 = 18 := by decide +kernel
theorem index1 : ∀ t : Fin cfg0.N, (cfg0.win 1).index t 0 = t.val ∧ (cfg0.win 1).index t 1 = 38 := by decide +kernel
theorem index2 : ∀ t : Fin cfg0.N, (cfg0.win 2).index t 0 = t.val ∧ (cfg0.win 2).index t 1 = 39 := by decide +kernel
theorem index3 : ∀ t : Fin cfg0.N, (cfg0.win 3).index t 0 = t.val ∧ (cfg0.win 3).index t 1 = 0 := by decide +kernel
theorem index4 : ∀ t : Fin cfg0.N, (cfg0.win 4).index t 0 = t.val ∧ (cfg0.win 4).index t 1 = 0 := by decide +kernel
theorem index5 : ∀ t : Fin cfg0.N, (cfg0.win 5).index t 0 = 0 ∧ (cfg0.win 5).index t 1 = 0 := by decide +kernel
theorem index6 : ∀ t : Fin cfg0.N, (cfg0.win 6).index t 0 = 0 ∧ (cfg0.win 6).index t 1 = 0 := by decide +kernel
theorem index7 : ∀ t : Fin cfg0.N, (cfg0.win 7).index t 0 = 0 ∧ (cfg0.win 7).index t 1 = 0 := by decide +kernel
theorem index8 : ∀ t : Fin cfg0.N, (cfg0.win 8).index t 0 = 0 ∧ (cfg0.win 8).index t 1 = 0 := by decide +kernel
theorem index9 : ∀ t : Fin cfg0.N, (cfg0.win 9).index t 0 = 0 ∧ (cfg0.win 9).index t 1 = 0 := by decide +kernel
theorem index10 : ∀ t : Fin cfg0.N, (cfg0.win 10).index t 0 = 0 ∧ (cfg0.win 10).index t 1 = 0 := by decide +kernel
theorem index11 : ∀ t : Fin cfg0.N, (cfg0.win 11).index t 0 = 0 ∧ (cfg0.win 11).index t 1 = 0 := by decide +kernel
theorem index12 : ∀ t : Fin cfg0.N, (cfg0.win 12).index t 0 = 0 ∧ (cfg0.win 12).index t 1 = 0 := by decide +kernel
theorem index13 : ∀ t : Fin cfg0.N, (cfg0.win 13).index t 0 = 0 ∧ (cfg0.win 13).index t 1 = 0 := by decide +kernel
theorem index14 : ∀ t : Fin cfg0.N, (cfg0.win 14).index t 0 = 0 ∧ (cfg0.win 14).index t 1 = 0 := by decide +kernel
theorem index15 : ∀ t : Fin cfg0.N, (cfg0.win 15).index t 0 = 0 ∧ (cfg0.win 15).index t 1 = 0 := by decide +kernel
theorem index16 : ∀ t : Fin cfg0.N, (cfg0.win 16).index t 0 = t.val ∧ (cfg0.win 16).index t 1 = 0 := by decide +kernel
theorem index17 : ∀ t : Fin cfg0.N, (cfg0.win 17).index t 0 = t.val ∧ (cfg0.win 17).index t 1 = 0 := by decide +kernel
theorem index18 : ∀ t : Fin cfg0.N, (cfg0.win 18).index t 0 = t.val / 2 ∧ (cfg0.win 18).index t 1 = 0 ∧ (cfg0.win 18).index t 2 = t.val % 2 := by decide +kernel
theorem flush16 : ∀ t : Fin cfg0.N, (cfg0.win 16).flush t = true := by decide +kernel
theorem flush17 : ∀ t : Fin cfg0.N, (cfg0.win 17).flush t = true := by decide +kernel
theorem flush18 : ∀ t : Fin cfg0.N, (cfg0.win 18).flush t = true := by decide +kernel

theorem cq_block (c : Dev nD) (i : Fin 32) (j : Fin 1024) (k : Fin 256) :
    (iblk m c 0 (pt i) : S1024x256.Idx → EReal) (ix2 j k) = cqA m c (ix3 (bat i j) (tok i j) k) := by
  have e : (cfg0.win 0).index (pt i) 0 = i.val ∧ (cfg0.win 0).index (pt i) 1 = 18 := index0 (pt i)
  have h := (proj_at m c (row i j) ⟨4608 + k.val, by omega⟩).trans (dif_pos (by dsimp only; omega))
  have hk : (⟨4608 + k.val - 4608, by omega⟩ : Fin 256) = k := Fin.ext (by dsimp only; omega)
  refine Eq.trans ?_ (h.trans (congrArg (fun q => cqA m c (ix3 (bat i j) (tok i j) q)) hk))
  blk_ext [iblk, row, e.1, e.2]

theorem ckv_block (c : Dev nD) (i : Fin 32) (j : Fin 1024) (k : Fin 128) :
    (iblk m c 1 (pt i) : S1024x128.Idx → EReal) (ix2 j k) = ckvA m c (ix3 (bat i j) (tok i j) k) := by
  have e : (cfg0.win 1).index (pt i) 0 = i.val ∧ (cfg0.win 1).index (pt i) 1 = 38 := index1 (pt i)
  have h := (proj_at m c (row i j) ⟨4864 + k.val, by omega⟩).trans ((dif_neg (by dsimp only; omega)).trans (dif_pos (by dsimp only; omega)))
  have hk : (⟨4864 + k.val - 4864, by omega⟩ : Fin 128) = k := Fin.ext (by dsimp only; omega)
  refine Eq.trans ?_ (h.trans (congrArg (fun q => ckvA m c (ix3 (bat i j) (tok i j) q)) hk))
  blk_ext [iblk, row, e.1, e.2]

theorem ckr_block (c : Dev nD) (i : Fin 32) (j : Fin 1024) (k : Fin 32) :
    (iblk m c 2 (pt i) : S1024x128.Idx → EReal) (ix2 j ⟨k.val, by omega⟩) = ckrA m c (ix3 (bat i j) (tok i j) k) := by
  have e : (cfg0.win 2).index (pt i) 0 = i.val ∧ (cfg0.win 2).index (pt i) 1 = 39 := index2 (pt i)
  have h := (proj_at m c (row i j) ⟨4992 + k.val, by omega⟩).trans ((dif_neg (by dsimp only; omega)).trans ((dif_neg (by dsimp only; omega)).trans (dif_pos (by dsimp only; omega))))
  have hk : (⟨4992 + k.val - 4992, by omega⟩ : Fin 32) = k := Fin.ext (by dsimp only; omega)
  refine Eq.trans ?_ (h.trans (congrArg (fun q => ckrA m c (ix3 (bat i j) (tok i j) q)) hk))
  blk_ext [iblk, row, e.1, e.2]

theorem cos_block (c : Dev nD) (i : Fin 32) (j : Fin 1024) (l : Fin 128) :
    (iblk m c 3 (pt i) : S1024x128.Idx → EReal) (ix2 j l) = V m c main_v8 (ix2 (row i j) l) := by
  have e : (cfg0.win 3).index (pt i) 0 = i.val ∧ (cfg0.win 3).index (pt i) 1 = 0 := index3 (pt i)
  blk_ext [iblk, row, e.1, e.2]

theorem sin_block (c : Dev nD) (i : Fin 32) (j : Fin 1024) (l : Fin 128) :
    (iblk m c 4 (pt i) : S1024x128.Idx → EReal) (ix2 j l) = V m c main_v14 (ix2 (row i j) l) := by
  have e : (cfg0.win 4).index (pt i) 0 = i.val ∧ (cfg0.win 4).index (pt i) 1 = 0 := index4 (pt i)
  blk_ext [iblk, row, e.1, e.2]

theorem gcq_block (c : Dev nD) (i : Fin 32) (x : Fin 1) (y : Fin 256) :
    (iblk m c 5 (pt i) : S1x256.Idx → EReal) (ix2 x y) = V m c main_v31 (ix2 x y) := by
  have e := index5 (pt i)
  blk_ext [iblk, row, e.1, e.2]

theorem wuq_block (c : Dev nD) (i : Fin 32) (x : Fin 256) (y : Fin 1024) :
    (iblk m c 6 (pt i) : S256x1024.Idx → EReal) (ix2 x y) = V m c main_v34 (ix2 x y) := by
  have e := index6 (pt i)
  blk_ext [iblk, row, e.1, e.2]

theorem wuqSwap_block (c : Dev nD) (i : Fin 32) (x : Fin 256) (y : Fin 1024) :
    (iblk m c 7 (pt i) : S256x1024.Idx → EReal) (ix2 x y) = V m c main_v42 (ix2 x y) := by
  have e := index7 (pt i)
  blk_ext [iblk, row, e.1, e.2]

theorem gckv_block (c : Dev nD) (i : Fin 32) (x : Fin 1) (y : Fin 128) :
    (iblk m c 8 (pt i) : S1x128.Idx → EReal) (ix2 x y) = V m c main_v43 (ix2 x y) := by
  have e := index8 (pt i)
  blk_ext [iblk, row, e.1, e.2]

theorem wuk_block (c : Dev nD) (i : Fin 32) (x : Fin 128) (y : Fin 1024) :
    (iblk m c 9 (pt i) : S128x1024.Idx → EReal) (ix2 x y) = V m c main_v47 (ix2 x y) := by
  have e := index9 (pt i)
  blk_ext [iblk, row, e.1, e.2]

theorem wv_block (c : Dev nD) (i : Fin 32) (x : Fin 640) (y : Fin 128) :
    (iblk m c 10 (pt i) : S640x128.Idx → EReal) (ix2 x y) = V m c main_v49 (ix2 x y) := by
  have e := index10 (pt i)
  blk_ext [iblk, row, e.1, e.2]

theorem gq_block (c : Dev nD) (i : Fin 32) (x : Fin 1) (y : Fin 128) :
    (iblk m c 11 (pt i) : S1x128.Idx → EReal) (ix2 x y) = V m c main_v50 (ix2 x y) := by
  have e := index11 (pt i)
  blk_ext [iblk, row, e.1, e.2]

theorem gqSwap_block (c : Dev nD) (i : Fin 32) (x : Fin 1) (y : Fin 128) :
    (iblk m c 12 (pt i) : S1x128.Idx → EReal) (ix2 x y) = V m c main_v56 (ix2 x y) := by
  have e := index12 (pt i)
  blk_ext [iblk, row, e.1, e.2]

theorem gk_block (c : Dev nD) (i : Fin 32) (x : Fin 1) (y : Fin 128) :
    (iblk m c 13 (pt i) : S1x128.Idx → EReal) (ix2 x y) = V m c main_v57 (ix2 x y) := by
  have e := index13 (pt i)
  blk_ext [iblk, row, e.1, e.2]

theorem gkSwap_block (c : Dev nD) (i : Fin 32) (x : Fin 1) (y : Fin 128) :
    (iblk m c 14 (pt i) : S1x128.Idx → EReal) (ix2 x y) = V m c main_v63 (ix2 x y) := by
  have e := index14 (pt i)
  blk_ext [iblk, row, e.1, e.2]

theorem ones_block (c : Dev nD) (i : Fin 32) (x : Fin 256) (y : Fin 256) :
    (iblk m c 15 (pt i) : S256x256.Idx → EReal) (ix2 x y) = V m c main_v64 (ix2 x y) := by
  have e := index15 (pt i)
  blk_ext [iblk, row, e.1, e.2]

/-- The first result at a row is what the row's grid point leaves there. -/
theorem first_at (c : Dev nD) (i : Fin 32) (j l : Fin 1024) :
    ((dats m 0 c).arrAt 16 cfg0.N : S32768x1024.Idx → EReal) (ix2 (row i j) l)
      = out0_16 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i)) (iblk m c 13 (pt i)) (iblk m c 14 (pt i)) (iblk m c 15 (pt i)) (ix2 j l) := by
  have e : (cfg0.win 16).index (pt i) 0 = i.val ∧ (cfg0.win 16).index (pt i) 1 = 0 := index16 (pt i)
  have h := congrFun ((Value.blocks16 m c (pt i) (flush16 _)).trans (Value.flushed16 m c (pt i))) (ix2 j l)
  refine Eq.trans ?_ (h.trans ?_)
  · blk_ext [row, e.1, e.2]
  · blk_ext

/-- The second result at a row is what the row's grid point leaves there. -/
theorem second_at (c : Dev nD) (i : Fin 32) (j l : Fin 1024) :
    ((dats m 0 c).arrAt 17 cfg0.N : S32768x1024.Idx → EReal) (ix2 (row i j) l)
      = out0_17 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i)) (iblk m c 13 (pt i)) (iblk m c 14 (pt i)) (iblk m c 15 (pt i)) (ix2 j l) := by
  have e : (cfg0.win 17).index (pt i) 0 = i.val ∧ (cfg0.win 17).index (pt i) 1 = 0 := index17 (pt i)
  have h := congrFun ((Value.blocks17 m c (pt i) (flush17 _)).trans (Value.flushed17 m c (pt i))) (ix2 j l)
  refine Eq.trans ?_ (h.trans ?_)
  · blk_ext [row, e.1, e.2]
  · blk_ext

/-- The third result's blocks are written back whole. -/
theorem cut_third (t : Fin cfg0.N) (f : S1x640x1024.Idx → EReal) (r : Fin 640) (j : Fin 1024) :
    ((cfg0.win 18).cut (grid0.coords t) f : S1x640x1024.Idx → EReal) (ix3 (0 : Fin 1) r j) = f (ix3 (0 : Fin 1) r j) := by
  blk_ext

/-- The third result at a token is what the token's grid point leaves there. -/
theorem third_at (c : Dev nD) (i : Fin 32) (r : Fin 640) (j : Fin 1024) :
    ((dats m 0 c).arrAt 18 cfg0.N : S16x640x2048.Idx → EReal) (ix3 (bat i j) r (tok i j))
      = out0_18 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i)) (iblk m c 13 (pt i)) (iblk m c 14 (pt i)) (iblk m c 15 (pt i)) (ix3 (0 : Fin 1) r j) := by
  have e : (cfg0.win 18).index (pt i) 0 = i.val / 2 ∧ (cfg0.win 18).index (pt i) 1 = 0 ∧ (cfg0.win 18).index (pt i) 2 = i.val % 2 := index18 (pt i)
  have h := congrFun ((Value.blocks18 m c (pt i) (flush18 _)).trans (Value.flushed18 m c (pt i))) (ix3 (0 : Fin 1) r j)
  have hb : bat i j = ⟨i.val / 2, by omega⟩ := Fin.ext (by show (i.val * 1024 + j.val) / 2048 = i.val / 2; omega)
  have ht : tok i j = ⟨i.val % 2 * 1024 + j.val, by omega⟩ := Fin.ext (by show (i.val * 1024 + j.val) % 2048 = i.val % 2 * 1024 + j.val; omega)
  refine Eq.trans ?_ (h.trans (cut_third (pt i) _ r j))
  refine (congrArg₂ (fun b q => ((dats m 0 c).arrAt 18 cfg0.N : S16x640x2048.Idx → EReal) (ix3 b r q)) hb ht).trans ?_
  generalize (dats m 0 c).arrAt 18 cfg0.N = A
  blk_ext [e.1, e.2.1, e.2.2]

end Cert.Kernel5Ideal.Prep
-- ==== Proof.Prep.Scalar.lean ====
/-
  One head of the queries and of the keys: the scaled, normalised and rotated lanes in the kernel's order and in the
  reference's order are the same numbers, the infinite ones included: a sum of squares that is infinite makes every lane zero
  in both.
-/
module

public import proofs.«01_k».proof.Proof.Prep.Block
public import proofs.«01_k».proof.Proof.Prep.Host

@[expose] public section

noncomputable section

namespace Cert.Kernel5Ideal.Prep

open Idealize.ShloMosaic Idealize.ShloMosaic.TcCoe

/-- The real number added under the root. -/
def e0 : ℝ := 8796093 / 8796093022208

theorem eps_eq : eps = ((e0 : ℝ) : EReal) := by
  unfold eps e0
  simp [Ideal.ofBits, Ideal.ieee]
  norm_num
  rw [← EReal.coe_mul]
  norm_num

theorem eps96_real : eps96 = ((96 * e0 : ℝ) : EReal) := by
  unfold eps96 e0
  norm_num

theorem bits96 : Ideal.ofBits .f32 0x42C00000#32 = ((96 : ℝ) : EReal) := by
  simp [Ideal.ofBits, Ideal.ieee]
  norm_num
  rw [← EReal.coe_mul]
  norm_num
theorem logE_eq : Ideal.ofBits .f32 0x3FB8AA3B#32 = ((12102203 / 8388608 : ℝ) : EReal) := by
  simp [Ideal.ofBits, Ideal.ieee]
  norm_num
  rw [← EReal.coe_mul]
  norm_num

theorem rsqrt_pos {r : ℝ} (h : 0 < r) : Ideal.rsqrt (r : EReal) = (((Real.sqrt r)⁻¹ : ℝ) : EReal) := by
  rw [Ideal.rsqrt_coe, if_neg (not_lt.2 h.le), if_neg h.ne']

theorem sqrt96 : Ideal.sqrt (Ideal.ofBits .f32 0x42C00000#32) = ((Real.sqrt 96 : ℝ) : EReal) := by
  rw [bits96, Ideal.sqrt_coe, if_neg (by norm_num)]

/-- The reference's normalised head at a lane. -/
def normLane (z g : Fin 96 → EReal) (d : Fin 96) : EReal :=
  z d * Ideal.rsqrt (Ideal.div (∑ q : Fin 96, z q * z q) (Ideal.ofBits .f32 0x42C00000#32) + Ideal.ofBits .f32 0x358637BD#32) * g d

/-- The reference's rotation of a head at a lane. -/
def turned (z : Fin 96 → EReal) (c s : Fin 16 → EReal) (d : Fin 96) : EReal :=
  if h1 : d.val < 64 then z d
  else if h2 : d.val < 80 then z d * c ⟨d.val - 64, by omega⟩ - z ⟨d.val + 16, by omega⟩ * s ⟨d.val - 64, by omega⟩
  else z ⟨d.val - 16, by omega⟩ * s ⟨d.val - 80, by omega⟩ + z d * c ⟨d.val - 80, by omega⟩

/-- The kernel's cosines and sines over the 128 lanes of a head. -/
def cosLane (c : Fin 16 → EReal) (l : Fin 128) : EReal :=
  if h : 64 ≤ l.val ∧ l.val < 80 then c ⟨l.val - 64, by omega⟩ else if h : 80 ≤ l.val ∧ l.val < 96 then c ⟨l.val - 80, by omega⟩ else 1
@[inherit_doc cosLane] def sinLane (s : Fin 16 → EReal) (l : Fin 128) : EReal :=
  if h : 64 ≤ l.val ∧ l.val < 80 then -s ⟨l.val - 64, by omega⟩ else if h : 80 ≤ l.val ∧ l.val < 96 then s ⟨l.val - 80, by omega⟩ else 0

/-- The kernel's head at a lane, before its last steps are put apart. -/
def headLane (z g : Fin 96 → EReal) (c s : Fin 16 → EReal) (l : Fin 128) : EReal :=
  Ideal.rsqrt (∑ q : Fin 96, z q * z q + eps96) * (padded z l * (padded g l * cosLane c l) + swapped z l * (swapped g l * sinLane s l))

/-- A square is not negative. -/
theorem square_nonneg (x : EReal) : 0 ≤ x * x := by
  rcases le_total 0 x with h | h
  · exact EReal.mul_nonneg h h
  · rw [← neg_mul_neg]
    have h' : 0 ≤ -x := by simpa using EReal.neg_le_neg_iff.2 h
    exact EReal.mul_nonneg h' h'

/-- The two inverse roots of a sum of squares, infinite or not: the reference's is the kernel's times the root of 96. -/
theorem two_roots {S : EReal} (hS : 0 ≤ S) : ∃ ρ : ℝ, 0 ≤ ρ ∧ Ideal.rsqrt (S + eps96) = (ρ : EReal)
    ∧ Ideal.rsqrt (Ideal.div S (Ideal.ofBits .f32 0x42C00000#32) + Ideal.ofBits .f32 0x358637BD#32) = ((Real.sqrt 96 * ρ : ℝ) : EReal) := by
  have he : (0 : ℝ) < e0 := by unfold e0; norm_num
  have e1 : Ideal.ofBits .f32 0x358637BD#32 = ((e0 : ℝ) : EReal) := eps_eq
  rw [bits96, Ideal.div_coe (by norm_num), e1, eps96_real]
  induction S using EReal.rec with
  | bot => exact absurd hS (by simp)
  | coe T =>
    have h0 : (0 : ℝ) ≤ T := by exact_mod_cast hS
    refine ⟨(Real.sqrt (T + 96 * e0))⁻¹, by positivity, ?_, ?_⟩
    · rw [← EReal.coe_add]
      exact rsqrt_pos (by positivity)
    · rw [← EReal.coe_mul, ← EReal.coe_add, rsqrt_pos (by positivity)]
      have e2 : T * (1 / 96) + e0 = (T + 96 * e0) / 96 := by ring
      rw [e2, Real.sqrt_div (by positivity), inv_div]
      rfl
  | top =>
    refine ⟨0, le_refl _, ?_, ?_⟩
    · rw [EReal.top_add_coe]
      rfl
    · rw [EReal.top_mul_coe_of_pos (by norm_num), EReal.top_add_coe, mul_zero]
      rfl

/-- The kernel's head with the weights times a number is the reference's head times that number over the root of 96. -/
theorem headLane_eq (z g : Fin 96 → EReal) (c s : Fin 16 → EReal) {L : ℝ} (hL : 0 ≤ L) (l : Fin 128) :
    headLane z (fun d => g d * (L : EReal)) c s l
      = if h : l.val < 96 then turned (normLane z g) c s ⟨l.val, h⟩ * ((L / Real.sqrt 96 : ℝ) : EReal) else 0 := by
  obtain ⟨ρ, hρ, r1, r2⟩ := two_roots (S := ∑ q : Fin 96, z q * z q) (Finset.sum_nonneg fun q _ => square_nonneg _)
  have hsq : 0 < Real.sqrt 96 := Real.sqrt_pos.2 (by norm_num)
  have hκ : (0 : EReal) ≤ ((L / Real.sqrt 96 : ℝ) : EReal) := by exact_mod_cast div_nonneg hL hsq.le
  have hρ' : (0 : EReal) ≤ (ρ : EReal) := by exact_mod_cast hρ
  have hk : ((Real.sqrt 96 * ρ : ℝ) : EReal) * ((L / Real.sqrt 96 : ℝ) : EReal) = (ρ : EReal) * (L : EReal) := by
    rw [← EReal.coe_mul, ← EReal.coe_mul]
    congr 1
    field_simp
  have move : ∀ a b t : EReal, (ρ : EReal) * (a * (b * (L : EReal) * t)) = a * ((Real.sqrt 96 * ρ : ℝ) : EReal) * b * t * ((L / Real.sqrt 96 : ℝ) : EReal) := fun a b t => by
    have e1 : a * ((Real.sqrt 96 * ρ : ℝ) : EReal) * b * t * ((L / Real.sqrt 96 : ℝ) : EReal)
        = ((Real.sqrt 96 * ρ : ℝ) : EReal) * ((L / Real.sqrt 96 : ℝ) : EReal) * (a * (b * t)) := by ac_rfl
    rw [e1, hk]
    ac_rfl
  have hn : ∀ d, normLane z g d = z d * ((Real.sqrt 96 * ρ : ℝ) : EReal) * g d := fun d => by
    unfold normLane
    rw [r2]
  unfold headLane turned
  rw [r1]
  have hl := l.isLt
  by_cases h3 : l.val < 96
  swap
  · have p : ∀ f, padded f l = 0 := fun f => dif_neg h3
    have w : ∀ f, swapped f l = 0 := fun f => (dif_neg (by omega)).trans (dif_neg (by omega))
    rw [dif_neg h3, p, w, zero_mul, zero_mul, add_zero, mul_zero]
  rw [dif_pos h3]
  have p : ∀ f, padded f l = f ⟨l.val, h3⟩ := fun f => dif_pos h3
  by_cases h1 : l.val < 64
  · have w : ∀ f, swapped f l = 0 := fun f => (dif_neg (by omega)).trans (dif_neg (by omega))
    have cl : cosLane c l = 1 := (dif_neg (by omega)).trans (dif_neg (by omega))
    rw [p, p, w, cl, zero_mul, add_zero]
    refine Eq.trans ?_ (congrArg (· * _) (dif_pos h1).symm)
    rw [hn, move, mul_one]
  by_cases h2 : l.val < 80
  · have w : ∀ f, swapped f l = f ⟨l.val + 16, by omega⟩ := fun f => dif_pos (by omega)
    have cl : cosLane c l = c ⟨l.val - 64, by omega⟩ := dif_pos (by omega)
    have sl : sinLane s l = -s ⟨l.val - 64, by omega⟩ := dif_pos (by omega)
    rw [p, p, w, w, cl, sl]
    refine Eq.trans ?_ (congrArg (· * _) ((dif_neg h1).trans (dif_pos h2)).symm)
    rw [hn, hn, sub_eq_add_neg, ← mul_neg, EReal.left_distrib_of_nonneg_of_ne_top hρ' (EReal.coe_ne_top _), EReal.right_distrib_of_nonneg_of_ne_top hκ (EReal.coe_ne_top _), move, move]
  · have w : ∀ f, swapped f l = f ⟨l.val - 16, by omega⟩ := fun f => (dif_neg (by omega)).trans (dif_pos (by omega))
    have cl : cosLane c l = c ⟨l.val - 80, by omega⟩ := (dif_neg (by omega)).trans (dif_pos (by omega))
    have sl : sinLane s l = s ⟨l.val - 80, by omega⟩ := (dif_neg (by omega)).trans (dif_pos (by omega))
    rw [p, p, w, w, cl, sl]
    refine Eq.trans ?_ (congrArg (· * _) ((dif_neg h1).trans (dif_neg h2)).symm)
    rw [hn, hn, EReal.left_distrib_of_nonneg_of_ne_top hρ' (EReal.coe_ne_top _), EReal.right_distrib_of_nonneg_of_ne_top hκ (EReal.coe_ne_top _), move, move]
    exact add_comm _ _

/-- The sum of the squares of a padded head. -/
theorem sum_padded (z : Fin 96 → EReal) : ∑ l : Fin 128, padded z l * padded z l = ∑ q : Fin 96, z q * z q := by
  rw [Fin.sum_univ_add (a := 96) (b := 32)]
  have e1 : ∀ i : Fin 96, padded z (Fin.castAdd 32 i) = z i := fun i => dif_pos i.isLt
  have e2 : ∀ i : Fin 32, padded z (Fin.natAdd 96 i) = 0 := fun i => dif_neg (by simp)
  simp only [e1, e2, mul_zero, Finset.sum_const_zero, add_zero]

/-- A row times padded columns is the padded row of products; the same of exchanged columns. -/
theorem dot_padded {n : ℕ} (x : Fin n → EReal) (w : Fin n → Fin 96 → EReal) (l : Fin 128) :
    ∑ k, x k * padded (w k) l = padded (fun d => ∑ k, x k * w k d) l := by
  unfold padded
  by_cases h : l.val < 96
  · simp only [dif_pos h]
  · simp only [dif_neg h, mul_zero, Finset.sum_const_zero]

theorem dot_swapped {n : ℕ} (x : Fin n → EReal) (w : Fin n → Fin 96 → EReal) (l : Fin 128) :
    ∑ k, x k * swapped (w k) l = swapped (fun d => ∑ k, x k * w k d) l := by
  unfold swapped
  by_cases h : 64 ≤ l.val ∧ l.val < 80
  · simp only [dif_pos h]
  by_cases h' : 80 ≤ l.val ∧ l.val < 96
  · simp only [dif_neg h, dif_pos h']
  · simp only [dif_neg h, dif_neg h', mul_zero, Finset.sum_const_zero]

/-- Joined by the two blocks of ones, a column's head gives the sum of its squares. -/
theorem joined_ones (z : Fin 1024 → EReal) (h : Fin 8) (l : Fin 128) :
    joined z (fun i => if (i 0).val / 128 = (i 1).val / 128 then (1 : EReal) else 0) ⟨h.val * 128 + l.val, by omega⟩
      = ∑ q : Fin 128, z ⟨h.val * 128 + q.val, by omega⟩ * z ⟨h.val * 128 + q.val, by omega⟩ := by
  unfold joined
  rw [Fin.sum_univ_add (a := 128) (b := 128)]
  have hl := l.isLt
  have hh := h.isLt
  by_cases hp : h.val % 2 = 0
  · refine Eq.trans (congrArg₂ (· + ·) (Finset.sum_congr rfl (g := fun q : Fin 128 => z ⟨h.val * 128 + q.val, by omega⟩ * z ⟨h.val * 128 + q.val, by omega⟩) fun q _ => ?_)
      (Finset.sum_eq_zero fun q _ => ?_)) (add_zero _)
    · have hq := q.isLt
      refine Eq.trans (congrArg₂ (· * ·) (congrArg (fun p => z p * z p) (Fin.ext ?_)) (if_pos ?_)) (mul_one _)
      · show (h.val * 128 + l.val) / 256 * 256 + q.val = h.val * 128 + q.val
        omega
      · show q.val / 128 = (h.val * 128 + l.val) % 256 / 128
        omega
    · have hq := q.isLt
      refine Eq.trans (congrArg (_ * ·) (if_neg ?_)) (mul_zero _)
      show ¬ (128 + q.val) / 128 = (h.val * 128 + l.val) % 256 / 128
      omega
  · refine Eq.trans (congrArg₂ (· + ·) (Finset.sum_eq_zero fun q _ => ?_)
      (Finset.sum_congr rfl (g := fun q : Fin 128 => z ⟨h.val * 128 + q.val, by omega⟩ * z ⟨h.val * 128 + q.val, by omega⟩) fun q _ => ?_)) (zero_add _)
    · have hq := q.isLt
      refine Eq.trans (congrArg (_ * ·) (if_neg ?_)) (mul_zero _)
      show ¬ q.val / 128 = (h.val * 128 + l.val) % 256 / 128
      omega
    · have hq := q.isLt
      refine Eq.trans (congrArg₂ (· * ·) (congrArg (fun p => z p * z p) (Fin.ext ?_)) (if_pos ?_)) (mul_one _)
      · show (h.val * 128 + l.val) / 256 * 256 + (128 + q.val) = h.val * 128 + q.val
        omega
      · show (128 + q.val) / 128 = (h.val * 128 + l.val) % 256 / 128
        omega

end Cert.Kernel5Ideal.Prep
-- ==== Proof.Prep.Ref.lean ====
/-
  The reference of the call before the latent attention, read at an index: the normalised latents, their projections,
  the normalised and rotated queries and keys, and the values.
-/
module

public import proofs.«01_k».proof.Proof.Gen.Reference5Ideal.Run
public import Idealize.ShloMosaic.Lib.Pointwise
public import Idealize.ShloMosaic.Lib.KernelVsHost

@[expose] public section

noncomputable section

namespace Cert.Reference5Ideal.Prep

open Idealize.ShloMosaic Idealize.ShloMosaic.TcCoe
open Cert.Reference5Ideal Cert.Reference5Ideal.Gen

/-- The query latents over their root mean square, times the norm's weights. -/
def normQ (x : FVec Ideal S16x2048x256 .f32) (g : FVec Ideal S256 .f32) : FVec Ideal S16x2048x256 .f32 :=
  mulf (mulf x (broadcastInDim S16x2048x256 ![0, 1, 2] bcast_S16x2048x1_S16x2048x256_0_1_2 (Host.rsqrt (addf (Host.divf (broadcastInDim S16x2048x1 ![0, 1] bcast_S16x2048_S16x2048x1_0_1 (Host.reduceAdd (mulf x x) (constant S_ .f32 0x00000000#32) reducesTo_S16x2048x256_S16x2048_d2 h_S_)) (broadcastInDim S16x2048x1 ![] bcast_S_S16x2048x1 (constant S_ .f32 0x43800000#32))) (broadcastInDim S16x2048x1 ![] bcast_S_S16x2048x1 (constant S_ .f32 0x358637BD#32)))))) (broadcastInDim S16x2048x256 ![0, 1, 2] bcast_S1x1x256_S16x2048x256_0_1_2 (broadcastInDim S1x1x256 ![2] bcast_S256_S1x1x256_2 g))

/-- The key and value latents over their root mean square, times the norm's weights. -/
def normKv (x : FVec Ideal S16x2048x128 .f32) (g : FVec Ideal S128 .f32) : FVec Ideal S16x2048x128 .f32 :=
  mulf (mulf x (broadcastInDim S16x2048x128 ![0, 1, 2] bcast_S16x2048x1_S16x2048x128_0_1_2 (Host.rsqrt (addf (Host.divf (broadcastInDim S16x2048x1 ![0, 1] bcast_S16x2048_S16x2048x1_0_1 (Host.reduceAdd (mulf x x) (constant S_ .f32 0x00000000#32) reducesTo_S16x2048x128_S16x2048_d2 h_S_)) (broadcastInDim S16x2048x1 ![] bcast_S_S16x2048x1 (constant S_ .f32 0x43000000#32))) (broadcastInDim S16x2048x1 ![] bcast_S_S16x2048x1 (constant S_ .f32 0x358637BD#32)))))) (broadcastInDim S16x2048x128 ![0, 1, 2] bcast_S1x1x128_S16x2048x128_0_1_2 (broadcastInDim S1x1x128 ![2] bcast_S128_S1x1x128_2 g))

/-- The queries by heads. -/
def projQ (x : FVec Ideal S16x2048x256 .f32) (w : FVec Ideal S256x768 .f32) : FVec Ideal S16x2048x8x96 .f32 :=
  shapeCast _ (Host.dotGeneral dot_S16x2048x256_S256x768_S16x2048x768_2_0_01_1_n_n none x w) shapeCasts_S16x2048x768_S16x2048x8x96

/-- The keys without position, then the values, by heads. -/
def projKv (x : FVec Ideal S16x2048x128 .f32) (w : FVec Ideal S128x1024 .f32) : FVec Ideal S16x2048x8x128 .f32 :=
  shapeCast _ (Host.dotGeneral dot_S16x2048x128_S128x1024_S16x2048x1024_2_0_01_1_n_n none x w) shapeCasts_S16x2048x1024_S16x2048x8x128

/-- The keys by heads, their last 32 lanes common to the heads. -/
def keys (y : FVec Ideal S16x2048x8x128 .f32) (r : FVec Ideal S16x2048x32 .f32) : FVec Ideal S16x2048x8x96 .f32 :=
  concatenate S16x2048x8x96 3 [⟨S16x2048x8x64, (extractStridedSlice S16x2048x8x64 ![0, 0, 0, 0] y slices_S16x2048x8x128_S16x2048x8x64_0_0_0_0 : FVec Ideal S16x2048x8x64 .f32)⟩, ⟨S16x2048x8x32, (broadcastInDim S16x2048x8x32 ![0, 1, 2, 3] bcast_S16x2048x1x32_S16x2048x8x32_0_1_2_3 (broadcastInDim S16x2048x1x32 ![0, 1, 3] bcast_S16x2048x32_S16x2048x1x32_0_1_3 r) : FVec Ideal S16x2048x8x32 .f32)⟩] concatenates_S16x2048x8x64_S16x2048x8x32_S16x2048x8x96_d3

/-- Heads over their root mean square, times the norm's weights. -/
def normHead (z : FVec Ideal S16x2048x8x96 .f32) (g : FVec Ideal S96 .f32) : FVec Ideal S16x2048x8x96 .f32 :=
  mulf (mulf z (broadcastInDim S16x2048x8x96 ![0, 1, 2, 3] bcast_S16x2048x8x1_S16x2048x8x96_0_1_2_3 (Host.rsqrt (addf (Host.divf (broadcastInDim S16x2048x8x1 ![0, 1, 2] bcast_S16x2048x8_S16x2048x8x1_0_1_2 (Host.reduceAdd (mulf z z) (constant S_ .f32 0x00000000#32) reducesTo_S16x2048x8x96_S16x2048x8_d3 h_S_)) (broadcastInDim S16x2048x8x1 ![] bcast_S_S16x2048x8x1 (constant S_ .f32 0x42C00000#32))) (broadcastInDim S16x2048x8x1 ![] bcast_S_S16x2048x8x1 (constant S_ .f32 0x358637BD#32)))))) (broadcastInDim S16x2048x8x96 ![0, 1, 2, 3] bcast_S1x1x1x96_S16x2048x8x96_0_1_2_3 (broadcastInDim S1x1x1x96 ![3] bcast_S96_S1x1x1x96_3 g))

/-- The cosines or sines, the same for every head. -/
def perHead (c : FVec Ideal S16x2048x16 .f32) : FVec Ideal S16x2048x8x16 .f32 :=
  broadcastInDim S16x2048x8x16 ![0, 1, 2, 3] bcast_S16x2048x1x16_S16x2048x8x16_0_1_2_3 (broadcastInDim S16x2048x1x16 ![0, 1, 3] bcast_S16x2048x16_S16x2048x1x16_0_1_3 c)

/-- The first and the second half of the rotary lanes. -/
def half1 (z : FVec Ideal S16x2048x8x96 .f32) : FVec Ideal S16x2048x8x16 .f32 :=
  extractStridedSlice S16x2048x8x16 ![0, 0, 0, 64] z slices_S16x2048x8x96_S16x2048x8x16_0_0_0_64
@[inherit_doc half1] def half2 (z : FVec Ideal S16x2048x8x96 .f32) : FVec Ideal S16x2048x8x16 .f32 :=
  extractStridedSlice S16x2048x8x16 ![0, 0, 0, 80] z slices_S16x2048x8x96_S16x2048x8x16_0_0_0_80

/-- Heads with their rotary lanes rotated. -/
def rotated (z : FVec Ideal S16x2048x8x96 .f32) (c s : FVec Ideal S16x2048x16 .f32) : FVec Ideal S16x2048x8x96 .f32 :=
  concatenate S16x2048x8x96 3 [⟨S16x2048x8x64, (extractStridedSlice S16x2048x8x64 ![0, 0, 0, 0] z slices_S16x2048x8x96_S16x2048x8x64_0_0_0_0 : FVec Ideal S16x2048x8x64 .f32)⟩, ⟨S16x2048x8x16, (subf (mulf (half1 z) (perHead c)) (mulf (half2 z) (perHead s)) : FVec Ideal S16x2048x8x16 .f32)⟩, ⟨S16x2048x8x16, (addf (mulf (half1 z) (perHead s)) (mulf (half2 z) (perHead c)) : FVec Ideal S16x2048x8x16 .f32)⟩] concatenates_S16x2048x8x64_S16x2048x8x16_S16x2048x8x16_S16x2048x8x96_d3

/-- Heads under the scale of the logits. -/
def scaled (z : FVec Ideal S16x2048x8x96 .f32) : FVec Ideal S16x2048x8x96 .f32 :=
  mulf (Host.divf z (broadcastInDim S16x2048x8x96 ![] bcast_S_S16x2048x8x96 (Host.sqrt (constant S_ .f32 0x42C00000#32)))) (broadcastInDim S16x2048x8x96 ![] bcast_S_S16x2048x8x96 (constant S_ .f32 0x3FB8AA3B#32))

/-- Heads over zeros up to 128 lanes, as rows. -/
def laid (z : FVec Ideal S16x2048x8x96 .f32) : FVec Ideal S32768x1024 .bf16 :=
  truncf .bf16 (shapeCast _ (pad S16x2048x8x128 ![0, 0, 0, 0] ![0, 0, 0, 32] ![0, 0, 0, 0] z (sitofp .f32 (constantI S_ 32 0#32)) pads_S16x2048x8x96_S16x2048x8x128_000_000_000_0320 h_S_) shapeCasts_S16x2048x8x128_S32768x1024) bitsLt_bf16_f32

/-- The values by heads over a row of ones and zeros, transposed. -/
def valuesT (y : FVec Ideal S16x2048x8x128 .f32) : FVec Ideal S16x640x2048 .bf16 :=
  truncf .bf16 (transpose S16x640x2048 [0, 2, 1] (shapeCast _ (pad S16x2048x8x80 ![0, 0, 0, 0] ![0, 0, 0, 15] ![0, 0, 0, 0] (concatenate S16x2048x8x65 3 [⟨S16x2048x8x64, (extractStridedSlice S16x2048x8x64 ![0, 0, 0, 64] y slices_S16x2048x8x128_S16x2048x8x64_0_0_0_64 : FVec Ideal S16x2048x8x64 .f32)⟩, ⟨S16x2048x8x1, (broadcastInDim S16x2048x8x1 ![] bcast_S_S16x2048x8x1 (constant S_ .f32 0x3F800000#32) : FVec Ideal S16x2048x8x1 .f32)⟩] concatenates_S16x2048x8x64_S16x2048x8x1_S16x2048x8x65_d3) (sitofp .f32 (constantI S_ 32 0#32)) pads_S16x2048x8x65_S16x2048x8x80_000_000_000_0150 h_S_) shapeCasts_S16x2048x8x80_S16x2048x640) transposes_S16x2048x640_S16x640x2048_0_2_1) bitsLt_bf16_f32

theorem result0_eq (m : (ℓ : Loc nD τ sig) → Buf (Elt Ideal) ℓ) (c : Dev nD) :
    Value.res_out0 m c = laid (scaled (rotated (normHead (projQ (normQ (m ((c.tc : Thread nD τ).loc main_arg0)) (m ((c.tc : Thread nD τ).loc main_arg5))) (m ((c.tc : Thread nD τ).loc main_arg6))) (m ((c.tc : Thread nD τ).loc main_arg9))) (m ((c.tc : Thread nD τ).loc main_arg3)) (m ((c.tc : Thread nD τ).loc main_arg4)))) := by
  unfold Value.res_out0 Value.res_main_v74
  rfl

theorem result1_eq (m : (ℓ : Loc nD τ sig) → Buf (Elt Ideal) ℓ) (c : Dev nD) :
    Value.res_out1 m c = laid (rotated (normHead (keys (projKv (normKv (m ((c.tc : Thread nD τ).loc main_arg1)) (m ((c.tc : Thread nD τ).loc main_arg7))) (m ((c.tc : Thread nD τ).loc main_arg8))) (m ((c.tc : Thread nD τ).loc main_arg2))) (m ((c.tc : Thread nD τ).loc main_arg10))) (m ((c.tc : Thread nD τ).loc main_arg3)) (m ((c.tc : Thread nD τ).loc main_arg4))) := by
  unfold Value.res_out1 Value.res_main_v106
  rfl

theorem normQ_at (x : FVec Ideal S16x2048x256 .f32) (g : FVec Ideal S256 .f32) (b : Fin 16) (t : Fin 2048) (k : Fin 256) :
    normQ x g (ix3 b t k) = x (ix3 b t k) * Ideal.rsqrt (Ideal.div (∑ q : Fin 256, x (ix3 b t q) * x (ix3 b t q)) (Ideal.ofBits .f32 0x43800000#32)
      + Ideal.ofBits .f32 0x358637BD#32) * g (ix1 k) := by
  unfold normQ
  pointwise

theorem normKv_at (x : FVec Ideal S16x2048x128 .f32) (g : FVec Ideal S128 .f32) (b : Fin 16) (t : Fin 2048) (k : Fin 128) :
    normKv x g (ix3 b t k) = x (ix3 b t k) * Ideal.rsqrt (Ideal.div (∑ q : Fin 128, x (ix3 b t q) * x (ix3 b t q)) (Ideal.ofBits .f32 0x43000000#32)
      + Ideal.ofBits .f32 0x358637BD#32) * g (ix1 k) := by
  unfold normKv
  pointwise

theorem projQ_at (x : FVec Ideal S16x2048x256 .f32) (w : FVec Ideal S256x768 .f32) (b : Fin 16) (t : Fin 2048) (h : Fin 8) (d : Fin 96) :
    projQ x w (ix4 b t h d) = ∑ k : Fin 256, x (ix3 b t k) * w (ix2 k ⟨h.val * 96 + d.val, by omega⟩) := by
  unfold projQ
  pointwise

theorem projKv_at (x : FVec Ideal S16x2048x128 .f32) (w : FVec Ideal S128x1024 .f32) (b : Fin 16) (t : Fin 2048) (h : Fin 8) (d : Fin 128) :
    projKv x w (ix4 b t h d) = ∑ k : Fin 128, x (ix3 b t k) * w (ix2 k ⟨h.val * 128 + d.val, by omega⟩) := by
  unfold projKv
  pointwise

theorem keys_at (y : FVec Ideal S16x2048x8x128 .f32) (r : FVec Ideal S16x2048x32 .f32) (b : Fin 16) (t : Fin 2048) (h : Fin 8) (d : Fin 96) :
    keys y r (ix4 b t h d) = if hd : d.val < 64 then y (ix4 b t h ⟨d.val, by omega⟩) else r (ix3 b t ⟨d.val - 64, by omega⟩) := by
  unfold keys
  pointwise

theorem normHead_at (z : FVec Ideal S16x2048x8x96 .f32) (g : FVec Ideal S96 .f32) (b : Fin 16) (t : Fin 2048) (h : Fin 8) (d : Fin 96) :
    normHead z g (ix4 b t h d) = z (ix4 b t h d) * Ideal.rsqrt (Ideal.div (∑ q : Fin 96, z (ix4 b t h q) * z (ix4 b t h q)) (Ideal.ofBits .f32 0x42C00000#32)
      + Ideal.ofBits .f32 0x358637BD#32) * g (ix1 d) := by
  unfold normHead
  pointwise

theorem rotated_at (z : FVec Ideal S16x2048x8x96 .f32) (c s : FVec Ideal S16x2048x16 .f32) (b : Fin 16) (t : Fin 2048) (h : Fin 8) (d : Fin 96) :
    rotated z c s (ix4 b t h d) = if h1 : d.val < 64 then z (ix4 b t h d)
      else if h2 : d.val < 80 then z (ix4 b t h d) * c (ix3 b t ⟨d.val - 64, by omega⟩) - z (ix4 b t h ⟨d.val + 16, by omega⟩) * s (ix3 b t ⟨d.val - 64, by omega⟩)
      else z (ix4 b t h ⟨d.val - 16, by omega⟩) * s (ix3 b t ⟨d.val - 80, by omega⟩) + z (ix4 b t h d) * c (ix3 b t ⟨d.val - 80, by omega⟩) := by
  unfold rotated half1 half2 perHead
  pointwise
  have hd := d.isLt
  by_cases h1 : d.val < 64
  · rw [dif_pos h1, dif_pos h1]
  by_cases h2 : d.val < 80
  · rw [dif_neg h1, dif_neg h1, dif_pos (by omega), dif_pos h2]
    have e1 : (⟨64 + (d.val - 64), by omega⟩ : Fin 96) = d := Fin.ext (by dsimp only; omega)
    have e2 : (⟨80 + (d.val - 64), by omega⟩ : Fin 96) = ⟨d.val + 16, by omega⟩ := Fin.ext (by dsimp only; omega)
    rw [e1, e2]
  · rw [dif_neg h1, dif_neg h1, dif_neg (by omega), dif_neg h2]
    have e1 : (⟨64 + (d.val - 64 - 16), by omega⟩ : Fin 96) = ⟨d.val - 16, by omega⟩ := Fin.ext (by dsimp only; omega)
    have e2 : (⟨80 + (d.val - 64 - 16), by omega⟩ : Fin 96) = d := Fin.ext (by dsimp only; omega)
    have e3 : (⟨d.val - 64 - 16, by omega⟩ : Fin 16) = ⟨d.val - 80, by omega⟩ := Fin.ext (by dsimp only; omega)
    rw [e1, e2, e3]

theorem scaled_at (z : FVec Ideal S16x2048x8x96 .f32) (b : Fin 16) (t : Fin 2048) (h : Fin 8) (d : Fin 96) :
    scaled z (ix4 b t h d) = Ideal.div (z (ix4 b t h d)) (Ideal.sqrt (Ideal.ofBits .f32 0x42C00000#32)) * Ideal.ofBits .f32 0x3FB8AA3B#32 := by
  unfold scaled
  pointwise

theorem laid_at (z : FVec Ideal S16x2048x8x96 .f32) (r : Fin 32768) (h : Fin 8) (l : Fin 128) :
    laid z (ix2 r ⟨h.val * 128 + l.val, by omega⟩) = if hl : l.val < 96 then z (ix4 ⟨r.val / 2048, by omega⟩ ⟨r.val % 2048, by omega⟩ h ⟨l.val, hl⟩) else 0 := by
  unfold laid
  pointwise
  have h0 : (FloatOps.sitofp .f32 0#32 : Ideal .f32) = 0 := sitofp_zero
  have hr := r.isLt
  by_cases hl : l.val < 96
  · rw [dif_pos ⟨by omega, by omega, hl⟩, dif_pos hl]
  · rw [dif_neg (fun h => hl h.2.2), dif_neg hl, h0]

theorem valuesT_at (y : FVec Ideal S16x2048x8x128 .f32) (b : Fin 16) (h : Fin 8) (d : Fin 80) (t : Fin 2048) :
    valuesT y (ix3 b ⟨h.val * 80 + d.val, by omega⟩ t) = if hd : d.val < 64 then y (ix4 b t h ⟨64 + d.val, by omega⟩) else if d.val = 64 then 1 else 0 := by
  unfold valuesT
  pointwise
  have h0 : (FloatOps.sitofp .f32 0#32 : Ideal .f32) = 0 := sitofp_zero
  by_cases h1 : d.val < 64
  · rw [dif_pos (by omega), dif_pos h1, dif_pos h1]
  by_cases h2 : d.val = 64
  · rw [dif_pos (by omega), dif_neg h1, dif_neg h1, if_pos h2]
  · rw [dif_neg (by omega), dif_neg h1, if_neg h2, h0]

end Cert.Reference5Ideal.Prep
-- ==== Proof.Prep.Equation.lean ====
/-
  The parts of the call before the latent attention are the reference's: its latents, projected heads, scales and common lanes.
-/
module

public import proofs.«01_k».proof.Proof.Prep.Blocks
public import proofs.«01_k».proof.Proof.Prep.Scalar
public import proofs.«01_k».proof.Proof.Prep.Ref

@[expose] public section

noncomputable section

namespace Cert.Kernel5Ideal.Prep

open Idealize.ShloMosaic Idealize.ShloMosaic.TcCoe
open Cert.Kernel5Ideal Cert.Kernel5Ideal.Gen
open Cert.Reference5Ideal.Prep (normQ normKv projQ projKv keys normHead rotated scaled laid valuesT)

variable (m : (ℓ : Loc nD τ sig) → Buf (Elt Ideal) ℓ)

/-- A head's column among the 1024. -/
def hc (h : Fin 8) (l : Fin 128) : Fin 1024 := ⟨h.val * 128 + l.val, by omega⟩

/-- One head of the reference's queries and keys, and the rows of cosines and sines. -/
def qHead (c : Dev nD) (i : Fin 32) (j : Fin 1024) (h : Fin 8) (d : Fin 96) : EReal :=
  projQ (normQ (cqA m c) (gcqA m c)) (wuqA m c) (ix4 (bat i j) (tok i j) h d)
@[inherit_doc qHead] def kHead (c : Dev nD) (i : Fin 32) (j : Fin 1024) (h : Fin 8) (d : Fin 96) : EReal :=
  keys (projKv (normKv (ckvA m c) (gckvA m c)) (wukvA m c)) (ckrA m c) (ix4 (bat i j) (tok i j) h d)
@[inherit_doc qHead] def cosRow (c : Dev nD) (i : Fin 32) (j : Fin 1024) (q : Fin 16) : EReal := cosA m c (ix3 (bat i j) (tok i j) q)
@[inherit_doc qHead] def sinRow (c : Dev nD) (i : Fin 32) (j : Fin 1024) (q : Fin 16) : EReal := sinA m c (ix3 (bat i j) (tok i j) q)

theorem cosLane_at (c : Dev nD) (i : Fin 32) (j : Fin 1024) (l : Fin 128) :
    (iblk m c 3 (pt i) : S1024x128.Idx → EReal) (ix2 j l) = cosLane (cosRow m c i j) l := by
  rw [cos_block, cos_at]
  rfl
theorem sinLane_at (c : Dev nD) (i : Fin 32) (j : Fin 1024) (l : Fin 128) :
    (iblk m c 4 (pt i) : S1024x128.Idx → EReal) (ix2 j l) = sinLane (sinRow m c i j) l := by
  rw [sin_block, sin_at]
  rfl

/-- The kernel's normalised latents are the reference's. -/
theorem latentQ (c : Dev nD) (i : Fin 32) (j : Fin 1024) (k : Fin 256) :
    k0_pay4 (F := Ideal) (iblk m c 0 (pt i)) (iblk m c 5 (pt i)) (ix2 j k) = normQ (cqA m c) (gcqA m c) (ix3 (bat i j) (tok i j) k) := by
  rw [pay4_at, Cert.Reference5Ideal.Prep.normQ_at]
  simp only [cq_block, gcq_block]
  exact congrArg (fun g => unitRow _ _ g k) (funext fun q => gcq_at m c q)

theorem latentKv (c : Dev nD) (i : Fin 32) (j : Fin 1024) (k : Fin 128) :
    k0_pay12 (F := Ideal) (iblk m c 1 (pt i)) (iblk m c 8 (pt i)) (ix2 j k) = normKv (ckvA m c) (gckvA m c) (ix3 (bat i j) (tok i j) k) := by
  rw [pay12_at, Cert.Reference5Ideal.Prep.normKv_at]
  simp only [ckv_block, gckv_block]
  exact congrArg (fun g => unitRow _ _ g k) (funext fun q => gckv_at m c q)

/-- The kernel's projected queries, as they stand and with exchanged halves. -/
theorem query_at (c : Dev nD) (i : Fin 32) (j : Fin 1024) (h : Fin 8) (l : Fin 128) :
    k0_pay5 (F := Ideal) (iblk m c 0 (pt i)) (iblk m c 5 (pt i)) (iblk m c 6 (pt i)) (ix2 j (hc h l)) = padded (qHead m c i j h) l := by
  rw [pay5_at]
  refine Eq.trans (Finset.sum_congr rfl fun k _ => ?_) ((dot_padded (fun k => normQ (cqA m c) (gcqA m c) (ix3 (bat i j) (tok i j) k)) (fun k d => wuqA m c (ix2 k ⟨h.val * 96 + d.val, by omega⟩)) l).trans ?_)
  · rw [latentQ, wuq_block]
    exact congrArg (_ * ·) (wuq_at m c k h l)
  · exact congrArg (fun f => padded f l) (funext fun d => (Cert.Reference5Ideal.Prep.projQ_at _ _ _ _ _ _).symm)

theorem querySwap_at (c : Dev nD) (i : Fin 32) (j : Fin 1024) (h : Fin 8) (l : Fin 128) :
    k0_pay5 (F := Ideal) (iblk m c 0 (pt i)) (iblk m c 5 (pt i)) (iblk m c 7 (pt i)) (ix2 j (hc h l)) = swapped (qHead m c i j h) l := by
  rw [pay5_at]
  refine Eq.trans (Finset.sum_congr rfl fun k _ => ?_) ((dot_swapped (fun k => normQ (cqA m c) (gcqA m c) (ix3 (bat i j) (tok i j) k)) (fun k d => wuqA m c (ix2 k ⟨h.val * 96 + d.val, by omega⟩)) l).trans ?_)
  · rw [latentQ, wuqSwap_block]
    exact congrArg (_ * ·) (wuqSwap_at m c k h l)
  · exact congrArg (fun f => swapped f l) (funext fun d => (Cert.Reference5Ideal.Prep.projQ_at _ _ _ _ _ _).symm)

/-- The kernel's projected keys are the reference's at the lanes without position, and zero at the others. -/
theorem key_at (c : Dev nD) (i : Fin 32) (j : Fin 1024) (h : Fin 8) (l : Fin 128) :
    k0_pay13 (F := Ideal) (iblk m c 1 (pt i)) (iblk m c 8 (pt i)) (iblk m c 9 (pt i)) (ix2 j (hc h l)) = if hl : l.val < 64 then kHead m c i j h ⟨l.val, by omega⟩ else 0 := by
  rw [pay13_at]
  have e : ∀ k : Fin 128, k0_pay12 (F := Ideal) (iblk m c 1 (pt i)) (iblk m c 8 (pt i)) (ix2 j k) * (iblk m c 9 (pt i) : S128x1024.Idx → EReal) (ix2 k (hc h l))
      = normKv (ckvA m c) (gckvA m c) (ix3 (bat i j) (tok i j) k) * (if l.val < 64 then wukvA m c (ix2 k ⟨h.val * 128 + l.val, by omega⟩) else 0) := fun k => by
    rw [latentKv, wuk_block]
    exact congrArg (_ * ·) (wuk_at m c k h l)
  refine (Finset.sum_congr rfl fun k _ => e k).trans ?_
  by_cases hl : l.val < 64
  · refine Eq.trans ?_ (dif_pos hl).symm
    unfold kHead
    refine Eq.trans ?_ ((Cert.Reference5Ideal.Prep.keys_at _ _ _ _ _ _).trans (dif_pos hl)).symm
    refine Eq.trans ?_ (Cert.Reference5Ideal.Prep.projKv_at _ _ _ _ _ _).symm
    exact Finset.sum_congr rfl fun k _ => congrArg (_ * ·) (if_pos hl)
  · refine Eq.trans ?_ (dif_neg hl).symm
    exact Finset.sum_eq_zero fun k _ => (congrArg (_ * ·) (if_neg hl)).trans (mul_zero _)

/-- The common lanes of the keys, at their places in a head. -/
theorem common_at (c : Dev nD) (i : Fin 32) (j : Fin 1024) (h : Fin 8) (k : Fin 32) :
    (iblk m c 2 (pt i) : S1024x128.Idx → EReal) (ix2 j ⟨k.val, by omega⟩) = kHead m c i j h ⟨64 + k.val, by omega⟩ := by
  rw [ckr_block]
  unfold kHead
  refine Eq.trans ?_ ((Cert.Reference5Ideal.Prep.keys_at _ _ _ _ _ _).trans (dif_neg (by dsimp only; omega))).symm
  have e : k = ⟨64 + k.val - 64, by omega⟩ := Fin.ext (by dsimp only; omega)
  exact congrArg (fun q => ckrA m c (ix3 (bat i j) (tok i j) q)) e

/-- Turned about, lane by lane, the kernel's keys are the padded head. -/
theorem key_parts (c : Dev nD) (i : Fin 32) (j : Fin 1024) (h : Fin 8) (l : Fin 128) :
    k0_pay18 (F := Ideal) (iblk m c 2 (pt i)) (ix2 j l) = (if hl : 64 ≤ l.val ∧ l.val < 96 then kHead m c i j h ⟨l.val, by omega⟩ else 0) := by
  rw [pay18_at]
  by_cases hl : 64 ≤ l.val ∧ l.val < 96
  · refine (if_pos hl).trans (Eq.trans ?_ (dif_pos hl).symm)
    refine (common_at m c i j h ⟨l.val - 64, by omega⟩).trans ?_
    have e : (⟨64 + (l.val - 64), by omega⟩ : Fin 96) = ⟨l.val, by omega⟩ := Fin.ext (by dsimp only; omega)
    exact congrArg (kHead m c i j h) e
  · refine (if_neg hl).trans ?_
    show (0 : EReal) = _
    rw [dif_neg hl]

theorem key_swapped (c : Dev nD) (i : Fin 32) (j : Fin 1024) (h : Fin 8) (l : Fin 128) :
    k0_pay22 (F := Ideal) (iota .tc S1024x128 32 [1] iota_S1024x128_d1_w32) k0_pay19 (k0_pay20 (iblk m c 2 (pt i))) (k0_pay21 (iblk m c 2 (pt i))) (ix2 j l)
      = swapped (kHead m c i j h) l := by
  rw [pay22_at]
  unfold swapped
  by_cases h1 : 64 ≤ l.val ∧ l.val < 80
  · refine (dif_pos h1).trans (Eq.trans ?_ (dif_pos h1).symm)
    refine (common_at m c i j h ⟨l.val - 48, by omega⟩).trans ?_
    have e : (⟨64 + (l.val - 48), by omega⟩ : Fin 96) = ⟨l.val + 16, by omega⟩ := Fin.ext (by dsimp only; omega)
    exact congrArg (kHead m c i j h) e
  refine (dif_neg h1).trans (Eq.trans ?_ (dif_neg h1).symm)
  by_cases h2 : 80 ≤ l.val ∧ l.val < 96
  · refine (dif_pos h2).trans (Eq.trans ?_ (dif_pos h2).symm)
    refine (common_at m c i j h ⟨l.val - 80, by omega⟩).trans ?_
    have e : (⟨64 + (l.val - 80), by omega⟩ : Fin 96) = ⟨l.val - 16, by omega⟩ := Fin.ext (by dsimp only; omega)
    exact congrArg (kHead m c i j h) e
  · refine (dif_neg h2).trans ?_
    show (0 : EReal) = _
    rw [dif_neg h2]

/-- The staged matrix of ones joins the columns of a head. -/
theorem joined_block (c : Dev nD) (i : Fin 32) (z : Fin 1024 → EReal) (h : Fin 8) (l : Fin 128) :
    joined z (iblk m c 15 (pt i)) (hc h l) = ∑ q : Fin 128, z (hc h q) * z (hc h q) := by
  refine Eq.trans ?_ (joined_ones z h l)
  unfold joined
  exact Finset.sum_congr rfl fun x _ => congrArg (_ * ·) ((ones_block m c i _ _).trans (ones_at m c _ _))

/-- The scales of the queries and of the keys. -/
theorem qScale_at (c : Dev nD) (i : Fin 32) (j : Fin 1024) (h : Fin 8) (l : Fin 128) :
    qScale (iblk m c 0 (pt i)) (iblk m c 5 (pt i)) (iblk m c 6 (pt i)) (iblk m c 15 (pt i)) (ix2 j (hc h l)) = Ideal.rsqrt (∑ q : Fin 96, qHead m c i j h q * qHead m c i j h q + eps96) := by
  unfold qScale
  rw [pay11_at, joined_block]
  simp only [query_at]
  rw [sum_padded]

theorem kScale_at (c : Dev nD) (i : Fin 32) (j : Fin 1024) (h : Fin 8) (l : Fin 128) :
    kScale (iblk m c 1 (pt i)) (iblk m c 2 (pt i)) (iblk m c 8 (pt i)) (iblk m c 9 (pt i)) (iblk m c 15 (pt i)) (ix2 j (hc h l)) = Ideal.rsqrt (∑ q : Fin 96, kHead m c i j h q * kHead m c i j h q + eps96) := by
  unfold kScale
  rw [pay23_at, joined_block, pay17_at]
  refine congrArg (fun x => Ideal.rsqrt (x + eps96)) ?_
  simp only [key_at]
  refine Eq.trans ?_ (Fin.sum_univ_add (a := 64) (b := 32) (fun q : Fin 96 => kHead m c i j h q * kHead m c i j h q)).symm
  refine congrArg₂ (· + ·) ?_ ?_
  · refine (Fin.sum_univ_add (a := 64) (b := 64) (fun q : Fin 128 => (if hl : q.val < 64 then kHead m c i j h ⟨q.val, by omega⟩ else 0) * (if hl : q.val < 64 then kHead m c i j h ⟨q.val, by omega⟩ else 0))).trans ?_
    refine (congrArg₂ (· + ·) (Finset.sum_congr rfl fun q _ => ?_) (Finset.sum_eq_zero fun q _ => ?_)).trans (add_zero _)
    · exact congrArg₂ (· * ·) (dif_pos q.isLt) (dif_pos q.isLt)
    · exact (congrArg (_ * ·) (dif_neg (by show ¬ 64 + q.val < 64; omega))).trans (mul_zero _)
  · refine (Fin.sum_univ_add (a := 32) (b := 96) (fun q : Fin 128 => k0_pay16 (F := Ideal) (iblk m c 2 (pt i)) (ix2 j q) * k0_pay16 (F := Ideal) (iblk m c 2 (pt i)) (ix2 j q))).trans ?_
    refine (congrArg₂ (· + ·) (Finset.sum_congr rfl fun q _ => ?_) (Finset.sum_eq_zero fun q _ => ?_)).trans (add_zero _)
    · have e : k0_pay16 (F := Ideal) (iblk m c 2 (pt i)) (ix2 j (Fin.castAdd 96 q)) = kHead m c i j h (Fin.natAdd 64 q) :=
        (pay16_at _ _ _).trans ((if_pos q.isLt).trans (common_at m c i j h q))
      exact congrArg₂ (· * ·) e e
    · exact (congrArg (_ * ·) ((pay16_at _ _ _).trans (if_neg (by show ¬ 32 + q.val < 32; omega)))).trans (mul_zero _)

/-- The rotated head of the reference, lane by lane. -/
theorem rotated_turned (P : FVec Ideal Cert.Reference5Ideal.S16x2048x8x96 .f32) (g : FVec Ideal Cert.Reference5Ideal.S96 .f32) (cs sn : FVec Ideal Cert.Reference5Ideal.S16x2048x16 .f32) (b : Fin 16) (t : Fin 2048) (h : Fin 8) (d : Fin 96) :
    rotated (normHead P g) cs sn (ix4 b t h d)
      = turned (normLane (fun q => P (ix4 b t h q)) (fun q => g (ix1 q))) (fun q => cs (ix3 b t q)) (fun q => sn (ix3 b t q)) d := by
  rw [Cert.Reference5Ideal.Prep.rotated_at]
  simp only [Cert.Reference5Ideal.Prep.normHead_at]
  rfl

/-- What a grid point leaves at a column of the queries and of the keys. -/
theorem query_out (c : Dev nD) (i : Fin 32) (j : Fin 1024) (h : Fin 8) (l : Fin 128) :
    ((dats m 0 c).arrAt 16 cfg0.N : S32768x1024.Idx → EReal) (ix2 (row i j) (hc h l))
      = headLane (qHead m c i j h) (fun d => gqA m c (ix1 d) * Ideal.ofBits .f32 0x3FB8AA3B#32) (cosRow m c i j) (sinRow m c i j) l := by
  refine (first_at m c i j (hc h l)).trans ?_
  rw [out16_eq]
  refine (qOut_at _ _ _ _ _ j (h.val * 128) (by omega) (by omega) l).trans ?_
  have e1 := query_at m c i j h l
  have e2 := querySwap_at m c i j h l
  have e3 := qScale_at m c i j h l
  unfold headLane
  refine congrArg₂ (· * ·) e3 (congrArg₂ (· + ·) (congrArg₂ (· * ·) e1 ?_) (congrArg₂ (· * ·) e2 ?_))
  · rw [pay24_at]
    exact congrArg₂ (· * ·) ((gq_block m c i _ l).trans (gq_at m c l)) (cosLane_at m c i j l)
  · rw [pay24_at]
    exact congrArg₂ (· * ·) ((gqSwap_block m c i _ l).trans (gqSwap_at m c l)) (sinLane_at m c i j l)

theorem key_out (c : Dev nD) (i : Fin 32) (j : Fin 1024) (h : Fin 8) (l : Fin 128) :
    ((dats m 0 c).arrAt 17 cfg0.N : S32768x1024.Idx → EReal) (ix2 (row i j) (hc h l))
      = headLane (kHead m c i j h) (fun d => gkA m c (ix1 d) * Ideal.sqrt (Ideal.ofBits .f32 0x42C00000#32)) (cosRow m c i j) (sinRow m c i j) l := by
  refine (second_at m c i j (hc h l)).trans ?_
  rw [out17_eq]
  refine (kOut_at _ _ _ _ j (h.val * 128) (by omega) (by omega) l).trans ?_
  have e1 := key_at m c i j h l
  have e3 := kScale_at m c i j h l
  have e4 : k0_pay26 (F := Ideal) (k0_pay2 (iblk m c 3 (pt i))) (iblk m c 13 (pt i)) (ix2 j l)
      = padded (fun d => gkA m c (ix1 d) * Ideal.sqrt (Ideal.ofBits .f32 0x42C00000#32)) l * cosLane (cosRow m c i j) l := by
    rw [pay26_eq, pay24_at]
    exact congrArg₂ (· * ·) ((gk_block m c i _ l).trans (gk_at m c l)) (cosLane_at m c i j l)
  have e5 : kRotary (iblk m c 2 (pt i)) (iblk m c 3 (pt i)) (iblk m c 4 (pt i)) (iblk m c 13 (pt i)) (iblk m c 14 (pt i)) (ix2 j l)
      = (if hl : 64 ≤ l.val ∧ l.val < 96 then kHead m c i j h ⟨l.val, by omega⟩ else 0)
          * (padded (fun d => gkA m c (ix1 d) * Ideal.sqrt (Ideal.ofBits .f32 0x42C00000#32)) l * cosLane (cosRow m c i j) l)
        + swapped (kHead m c i j h) l * (swapped (fun d => gkA m c (ix1 d) * Ideal.sqrt (Ideal.ofBits .f32 0x42C00000#32)) l * sinLane (sinRow m c i j) l) := by
    unfold kRotary
    rw [pay27_at]
    exact congrArg₂ (· + ·) (congrArg₂ (· * ·) (key_parts m c i j h l) (congrArg₂ (· * ·) ((gk_block m c i _ l).trans (gk_at m c l)) (cosLane_at m c i j l)))
      (congrArg₂ (· * ·) (key_swapped m c i j h l) (congrArg₂ (· * ·) ((gkSwap_block m c i _ l).trans (gkSwap_at m c l)) (sinLane_at m c i j l)))
  unfold headLane
  refine (congrArg₂ (· * ·) e3 (congrArg₂ (· + ·) (congrArg₂ (· * ·) e1 e4) e5)).trans ?_
  refine congrArg (Ideal.rsqrt (∑ q : Fin 96, kHead m c i j h q * kHead m c i j h q + eps96) * ·) ?_
  generalize padded (fun d => gkA m c (ix1 d) * Ideal.sqrt (Ideal.ofBits .f32 0x42C00000#32)) l * cosLane (cosRow m c i j) l = G
  generalize swapped (kHead m c i j h) l * _ = S
  unfold padded
  by_cases h1 : l.val < 64
  · rw [dif_pos h1, dif_neg (by omega), dif_pos (by omega), zero_mul, zero_add]
  by_cases h2 : l.val < 96
  · rw [dif_neg h1, dif_pos ⟨by omega, h2⟩, dif_pos h2, zero_mul, zero_add]
  · rw [dif_neg h1, dif_neg (by omega), dif_neg h2, zero_mul, zero_add]

/-- What a grid point leaves at a row of the values. -/
theorem value_out (c : Dev nD) (i : Fin 32) (j : Fin 1024) (h : Fin 8) (d : Fin 80) :
    ((dats m 0 c).arrAt 18 cfg0.N : S16x640x2048.Idx → EReal) (ix3 (bat i j) ⟨h.val * 80 + d.val, by omega⟩ (tok i j))
      = valuesT (projKv (normKv (ckvA m c) (gckvA m c)) (wukvA m c)) (ix3 (bat i j) ⟨h.val * 80 + d.val, by omega⟩ (tok i j)) := by
  refine (third_at m c i _ j).trans ?_
  rw [out18_eq]
  refine (pay15_at _ _ j).trans (Eq.trans ?_ (Cert.Reference5Ideal.Prep.valuesT_at _ _ h d _).symm)
  have hm : (h.val * 80 + d.val) % 80 = d.val := by omega
  have e : ∀ k : Fin 128, @HMul.hMul EReal EReal EReal _ ((iblk m c 10 (pt i) : S640x128.Idx → EReal) (ix2 ⟨h.val * 80 + d.val, by omega⟩ k)) (k0_pay12 (F := Ideal) (iblk m c 1 (pt i)) (iblk m c 8 (pt i)) (ix2 j k))
      = (if hd : d.val < 64 then wukvA m c (ix2 k ⟨h.val * 128 + (64 + d.val), by omega⟩) else 0) * normKv (ckvA m c) (gckvA m c) (ix3 (bat i j) (tok i j) k) := fun k => by
    rw [latentKv, wv_block]
    exact congrArg (· * _) (wv_at m c k h d)
  by_cases h1 : d.val < 64
  · refine (if_neg (by dsimp only; omega)).trans (Eq.trans ?_ (dif_pos h1).symm)
    refine (pay14_at _ _ _ _ _).trans ((Finset.sum_congr rfl fun k _ => e k).trans (Eq.trans ?_ (Cert.Reference5Ideal.Prep.projKv_at _ _ _ _ _ _).symm))
    exact Finset.sum_congr rfl fun k _ => (congrArg (· * _) (dif_pos h1)).trans (mul_comm _ _)
  by_cases h2 : d.val = 64
  · refine (if_pos (by dsimp only; omega)).trans (Eq.trans ?_ (dif_neg h1).symm)
    exact (if_pos h2).symm
  · refine (if_neg (by dsimp only; omega)).trans (Eq.trans ?_ (dif_neg h1).symm)
    refine Eq.trans ?_ (if_neg h2).symm
    refine (pay14_at _ _ _ _ _).trans ((Finset.sum_congr rfl fun k _ => e k).trans ?_)
    exact Finset.sum_eq_zero fun k _ => (congrArg (· * _) (dif_neg h1)).trans (zero_mul _)

end Cert.Kernel5Ideal.Prep
-- ==== Proof.Prep.Result.lean ====
/-
  The call before the latent attention and its reference end with the same queries, keys and values, whatever the given
  arrays hold.
-/
module

public import proofs.«01_k».proof.Proof.Prep.Equation

@[expose] public section

noncomputable section

namespace Cert.Kernel5Ideal.Prep

open Idealize.ShloMosaic Idealize.ShloMosaic.TcCoe
open Cert.Kernel5Ideal Cert.Kernel5Ideal.Gen
open Cert.Reference5Ideal.Prep (normQ normKv projQ projKv keys normHead rotated scaled laid valuesT)

variable (m : (ℓ : Loc nD τ sig) → Buf (Elt Ideal) ℓ) (c : Dev nD)

/-- The reference's queries and keys of the given arrays. -/
def refQ : S32768x1024.Idx → EReal :=
  laid (scaled (rotated (normHead (projQ (normQ (cqA m c) (gcqA m c)) (wuqA m c)) (gqA m c)) (cosA m c) (sinA m c)))
@[inherit_doc refQ] def refK : S32768x1024.Idx → EReal :=
  laid (rotated (normHead (keys (projKv (normKv (ckvA m c) (gckvA m c)) (wukvA m c)) (ckrA m c)) (gkA m c)) (cosA m c) (sinA m c))

theorem query_eq (i : Fin 32) (j : Fin 1024) (h : Fin 8) (l : Fin 128) :
    ((dats m 0 c).arrAt 16 cfg0.N : S32768x1024.Idx → EReal) (ix2 (row i j) (hc h l)) = refQ m c (ix2 (row i j) (hc h l)) := by
  refine (query_out m c i j h l).trans (Eq.trans ?_ (Cert.Reference5Ideal.Prep.laid_at _ (row i j) h l).symm)
  have hL := logE_eq
  rw [hL]
  refine (headLane_eq (qHead m c i j h) (fun d => gqA m c (ix1 d)) (cosRow m c i j) (sinRow m c i j) (by norm_num) l).trans ?_
  by_cases hl : l.val < 96
  · refine (dif_pos hl).trans (Eq.trans ?_ (dif_pos hl).symm)
    refine Eq.trans ?_ (Cert.Reference5Ideal.Prep.scaled_at _ (bat i j) (tok i j) h ⟨l.val, hl⟩).symm
    rw [rotated_turned, sqrt96, hL, Ideal.div_coe (Real.sqrt_pos.2 (by norm_num)).ne', mul_assoc, ← EReal.coe_mul]
    refine congrArg₂ (· * ·) rfl (congrArg (fun r : ℝ => (r : EReal)) ?_)
    ring
  · refine (dif_neg hl).trans ?_
    show (0 : EReal) = _
    rw [dif_neg hl]

theorem key_eq (i : Fin 32) (j : Fin 1024) (h : Fin 8) (l : Fin 128) :
    ((dats m 0 c).arrAt 17 cfg0.N : S32768x1024.Idx → EReal) (ix2 (row i j) (hc h l)) = refK m c (ix2 (row i j) (hc h l)) := by
  refine (key_out m c i j h l).trans (Eq.trans ?_ (Cert.Reference5Ideal.Prep.laid_at _ (row i j) h l).symm)
  rw [sqrt96]
  refine (headLane_eq (kHead m c i j h) (fun d => gkA m c (ix1 d)) (cosRow m c i j) (sinRow m c i j) (Real.sqrt_nonneg 96) l).trans ?_
  by_cases hl : l.val < 96
  · refine (dif_pos hl).trans (Eq.trans ?_ (dif_pos hl).symm)
    refine Eq.trans ?_ (rotated_turned _ _ _ _ (bat i j) (tok i j) h ⟨l.val, hl⟩).symm
    rw [div_self (Real.sqrt_pos.2 (by norm_num)).ne', EReal.coe_one, mul_one]
    rfl
  · refine (dif_neg hl).trans ?_
    show (0 : EReal) = _
    rw [dif_neg hl]

/-- Every place of the queries and keys is a row block's row and a head's lane. -/
theorem every_row {A B : S32768x1024.Idx → EReal} (hh : ∀ (i : Fin 32) (j : Fin 1024) (h : Fin 8) (l : Fin 128), A (ix2 (row i j) (hc h l)) = B (ix2 (row i j) (hc h l)))
    (z : S32768x1024.Idx) : A z = B z := by
  have h0 : (z 0).val < 32768 := (z 0).isLt
  have h1 : (z 1).val < 1024 := (z 1).isLt
  have key := hh ⟨(z 0).val / 1024, by omega⟩ ⟨(z 0).val % 1024, by omega⟩ ⟨(z 1).val / 128, by omega⟩ ⟨(z 1).val % 128, by omega⟩
  have hz : (ix2 (row ⟨(z 0).val / 1024, by omega⟩ ⟨(z 0).val % 1024, by omega⟩) (hc ⟨(z 1).val / 128, by omega⟩ ⟨(z 1).val % 128, by omega⟩) : S32768x1024.Idx) = z := by
    refine Eq.trans ?_ (ix2_eta (n0 := 32768) (n1 := 1024) z)
    congr 1
    · exact Fin.ext (by show (z 0).val / 1024 * 1024 + (z 0).val % 1024 = (z 0).val; omega)
    · exact Fin.ext (by show (z 1).val / 128 * 128 + (z 1).val % 128 = (z 1).val; omega)
  rw [hz] at key
  exact key

/-- Every place of the values is a head's row and a row block's token. -/
theorem every_token {A B : S16x640x2048.Idx → EReal} (hh : ∀ (i : Fin 32) (j : Fin 1024) (h : Fin 8) (d : Fin 80),
      A (ix3 (bat i j) ⟨h.val * 80 + d.val, by omega⟩ (tok i j)) = B (ix3 (bat i j) ⟨h.val * 80 + d.val, by omega⟩ (tok i j)))
    (z : S16x640x2048.Idx) : A z = B z := by
  have h0 : (z 0).val < 16 := (z 0).isLt
  have h1 : (z 1).val < 640 := (z 1).isLt
  have h2 : (z 2).val < 2048 := (z 2).isLt
  have key := hh ⟨(z 0).val * 2 + (z 2).val / 1024, by omega⟩ ⟨(z 2).val % 1024, by omega⟩ ⟨(z 1).val / 80, by omega⟩ ⟨(z 1).val % 80, by omega⟩
  have hz : (ix3 (bat ⟨(z 0).val * 2 + (z 2).val / 1024, by omega⟩ ⟨(z 2).val % 1024, by omega⟩) ⟨(z 1).val / 80 * 80 + (z 1).val % 80, by omega⟩
      (tok ⟨(z 0).val * 2 + (z 2).val / 1024, by omega⟩ ⟨(z 2).val % 1024, by omega⟩) : S16x640x2048.Idx) = z := by
    refine Eq.trans ?_ (ix3_eta (n0 := 16) (n1 := 640) (n2 := 2048) z)
    congr 1
    · exact Fin.ext (by show (((z 0).val * 2 + (z 2).val / 1024) * 1024 + (z 2).val % 1024) / 2048 = (z 0).val; omega)
    · exact Fin.ext (by show (z 1).val / 80 * 80 + (z 1).val % 80 = (z 1).val; omega)
    · exact Fin.ext (by show (((z 0).val * 2 + (z 2).val / 1024) * 1024 + (z 2).val % 1024) % 2048 = (z 2).val; omega)
  rw [hz] at key
  exact key

theorem first_eq (z : S32768x1024.Idx) : ((dats m 0 c).arrAt 16 cfg0.N : S32768x1024.Idx → EReal) z = refQ m c z :=
  every_row (query_eq m c) z

theorem second_eq (z : S32768x1024.Idx) : ((dats m 0 c).arrAt 17 cfg0.N : S32768x1024.Idx → EReal) z = refK m c z :=
  every_row (key_eq m c) z

theorem third_eq (z : S16x640x2048.Idx) :
    ((dats m 0 c).arrAt 18 cfg0.N : S16x640x2048.Idx → EReal) z = valuesT (projKv (normKv (ckvA m c) (gckvA m c)) (wukvA m c)) z :=
  every_token (value_out m c) z

end Cert.Kernel5Ideal.Prep
-- ==== Proof.lean ====
/-
  The certificate of four calls of the layer, the causal attention (in its two uses, with forget gates and without), the
  gated output projection, the normalised input projection and the preparation of the latent attention: for each the frames of its two kernel programs and of its reference, the idealization, and
  the equality of the kernel's results with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Pre_logits_finite
public import proofs.«01_k».proof.Proof.Gen.Pre_products_finite
public import proofs.«01_k».proof.Proof.Attn.Equation
public import proofs.«01_k».proof.Proof.Finite
public import proofs.«01_k».proof.Proof.Out.Equation
public import proofs.«01_k».proof.Proof.Inp.Equation
public import proofs.«01_k».proof.Proof.Mla.Equation
public import proofs.«01_k».proof.Proof.Mla.Finite
public import proofs.«01_k».proof.Proof.Prep.Result
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments unchanged and has no semaphore to leave raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From finite queries, keys and decay sums, the kernel and the reference end with the same array. -/
theorem algebraic : Cert.algebraic_KernelIdeal_ReferenceIdeal_pre_logits_finite := by
  intro m ρ m' ρ' hpre hagree
  have R := fun c => (Cert.KernelIdeal.Attn.reals_of_pre hpre c).some
  refine ⟨fun c => (Cert.KernelIdeal.Attn.valueDat m 0 c).arrAt 3 Cert.KernelIdeal.cfg0.N,
    Cert.KernelIdeal.Attn.run_result ρ (fun c t => Cert.KernelIdeal.Attn.real_scores (R c) t) (fun c t => Cert.KernelIdeal.Attn.ones c t), ?_⟩
  refine (θ_run Cert.ReferenceIdeal.defs _ _).mono (fun r h c => ⟨(h c).1.trans ?_, (h c).2⟩) (Cert.ReferenceIdeal.Value.run (F := Ideal) m' ρ')
  obtain ⟨a0, a1, a2, a3⟩ := hagree c
  refine (Cert.ReferenceIdeal.Softmax.result_eq m' c).trans ?_
  rw [a0, a1, a2, a3]
  exact (funext fun z => Cert.KernelIdeal.Attn.result_eq (R c) z).symm

/-- The output projection's reference leaves its arguments unchanged and has no semaphore to leave raised. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The gated output projection and its reference end with the same array, from any arguments. -/
theorem algebraic2 : Cert.algebraic_Kernel2Ideal_Reference2Ideal := by
  intro m ρ m' ρ' _ hagree
  refine ⟨fun c => (Cert.Kernel2Ideal.Gen.dats m 0 c).arrAt 7 Cert.Kernel2Ideal.cfg0.N, Cert.Kernel2Ideal.Value.run_blocks m ρ, ?_⟩
  refine (θ_run Cert.Reference2Ideal.defs _ _).mono (fun r h c => ⟨(h c).1.trans ?_, (h c).2⟩) (Cert.Reference2Ideal.Value.run (F := Ideal) m' ρ')
  obtain ⟨a0, a1, a2, a3, a4, a5, a6⟩ := hagree c
  rw [a0, a1, a2, a3, a4, a5, a6]
  exact (funext fun z => Cert.Kernel2Ideal.Out.result_eq m c z).symm

/-- The input projection's reference leaves its arguments unchanged and has no semaphore to leave raised. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The normalised input projection and its reference end with the same two arrays, from any arguments. -/
theorem algebraic3 : Cert.algebraic_Kernel3Ideal_Reference3Ideal := by
  intro m ρ m' ρ' _ hagree
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N, Cert.Kernel3Ideal.Value.run_blocks m ρ, ?_⟩
  refine (θ_run Cert.Reference3Ideal.defs _ _).mono (fun r h c => ⟨(h c).1.trans ?_, (h c).2.1.trans ?_, (h c).2.2⟩)
    (Cert.Reference3Ideal.Value.run (F := Ideal) m' ρ')
  · obtain ⟨a0, a1, a2⟩ := hagree c
    refine (Cert.Reference3Ideal.Inp.result0_eq m' c).trans ?_
    rw [a0, a1, a2]
    exact (funext fun z => Cert.Kernel3Ideal.Inp.result_eq m c z).symm
  · obtain ⟨a0, a1, a2⟩ := hagree c
    rw [a0, a1, a2]
    exact (funext fun z => Cert.Kernel3Ideal.Inp.last_result_eq m c z).symm

/-- The reference without forget gates leaves its arguments unchanged and has no semaphore to leave raised. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From finite queries and keys, the attention without forget gates and its reference end with the same array. -/
theorem algebraic4 : Cert.algebraic_Kernel4Ideal_Reference4Ideal_pre_products_finite := by
  intro m ρ m' ρ' hpre hagree
  have R := fun c => (Cert.Kernel4Ideal.Mla.reals_of_pre hpre c).some
  refine ⟨fun c => (Cert.Kernel4Ideal.Mla.valueDat m 0 c).arrAt 3 Cert.Kernel4Ideal.cfg0.N,
    Cert.Kernel4Ideal.Mla.run_result ρ (fun c t => Cert.Kernel4Ideal.Mla.real_scores (R c) t) (fun c t => Cert.Kernel4Ideal.Mla.ones c t), ?_⟩
  refine (θ_run Cert.Reference4Ideal.defs _ _).mono (fun r h c => ⟨(h c).1.trans ?_, (h c).2⟩) (Cert.Reference4Ideal.Value.run (F := Ideal) m' ρ')
  obtain ⟨a0, a1, a2⟩ := hagree c
  refine (Cert.Reference4Ideal.Softmax.result_eq m' c).trans ?_
  rw [a0, a1, a2]
  exact (funext fun z => Cert.Kernel4Ideal.Mla.result_eq (R c) z).symm

/-- The reference of the preparation leaves its arguments unchanged and has no semaphore to leave raised. -/
theorem frame_reference5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

set_option maxHeartbeats 1000000 in
/-- The preparation of the latent attention and its reference end with the same queries, keys and values. -/
theorem algebraic5 : Cert.algebraic_Kernel5Ideal_Reference5Ideal := by
  intro m ρ m' ρ' _ hagree
  refine ⟨fun c => (Cert.Kernel5Ideal.Gen.dats m 0 c).arrAt 16 Cert.Kernel5Ideal.cfg0.N,
    fun c => (Cert.Kernel5Ideal.Gen.dats m 0 c).arrAt 17 Cert.Kernel5Ideal.cfg0.N,
    fun c => (Cert.Kernel5Ideal.Gen.dats m 0 c).arrAt 18 Cert.Kernel5Ideal.cfg0.N, Cert.Kernel5Ideal.Value.run_blocks m ρ, ?_⟩
  refine (θ_run Cert.Reference5Ideal.defs _ _).mono
    (fun r h c => ⟨(h c).1.trans ?_, (h c).2.1.trans ?_, (h c).2.2.1.trans ?_, (h c).2.2.2⟩) (Cert.Reference5Ideal.Value.run (F := Ideal) m' ρ')
  · obtain ⟨a0, a1, a2, a3, a4, a5, a6, a7, a8, a9, a10⟩ := hagree c
    refine (Cert.Reference5Ideal.Prep.result0_eq m' c).trans ?_
    rw [a0, a3, a4, a5, a6, a9]
    exact (funext fun z => Cert.Kernel5Ideal.Prep.first_eq m c z).symm
  · obtain ⟨a0, a1, a2, a3, a4, a5, a6, a7, a8, a9, a10⟩ := hagree c
    refine (Cert.Reference5Ideal.Prep.result1_eq m' c).trans ?_
    rw [a1, a2, a3, a4, a7, a8, a10]
    exact (funext fun z => Cert.Kernel5Ideal.Prep.second_eq m c z).symm
  · obtain ⟨a0, a1, a2, a3, a4, a5, a6, a7, a8, a9, a10⟩ := hagree c
    refine Eq.trans (b := Cert.Reference5Ideal.Prep.valuesT (Cert.Reference5Ideal.Prep.projKv (Cert.Reference5Ideal.Prep.normKv
      (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg7))) (m' ((c.tc : Thread Cert.Reference5Ideal.nD Cert.Reference5Ideal.τ).loc Cert.Reference5Ideal.main_arg8)))) rfl ?_
    rw [a1, a7, a8]
    exact (funext fun z => Cert.Kernel5Ideal.Prep.third_eq m c z).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_logits_finite.Gen.facts, Cert.Pre_products_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, fun m ρ _ => Cert.Kernel4Ideal.Gen.frame m ρ,
    frame_reference4, fun m ρ _ => frame_reference4 m ρ trivial,
    fun m ρ _ => Cert.Kernel5.Gen.frame m ρ, fun m ρ _ => Cert.Kernel5Ideal.Gen.frame m ρ, frame_reference5,
    IdealRules.named_const.statement Cert.KernelIdeal.κ "mask" .f32 0xF149F2CA#32 ⊥ rfl, algebraic,
    trivial, algebraic2, trivial, algebraic3,
    IdealRules.named_const.statement Cert.Kernel4Ideal.κ "mask" .f32 0xF149F2CA#32 ⊥ rfl, algebraic4,
    IdealRules.named_const.statement Cert.Kernel5Ideal.κ "eps96" .f32 0x38C9539C#32 ((26388279 / 274877906944 : ℝ) : EReal) rfl, algebraic5⟩

end Cert.Proof

end
